-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  IdealRules.named_const.Statement Cert.KernelIdeal.κ "scale_log2" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "scale_log2" .f32 0x3DD53B95#32 (((Real.sqrt 192)⁻¹ * (Real.log 2)⁻¹ : ℝ) : EReal)
  ∧ IdealRules.named_const.Statement Cert.Kernel2Ideal.κ "inv_log2" .f32 0x3FB8AA3B#32 (((Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v32) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v26) = v1 c
          ∧ r.2.mem ((c.tc : Thread Cert.Reference12Ideal.nD Cert.Reference12Ideal.τ).loc Cert.Reference12Ideal.main_v7) = v2 c
          ∧ r.2.mem ((c.tc : Thread Cert.Reference12Ideal.nD Cert.Reference12Ideal.τ).loc Cert.Reference12Ideal.main_v13) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v7) = v2 c
          ∧ r.2.mem ((c.tc : Thread Cert.Reference13Ideal.nD Cert.Reference13Ideal.τ).loc Cert.Reference13Ideal.main_v13) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v7) = v2 c
          ∧ r.2.mem ((c.tc : Thread Cert.Reference14Ideal.nD Cert.Reference14Ideal.τ).loc Cert.Reference14Ideal.main_v13) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S16x4096x128 : Shape := ⟨3, ![16, 4096, 128]⟩
abbrev S16x4096x64 : Shape := ⟨3, ![16, 4096, 64]⟩
abbrev S4096x128 : Shape := ⟨2, ![4096, 128]⟩
abbrev S4096x64 : Shape := ⟨2, ![4096, 64]⟩
abbrev S_ : Shape := ⟨0, ![]⟩

class Facts : Prop where
  bitsLt_bf16_f32 : FTy.bits .bf16 < FTy.bits .f32
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S16x4096x64 : S_.BroadcastsInDim S16x4096x64 (![] : Fin 0 → Fin S16x4096x64.rank)
  reducesTo_S16x4096x64_S_d0_1_2 : S16x4096x64.ReducesTo [0, 1, 2] S_
  bcast_S_S4096x128 : S_.BroadcastsInDim S4096x128 (![] : Fin 0 → Fin S4096x128.rank)
  reducesTo_S4096x128_S_d0_1 : S4096x128.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_arg4 : FVec F S16x4096x128 .bf16) (main_v16 : IVec S_ 1) (main_v17 : FVec F S4096x64 .f32) : IVec S_ 1 :=
  let main_v18 : FVec F S4096x64 .f32 := Host.absf main_v17
  let main_cst_4 : FVec F S_ .f32 := constant S_ .f32 0x7F800000#32
  let main_v19 : FVec F S4096x64 .f32 := broadcastInDim S4096x64 ![] bcast_S_S4096x64 main_cst_4
  let main_v20 : IVec S4096x64 1 := cmpf .olt main_v18 main_v19
  let main_c_5 : IVec S_ 1 := constantI S_ 1 1#1
  let main_v21 : IVec S_ 1 := (fun x v => Host.reduce IntOp.andi x v reducesTo_S4096x64_S_d0_1 h_S_) main_v20 main_c_5
  let main_v22 : IVec S_ 1 := andi main_v16 main_v21
  let main_v23 : FVec F S16x4096x128 .f32 := (extf .f32 · bitsLt_bf16_f32) main_arg4
  let main_v24 : FVec F S16x4096x128 .f32 := Host.absf main_v23
  let main_cst_6 : FVec F S_ .f32 := constant S_ .f32 0x7F800000#32
  let main_v25 : FVec F S16x4096x128 .f32 := broadcastInDim S16x4096x128 ![] bcast_S_S16x4096x128 main_cst_6
  let main_v26 : IVec S16x4096x128 1 := cmpf .olt main_v24 main_v25
  let main_c_7 : IVec S_ 1 := constantI S_ 1 1#1
  let main_v27 : IVec S_ 1 := (fun x v => Host.reduce IntOp.andi x v reducesTo_S16x4096x128_S_d0_1_2 h_S_) main_v26 main_c_7
  let main_v28 : IVec S_ 1 := andi main_v22 main_v27
  main_v28

def fn {F : FTy → Type} [FloatOps F] (main_arg0 : FVec F S16x4096x128 .bf16) (main_arg1 : FVec F S16x4096x64 .bf16) (main_arg2 : FVec F S4096x128 .bf16) (main_arg3 : FVec F S4096x64 .bf16) (main_arg4 : FVec F S16x4096x128 .bf16) : IVec S_ 1 :=
  let main_v0 : FVec F S16x4096x128 .f32 := (extf .f32 · bitsLt_bf16_f32) main_arg0
  let main_v1 : FVec F S16x4096x128 .f32 := Host.absf main_v0
  let main_cst : FVec F S_ .f32 := constant S_ .f32 0x7F800000#32
  let main_v2 : FVec F S16x4096x128 .f32 := broadcastInDim S16x4096x128 ![] bcast_S_S16x4096x128 main_cst
  let main_v3 : IVec S16x4096x128 1 := cmpf .olt main_v1 main_v2
  let main_c : IVec S_ 1 := constantI S_ 1 1#1
  let main_v4 : IVec S_ 1 := (fun x v => Host.reduce IntOp.andi x v reducesTo_S16x4096x128_S_d0_1_2 h_S_) main_v3 main_c
  let main_v5 : FVec F S16x4096x64 .f32 := (extf .f32 · bitsLt_bf16_f32) main_arg1
  let main_v6 : FVec F S16x4096x64 .f32 := Host.absf main_v5
  let main_cst_0 : FVec F S_ .f32 := constant S_ .f32 0x7F800000#32
  let main_v7 : FVec F S16x4096x64 .f32 := broadcastInDim S16x4096x64 ![] bcast_S_S16x4096x64 main_cst_0
  let main_v8 : IVec S16x4096x64 1 := cmpf .olt main_v6 main_v7
  let main_c_1 : IVec S_ 1 := constantI S_ 1 1#1
  let main_v9 : IVec S_ 1 := (fun x v => Host.reduce IntOp.andi x v reducesTo_S16x4096x64_S_d0_1_2 h_S_) main_v8 main_c_1
  let main_v10 : IVec S_ 1 := andi main_v4 main_v9
  let main_v11 : FVec F S4096x128 .f32 := (extf .f32 · bitsLt_bf16_f32) main_arg2
  let main_v12 : FVec F S4096x128 .f32 := Host.absf main_v11
  let main_cst_2 : FVec F S_ .f32 := constant S_ .f32 0x7F800000#32
  let main_v13 : FVec F S4096x128 .f32 := broadcastInDim S4096x128 ![] bcast_S_S4096x128 main_cst_2
  let main_v14 : IVec S4096x128 1 := cmpf .olt main_v12 main_v13
  let main_c_3 : IVec S_ 1 := constantI S_ 1 1#1
  let main_v15 : IVec S_ 1 := (fun x v => Host.reduce IntOp.andi x v reducesTo_S4096x128_S_d0_1 h_S_) main_v14 main_c_3
  let main_v16 : IVec S_ 1 := andi main_v10 main_v15
  let main_v17 : FVec F S4096x64 .f32 := (extf .f32 · bitsLt_bf16_f32) main_arg3
  fn_part1 (F := F) main_arg4 main_v16 main_v17
-- ==== Pre_finite2.lean ====
abbrev S16x4096x128 : Shape := ⟨3, ![16, 4096, 128]⟩
abbrev S16x4096x64 : Shape := ⟨3, ![16, 4096, 64]⟩
abbrev S4096x128 : Shape := ⟨2, ![4096, 128]⟩
abbrev S4096x64 : Shape := ⟨2, ![4096, 64]⟩
abbrev S_ : Shape := ⟨0, ![]⟩

class Facts : Prop where
  bitsLt_bf16_f32 : FTy.bits .bf16 < FTy.bits .f32
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S16x4096x64 : S_.BroadcastsInDim S16x4096x64 (![] : Fin 0 → Fin S16x4096x64.rank)
  reducesTo_S16x4096x64_S_d0_1_2 : S16x4096x64.ReducesTo [0, 1, 2] S_
  bcast_S_S4096x128 : S_.BroadcastsInDim S4096x128 (![] : Fin 0 → Fin S4096x128.rank)
  reducesTo_S4096x128_S_d0_1 : S4096x128.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v16 : IVec S_ 1) (main_v17 : FVec F S4096x64 .f32) : IVec S_ 1 :=
  let main_v18 : FVec F S4096x64 .f32 := Host.absf main_v17
  let main_cst_4 : FVec F S_ .f32 := constant S_ .f32 0x7F800000#32
  let main_v19 : FVec F S4096x64 .f32 := broadcastInDim S4096x64 ![] bcast_S_S4096x64 main_cst_4
  let main_v20 : IVec S4096x64 1 := cmpf .olt main_v18 main_v19
  let main_c_5 : IVec S_ 1 := constantI S_ 1 1#1
  let main_v21 : IVec S_ 1 := (fun x v => Host.reduce IntOp.andi x v reducesTo_S4096x64_S_d0_1 h_S_) main_v20 main_c_5
  let main_v22 : IVec S_ 1 := andi main_v16 main_v21
  main_v22

def fn {F : FTy → Type} [FloatOps F] (main_arg0 : FVec F S16x4096x128 .bf16) (main_arg1 : FVec F S16x4096x64 .bf16) (main_arg2 : FVec F S4096x128 .bf16) (main_arg3 : FVec F S4096x64 .bf16) : IVec S_ 1 :=
  let main_v0 : FVec F S16x4096x128 .f32 := (extf .f32 · bitsLt_bf16_f32) main_arg0
  let main_v1 : FVec F S16x4096x128 .f32 := Host.absf main_v0
  let main_cst : FVec F S_ .f32 := constant S_ .f32 0x7F800000#32
  let main_v2 : FVec F S16x4096x128 .f32 := broadcastInDim S16x4096x128 ![] bcast_S_S16x4096x128 main_cst
  let main_v3 : IVec S16x4096x128 1 := cmpf .olt main_v1 main_v2
  let main_c : IVec S_ 1 := constantI S_ 1 1#1
  let main_v4 : IVec S_ 1 := (fun x v => Host.reduce IntOp.andi x v reducesTo_S16x4096x128_S_d0_1_2 h_S_) main_v3 main_c
  let main_v5 : FVec F S16x4096x64 .f32 := (extf .f32 · bitsLt_bf16_f32) main_arg1
  let main_v6 : FVec F S16x4096x64 .f32 := Host.absf main_v5
  let main_cst_0 : FVec F S_ .f32 := constant S_ .f32 0x7F800000#32
  let main_v7 : FVec F S16x4096x64 .f32 := broadcastInDim S16x4096x64 ![] bcast_S_S16x4096x64 main_cst_0
  let main_v8 : IVec S16x4096x64 1 := cmpf .olt main_v6 main_v7
  let main_c_1 : IVec S_ 1 := constantI S_ 1 1#1
  let main_v9 : IVec S_ 1 := (fun x v => Host.reduce IntOp.andi x v reducesTo_S16x4096x64_S_d0_1_2 h_S_) main_v8 main_c_1
  let main_v10 : IVec S_ 1 := andi main_v4 main_v9
  let main_v11 : FVec F S4096x128 .f32 := (extf .f32 · bitsLt_bf16_f32) main_arg2
  let main_v12 : FVec F S4096x128 .f32 := Host.absf main_v11
  let main_cst_2 : FVec F S_ .f32 := constant S_ .f32 0x7F800000#32
  let main_v13 : FVec F S4096x128 .f32 := broadcastInDim S4096x128 ![] bcast_S_S4096x128 main_cst_2
  let main_v14 : IVec S4096x128 1 := cmpf .olt main_v12 main_v13
  let main_c_3 : IVec S_ 1 := constantI S_ 1 1#1
  let main_v15 : IVec S_ 1 := (fun x v => Host.reduce IntOp.andi x v reducesTo_S4096x128_S_d0_1 h_S_) main_v14 main_c_3
  let main_v16 : IVec S_ 1 := andi main_v10 main_v15
  let main_v17 : FVec F S4096x64 .f32 := (extf .f32 · bitsLt_bf16_f32) main_arg3
  fn_part1 (F := F) main_v16 main_v17
-- ==== Kernel.lean ====
abbrev S16x4096x128 : Shape := ⟨3, ![16, 4096, 128]⟩
abbrev S16x4096x64 : Shape := ⟨3, ![16, 4096, 64]⟩
abbrev S4096x128 : Shape := ⟨2, ![4096, 128]⟩
abbrev S4096x64 : Shape := ⟨2, ![4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S16x4096x256 : Shape := ⟨3, ![16, 4096, 256]⟩
abbrev S4096x256 : Shape := ⟨2, ![4096, 256]⟩
abbrev S16x64x256 : Shape := ⟨3, ![16, 64, 256]⟩
abbrev S16x64x128 : Shape := ⟨3, ![16, 64, 128]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S1024x512 : Shape := ⟨2, ![1024, 512]⟩
abbrev S512x256 : Shape := ⟨2, ![512, 256]⟩
abbrev S512x128 : Shape := ⟨2, ![512, 128]⟩
abbrev S256x256 : Shape := ⟨2, ![256, 256]⟩
abbrev S1x256 : Shape := ⟨2, ![1, 256]⟩
abbrev S256x128 : Shape := ⟨2, ![256, 128]⟩
abbrev S1x512 : Shape := ⟨2, ![1, 512]⟩

abbrev nBuf : Space → Nat
  | .hbm => 92
  | .vmem => 14
  | .smem => 0
  | _ => 0

abbrev bufTy : (tb : Table) → Fin (tcTables nBuf tb) → BufTy
  | .hbm, ⟨0, _⟩ => ⟨S16x4096x128, .bf16⟩
  | .hbm, ⟨1, _⟩ => ⟨S16x4096x64, .bf16⟩
  | .hbm, ⟨2, _⟩ => ⟨S4096x128, .bf16⟩
  | .hbm, ⟨3, _⟩ => ⟨S4096x64, .bf16⟩
  | .hbm, ⟨4, _⟩ => ⟨S16x4096x128, .bf16⟩
  | .hbm, ⟨5, _⟩ => ⟨S16x4096x128, .f32⟩
  | .hbm, ⟨6, _⟩ => ⟨S16x4096x64, .f32⟩
  | .hbm, ⟨7, _⟩ => ⟨S4096x128, .f32⟩
  | .hbm, ⟨8, _⟩ => ⟨S4096x64, .f32⟩
  | .hbm, ⟨9, _⟩ => ⟨S16x4096x4096, .f32⟩
  | .hbm, ⟨10, _⟩ => ⟨S16x4096x4096, .bf16⟩
  | .hbm, ⟨11, _⟩ => ⟨S16x4096x4096, .f32⟩
  | .hbm, ⟨12, _⟩ => ⟨S16x4096x4096, .bf16⟩
  | .hbm, ⟨13, _⟩ => ⟨S16x4096x4096, .bf16⟩
  | .hbm, ⟨14, _⟩ => ⟨S16x4096x4096, .f32⟩
  | .hbm, ⟨15, _⟩ => ⟨S_, .f32⟩
  | .hbm, ⟨16, _⟩ => ⟨S_, .f32⟩
  | .hbm, ⟨17, _⟩ => ⟨S16x4096x4096, .f32⟩
  | .hbm, ⟨18, _⟩ => ⟨S16x4096x4096, .f32⟩
  | .hbm, ⟨19, _⟩ => ⟨S4096, .i32⟩
  | .hbm, ⟨20, _⟩ => ⟨S_, .i32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S1x4096, .i32⟩
  | .hbm, ⟨39, _⟩ => ⟨S4096x1, .i32⟩
  | .hbm, ⟨40, _⟩ => ⟨S4096x4096, .i32⟩
  | .hbm, ⟨41, _⟩ => ⟨S4096x4096, .i32⟩
  | .hbm, ⟨42, _⟩ => ⟨S4096x4096, .i1⟩
  | .hbm, ⟨43, _⟩ => ⟨S_, .f32⟩
  | .hbm, ⟨44, _⟩ => ⟨S_, .f32⟩
  | .hbm, ⟨45, _⟩ => ⟨S16x4096x4096, .i1⟩
  | .hbm, ⟨46, _⟩ => ⟨S16x4096x4096, .f32⟩
  | .hbm, ⟨47, _⟩ => ⟨S16x4096x4096, .f32⟩
  | .hbm, ⟨48, _⟩ => ⟨S_, .f32⟩
  | .hbm, ⟨49, _⟩ => ⟨S16x4096, .f32⟩
  | .hbm, ⟨50, _⟩ => ⟨S16x4096x1, .f32⟩
  | .hbm, ⟨51, _⟩ => ⟨S16x4096x4096, .f32⟩
  | .hbm, ⟨52, _⟩ => ⟨S16x4096x4096, .f32⟩
  | .hbm, ⟨53, _⟩ => ⟨S16x4096x4096, .f32⟩
  | .hbm, ⟨54, _⟩ => ⟨S_, .f32⟩
  | .hbm, ⟨55, _⟩ => ⟨S16x4096, .f32⟩
  | .hbm, ⟨56, _⟩ => ⟨S16x4096x1, .f32⟩
  | .hbm, ⟨57, _⟩ => ⟨S16x4096x1, .f32⟩
  | .hbm, ⟨58, _⟩ => ⟨S16x4096x1, .f32⟩
  | .hbm, ⟨59, _⟩ => ⟨S_, .f32⟩
  | .hbm, ⟨60, _⟩ => ⟨S_, .f32⟩
  | .hbm, ⟨61, _⟩ => ⟨S16x4096x1, .f32⟩
  | .hbm, ⟨62, _⟩ => ⟨S16x4096x1, .f32⟩
  | .hbm, ⟨63, _⟩ => ⟨S_, .bf16⟩
  | .hbm, ⟨64, _⟩ => ⟨S16x4096x64, .bf16⟩
  | .hbm, ⟨65, _⟩ => ⟨S16x4096x256, .bf16⟩
  | .hbm, ⟨66, _⟩ => ⟨S_, .bf16⟩
  | .hbm, ⟨67, _⟩ => ⟨S4096x64, .bf16⟩
  | .hbm, ⟨68, _⟩ => ⟨S4096x256, .bf16⟩
  | .hbm, ⟨69, _⟩ => ⟨S_, .f32⟩
  | .hbm, ⟨70, _⟩ => ⟨S16x4096, .f32⟩
  | .hbm, ⟨71, _⟩ => ⟨S_, .f32⟩
  | .hbm, ⟨72, _⟩ => ⟨S16x4096, .f32⟩
  | .hbm, ⟨73, _⟩ => ⟨S16x4096, .f32⟩
  | .hbm, ⟨74, _⟩ => ⟨S16x4096x1, .f32⟩
  | .hbm, ⟨75, _⟩ => ⟨S16x4096x4096, .f32⟩
  | .hbm, ⟨76, _⟩ => ⟨S16x4096x4096, .f32⟩
  | .hbm, ⟨77, _⟩ => ⟨S16x4096x4096, .f32⟩
  | .hbm, ⟨78, _⟩ => ⟨S_, .f32⟩
  | .hbm, ⟨79, _⟩ => ⟨S16x4096, .f32⟩
  | .hbm, ⟨80, _⟩ => ⟨S16x4096x1, .f32⟩
  | .hbm, ⟨81, _⟩ => ⟨S16x4096x4096, .f32⟩
  | .hbm, ⟨82, _⟩ => ⟨S16x4096x4096, .f32⟩
  | .hbm, ⟨83, _⟩ => ⟨S16x4096x4096, .bf16⟩
  | .hbm, ⟨84, _⟩ => ⟨S16x4096x4096, .f32⟩
  | .hbm, ⟨85, _⟩ => ⟨S4096x128, .f32⟩
  | .hbm, ⟨86, _⟩ => ⟨S16x4096x128, .f32⟩
  | .hbm, ⟨87, _⟩ => ⟨S16x4096x128, .bf16⟩
  | .hbm, ⟨88, _⟩ => ⟨S16x4096x128, .f32⟩
  | .hbm, ⟨89, _⟩ => ⟨S16x4096x256, .bf16⟩
  | .hbm, ⟨90, _⟩ => ⟨S4096x256, .f32⟩
  | .hbm, ⟨91, _⟩ => ⟨S4096x128, .f32⟩
  | .local _ .vmem, ⟨0, _⟩ => ⟨S16x64x256, .bf16⟩
  | .local _ .vmem, ⟨1, _⟩ => ⟨S16x64x256, .bf16⟩
  | .local _ .vmem, ⟨2, _⟩ => ⟨S4096x256, .bf16⟩
  | .local _ .vmem, ⟨3, _⟩ => ⟨S16x64x128, .bf16⟩
  | .local _ .vmem, ⟨4, _⟩ => ⟨S16x64x128, .bf16⟩
  | .local _ .vmem, ⟨5, _⟩ => ⟨S16x64x128, .bf16⟩
  | .local _ .vmem, ⟨6, _⟩ => ⟨S16x64x128, .bf16⟩
  | .local _ .vmem, ⟨7, _⟩ => ⟨S16x64x128, .f32⟩
  | .local _ .vmem, ⟨8, _⟩ => ⟨S16x64x128, .f32⟩
  | .local _ .vmem, ⟨9, _⟩ => ⟨S16x64x256, .bf16⟩
  | .local _ .vmem, ⟨10, _⟩ => ⟨S16x64x256, .bf16⟩
  | .local _ .vmem, ⟨11, _⟩ => ⟨S4096x256, .f32⟩
  | .local _ .vmem, ⟨12, _⟩ => ⟨S4096x128, .f32⟩
  | .local _ .vmem, ⟨13, _⟩ => ⟨S1024x256, .f32⟩
  | _, _ => ⟨S16x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v20 : Ref sig .tc := ⟨.hbm, 47, rfl⟩
abbrev main_cst_1 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_2 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_3 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_4 : Ref sig .tc := ⟨.hbm, 63, rfl⟩
abbrev main_v33 : Ref sig .tc := ⟨.hbm, 64, rfl⟩
abbrev main_v34 : Ref sig .tc := ⟨.hbm, 65, rfl⟩
abbrev main_cst_5 : Ref sig .tc := ⟨.hbm, 66, rfl⟩
abbrev main_v35 : Ref sig .tc := ⟨.hbm, 67, rfl⟩
abbrev main_v36 : Ref sig .tc := ⟨.hbm, 68, rfl⟩
abbrev main_cst_6 : Ref sig .tc := ⟨.hbm, 69, rfl⟩
abbrev main_v37 : Ref sig .tc := ⟨.hbm, 70, rfl⟩
abbrev main_cst_7 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54_0 : Ref sig .tc := ⟨.hbm, 89, rfl⟩
abbrev main_v54_1 : Ref sig .tc := ⟨.hbm, 90, rfl⟩
abbrev main_v54_2 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![64], ![false]⟩

@[reducible] def k0_t1_loop (i : grid0.Coords) : Scf.Loop 32 :=
  let c0_i32_31 : BitVec 32 := 0#32
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v66 : BitVec 32 := Scalar.subi v65 c0_i32_31
  let c1_i32_32 : BitVec 32 := 1#32
  let v68 : BitVec 32 := Scalar.divsi v66 c1_i32_32
  let v69 : BitVec 32 := Scalar.muli v68 c1_i32_32
  let v70 : BitVec 32 := Scalar.addi c0_i32_31 v69
  let c1_i32_33 : BitVec 32 := 1#32
  ⟨c0_i32_31, v70, c1_i32_33⟩
def k0_mult1 (i : grid0.Coords) (k0_t1 : Fin (k0_t1_loop i).trips) : BitVec 32 :=
  let c2_i32_54 : BitVec 32 := 2#32
  let c0_i32_31 : BitVec 32 := 0#32
  let c1_i32_33 : BitVec 32 := 1#32
  let arg10 : BitVec 32 := Scf.iv c0_i32_31 c1_i32_33 k0_t1
  let v100 : BitVec 32 := Scalar.muli c2_i32_54 arg10
  let c512_i32_55 : BitVec 32 := 512#32
  let v101 : BitVec 32 := Scalar.muli v100 c512_i32_55
  v101
def k0_off1 (i : grid0.Coords) (k0_t1 : Fin (k0_t1_loop i).trips) : Fin 2 → Nat :=
  let c2_i32_54 : BitVec 32 := 2#32
  let c0_i32_31 : BitVec 32 := 0#32
  let c1_i32_33 : BitVec 32 := 1#32
  let arg10 : BitVec 32 := Scf.iv c0_i32_31 c1_i32_33 k0_t1
  let v100 : BitVec 32 := Scalar.muli c2_i32_54 arg10
  let c512_i32_55 : BitVec 32 := 512#32
  let v101 : BitVec 32 := Scalar.muli v100 c512_i32_55
  let v102 : BitVec 32 := v101
  let v103 : Index := Scalar.indexCast v102
  let c0_56 : Index := 0#32
  ![v103.toNat, 0]
def k0_off2 (i : grid0.Coords) (k0_t1 : Fin (k0_t1_loop i).trips) : Fin 2 → Nat :=
  let c2_i32_54 : BitVec 32 := 2#32
  let c0_i32_31 : BitVec 32 := 0#32
  let c1_i32_33 : BitVec 32 := 1#32
  let arg10 : BitVec 32 := Scf.iv c0_i32_31 c1_i32_33 k0_t1
  let v100 : BitVec 32 := Scalar.muli c2_i32_54 arg10
  let c512_i32_55 : BitVec 32 := 512#32
  let v101 : BitVec 32 := Scalar.muli v100 c512_i32_55
  let v102 : BitVec 32 := v101
  let v111 : Index := Scalar.indexCast v102
  let c0_59 : Index := 0#32
  ![v111.toNat, 0]
def k0_mult2 (i : grid0.Coords) (k0_t1 : Fin (k0_t1_loop i).trips) : BitVec 32 :=
  let c2_i32_72 : BitVec 32 := 2#32
  let c0_i32_31 : BitVec 32 := 0#32
  let c1_i32_33 : BitVec 32 := 1#32
  let arg10 : BitVec 32 := Scf.iv c0_i32_31 c1_i32_33 k0_t1
  let v139 : BitVec 32 := Scalar.muli c2_i32_72 arg10
  let c1_i32_73 : BitVec 32 := 1#32
  let v140 : BitVec 32 := Scalar.addi v139 c1_i32_73
  let c512_i32_74 : BitVec 32 := 512#32
  let v141 : BitVec 32 := Scalar.muli v140 c512_i32_74
  v141
def k0_off3 (i : grid0.Coords) (k0_t1 : Fin (k0_t1_loop i).trips) : Fin 2 → Nat :=
  let c2_i32_72 : BitVec 32 := 2#32
  let c0_i32_31 : BitVec 32 := 0#32
  let c1_i32_33 : BitVec 32 := 1#32
  let arg10 : BitVec 32 := Scf.iv c0_i32_31 c1_i32_33 k0_t1
  let v139 : BitVec 32 := Scalar.muli c2_i32_72 arg10
  let c1_i32_73 : BitVec 32 := 1#32
  let v140 : BitVec 32 := Scalar.addi v139 c1_i32_73
  let c512_i32_74 : BitVec 32 := 512#32
  let v141 : BitVec 32 := Scalar.muli v140 c512_i32_74
  let v142 : BitVec 32 := v141
  let v143 : Index := Scalar.indexCast v142
  let c0_75 : Index := 0#32
  ![v143.toNat, 0]
def k0_off4 (i : grid0.Coords) (k0_t1 : Fin (k0_t1_loop i).trips) : Fin 2 → Nat :=
  let c2_i32_72 : BitVec 32 := 2#32
  let c0_i32_31 : BitVec 32 := 0#32
  let c1_i32_33 : BitVec 32 := 1#32
  let arg10 : BitVec 32 := Scf.iv c0_i32_31 c1_i32_33 k0_t1
  let v139 : BitVec 32 := Scalar.muli c2_i32_72 arg10
  let c1_i32_73 : BitVec 32 := 1#32
  let v140 : BitVec 32 := Scalar.addi v139 c1_i32_73
  let c512_i32_74 : BitVec 32 := 512#32
  let v141 : BitVec 32 := Scalar.muli v140 c512_i32_74
  let v142 : BitVec 32 := v141
  let v151 : Index := Scalar.indexCast v142
  let c0_78 : Index := 0#32
  ![v151.toNat, 0]
@[reducible] def k0_t2_loop (i : grid0.Coords) : Scf.Loop 32 :=
  let c0_i32_31 : BitVec 32 := 0#32
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v66 : BitVec 32 := Scalar.subi v65 c0_i32_31
  let c1_i32_32 : BitVec 32 := 1#32
  let v68 : BitVec 32 := Scalar.divsi v66 c1_i32_32
  let v69 : BitVec 32 := Scalar.muli v68 c1_i32_32
  let v70 : BitVec 32 := Scalar.addi c0_i32_31 v69
  let v67 : BitVec 32 := Scalar.addi c0_i32_31 v66
  let c1_i32_34 : BitVec 32 := 1#32
  ⟨v70, v67, c1_i32_34⟩
def k0_mult3 (i : grid0.Coords) (k0_t2 : Fin (k0_t2_loop i).trips) : BitVec 32 :=
  let c2_i32_54 : BitVec 32 := 2#32
  let c0_i32_31 : BitVec 32 := 0#32
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v66 : BitVec 32 := Scalar.subi v65 c0_i32_31
  let c1_i32_32 : BitVec 32 := 1#32
  let v68 : BitVec 32 := Scalar.divsi v66 c1_i32_32
  let v69 : BitVec 32 := Scalar.muli v68 c1_i32_32
  let v70 : BitVec 32 := Scalar.addi c0_i32_31 v69
  let c1_i32_34 : BitVec 32 := 1#32
  let arg10 : BitVec 32 := Scf.iv v70 c1_i32_34 k0_t2
  let v100 : BitVec 32 := Scalar.muli c2_i32_54 arg10
  let c512_i32_55 : BitVec 32 := 512#32
  let v101 : BitVec 32 := Scalar.muli v100 c512_i32_55
  v101
def k0_off5 (i : grid0.Coords) (k0_t2 : Fin (k0_t2_loop i).trips) : Fin 2 → Nat :=
  let c2_i32_54 : BitVec 32 := 2#32
  let c0_i32_31 : BitVec 32 := 0#32
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v66 : BitVec 32 := Scalar.subi v65 c0_i32_31
  let c1_i32_32 : BitVec 32 := 1#32
  let v68 : BitVec 32 := Scalar.divsi v66 c1_i32_32
  let v69 : BitVec 32 := Scalar.muli v68 c1_i32_32
  let v70 : BitVec 32 := Scalar.addi c0_i32_31 v69
  let c1_i32_34 : BitVec 32 := 1#32
  let arg10 : BitVec 32 := Scf.iv v70 c1_i32_34 k0_t2
  let v100 : BitVec 32 := Scalar.muli c2_i32_54 arg10
  let c512_i32_55 : BitVec 32 := 512#32
  let v101 : BitVec 32 := Scalar.muli v100 c512_i32_55
  let v102 : BitVec 32 := v101
  let v103 : Index := Scalar.indexCast v102
  let c0_56 : Index := 0#32
  ![v103.toNat, 0]
def k0_off6 (i : grid0.Coords) (k0_t2 : Fin (k0_t2_loop i).trips) : Fin 2 → Nat :=
  let c2_i32_54 : BitVec 32 := 2#32
  let c0_i32_31 : BitVec 32 := 0#32
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v66 : BitVec 32 := Scalar.subi v65 c0_i32_31
  let c1_i32_32 : BitVec 32 := 1#32
  let v68 : BitVec 32 := Scalar.divsi v66 c1_i32_32
  let v69 : BitVec 32 := Scalar.muli v68 c1_i32_32
  let v70 : BitVec 32 := Scalar.addi c0_i32_31 v69
  let c1_i32_34 : BitVec 32 := 1#32
  let arg10 : BitVec 32 := Scf.iv v70 c1_i32_34 k0_t2
  let v100 : BitVec 32 := Scalar.muli c2_i32_54 arg10
  let c512_i32_55 : BitVec 32 := 512#32
  let v101 : BitVec 32 := Scalar.muli v100 c512_i32_55
  let v102 : BitVec 32 := v101
  let v111 : Index := Scalar.indexCast v102
  let c0_59 : Index := 0#32
  ![v111.toNat, 0]
def k0_mult4 (i : grid0.Coords) (k0_t2 : Fin (k0_t2_loop i).trips) : BitVec 32 :=
  let c2_i32_72 : BitVec 32 := 2#32
  let c0_i32_31 : BitVec 32 := 0#32
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v66 : BitVec 32 := Scalar.subi v65 c0_i32_31
  let c1_i32_32 : BitVec 32 := 1#32
  let v68 : BitVec 32 := Scalar.divsi v66 c1_i32_32
  let v69 : BitVec 32 := Scalar.muli v68 c1_i32_32
  let v70 : BitVec 32 := Scalar.addi c0_i32_31 v69
  let c1_i32_34 : BitVec 32 := 1#32
  let arg10 : BitVec 32 := Scf.iv v70 c1_i32_34 k0_t2
  let v139 : BitVec 32 := Scalar.muli c2_i32_72 arg10
  let c1_i32_73 : BitVec 32 := 1#32
  let v140 : BitVec 32 := Scalar.addi v139 c1_i32_73
  let c512_i32_74 : BitVec 32 := 512#32
  let v141 : BitVec 32 := Scalar.muli v140 c512_i32_74
  v141
def k0_off7 (i : grid0.Coords) (k0_t2 : Fin (k0_t2_loop i).trips) : Fin 2 → Nat :=
  let c2_i32_72 : BitVec 32 := 2#32
  let c0_i32_31 : BitVec 32 := 0#32
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v66 : BitVec 32 := Scalar.subi v65 c0_i32_31
  let c1_i32_32 : BitVec 32 := 1#32
  let v68 : BitVec 32 := Scalar.divsi v66 c1_i32_32
  let v69 : BitVec 32 := Scalar.muli v68 c1_i32_32
  let v70 : BitVec 32 := Scalar.addi c0_i32_31 v69
  let c1_i32_34 : BitVec 32 := 1#32
  let arg10 : BitVec 32 := Scf.iv v70 c1_i32_34 k0_t2
  let v139 : BitVec 32 := Scalar.muli c2_i32_72 arg10
  let c1_i32_73 : BitVec 32 := 1#32
  let v140 : BitVec 32 := Scalar.addi v139 c1_i32_73
  let c512_i32_74 : BitVec 32 := 512#32
  let v141 : BitVec 32 := Scalar.muli v140 c512_i32_74
  let v142 : BitVec 32 := v141
  let v143 : Index := Scalar.indexCast v142
  let c0_75 : Index := 0#32
  ![v143.toNat, 0]
def k0_off8 (i : grid0.Coords) (k0_t2 : Fin (k0_t2_loop i).trips) : Fin 2 → Nat :=
  let c2_i32_72 : BitVec 32 := 2#32
  let c0_i32_31 : BitVec 32 := 0#32
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c0_i32_24 : BitVec 32 := 0#32
  let v50 : BitVec 1 := Scalar.cmpi .sgt v48 c0_i32_24
  let v51 : BitVec 32 := Scalar.extui v50
  let c0_i32_25 : BitVec 32 := 0#32
  let v52 : BitVec 1 := Scalar.cmpi .slt v48 c0_i32_25
  let v53 : BitVec 32 := Scalar.extui v52
  let v54 : BitVec 32 := Scalar.subi v51 v53
  let c2_i32 : BitVec 32 := 2#32
  let c0_i32_26 : BitVec 32 := 0#32
  let v55 : BitVec 1 := Scalar.cmpi .sgt c2_i32 c0_i32_26
  let v56 : BitVec 32 := Scalar.extui v55
  let c0_i32_27 : BitVec 32 := 0#32
  let v57 : BitVec 1 := Scalar.cmpi .slt c2_i32 c0_i32_27
  let v58 : BitVec 32 := Scalar.extui v57
  let v59 : BitVec 32 := Scalar.subi v56 v58
  let v60 : BitVec 1 := Scalar.cmpi .ne v54 v59
  let v61 : BitVec 32 := Scalar.remsi v48 c2_i32
  let c0_i32_28 : BitVec 32 := 0#32
  let v62 : BitVec 1 := Scalar.cmpi .ne v61 c0_i32_28
  let v63 : BitVec 1 := Scalar.andi v60 v62
  let v49 : BitVec 32 := Scalar.divsi v48 c2_i32
  let c1_i32_29 : BitVec 32 := 1#32
  let v64 : BitVec 32 := Scalar.subi v49 c1_i32_29
  let v65 : BitVec 32 := Scalar.select v63 v64 v49
  let v66 : BitVec 32 := Scalar.subi v65 c0_i32_31
  let c1_i32_32 : BitVec 32 := 1#32
  let v68 : BitVec 32 := Scalar.divsi v66 c1_i32_32
  let v69 : BitVec 32 := Scalar.muli v68 c1_i32_32
  let v70 : BitVec 32 := Scalar.addi c0_i32_31 v69
  let c1_i32_34 : BitVec 32 := 1#32
  let arg10 : BitVec 32 := Scf.iv v70 c1_i32_34 k0_t2
  let v139 : BitVec 32 := Scalar.muli c2_i32_72 arg10
  let c1_i32_73 : BitVec 32 := 1#32
  let v140 : BitVec 32 := Scalar.addi v139 c1_i32_73
  let c512_i32_74 : BitVec 32 := 512#32
  let v141 : BitVec 32 := Scalar.muli v140 c512_i32_74
  let v142 : BitVec 32 := v141
  let v151 : Index := Scalar.indexCast v142
  let c0_78 : Index := 0#32
  ![v151.toNat, 0]
def k0_cond2 (i : grid0.Coords) : BitVec 1 :=
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c2_i32_35 : BitVec 32 := 2#32
  let c0_i32_36 : BitVec 32 := 0#32
  let v71 : BitVec 1 := Scalar.cmpi .eq c2_i32_35 c0_i32_36
  let c1_i32_37 : BitVec 32 := 1#32
  let v72 : BitVec 32 := Scalar.select v71 c1_i32_37 c2_i32_35
  let v73 : BitVec 32 := Scalar.remsi v48 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  let c1_i32_41 : BitVec 32 := 1#32
  let v81 : BitVec 1 := Scalar.cmpi .eq v80 c1_i32_41
  let v82 : BitVec 32 := Scalar.extui v81
  let c0_i32_42 : BitVec 32 := 0#32
  let v83 : BitVec 1 := Scalar.cmpi .ne v82 c0_i32_42
  v83

def k0_mult5 (i : grid0.Coords) : BitVec 32 :=
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c1_i32_54 : BitVec 32 := 1#32
  let v100 : BitVec 32 := Scalar.subi v48 c1_i32_54
  let c512_i32_55 : BitVec 32 := 512#32
  let v101 : BitVec 32 := Scalar.muli v100 c512_i32_55
  v101
def k0_off9 (i : grid0.Coords) : Fin 2 → Nat :=
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c1_i32_54 : BitVec 32 := 1#32
  let v100 : BitVec 32 := Scalar.subi v48 c1_i32_54
  let c512_i32_55 : BitVec 32 := 512#32
  let v101 : BitVec 32 := Scalar.muli v100 c512_i32_55
  let v102 : BitVec 32 := v101
  let v103 : Index := Scalar.indexCast v102
  let c0_56 : Index := 0#32
  ![v103.toNat, 0]
def k0_off10 (i : grid0.Coords) : Fin 2 → Nat :=
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c1_i32_54 : BitVec 32 := 1#32
  let v100 : BitVec 32 := Scalar.subi v48 c1_i32_54
  let c512_i32_55 : BitVec 32 := 512#32
  let v101 : BitVec 32 := Scalar.muli v100 c512_i32_55
  let v102 : BitVec 32 := v101
  let v111 : Index := Scalar.indexCast v102
  let c0_59 : Index := 0#32
  ![v111.toNat, 0]
def k0_mult6 (i : grid0.Coords) : BitVec 32 :=
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c512_i32_43 : BitVec 32 := 512#32
  let v84 : BitVec 32 := Scalar.muli v48 c512_i32_43
  v84
def k0_cond3 (i : grid0.Coords) : BitVec 1 :=
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c512_i32_44 : BitVec 32 := 512#32
  let v86 : BitVec 32 := Scalar.muli v48 c512_i32_44
  let v87 : BitVec 32 := Scalar.subi v28 v86
  let c256_i32 : BitVec 32 := 256#32
  let v88 : BitVec 1 := Scalar.cmpi .sle v87 c256_i32
  let v89 : BitVec 32 := Scalar.extui v88
  let c0_i32_45 : BitVec 32 := 0#32
  let v90 : BitVec 1 := Scalar.cmpi .ne v89 c0_i32_45
  v90

def k0_off11 (i : grid0.Coords) : Fin 2 → Nat :=
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c512_i32_43 : BitVec 32 := 512#32
  let v84 : BitVec 32 := Scalar.muli v48 c512_i32_43
  let v85 : BitVec 32 := v84
  let v100 : Index := Scalar.indexCast v85
  let c0_54 : Index := 0#32
  ![v100.toNat, 0]
def k0_off12 (i : grid0.Coords) : Fin 2 → Nat :=
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c512_i32_43 : BitVec 32 := 512#32
  let v84 : BitVec 32 := Scalar.muli v48 c512_i32_43
  let v85 : BitVec 32 := v84
  let v142 : Index := Scalar.indexCast v85
  let c0_65 : Index := 0#32
  ![v142.toNat, 0]
def k0_cond4 (i : grid0.Coords) : BitVec 1 :=
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c512_i32_46 : BitVec 32 := 512#32
  let v91 : BitVec 32 := Scalar.muli v48 c512_i32_46
  let v92 : BitVec 32 := Scalar.subi v28 v91
  let c256_i32_47 : BitVec 32 := 256#32
  let v93 : BitVec 1 := Scalar.cmpi .sgt v92 c256_i32_47
  let v94 : BitVec 32 := Scalar.extui v93
  let c0_i32_48 : BitVec 32 := 0#32
  let v95 : BitVec 1 := Scalar.cmpi .ne v94 c0_i32_48
  v95

def k0_off13 (i : grid0.Coords) : Fin 2 → Nat :=
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c512_i32_43 : BitVec 32 := 512#32
  let v84 : BitVec 32 := Scalar.muli v48 c512_i32_43
  let v85 : BitVec 32 := v84
  let v100 : Index := Scalar.indexCast v85
  let c0_54 : Index := 0#32
  ![v100.toNat, 0]
def k0_off14 (i : grid0.Coords) : Fin 2 → Nat :=
  let arg0 : BitVec 32 := BitVec.ofNat 32 (i 0).val
  let c64_i32 : BitVec 32 := 64#32
  let v27 : BitVec 32 := Scalar.muli arg0 c64_i32
  let c64_i32_15 : BitVec 32 := 64#32
  let v28 : BitVec 32 := Scalar.addi v27 c64_i32_15
  let c512_i32 : BitVec 32 := 512#32
  let v29 : BitVec 32 := Scalar.addi v28 c512_i32
  let c1_i32 : BitVec 32 := 1#32
  let v30 : BitVec 32 := Scalar.subi v29 c1_i32
  let c0_i32_17 : BitVec 32 := 0#32
  let v32 : BitVec 1 := Scalar.cmpi .sgt v30 c0_i32_17
  let v33 : BitVec 32 := Scalar.extui v32
  let c0_i32_18 : BitVec 32 := 0#32
  let v34 : BitVec 1 := Scalar.cmpi .slt v30 c0_i32_18
  let v35 : BitVec 32 := Scalar.extui v34
  let v36 : BitVec 32 := Scalar.subi v33 v35
  let c512_i32_16 : BitVec 32 := 512#32
  let c0_i32_19 : BitVec 32 := 0#32
  let v37 : BitVec 1 := Scalar.cmpi .sgt c512_i32_16 c0_i32_19
  let v38 : BitVec 32 := Scalar.extui v37
  let c0_i32_20 : BitVec 32 := 0#32
  let v39 : BitVec 1 := Scalar.cmpi .slt c512_i32_16 c0_i32_20
  let v40 : BitVec 32 := Scalar.extui v39
  let v41 : BitVec 32 := Scalar.subi v38 v40
  let v42 : BitVec 1 := Scalar.cmpi .ne v36 v41
  let v43 : BitVec 32 := Scalar.remsi v30 c512_i32_16
  let c0_i32_21 : BitVec 32 := 0#32
  let v44 : BitVec 1 := Scalar.cmpi .ne v43 c0_i32_21
  let v45 : BitVec 1 := Scalar.andi v42 v44
  let v31 : BitVec 32 := Scalar.divsi v30 c512_i32_16
  let c1_i32_22 : BitVec 32 := 1#32
  let v46 : BitVec 32 := Scalar.subi v31 c1_i32_22
  let v47 : BitVec 32 := Scalar.select v45 v46 v31
  let c1_i32_23 : BitVec 32 := 1#32
  let v48 : BitVec 32 := Scalar.subi v47 c1_i32_23
  let c512_i32_43 : BitVec 32 := 512#32
  let v84 : BitVec 32 := Scalar.muli v48 c512_i32_43
  let v85 : BitVec 32 := v84
  let v141 : Index := Scalar.indexCast v85
  let c0_65 : Index := 0#32
  ![v141.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "scale" => some (((Real.sqrt 192)⁻¹ : ℝ) : EReal)
  | "scale_log2" => some (((Real.sqrt 192)⁻¹ * (Real.log 2)⁻¹ : ℝ) : EReal)
  | _ => none
-- ==== ReferenceIdeal.lean ====
abbrev S16x4096x128 : Shape := ⟨3, ![16, 4096, 128]⟩
abbrev S16x4096x64 : Shape := ⟨3, ![16, 4096, 64]⟩
abbrev S4096x128 : Shape := ⟨2, ![4096, 128]⟩
abbrev S4096x64 : Shape := ⟨2, ![4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S128x4096 : Shape := ⟨2, ![128, 4096]⟩
abbrev S16x4096x256 : Shape := ⟨3, ![16, 4096, 256]⟩
abbrev S4096x256 : Shape := ⟨2, ![4096, 256]⟩

abbrev nBuf : Space → Nat
  | .hbm => 138
  | .vmem => 0
  | .smem => 0
  | _ => 0

abbrev hbmTy0_0 (i : Nat) : BufTy := match i % 128 with
  | 0 => ⟨S16x4096x128, .bf16⟩
  | 1 => ⟨S16x4096x64, .bf16⟩
  | 2 => ⟨S4096x128, .bf16⟩
  | 3 => ⟨S4096x64, .bf16⟩
  | 4 => ⟨S16x4096x128, .bf16⟩
  | 5 => ⟨S16x4096x128, .f32⟩
  | 6 => ⟨S16x4096x64, .f32⟩
  | 7 => ⟨S4096x128, .f32⟩
  | 8 => ⟨S4096x64, .f32⟩
  | 9 => ⟨S16x4096x4096, .f32⟩
  | 10 => ⟨S16x4096x4096, .bf16⟩
  | 11 => ⟨S16x4096x4096, .f32⟩
  | 12 => ⟨S16x4096x4096, .bf16⟩
  | 13 => ⟨S16x4096x4096, .bf16⟩
  | 14 => ⟨S16x4096x4096, .f32⟩
  | 15 => ⟨S_, .f32⟩
  | 16 => ⟨S_, .f32⟩
  | 17 => ⟨S16x4096x4096, .f32⟩
  | 18 => ⟨S16x4096x4096, .f32⟩
  | 19 => ⟨S4096, .i32⟩
  | 20 => ⟨S_, .i32⟩
  | 21 => ⟨S_, .i32⟩
  | 22 => ⟨S4096, .i32⟩
  | 23 => ⟨S4096, .i32⟩
  | 24 => ⟨S4096, .i32⟩
  | 25 => ⟨S_, .i32⟩
  | 26 => ⟨S4096, .i32⟩
  | 27 => ⟨S4096, .i1⟩
  | 28 => ⟨S4096, .i32⟩
  | 29 => ⟨S4096, .i32⟩
  | 30 => ⟨S_, .i32⟩
  | 31 => ⟨S4096, .i32⟩
  | 32 => ⟨S4096, .i1⟩
  | 33 => ⟨S4096, .i1⟩
  | 34 => ⟨S_, .i32⟩
  | 35 => ⟨S4096, .i32⟩
  | 36 => ⟨S4096, .i32⟩
  | 37 => ⟨S4096, .i32⟩
  | 38 => ⟨S1x4096, .i32⟩
  | 39 => ⟨S4096x1, .i32⟩
  | 40 => ⟨S4096x4096, .i32⟩
  | 41 => ⟨S4096x4096, .i32⟩
  | 42 => ⟨S4096x4096, .i1⟩
  | 43 => ⟨S_, .f32⟩
  | 44 => ⟨S_, .f32⟩
  | 45 => ⟨S16x4096x4096, .i1⟩
  | 46 => ⟨S16x4096x4096, .f32⟩
  | 47 => ⟨S16x4096x4096, .f32⟩
  | 48 => ⟨S_, .f32⟩
  | 49 => ⟨S16x4096x4096, .f32⟩
  | 50 => ⟨S_, .f32⟩
  | 51 => ⟨S16x4096, .f32⟩
  | 52 => ⟨S16x4096x1, .f32⟩
  | 53 => ⟨S16x4096x4096, .f32⟩
  | 54 => ⟨S16x4096x4096, .i1⟩
  | 55 => ⟨S16x4096x4096, .f32⟩
  | 56 => ⟨S_, .f32⟩
  | 57 => ⟨S16x4096, .f32⟩
  | 58 => ⟨S_, .f32⟩
  | 59 => ⟨S16x4096, .f32⟩
  | 60 => ⟨S16x4096, .f32⟩
  | 61 => ⟨S_, .f32⟩
  | 62 => ⟨S16x4096, .f32⟩
  | 63 => ⟨S16x4096, .i1⟩
  | 64 => ⟨S_, .f32⟩
  | 65 => ⟨S16x4096, .f32⟩
  | 66 => ⟨S16x4096, .i1⟩
  | 67 => ⟨S_, .f32⟩
  | 68 => ⟨S16x4096, .f32⟩
  | 69 => ⟨S_, .f32⟩
  | 70 => ⟨S16x4096, .f32⟩
  | 71 => ⟨S_, .f32⟩
  | 72 => ⟨S16x4096, .f32⟩
  | 73 => ⟨S16x4096, .f32⟩
  | 74 => ⟨S16x4096, .f32⟩
  | 75 => ⟨S16x4096x1, .f32⟩
  | 76 => ⟨S16x4096x4096, .f32⟩
  | 77 => ⟨S16x4096x4096, .f32⟩
  | 78 => ⟨S16x4096x4096, .f32⟩
  | 79 => ⟨S_, .f32⟩
  | 80 => ⟨S16x4096, .f32⟩
  | 81 => ⟨S16x4096x1, .f32⟩
  | 82 => ⟨S16x4096x4096, .f32⟩
  | 83 => ⟨S16x4096x4096, .f32⟩
  | 84 => ⟨S16x4096x1, .f32⟩
  | 85 => ⟨S_, .f32⟩
  | 86 => ⟨S16x4096x1, .f32⟩
  | 87 => ⟨S16x4096x1, .f32⟩
  | 88 => ⟨S16x4096x4096, .bf16⟩
  | 89 => ⟨S16x4096x4096, .f32⟩
  | 90 => ⟨S4096x128, .f32⟩
  | 91 => ⟨S16x4096x128, .f32⟩
  | 92 => ⟨S16x4096x128, .bf16⟩
  | 93 => ⟨S16x4096x128, .f32⟩
  | 94 => ⟨S128x4096, .f32⟩
  | 95 => ⟨S4096x128, .f32⟩
  | 96 => ⟨S16x4096x4096, .f32⟩
  | 97 => ⟨S4096x128, .bf16⟩
  | 98 => ⟨S16x4096x4096, .bf16⟩
  | 99 => ⟨S16x4096x4096, .f32⟩
  | 100 => ⟨S16x4096x4096, .f32⟩
  | 101 => ⟨S16x4096x4096, .f32⟩
  | 102 => ⟨S16x4096x4096, .f32⟩
  | 103 => ⟨S_, .f32⟩
  | 104 => ⟨S16x4096, .f32⟩
  | 105 => ⟨S16x4096x1, .f32⟩
  | 106 => ⟨S16x4096x1, .f32⟩
  | 107 => ⟨S16x4096x4096, .f32⟩
  | 108 => ⟨S16x4096x4096, .f32⟩
  | 109 => ⟨S_, .f32⟩
  | 110 => ⟨S16x4096, .f32⟩
  | 111 => ⟨S16x4096x4096, .f32⟩
  | 112 => ⟨S16x4096x4096, .f32⟩
  | 113 => ⟨S16x4096x4096, .f32⟩
  | 114 => ⟨S_, .f32⟩
  | 115 => ⟨S16x4096x4096, .f32⟩
  | 116 => ⟨S16x4096x4096, .f32⟩
  | 117 => ⟨S16x4096x4096, .f32⟩
  | 118 => ⟨S16x4096x4096, .f32⟩
  | 119 => ⟨S16x4096x4096, .bf16⟩
  | 120 => ⟨S16x4096x4096, .f32⟩
  | 121 => ⟨S4096x64, .f32⟩
  | 122 => ⟨S16x4096x64, .f32⟩
  | 123 => ⟨S16x4096x4096, .f32⟩
  | 124 => ⟨S4096x128, .f32⟩
  | 125 => ⟨S16x4096x128, .f32⟩
  | 126 => ⟨S4096x64, .bf16⟩
  | 127 => ⟨S4096x128, .bf16⟩
  | _ => ⟨S16x4096x128, .bf16⟩

abbrev hbmTy0_1 (i : Nat) : BufTy := match i % 128 with
  | 0 => ⟨S16x4096x64, .bf16⟩
  | 1 => ⟨S16x4096x128, .bf16⟩
  | 2 => ⟨S_, .bf16⟩
  | 3 => ⟨S16x4096x64, .bf16⟩
  | 4 => ⟨S16x4096x256, .bf16⟩
  | 5 => ⟨S_, .bf16⟩
  | 6 => ⟨S4096x64, .bf16⟩
  | 7 => ⟨S4096x256, .bf16⟩
  | 8 => ⟨S4096x256, .f32⟩
  | 9 => ⟨S4096x128, .f32⟩
  | _ => ⟨S16x4096x128, .bf16⟩

abbrev hbmTy (i : Nat) : BufTy := match i / 128 with
  | 0 => hbmTy0_0 i
  | 1 => hbmTy0_1 i
  | _ => ⟨S16x4096x128, .bf16⟩

abbrev bufTy : (tb : Table) → Fin (tcTables nBuf tb) → BufTy
  | .hbm, ⟨i, _⟩ => hbmTy i
  | _, _ => ⟨S16x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_0 : Ref sig .tc := ⟨.hbm, 43, rfl⟩
abbrev main_call1_v0 : Ref sig .tc := ⟨.hbm, 44, rfl⟩
abbrev main_v20_1 : Ref sig .tc := ⟨.hbm, 45, rfl⟩
abbrev main_call1_v2 : Ref sig .tc := ⟨.hbm, 46, rfl⟩
abbrev main_v20_0 : Ref sig .tc := ⟨.hbm, 47, rfl⟩
abbrev main_call1_cst : Ref sig .tc := ⟨.hbm, 48, rfl⟩
abbrev main_v20_2 : Ref sig .tc := ⟨.hbm, 49, rfl⟩
abbrev main_cst_1 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_2 : Ref sig .tc := ⟨.hbm, 56, rfl⟩
abbrev main_v26 : Ref sig .tc := ⟨.hbm, 57, rfl⟩
abbrev main_cst_3 : Ref sig .tc := ⟨.hbm, 58, rfl⟩
abbrev main_v27 : Ref sig .tc := ⟨.hbm, 59, rfl⟩
abbrev main_v28 : Ref sig .tc := ⟨.hbm, 60, rfl⟩
abbrev main_cst_4 : Ref sig .tc := ⟨.hbm, 61, rfl⟩
abbrev main_v29 : Ref sig .tc := ⟨.hbm, 62, rfl⟩
abbrev main_v30 : Ref sig .tc := ⟨.hbm, 63, rfl⟩
abbrev main_cst_5 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_cst_7 : Ref sig .tc := ⟨.hbm, 69, rfl⟩
abbrev main_v34 : Ref sig .tc := ⟨.hbm, 70, rfl⟩
abbrev main_cst_8 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_9 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_10 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_11 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_12 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_call2_cst : Ref sig .tc := ⟨.hbm, 114, rfl⟩
abbrev main_call2_v0 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_13 : Ref sig .tc := ⟨.hbm, 130, rfl⟩
abbrev main_v87 : Ref sig .tc := ⟨.hbm, 131, rfl⟩
abbrev main_v88 : Ref sig .tc := ⟨.hbm, 132, rfl⟩
abbrev main_cst_14 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩

abbrev nD : Nat := 1
abbrev τ : Topo := Topo.v7x

variable {F : FTy → Type} [FloatOps F]
-- ==== Kernel2.lean ====
abbrev S16x4096x128 : Shape := ⟨3, ![16, 4096, 128]⟩
abbrev S16x4096x64 : Shape := ⟨3, ![16, 4096, 64]⟩
abbrev S4096x128 : Shape := ⟨2, ![4096, 128]⟩
abbrev S4096x64 : Shape := ⟨2, ![4096, 64]⟩
abbrev S_ : Shape := ⟨0, ![]⟩
abbrev S16x4096x256 : Shape := ⟨3, ![16, 4096, 256]⟩
abbrev S4096x256 : Shape := ⟨2, ![4096, 256]⟩
abbrev S16x64x256 : Shape := ⟨3, ![16, 64, 256]⟩
abbrev S16x64x128 : Shape := ⟨3, ![16, 64, 128]⟩
abbrev S1024x128 : Shape := ⟨2, ![1024, 128]⟩
abbrev S1024x256 : Shape := ⟨2, ![1024, 256]⟩
abbrev S512x256 : Shape := ⟨2, ![512, 256]⟩
abbrev S8x64x256 : Shape := ⟨3, ![8, 64, 256]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S256x256 : Shape := ⟨2, ![256, 256]⟩
abbrev S1x256 : Shape := ⟨2, ![1, 256]⟩
abbrev S1x512 : Shape := ⟨2, ![1, 512]⟩

abbrev nBuf : Space → Nat
  | .hbm => 12
  | .vmem => 9
  | .smem => 0
  | _ => 0

abbrev bufTy : (tb : Table) → Fin (tcTables nBuf tb) → BufTy
  | .hbm, ⟨0, _⟩ => ⟨S16x4096x128, .bf16⟩
  | .hbm, ⟨1, _⟩ => ⟨S16x4096x64, .bf16⟩
  | .hbm, ⟨2, _⟩ => ⟨S4096x128, .bf16⟩
  | .hbm, ⟨3, _⟩ => ⟨S4096x64, .bf16⟩
  | .hbm, ⟨4, _⟩ => ⟨S_, .bf16⟩
  | .hbm, ⟨5, _⟩ => ⟨S16x4096x64, .bf16⟩
  | .hbm, ⟨6, _⟩ => ⟨S16x4096x256, .bf16⟩
  | .hbm, ⟨7, _⟩ => ⟨S_, .bf16⟩
  | .hbm, ⟨8, _⟩ => ⟨S4096x64, .bf16⟩
  | .hbm, ⟨9, _⟩ => ⟨S4096x256, .bf16⟩
  | .hbm, ⟨10, _⟩ => ⟨S16x4096x128, .bf16⟩
  | .hbm, ⟨11, _⟩ => ⟨S16x4096x128, .f32⟩
  | .local _ .vmem, ⟨0, _⟩ => ⟨S16x64x256, .bf16⟩
  | .local _ .vmem, ⟨1, _⟩ => ⟨S16x64x256, .bf16⟩
  | .local _ .vmem, ⟨2, _⟩ => ⟨S4096x256, .bf16⟩
  | .local _ .vmem, ⟨3, _⟩ => ⟨S16x64x128, .bf16⟩
  | .local _ .vmem, ⟨4, _⟩ => ⟨S16x64x128, .bf16⟩
  | .local _ .vmem, ⟨5, _⟩ => ⟨S16x64x128, .f32⟩
  | .local _ .vmem, ⟨6, _⟩ => ⟨S16x64x128, .f32⟩
  | .local _ .vmem, ⟨7, _⟩ => ⟨S1024x128, .f32⟩
  | .local _ .vmem, ⟨8, _⟩ => ⟨S1024x256, .f32⟩
  | _, _ => ⟨S16x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

@[reducible] def k0_t1_loop (i : grid0.Coords) : Scf.Loop 32 :=
  let c0_i32_19 : BitVec 32 := 0#32
  let arg0 : BitVec 32 := BitVec.ofNat 32 (i 0).val
  let c64_i32 : BitVec 32 := 64#32
  let v8 : BitVec 32 := Scalar.muli arg0 c64_i32
  let c64_i32_4 : BitVec 32 := 64#32
  let v9 : BitVec 32 := Scalar.addi v8 c64_i32_4
  let c512_i32 : BitVec 32 := 512#32
  let v10 : BitVec 32 := Scalar.addi v9 c512_i32
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c512_i32_5 : BitVec 32 := 512#32
  let c0_i32_7 : BitVec 32 := 0#32
  let v18 : BitVec 1 := Scalar.cmpi .sgt c512_i32_5 c0_i32_7
  let v19 : BitVec 32 := Scalar.extui v18
  let c0_i32_8 : BitVec 32 := 0#32
  let v20 : BitVec 1 := Scalar.cmpi .slt c512_i32_5 c0_i32_8
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_9 : BitVec 32 := 0#32
  let v25 : BitVec 1 := Scalar.cmpi .ne v24 c0_i32_9
  let v26 : BitVec 1 := Scalar.andi v23 v25
  let v12 : BitVec 32 := Scalar.divsi v11 c512_i32_5
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi v28 c1_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c2_i32 : BitVec 32 := 2#32
  let c0_i32_14 : BitVec 32 := 0#32
  let v36 : BitVec 1 := Scalar.cmpi .sgt c2_i32 c0_i32_14
  let v37 : BitVec 32 := Scalar.extui v36
  let c0_i32_15 : BitVec 32 := 0#32
  let v38 : BitVec 1 := Scalar.cmpi .slt c2_i32 c0_i32_15
  let v39 : BitVec 32 := Scalar.extui v38
  let v40 : BitVec 32 := Scalar.subi v37 v39
  let v41 : BitVec 1 := Scalar.cmpi .ne v35 v40
  let v42 : BitVec 32 := Scalar.remsi v29 c2_i32
  let c0_i32_16 : BitVec 32 := 0#32
  let v43 : BitVec 1 := Scalar.cmpi .ne v42 c0_i32_16
  let v44 : BitVec 1 := Scalar.andi v41 v43
  let v30 : BitVec 32 := Scalar.divsi v29 c2_i32
  let c1_i32_17 : BitVec 32 := 1#32
  let v45 : BitVec 32 := Scalar.subi v30 c1_i32_17
  let v46 : BitVec 32 := Scalar.select v44 v45 v30
  let v47 : BitVec 32 := Scalar.subi v46 c0_i32_19
  let c1_i32_20 : BitVec 32 := 1#32
  let v49 : BitVec 32 := Scalar.divsi v47 c1_i32_20
  let v50 : BitVec 32 := Scalar.muli v49 c1_i32_20
  let v51 : BitVec 32 := Scalar.addi c0_i32_19 v50
  let c1_i32_21 : BitVec 32 := 1#32
  ⟨c0_i32_19, v51, c1_i32_21⟩
def k0_mult1 (i : grid0.Coords) (k0_t1 : Fin (k0_t1_loop i).trips) : BitVec 32 :=
  let c2_i32_48 : BitVec 32 := 2#32
  let c0_i32_19 : BitVec 32 := 0#32
  let c1_i32_21 : BitVec 32 := 1#32
  let arg7 : BitVec 32 := Scf.iv c0_i32_19 c1_i32_21 k0_t1
  let v91 : BitVec 32 := Scalar.muli c2_i32_48 arg7
  let c512_i32_49 : BitVec 32 := 512#32
  let v92 : BitVec 32 := Scalar.muli v91 c512_i32_49
  v92
def k0_off1 (i : grid0.Coords) (k0_t1 : Fin (k0_t1_loop i).trips) : Fin 2 → Nat :=
  let c2_i32_48 : BitVec 32 := 2#32
  let c0_i32_19 : BitVec 32 := 0#32
  let c1_i32_21 : BitVec 32 := 1#32
  let arg7 : BitVec 32 := Scf.iv c0_i32_19 c1_i32_21 k0_t1
  let v91 : BitVec 32 := Scalar.muli c2_i32_48 arg7
  let c512_i32_49 : BitVec 32 := 512#32
  let v92 : BitVec 32 := Scalar.muli v91 c512_i32_49
  let v93 : BitVec 32 := v92
  let v94 : Index := Scalar.indexCast v93
  let c0_50 : Index := 0#32
  ![v94.toNat, 0]
def k0_mult2 (i : grid0.Coords) (k0_t1 : Fin (k0_t1_loop i).trips) : BitVec 32 :=
  let c2_i32_80 : BitVec 32 := 2#32
  let c0_i32_19 : BitVec 32 := 0#32
  let c1_i32_21 : BitVec 32 := 1#32
  let arg7 : BitVec 32 := Scf.iv c0_i32_19 c1_i32_21 k0_t1
  let v158 : BitVec 32 := Scalar.muli c2_i32_80 arg7
  let c1_i32_81 : BitVec 32 := 1#32
  let v159 : BitVec 32 := Scalar.addi v158 c1_i32_81
  let c512_i32_82 : BitVec 32 := 512#32
  let v160 : BitVec 32 := Scalar.muli v159 c512_i32_82
  v160
def k0_off2 (i : grid0.Coords) (k0_t1 : Fin (k0_t1_loop i).trips) : Fin 2 → Nat :=
  let c2_i32_80 : BitVec 32 := 2#32
  let c0_i32_19 : BitVec 32 := 0#32
  let c1_i32_21 : BitVec 32 := 1#32
  let arg7 : BitVec 32 := Scf.iv c0_i32_19 c1_i32_21 k0_t1
  let v158 : BitVec 32 := Scalar.muli c2_i32_80 arg7
  let c1_i32_81 : BitVec 32 := 1#32
  let v159 : BitVec 32 := Scalar.addi v158 c1_i32_81
  let c512_i32_82 : BitVec 32 := 512#32
  let v160 : BitVec 32 := Scalar.muli v159 c512_i32_82
  let v161 : BitVec 32 := v160
  let v162 : Index := Scalar.indexCast v161
  let c0_83 : Index := 0#32
  ![v162.toNat, 0]
@[reducible] def k0_t2_loop (i : grid0.Coords) : Scf.Loop 32 :=
  let c0_i32_19 : BitVec 32 := 0#32
  let arg0 : BitVec 32 := BitVec.ofNat 32 (i 0).val
  let c64_i32 : BitVec 32 := 64#32
  let v8 : BitVec 32 := Scalar.muli arg0 c64_i32
  let c64_i32_4 : BitVec 32 := 64#32
  let v9 : BitVec 32 := Scalar.addi v8 c64_i32_4
  let c512_i32 : BitVec 32 := 512#32
  let v10 : BitVec 32 := Scalar.addi v9 c512_i32
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c512_i32_5 : BitVec 32 := 512#32
  let c0_i32_7 : BitVec 32 := 0#32
  let v18 : BitVec 1 := Scalar.cmpi .sgt c512_i32_5 c0_i32_7
  let v19 : BitVec 32 := Scalar.extui v18
  let c0_i32_8 : BitVec 32 := 0#32
  let v20 : BitVec 1 := Scalar.cmpi .slt c512_i32_5 c0_i32_8
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_9 : BitVec 32 := 0#32
  let v25 : BitVec 1 := Scalar.cmpi .ne v24 c0_i32_9
  let v26 : BitVec 1 := Scalar.andi v23 v25
  let v12 : BitVec 32 := Scalar.divsi v11 c512_i32_5
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi v28 c1_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c2_i32 : BitVec 32 := 2#32
  let c0_i32_14 : BitVec 32 := 0#32
  let v36 : BitVec 1 := Scalar.cmpi .sgt c2_i32 c0_i32_14
  let v37 : BitVec 32 := Scalar.extui v36
  let c0_i32_15 : BitVec 32 := 0#32
  let v38 : BitVec 1 := Scalar.cmpi .slt c2_i32 c0_i32_15
  let v39 : BitVec 32 := Scalar.extui v38
  let v40 : BitVec 32 := Scalar.subi v37 v39
  let v41 : BitVec 1 := Scalar.cmpi .ne v35 v40
  let v42 : BitVec 32 := Scalar.remsi v29 c2_i32
  let c0_i32_16 : BitVec 32 := 0#32
  let v43 : BitVec 1 := Scalar.cmpi .ne v42 c0_i32_16
  let v44 : BitVec 1 := Scalar.andi v41 v43
  let v30 : BitVec 32 := Scalar.divsi v29 c2_i32
  let c1_i32_17 : BitVec 32 := 1#32
  let v45 : BitVec 32 := Scalar.subi v30 c1_i32_17
  let v46 : BitVec 32 := Scalar.select v44 v45 v30
  let v47 : BitVec 32 := Scalar.subi v46 c0_i32_19
  let c1_i32_20 : BitVec 32 := 1#32
  let v49 : BitVec 32 := Scalar.divsi v47 c1_i32_20
  let v50 : BitVec 32 := Scalar.muli v49 c1_i32_20
  let v51 : BitVec 32 := Scalar.addi c0_i32_19 v50
  let v48 : BitVec 32 := Scalar.addi c0_i32_19 v47
  let c1_i32_22 : BitVec 32 := 1#32
  ⟨v51, v48, c1_i32_22⟩
def k0_mult3 (i : grid0.Coords) (k0_t2 : Fin (k0_t2_loop i).trips) : BitVec 32 :=
  let c2_i32_48 : BitVec 32 := 2#32
  let c0_i32_19 : BitVec 32 := 0#32
  let arg0 : BitVec 32 := BitVec.ofNat 32 (i 0).val
  let c64_i32 : BitVec 32 := 64#32
  let v8 : BitVec 32 := Scalar.muli arg0 c64_i32
  let c64_i32_4 : BitVec 32 := 64#32
  let v9 : BitVec 32 := Scalar.addi v8 c64_i32_4
  let c512_i32 : BitVec 32 := 512#32
  let v10 : BitVec 32 := Scalar.addi v9 c512_i32
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c512_i32_5 : BitVec 32 := 512#32
  let c0_i32_7 : BitVec 32 := 0#32
  let v18 : BitVec 1 := Scalar.cmpi .sgt c512_i32_5 c0_i32_7
  let v19 : BitVec 32 := Scalar.extui v18
  let c0_i32_8 : BitVec 32 := 0#32
  let v20 : BitVec 1 := Scalar.cmpi .slt c512_i32_5 c0_i32_8
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_9 : BitVec 32 := 0#32
  let v25 : BitVec 1 := Scalar.cmpi .ne v24 c0_i32_9
  let v26 : BitVec 1 := Scalar.andi v23 v25
  let v12 : BitVec 32 := Scalar.divsi v11 c512_i32_5
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi v28 c1_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c2_i32 : BitVec 32 := 2#32
  let c0_i32_14 : BitVec 32 := 0#32
  let v36 : BitVec 1 := Scalar.cmpi .sgt c2_i32 c0_i32_14
  let v37 : BitVec 32 := Scalar.extui v36
  let c0_i32_15 : BitVec 32 := 0#32
  let v38 : BitVec 1 := Scalar.cmpi .slt c2_i32 c0_i32_15
  let v39 : BitVec 32 := Scalar.extui v38
  let v40 : BitVec 32 := Scalar.subi v37 v39
  let v41 : BitVec 1 := Scalar.cmpi .ne v35 v40
  let v42 : BitVec 32 := Scalar.remsi v29 c2_i32
  let c0_i32_16 : BitVec 32 := 0#32
  let v43 : BitVec 1 := Scalar.cmpi .ne v42 c0_i32_16
  let v44 : BitVec 1 := Scalar.andi v41 v43
  let v30 : BitVec 32 := Scalar.divsi v29 c2_i32
  let c1_i32_17 : BitVec 32 := 1#32
  let v45 : BitVec 32 := Scalar.subi v30 c1_i32_17
  let v46 : BitVec 32 := Scalar.select v44 v45 v30
  let v47 : BitVec 32 := Scalar.subi v46 c0_i32_19
  let c1_i32_20 : BitVec 32 := 1#32
  let v49 : BitVec 32 := Scalar.divsi v47 c1_i32_20
  let v50 : BitVec 32 := Scalar.muli v49 c1_i32_20
  let v51 : BitVec 32 := Scalar.addi c0_i32_19 v50
  let c1_i32_22 : BitVec 32 := 1#32
  let arg7 : BitVec 32 := Scf.iv v51 c1_i32_22 k0_t2
  let v91 : BitVec 32 := Scalar.muli c2_i32_48 arg7
  let c512_i32_49 : BitVec 32 := 512#32
  let v92 : BitVec 32 := Scalar.muli v91 c512_i32_49
  v92
def k0_off3 (i : grid0.Coords) (k0_t2 : Fin (k0_t2_loop i).trips) : Fin 2 → Nat :=
  let c2_i32_48 : BitVec 32 := 2#32
  let c0_i32_19 : BitVec 32 := 0#32
  let arg0 : BitVec 32 := BitVec.ofNat 32 (i 0).val
  let c64_i32 : BitVec 32 := 64#32
  let v8 : BitVec 32 := Scalar.muli arg0 c64_i32
  let c64_i32_4 : BitVec 32 := 64#32
  let v9 : BitVec 32 := Scalar.addi v8 c64_i32_4
  let c512_i32 : BitVec 32 := 512#32
  let v10 : BitVec 32 := Scalar.addi v9 c512_i32
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c512_i32_5 : BitVec 32 := 512#32
  let c0_i32_7 : BitVec 32 := 0#32
  let v18 : BitVec 1 := Scalar.cmpi .sgt c512_i32_5 c0_i32_7
  let v19 : BitVec 32 := Scalar.extui v18
  let c0_i32_8 : BitVec 32 := 0#32
  let v20 : BitVec 1 := Scalar.cmpi .slt c512_i32_5 c0_i32_8
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_9 : BitVec 32 := 0#32
  let v25 : BitVec 1 := Scalar.cmpi .ne v24 c0_i32_9
  let v26 : BitVec 1 := Scalar.andi v23 v25
  let v12 : BitVec 32 := Scalar.divsi v11 c512_i32_5
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi v28 c1_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c2_i32 : BitVec 32 := 2#32
  let c0_i32_14 : BitVec 32 := 0#32
  let v36 : BitVec 1 := Scalar.cmpi .sgt c2_i32 c0_i32_14
  let v37 : BitVec 32 := Scalar.extui v36
  let c0_i32_15 : BitVec 32 := 0#32
  let v38 : BitVec 1 := Scalar.cmpi .slt c2_i32 c0_i32_15
  let v39 : BitVec 32 := Scalar.extui v38
  let v40 : BitVec 32 := Scalar.subi v37 v39
  let v41 : BitVec 1 := Scalar.cmpi .ne v35 v40
  let v42 : BitVec 32 := Scalar.remsi v29 c2_i32
  let c0_i32_16 : BitVec 32 := 0#32
  let v43 : BitVec 1 := Scalar.cmpi .ne v42 c0_i32_16
  let v44 : BitVec 1 := Scalar.andi v41 v43
  let v30 : BitVec 32 := Scalar.divsi v29 c2_i32
  let c1_i32_17 : BitVec 32 := 1#32
  let v45 : BitVec 32 := Scalar.subi v30 c1_i32_17
  let v46 : BitVec 32 := Scalar.select v44 v45 v30
  let v47 : BitVec 32 := Scalar.subi v46 c0_i32_19
  let c1_i32_20 : BitVec 32 := 1#32
  let v49 : BitVec 32 := Scalar.divsi v47 c1_i32_20
  let v50 : BitVec 32 := Scalar.muli v49 c1_i32_20
  let v51 : BitVec 32 := Scalar.addi c0_i32_19 v50
  let c1_i32_22 : BitVec 32 := 1#32
  let arg7 : BitVec 32 := Scf.iv v51 c1_i32_22 k0_t2
  let v91 : BitVec 32 := Scalar.muli c2_i32_48 arg7
  let c512_i32_49 : BitVec 32 := 512#32
  let v92 : BitVec 32 := Scalar.muli v91 c512_i32_49
  let v93 : BitVec 32 := v92
  let v94 : Index := Scalar.indexCast v93
  let c0_50 : Index := 0#32
  ![v94.toNat, 0]
def k0_mult4 (i : grid0.Coords) (k0_t2 : Fin (k0_t2_loop i).trips) : BitVec 32 :=
  let c2_i32_80 : BitVec 32 := 2#32
  let c0_i32_19 : BitVec 32 := 0#32
  let arg0 : BitVec 32 := BitVec.ofNat 32 (i 0).val
  let c64_i32 : BitVec 32 := 64#32
  let v8 : BitVec 32 := Scalar.muli arg0 c64_i32
  let c64_i32_4 : BitVec 32 := 64#32
  let v9 : BitVec 32 := Scalar.addi v8 c64_i32_4
  let c512_i32 : BitVec 32 := 512#32
  let v10 : BitVec 32 := Scalar.addi v9 c512_i32
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c512_i32_5 : BitVec 32 := 512#32
  let c0_i32_7 : BitVec 32 := 0#32
  let v18 : BitVec 1 := Scalar.cmpi .sgt c512_i32_5 c0_i32_7
  let v19 : BitVec 32 := Scalar.extui v18
  let c0_i32_8 : BitVec 32 := 0#32
  let v20 : BitVec 1 := Scalar.cmpi .slt c512_i32_5 c0_i32_8
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_9 : BitVec 32 := 0#32
  let v25 : BitVec 1 := Scalar.cmpi .ne v24 c0_i32_9
  let v26 : BitVec 1 := Scalar.andi v23 v25
  let v12 : BitVec 32 := Scalar.divsi v11 c512_i32_5
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi v28 c1_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c2_i32 : BitVec 32 := 2#32
  let c0_i32_14 : BitVec 32 := 0#32
  let v36 : BitVec 1 := Scalar.cmpi .sgt c2_i32 c0_i32_14
  let v37 : BitVec 32 := Scalar.extui v36
  let c0_i32_15 : BitVec 32 := 0#32
  let v38 : BitVec 1 := Scalar.cmpi .slt c2_i32 c0_i32_15
  let v39 : BitVec 32 := Scalar.extui v38
  let v40 : BitVec 32 := Scalar.subi v37 v39
  let v41 : BitVec 1 := Scalar.cmpi .ne v35 v40
  let v42 : BitVec 32 := Scalar.remsi v29 c2_i32
  let c0_i32_16 : BitVec 32 := 0#32
  let v43 : BitVec 1 := Scalar.cmpi .ne v42 c0_i32_16
  let v44 : BitVec 1 := Scalar.andi v41 v43
  let v30 : BitVec 32 := Scalar.divsi v29 c2_i32
  let c1_i32_17 : BitVec 32 := 1#32
  let v45 : BitVec 32 := Scalar.subi v30 c1_i32_17
  let v46 : BitVec 32 := Scalar.select v44 v45 v30
  let v47 : BitVec 32 := Scalar.subi v46 c0_i32_19
  let c1_i32_20 : BitVec 32 := 1#32
  let v49 : BitVec 32 := Scalar.divsi v47 c1_i32_20
  let v50 : BitVec 32 := Scalar.muli v49 c1_i32_20
  let v51 : BitVec 32 := Scalar.addi c0_i32_19 v50
  let c1_i32_22 : BitVec 32 := 1#32
  let arg7 : BitVec 32 := Scf.iv v51 c1_i32_22 k0_t2
  let v158 : BitVec 32 := Scalar.muli c2_i32_80 arg7
  let c1_i32_81 : BitVec 32 := 1#32
  let v159 : BitVec 32 := Scalar.addi v158 c1_i32_81
  let c512_i32_82 : BitVec 32 := 512#32
  let v160 : BitVec 32 := Scalar.muli v159 c512_i32_82
  v160
def k0_off4 (i : grid0.Coords) (k0_t2 : Fin (k0_t2_loop i).trips) : Fin 2 → Nat :=
  let c2_i32_80 : BitVec 32 := 2#32
  let c0_i32_19 : BitVec 32 := 0#32
  let arg0 : BitVec 32 := BitVec.ofNat 32 (i 0).val
  let c64_i32 : BitVec 32 := 64#32
  let v8 : BitVec 32 := Scalar.muli arg0 c64_i32
  let c64_i32_4 : BitVec 32 := 64#32
  let v9 : BitVec 32 := Scalar.addi v8 c64_i32_4
  let c512_i32 : BitVec 32 := 512#32
  let v10 : BitVec 32 := Scalar.addi v9 c512_i32
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c512_i32_5 : BitVec 32 := 512#32
  let c0_i32_7 : BitVec 32 := 0#32
  let v18 : BitVec 1 := Scalar.cmpi .sgt c512_i32_5 c0_i32_7
  let v19 : BitVec 32 := Scalar.extui v18
  let c0_i32_8 : BitVec 32 := 0#32
  let v20 : BitVec 1 := Scalar.cmpi .slt c512_i32_5 c0_i32_8
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_9 : BitVec 32 := 0#32
  let v25 : BitVec 1 := Scalar.cmpi .ne v24 c0_i32_9
  let v26 : BitVec 1 := Scalar.andi v23 v25
  let v12 : BitVec 32 := Scalar.divsi v11 c512_i32_5
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi v28 c1_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c2_i32 : BitVec 32 := 2#32
  let c0_i32_14 : BitVec 32 := 0#32
  let v36 : BitVec 1 := Scalar.cmpi .sgt c2_i32 c0_i32_14
  let v37 : BitVec 32 := Scalar.extui v36
  let c0_i32_15 : BitVec 32 := 0#32
  let v38 : BitVec 1 := Scalar.cmpi .slt c2_i32 c0_i32_15
  let v39 : BitVec 32 := Scalar.extui v38
  let v40 : BitVec 32 := Scalar.subi v37 v39
  let v41 : BitVec 1 := Scalar.cmpi .ne v35 v40
  let v42 : BitVec 32 := Scalar.remsi v29 c2_i32
  let c0_i32_16 : BitVec 32 := 0#32
  let v43 : BitVec 1 := Scalar.cmpi .ne v42 c0_i32_16
  let v44 : BitVec 1 := Scalar.andi v41 v43
  let v30 : BitVec 32 := Scalar.divsi v29 c2_i32
  let c1_i32_17 : BitVec 32 := 1#32
  let v45 : BitVec 32 := Scalar.subi v30 c1_i32_17
  let v46 : BitVec 32 := Scalar.select v44 v45 v30
  let v47 : BitVec 32 := Scalar.subi v46 c0_i32_19
  let c1_i32_20 : BitVec 32 := 1#32
  let v49 : BitVec 32 := Scalar.divsi v47 c1_i32_20
  let v50 : BitVec 32 := Scalar.muli v49 c1_i32_20
  let v51 : BitVec 32 := Scalar.addi c0_i32_19 v50
  let c1_i32_22 : BitVec 32 := 1#32
  let arg7 : BitVec 32 := Scf.iv v51 c1_i32_22 k0_t2
  let v158 : BitVec 32 := Scalar.muli c2_i32_80 arg7
  let c1_i32_81 : BitVec 32 := 1#32
  let v159 : BitVec 32 := Scalar.addi v158 c1_i32_81
  let c512_i32_82 : BitVec 32 := 512#32
  let v160 : BitVec 32 := Scalar.muli v159 c512_i32_82
  let v161 : BitVec 32 := v160
  let v162 : Index := Scalar.indexCast v161
  let c0_83 : Index := 0#32
  ![v162.toNat, 0]
def k0_cond1 (i : grid0.Coords) : BitVec 1 :=
  let arg0 : BitVec 32 := BitVec.ofNat 32 (i 0).val
  let c64_i32 : BitVec 32 := 64#32
  let v8 : BitVec 32 := Scalar.muli arg0 c64_i32
  let c64_i32_4 : BitVec 32 := 64#32
  let v9 : BitVec 32 := Scalar.addi v8 c64_i32_4
  let c512_i32 : BitVec 32 := 512#32
  let v10 : BitVec 32 := Scalar.addi v9 c512_i32
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c512_i32_5 : BitVec 32 := 512#32
  let c0_i32_7 : BitVec 32 := 0#32
  let v18 : BitVec 1 := Scalar.cmpi .sgt c512_i32_5 c0_i32_7
  let v19 : BitVec 32 := Scalar.extui v18
  let c0_i32_8 : BitVec 32 := 0#32
  let v20 : BitVec 1 := Scalar.cmpi .slt c512_i32_5 c0_i32_8
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_9 : BitVec 32 := 0#32
  let v25 : BitVec 1 := Scalar.cmpi .ne v24 c0_i32_9
  let v26 : BitVec 1 := Scalar.andi v23 v25
  let v12 : BitVec 32 := Scalar.divsi v11 c512_i32_5
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi v28 c1_i32_11
  let c2_i32_23 : BitVec 32 := 2#32
  let c0_i32_24 : BitVec 32 := 0#32
  let v52 : BitVec 1 := Scalar.cmpi .eq c2_i32_23 c0_i32_24
  let c1_i32_25 : BitVec 32 := 1#32
  let v53 : BitVec 32 := Scalar.select v52 c1_i32_25 c2_i32_23
  let v54 : BitVec 32 := Scalar.remsi v29 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c1_i32_29 : BitVec 32 := 1#32
  let v62 : BitVec 1 := Scalar.cmpi .eq v61 c1_i32_29
  let v63 : BitVec 32 := Scalar.extui v62
  let c0_i32_30 : BitVec 32 := 0#32
  let v64 : BitVec 1 := Scalar.cmpi .ne v63 c0_i32_30
  v64

def k0_mult5 (i : grid0.Coords) : BitVec 32 :=
  let arg0 : BitVec 32 := BitVec.ofNat 32 (i 0).val
  let c64_i32 : BitVec 32 := 64#32
  let v8 : BitVec 32 := Scalar.muli arg0 c64_i32
  let c64_i32_4 : BitVec 32 := 64#32
  let v9 : BitVec 32 := Scalar.addi v8 c64_i32_4
  let c512_i32 : BitVec 32 := 512#32
  let v10 : BitVec 32 := Scalar.addi v9 c512_i32
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c512_i32_5 : BitVec 32 := 512#32
  let c0_i32_7 : BitVec 32 := 0#32
  let v18 : BitVec 1 := Scalar.cmpi .sgt c512_i32_5 c0_i32_7
  let v19 : BitVec 32 := Scalar.extui v18
  let c0_i32_8 : BitVec 32 := 0#32
  let v20 : BitVec 1 := Scalar.cmpi .slt c512_i32_5 c0_i32_8
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_9 : BitVec 32 := 0#32
  let v25 : BitVec 1 := Scalar.cmpi .ne v24 c0_i32_9
  let v26 : BitVec 1 := Scalar.andi v23 v25
  let v12 : BitVec 32 := Scalar.divsi v11 c512_i32_5
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi v28 c1_i32_11
  let c1_i32_48 : BitVec 32 := 1#32
  let v91 : BitVec 32 := Scalar.subi v29 c1_i32_48
  let c512_i32_49 : BitVec 32 := 512#32
  let v92 : BitVec 32 := Scalar.muli v91 c512_i32_49
  v92
def k0_off5 (i : grid0.Coords) : Fin 2 → Nat :=
  let arg0 : BitVec 32 := BitVec.ofNat 32 (i 0).val
  let c64_i32 : BitVec 32 := 64#32
  let v8 : BitVec 32 := Scalar.muli arg0 c64_i32
  let c64_i32_4 : BitVec 32 := 64#32
  let v9 : BitVec 32 := Scalar.addi v8 c64_i32_4
  let c512_i32 : BitVec 32 := 512#32
  let v10 : BitVec 32 := Scalar.addi v9 c512_i32
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c512_i32_5 : BitVec 32 := 512#32
  let c0_i32_7 : BitVec 32 := 0#32
  let v18 : BitVec 1 := Scalar.cmpi .sgt c512_i32_5 c0_i32_7
  let v19 : BitVec 32 := Scalar.extui v18
  let c0_i32_8 : BitVec 32 := 0#32
  let v20 : BitVec 1 := Scalar.cmpi .slt c512_i32_5 c0_i32_8
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_9 : BitVec 32 := 0#32
  let v25 : BitVec 1 := Scalar.cmpi .ne v24 c0_i32_9
  let v26 : BitVec 1 := Scalar.andi v23 v25
  let v12 : BitVec 32 := Scalar.divsi v11 c512_i32_5
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi v28 c1_i32_11
  let c1_i32_48 : BitVec 32 := 1#32
  let v91 : BitVec 32 := Scalar.subi v29 c1_i32_48
  let c512_i32_49 : BitVec 32 := 512#32
  let v92 : BitVec 32 := Scalar.muli v91 c512_i32_49
  let v93 : BitVec 32 := v92
  let v94 : Index := Scalar.indexCast v93
  let c0_50 : Index := 0#32
  ![v94.toNat, 0]
def k0_mult6 (i : grid0.Coords) : BitVec 32 :=
  let arg0 : BitVec 32 := BitVec.ofNat 32 (i 0).val
  let c64_i32 : BitVec 32 := 64#32
  let v8 : BitVec 32 := Scalar.muli arg0 c64_i32
  let c64_i32_4 : BitVec 32 := 64#32
  let v9 : BitVec 32 := Scalar.addi v8 c64_i32_4
  let c512_i32 : BitVec 32 := 512#32
  let v10 : BitVec 32 := Scalar.addi v9 c512_i32
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c512_i32_5 : BitVec 32 := 512#32
  let c0_i32_7 : BitVec 32 := 0#32
  let v18 : BitVec 1 := Scalar.cmpi .sgt c512_i32_5 c0_i32_7
  let v19 : BitVec 32 := Scalar.extui v18
  let c0_i32_8 : BitVec 32 := 0#32
  let v20 : BitVec 1 := Scalar.cmpi .slt c512_i32_5 c0_i32_8
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_9 : BitVec 32 := 0#32
  let v25 : BitVec 1 := Scalar.cmpi .ne v24 c0_i32_9
  let v26 : BitVec 1 := Scalar.andi v23 v25
  let v12 : BitVec 32 := Scalar.divsi v11 c512_i32_5
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi v28 c1_i32_11
  let c512_i32_31 : BitVec 32 := 512#32
  let v65 : BitVec 32 := Scalar.muli v29 c512_i32_31
  v65
def k0_cond2 (i : grid0.Coords) : BitVec 1 :=
  let arg0 : BitVec 32 := BitVec.ofNat 32 (i 0).val
  let c64_i32 : BitVec 32 := 64#32
  let v8 : BitVec 32 := Scalar.muli arg0 c64_i32
  let c64_i32_4 : BitVec 32 := 64#32
  let v9 : BitVec 32 := Scalar.addi v8 c64_i32_4
  let c512_i32 : BitVec 32 := 512#32
  let v10 : BitVec 32 := Scalar.addi v9 c512_i32
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c512_i32_5 : BitVec 32 := 512#32
  let c0_i32_7 : BitVec 32 := 0#32
  let v18 : BitVec 1 := Scalar.cmpi .sgt c512_i32_5 c0_i32_7
  let v19 : BitVec 32 := Scalar.extui v18
  let c0_i32_8 : BitVec 32 := 0#32
  let v20 : BitVec 1 := Scalar.cmpi .slt c512_i32_5 c0_i32_8
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_9 : BitVec 32 := 0#32
  let v25 : BitVec 1 := Scalar.cmpi .ne v24 c0_i32_9
  let v26 : BitVec 1 := Scalar.andi v23 v25
  let v12 : BitVec 32 := Scalar.divsi v11 c512_i32_5
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi v28 c1_i32_11
  let c512_i32_32 : BitVec 32 := 512#32
  let v67 : BitVec 32 := Scalar.muli v29 c512_i32_32
  let v68 : BitVec 32 := Scalar.subi v9 v67
  let c256_i32 : BitVec 32 := 256#32
  let v69 : BitVec 1 := Scalar.cmpi .sle v68 c256_i32
  let v70 : BitVec 32 := Scalar.extui v69
  let c0_i32_33 : BitVec 32 := 0#32
  let v71 : BitVec 1 := Scalar.cmpi .ne v70 c0_i32_33
  v71

def k0_off6 (i : grid0.Coords) : Fin 2 → Nat :=
  let arg0 : BitVec 32 := BitVec.ofNat 32 (i 0).val
  let c64_i32 : BitVec 32 := 64#32
  let v8 : BitVec 32 := Scalar.muli arg0 c64_i32
  let c64_i32_4 : BitVec 32 := 64#32
  let v9 : BitVec 32 := Scalar.addi v8 c64_i32_4
  let c512_i32 : BitVec 32 := 512#32
  let v10 : BitVec 32 := Scalar.addi v9 c512_i32
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c512_i32_5 : BitVec 32 := 512#32
  let c0_i32_7 : BitVec 32 := 0#32
  let v18 : BitVec 1 := Scalar.cmpi .sgt c512_i32_5 c0_i32_7
  let v19 : BitVec 32 := Scalar.extui v18
  let c0_i32_8 : BitVec 32 := 0#32
  let v20 : BitVec 1 := Scalar.cmpi .slt c512_i32_5 c0_i32_8
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_9 : BitVec 32 := 0#32
  let v25 : BitVec 1 := Scalar.cmpi .ne v24 c0_i32_9
  let v26 : BitVec 1 := Scalar.andi v23 v25
  let v12 : BitVec 32 := Scalar.divsi v11 c512_i32_5
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi v28 c1_i32_11
  let c512_i32_31 : BitVec 32 := 512#32
  let v65 : BitVec 32 := Scalar.muli v29 c512_i32_31
  let v66 : BitVec 32 := v65
  let v91 : Index := Scalar.indexCast v66
  let c0_48 : Index := 0#32
  ![v91.toNat, 0]
def k0_cond3 (i : grid0.Coords) : BitVec 1 :=
  let arg0 : BitVec 32 := BitVec.ofNat 32 (i 0).val
  let c64_i32 : BitVec 32 := 64#32
  let v8 : BitVec 32 := Scalar.muli arg0 c64_i32
  let c64_i32_4 : BitVec 32 := 64#32
  let v9 : BitVec 32 := Scalar.addi v8 c64_i32_4
  let c512_i32 : BitVec 32 := 512#32
  let v10 : BitVec 32 := Scalar.addi v9 c512_i32
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c512_i32_5 : BitVec 32 := 512#32
  let c0_i32_7 : BitVec 32 := 0#32
  let v18 : BitVec 1 := Scalar.cmpi .sgt c512_i32_5 c0_i32_7
  let v19 : BitVec 32 := Scalar.extui v18
  let c0_i32_8 : BitVec 32 := 0#32
  let v20 : BitVec 1 := Scalar.cmpi .slt c512_i32_5 c0_i32_8
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_9 : BitVec 32 := 0#32
  let v25 : BitVec 1 := Scalar.cmpi .ne v24 c0_i32_9
  let v26 : BitVec 1 := Scalar.andi v23 v25
  let v12 : BitVec 32 := Scalar.divsi v11 c512_i32_5
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi v28 c1_i32_11
  let c512_i32_34 : BitVec 32 := 512#32
  let v72 : BitVec 32 := Scalar.muli v29 c512_i32_34
  let v73 : BitVec 32 := Scalar.subi v9 v72
  let c256_i32_35 : BitVec 32 := 256#32
  let v74 : BitVec 1 := Scalar.cmpi .sgt v73 c256_i32_35
  let v75 : BitVec 32 := Scalar.extui v74
  let c0_i32_36 : BitVec 32 := 0#32
  let v76 : BitVec 1 := Scalar.cmpi .ne v75 c0_i32_36
  v76

def k0_off7 (i : grid0.Coords) : Fin 2 → Nat :=
  let arg0 : BitVec 32 := BitVec.ofNat 32 (i 0).val
  let c64_i32 : BitVec 32 := 64#32
  let v8 : BitVec 32 := Scalar.muli arg0 c64_i32
  let c64_i32_4 : BitVec 32 := 64#32
  let v9 : BitVec 32 := Scalar.addi v8 c64_i32_4
  let c512_i32 : BitVec 32 := 512#32
  let v10 : BitVec 32 := Scalar.addi v9 c512_i32
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c512_i32_5 : BitVec 32 := 512#32
  let c0_i32_7 : BitVec 32 := 0#32
  let v18 : BitVec 1 := Scalar.cmpi .sgt c512_i32_5 c0_i32_7
  let v19 : BitVec 32 := Scalar.extui v18
  let c0_i32_8 : BitVec 32 := 0#32
  let v20 : BitVec 1 := Scalar.cmpi .slt c512_i32_5 c0_i32_8
  let v21 : BitVec 32 := Scalar.extui v20
  let v22 : BitVec 32 := Scalar.subi v19 v21
  let v23 : BitVec 1 := Scalar.cmpi .ne v17 v22
  let v24 : BitVec 32 := Scalar.remsi v11 c512_i32_5
  let c0_i32_9 : BitVec 32 := 0#32
  let v25 : BitVec 1 := Scalar.cmpi .ne v24 c0_i32_9
  let v26 : BitVec 1 := Scalar.andi v23 v25
  let v12 : BitVec 32 := Scalar.divsi v11 c512_i32_5
  let c1_i32_10 : BitVec 32 := 1#32
  let v27 : BitVec 32 := Scalar.subi v12 c1_i32_10
  let v28 : BitVec 32 := Scalar.select v26 v27 v12
  let c1_i32_11 : BitVec 32 := 1#32
  let v29 : BitVec 32 := Scalar.subi v28 c1_i32_11
  let c512_i32_31 : BitVec 32 := 512#32
  let v65 : BitVec 32 := Scalar.muli v29 c512_i32_31
  let v66 : BitVec 32 := v65
  let v91 : Index := Scalar.indexCast v66
  let c0_48 : Index := 0#32
  ![v91.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel2Ideal.lean ====
variable {F : FTy → Type} [FloatOps F] [Named F]
def κ : String → Option EReal := fun
  | "inv_log2" => some (((Real.log 2)⁻¹ : ℝ) : EReal)
  | "scale_log2" => some (((Real.sqrt 192)⁻¹ * (Real.log 2)⁻¹ : ℝ) : EReal)
  | _ => none
-- ==== Reference2Ideal.lean ====
abbrev S16x4096x128 : Shape := ⟨3, ![16, 4096, 128]⟩
abbrev S16x4096x64 : Shape := ⟨3, ![16, 4096, 64]⟩
abbrev S4096x128 : Shape := ⟨2, ![4096, 128]⟩
abbrev S4096x64 : Shape := ⟨2, ![4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩

abbrev nBuf : Space → Nat
  | .hbm => 82
  | .vmem => 0
  | .smem => 0
  | _ => 0

abbrev bufTy : (tb : Table) → Fin (tcTables nBuf tb) → BufTy
  | .hbm, ⟨0, _⟩ => ⟨S16x4096x128, .bf16⟩
  | .hbm, ⟨1, _⟩ => ⟨S16x4096x64, .bf16⟩
  | .hbm, ⟨2, _⟩ => ⟨S4096x128, .bf16⟩
  | .hbm, ⟨3, _⟩ => ⟨S4096x64, .bf16⟩
  | .hbm, ⟨4, _⟩ => ⟨S16x4096x128, .f32⟩
  | .hbm, ⟨5, _⟩ => ⟨S16x4096x64, .f32⟩
  | .hbm, ⟨6, _⟩ => ⟨S4096x128, .f32⟩
  | .hbm, ⟨7, _⟩ => ⟨S4096x64, .f32⟩
  | .hbm, ⟨8, _⟩ => ⟨S16x4096x4096, .f32⟩
  | .hbm, ⟨9, _⟩ => ⟨S16x4096x4096, .bf16⟩
  | .hbm, ⟨10, _⟩ => ⟨S16x4096x4096, .f32⟩
  | .hbm, ⟨11, _⟩ => ⟨S16x4096x4096, .bf16⟩
  | .hbm, ⟨12, _⟩ => ⟨S16x4096x4096, .bf16⟩
  | .hbm, ⟨13, _⟩ => ⟨S16x4096x4096, .f32⟩
  | .hbm, ⟨14, _⟩ => ⟨S_, .f32⟩
  | .hbm, ⟨15, _⟩ => ⟨S_, .f32⟩
  | .hbm, ⟨16, _⟩ => ⟨S16x4096x4096, .f32⟩
  | .hbm, ⟨17, _⟩ => ⟨S16x4096x4096, .f32⟩
  | .hbm, ⟨18, _⟩ => ⟨S4096, .i32⟩
  | .hbm, ⟨19, _⟩ => ⟨S_, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S1x4096, .i32⟩
  | .hbm, ⟨38, _⟩ => ⟨S4096x1, .i32⟩
  | .hbm, ⟨39, _⟩ => ⟨S4096x4096, .i32⟩
  | .hbm, ⟨40, _⟩ => ⟨S4096x4096, .i32⟩
  | .hbm, ⟨41, _⟩ => ⟨S4096x4096, .i1⟩
  | .hbm, ⟨42, _⟩ => ⟨S_, .f32⟩
  | .hbm, ⟨43, _⟩ => ⟨S_, .f32⟩
  | .hbm, ⟨44, _⟩ => ⟨S16x4096x4096, .i1⟩
  | .hbm, ⟨45, _⟩ => ⟨S16x4096x4096, .f32⟩
  | .hbm, ⟨46, _⟩ => ⟨S16x4096x4096, .f32⟩
  | .hbm, ⟨47, _⟩ => ⟨S_, .f32⟩
  | .hbm, ⟨48, _⟩ => ⟨S16x4096, .f32⟩
  | .hbm, ⟨49, _⟩ => ⟨S16x4096x1, .f32⟩
  | .hbm, ⟨50, _⟩ => ⟨S16x4096x4096, .f32⟩
  | .hbm, ⟨51, _⟩ => ⟨S16x4096x4096, .f32⟩
  | .hbm, ⟨52, _⟩ => ⟨S16x4096x4096, .f32⟩
  | .hbm, ⟨53, _⟩ => ⟨S_, .f32⟩
  | .hbm, ⟨54, _⟩ => ⟨S16x4096, .f32⟩
  | .hbm, ⟨55, _⟩ => ⟨S16x4096x1, .f32⟩
  | .hbm, ⟨56, _⟩ => ⟨S16x4096x1, .f32⟩
  | .hbm, ⟨57, _⟩ => ⟨S16x4096x1, .f32⟩
  | .hbm, ⟨58, _⟩ => ⟨S_, .f32⟩
  | .hbm, ⟨59, _⟩ => ⟨S_, .f32⟩
  | .hbm, ⟨60, _⟩ => ⟨S16x4096x1, .f32⟩
  | .hbm, ⟨61, _⟩ => ⟨S16x4096x1, .f32⟩
  | .hbm, ⟨62, _⟩ => ⟨S_, .f32⟩
  | .hbm, ⟨63, _⟩ => ⟨S16x4096, .f32⟩
  | .hbm, ⟨64, _⟩ => ⟨S_, .f32⟩
  | .hbm, ⟨65, _⟩ => ⟨S16x4096, .f32⟩
  | .hbm, ⟨66, _⟩ => ⟨S16x4096, .f32⟩
  | .hbm, ⟨67, _⟩ => ⟨S16x4096x1, .f32⟩
  | .hbm, ⟨68, _⟩ => ⟨S16x4096x4096, .f32⟩
  | .hbm, ⟨69, _⟩ => ⟨S16x4096x4096, .f32⟩
  | .hbm, ⟨70, _⟩ => ⟨S16x4096x4096, .f32⟩
  | .hbm, ⟨71, _⟩ => ⟨S_, .f32⟩
  | .hbm, ⟨72, _⟩ => ⟨S16x4096, .f32⟩
  | .hbm, ⟨73, _⟩ => ⟨S16x4096x1, .f32⟩
  | .hbm, ⟨74, _⟩ => ⟨S16x4096x4096, .f32⟩
  | .hbm, ⟨75, _⟩ => ⟨S16x4096x4096, .f32⟩
  | .hbm, ⟨76, _⟩ => ⟨S16x4096x4096, .bf16⟩
  | .hbm, ⟨77, _⟩ => ⟨S16x4096x4096, .f32⟩
  | .hbm, ⟨78, _⟩ => ⟨S4096x128, .f32⟩
  | .hbm, ⟨79, _⟩ => ⟨S16x4096x128, .f32⟩
  | .hbm, ⟨80, _⟩ => ⟨S16x4096x128, .bf16⟩
  | .hbm, ⟨81, _⟩ => ⟨S16x4096x128, .f32⟩
  | _, _ => ⟨S16x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v20 : Ref sig .tc := ⟨.hbm, 46, rfl⟩
abbrev main_cst_1 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_3 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_4 : Ref sig .tc := ⟨.hbm, 62, rfl⟩
abbrev main_v33 : Ref sig .tc := ⟨.hbm, 63, rfl⟩
abbrev main_cst_5 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩

abbrev nD : Nat := 1
abbrev τ : Topo := Topo.v7x

variable {F : FTy → Type} [FloatOps F]
-- ==== Kernel3.lean ====
abbrev S4096x5120 : Shape := ⟨2, ![4096, 5120]⟩
abbrev S1024x5120 : Shape := ⟨2, ![1024, 5120]⟩
abbrev S4096x1024 : Shape := ⟨2, ![4096, 1024]⟩
abbrev S1x4096x1024 : Shape := ⟨3, ![1, 4096, 1024]⟩
abbrev S8x3072 : Shape := ⟨2, ![8, 3072]⟩
abbrev S1024x8x640 : Shape := ⟨3, ![1024, 8, 640]⟩
abbrev S8x1024x640 : Shape := ⟨3, ![8, 1024, 640]⟩
abbrev S8x1024 : Shape := ⟨2, ![8, 1024]⟩
abbrev S256x5120 : Shape := ⟨2, ![256, 5120]⟩
abbrev S256x1024 : Shape := ⟨2, ![256, 1024]⟩
abbrev S1x256x1024 : Shape := ⟨3, ![1, 256, 1024]⟩
abbrev S256x640 : Shape := ⟨2, ![256, 640]⟩
abbrev S1x1024x640 : Shape := ⟨3, ![1, 1024, 640]⟩
abbrev S1024x640 : Shape := ⟨2, ![1024, 640]⟩
abbrev S1x1024 : Shape := ⟨2, ![1, 1024]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S1x4096x1024, .f32⟩
  | .hbm, ⟨4, _⟩ => ⟨S8x3072, .f32⟩
  | .hbm, ⟨5, _⟩ => ⟨S1024x8x640, .bf16⟩
  | .hbm, ⟨6, _⟩ => ⟨S8x1024x640, .bf16⟩
  | .hbm, ⟨7, _⟩ => ⟨S1x4096x1024, .f32⟩
  | .hbm, ⟨8, _⟩ => ⟨S8x1024, .f32⟩
  | .local _ .vmem, ⟨0, _⟩ => ⟨S256x5120, .bf16⟩
  | .local _ .vmem, ⟨1, _⟩ => ⟨S256x5120, .bf16⟩
  | .local _ .vmem, ⟨2, _⟩ => ⟨S8x1024x640, .bf16⟩
  | .local _ .vmem, ⟨3, _⟩ => ⟨S256x1024, .f32⟩
  | .local _ .vmem, ⟨4, _⟩ => ⟨S256x1024, .f32⟩
  | .local _ .vmem, ⟨5, _⟩ => ⟨S1x256x1024, .f32⟩
  | .local _ .vmem, ⟨6, _⟩ => ⟨S1x256x1024, .f32⟩
  | .local _ .vmem, ⟨7, _⟩ => ⟨S8x3072, .f32⟩
  | .local _ .vmem, ⟨8, _⟩ => ⟨S1x256x1024, .f32⟩
  | .local _ .vmem, ⟨9, _⟩ => ⟨S1x256x1024, .f32⟩
  | .local _ .vmem, ⟨10, _⟩ => ⟨S8x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S4096x5120 : Shape := ⟨2, ![4096, 5120]⟩
abbrev S1024x5120 : Shape := ⟨2, ![1024, 5120]⟩
abbrev S4096x1024 : Shape := ⟨2, ![4096, 1024]⟩
abbrev S1x4096x1024 : Shape := ⟨3, ![1, 4096, 1024]⟩
abbrev S8x3072 : Shape := ⟨2, ![8, 3072]⟩
abbrev S1x3072 : Shape := ⟨2, ![1, 3072]⟩
abbrev S3072 : Shape := ⟨1, ![3072]⟩
abbrev S1024 : Shape := ⟨1, ![1024]⟩
abbrev S_ : Shape := ⟨0, ![]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S1x4096x1024, .f32⟩
  | .hbm, ⟨4, _⟩ => ⟨S8x3072, .f32⟩
  | .hbm, ⟨5, _⟩ => ⟨S1x3072, .f32⟩
  | .hbm, ⟨6, _⟩ => ⟨S3072, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S4096x1024, .f32⟩
  | .hbm, ⟨11, _⟩ => ⟨S1024x5120, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5120, .f32⟩
  | .hbm, ⟨22, _⟩ => ⟨S4096x5120, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S_, .f32⟩
  | .hbm, ⟨28, _⟩ => ⟨S1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x4096x1024, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S6x1024, .f32⟩
  | .hbm, ⟨43, _⟩ => ⟨S8x1024, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel4.lean ====
abbrev S4096x1024 : Shape := ⟨2, ![4096, 1024]⟩
abbrev S1024x5120 : Shape := ⟨2, ![1024, 5120]⟩
abbrev S4096x5120 : Shape := ⟨2, ![4096, 5120]⟩
abbrev S8x1024x640 : Shape := ⟨3, ![8, 1024, 640]⟩
abbrev S4096x512 : Shape := ⟨2, ![4096, 512]⟩
abbrev S4096x640 : Shape := ⟨2, ![4096, 640]⟩
abbrev S1x512x640 : Shape := ⟨3, ![1, 512, 640]⟩
abbrev S512x640 : Shape := ⟨2, ![512, 640]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x5120, .bf16⟩
  | .hbm, ⟨3, _⟩ => ⟨S8x1024x640, .bf16⟩
  | .local _ .vmem, ⟨0, _⟩ => ⟨S4096x512, .bf16⟩
  | .local _ .vmem, ⟨1, _⟩ => ⟨S4096x512, .bf16⟩
  | .local _ .vmem, ⟨2, _⟩ => ⟨S4096x640, .bf16⟩
  | .local _ .vmem, ⟨3, _⟩ => ⟨S4096x640, .bf16⟩
  | .local _ .vmem, ⟨4, _⟩ => ⟨S1x512x640, .bf16⟩
  | .local _ .vmem, ⟨5, _⟩ => ⟨S1x512x640, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S1024x5120 : Shape := ⟨2, ![1024, 5120]⟩
abbrev S4096x5120 : Shape := ⟨2, ![4096, 5120]⟩
abbrev S5120x1024 : Shape := ⟨2, ![5120, 1024]⟩
abbrev S1024x8x640 : Shape := ⟨3, ![1024, 8, 640]⟩
abbrev S8x1024x640 : Shape := ⟨3, ![8, 1024, 640]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x5120, .bf16⟩
  | .hbm, ⟨3, _⟩ => ⟨S1024x5120, .f32⟩
  | .hbm, ⟨4, _⟩ => ⟨S4096x1024, .f32⟩
  | .hbm, ⟨5, _⟩ => ⟨S4096x5120, .f32⟩
  | .hbm, ⟨6, _⟩ => ⟨S4096x5120, .f32⟩
  | .hbm, ⟨7, _⟩ => ⟨S5120x1024, .f32⟩
  | .hbm, ⟨8, _⟩ => ⟨S1024x5120, .f32⟩
  | .hbm, ⟨9, _⟩ => ⟨S1024x8x640, .f32⟩
  | .hbm, ⟨10, _⟩ => ⟨S8x1024x640, .f32⟩
  | .hbm, ⟨11, _⟩ => ⟨S8x1024x640, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S1024x5120 : Shape := ⟨2, ![1024, 5120]⟩
abbrev S1024x8x640 : Shape := ⟨3, ![1024, 8, 640]⟩
abbrev S8x1024x640 : Shape := ⟨3, ![8, 1024, 640]⟩
abbrev S4096x5120 : Shape := ⟨2, ![4096, 5120]⟩
abbrev S512x1024 : Shape := ⟨2, ![512, 1024]⟩
abbrev S512x5120 : Shape := ⟨2, ![512, 5120]⟩
abbrev S1x1024x640 : Shape := ⟨3, ![1, 1024, 640]⟩
abbrev S1024x640 : Shape := ⟨2, ![1024, 640]⟩
abbrev S512x640 : Shape := ⟨2, ![512, 640]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S1024x8x640, .bf16⟩
  | .hbm, ⟨3, _⟩ => ⟨S8x1024x640, .bf16⟩
  | .hbm, ⟨4, _⟩ => ⟨S4096x5120, .bf16⟩
  | .local _ .vmem, ⟨0, _⟩ => ⟨S512x1024, .bf16⟩
  | .local _ .vmem, ⟨1, _⟩ => ⟨S512x1024, .bf16⟩
  | .local _ .vmem, ⟨2, _⟩ => ⟨S8x1024x640, .bf16⟩
  | .local _ .vmem, ⟨3, _⟩ => ⟨S512x5120, .bf16⟩
  | .local _ .vmem, ⟨4, _⟩ => ⟨S512x5120, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S1024x5120 : Shape := ⟨2, ![1024, 5120]⟩
abbrev S4096x5120 : Shape := ⟨2, ![4096, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x1024, .f32⟩
  | .hbm, ⟨3, _⟩ => ⟨S1024x5120, .f32⟩
  | .hbm, ⟨4, _⟩ => ⟨S4096x5120, .f32⟩
  | .hbm, ⟨5, _⟩ => ⟨S4096x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S4096x2048 : Shape := ⟨2, ![4096, 2048]⟩
abbrev S2048x1024 : Shape := ⟨2, ![2048, 1024]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4096x2048 : Shape := ⟨2, ![4096, 2048]⟩
abbrev S4096x1024 : Shape := ⟨2, ![4096, 1024]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .hbm, ⟨3, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .bf16⟩
  | .local _ .vmem, ⟨4, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x2048 : Shape := ⟨2, ![4096, 2048]⟩
abbrev S4096x1024 : Shape := ⟨2, ![4096, 1024]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x2048 : Shape := ⟨2, ![4096, 2048]⟩
abbrev S2048x1024 : Shape := ⟨2, ![2048, 1024]⟩
abbrev S4096x1024 : Shape := ⟨2, ![4096, 1024]⟩
abbrev S4096x256 : Shape := ⟨2, ![4096, 256]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .hbm, ⟨3, _⟩ => ⟨S2048x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1024x2496 : Shape := ⟨2, ![1024, 2496]⟩
abbrev S1024x448 : Shape := ⟨2, ![1024, 448]⟩
abbrev S_ : Shape := ⟨0, ![]⟩
abbrev S1024x64 : Shape := ⟨2, ![1024, 64]⟩
abbrev S1024x2048 : Shape := ⟨2, ![1024, 2048]⟩
abbrev S1024x2560 : Shape := ⟨2, ![1024, 2560]⟩
abbrev S4096x2560 : Shape := ⟨2, ![4096, 2560]⟩
abbrev S512x1024 : Shape := ⟨2, ![512, 1024]⟩
abbrev S512x2560 : Shape := ⟨2, ![512, 2560]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x2496, .bf16⟩
  | .hbm, ⟨2, _⟩ => ⟨S1024x448, .bf16⟩
  | .hbm, ⟨3, _⟩ => ⟨S_, .bf16⟩
  | .hbm, ⟨4, _⟩ => ⟨S1024x64, .bf16⟩
  | .hbm, ⟨5, _⟩ => ⟨S1024x2048, .bf16⟩
  | .hbm, ⟨6, _⟩ => ⟨S1024x2560, .bf16⟩
  | .hbm, ⟨7, _⟩ => ⟨S4096x2560, .bf16⟩
  | .local _ .vmem, ⟨0, _⟩ => ⟨S512x1024, .bf16⟩
  | .local _ .vmem, ⟨1, _⟩ => ⟨S512x1024, .bf16⟩
  | .local _ .vmem, ⟨2, _⟩ => ⟨S1024x2560, .bf16⟩
  | .local _ .vmem, ⟨3, _⟩ => ⟨S512x2560, .bf16⟩
  | .local _ .vmem, ⟨4, _⟩ => ⟨S512x2560, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S1024x2496 : Shape := ⟨2, ![1024, 2496]⟩
abbrev S4096x2496 : Shape := ⟨2, ![4096, 2496]⟩
abbrev S4096x448 : Shape := ⟨2, ![4096, 448]⟩
abbrev S_ : Shape := ⟨0, ![]⟩
abbrev S4096x64 : Shape := ⟨2, ![4096, 64]⟩
abbrev S4096x2048 : Shape := ⟨2, ![4096, 2048]⟩
abbrev S4096x2560 : Shape := ⟨2, ![4096, 2560]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2496, .bf16⟩
  | .hbm, ⟨2, _⟩ => ⟨S4096x1024, .f32⟩
  | .hbm, ⟨3, _⟩ => ⟨S1024x2496, .f32⟩
  | .hbm, ⟨4, _⟩ => ⟨S4096x2496, .f32⟩
  | .hbm, ⟨5, _⟩ => ⟨S4096x2496, .bf16⟩
  | .hbm, ⟨6, _⟩ => ⟨S4096x448, .bf16⟩
  | .hbm, ⟨7, _⟩ => ⟨S_, .bf16⟩
  | .hbm, ⟨8, _⟩ => ⟨S4096x64, .bf16⟩
  | .hbm, ⟨9, _⟩ => ⟨S4096x2048, .bf16⟩
  | .hbm, ⟨10, _⟩ => ⟨S4096x2560, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x1024 : Shape := ⟨2, ![4096, 1024]⟩
abbrev S4096x2560 : Shape := ⟨2, ![4096, 2560]⟩
abbrev S1024x2496 : Shape := ⟨2, ![1024, 2496]⟩
abbrev S1024x448 : Shape := ⟨2, ![1024, 448]⟩
abbrev S_ : Shape := ⟨0, ![]⟩
abbrev S1024x64 : Shape := ⟨2, ![1024, 64]⟩
abbrev S1024x2048 : Shape := ⟨2, ![1024, 2048]⟩
abbrev S1024x2560 : Shape := ⟨2, ![1024, 2560]⟩
abbrev S512x2560 : Shape := ⟨2, ![512, 2560]⟩
abbrev S512x1024 : Shape := ⟨2, ![512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S1024x2496, .bf16⟩
  | .hbm, ⟨3, _⟩ => ⟨S1024x448, .bf16⟩
  | .hbm, ⟨4, _⟩ => ⟨S_, .bf16⟩
  | .hbm, ⟨5, _⟩ => ⟨S1024x64, .bf16⟩
  | .hbm, ⟨6, _⟩ => ⟨S1024x2048, .bf16⟩
  | .hbm, ⟨7, _⟩ => ⟨S1024x2560, .bf16⟩
  | .hbm, ⟨8, _⟩ => ⟨S4096x1024, .f32⟩
  | .local _ .vmem, ⟨0, _⟩ => ⟨S512x2560, .bf16⟩
  | .local _ .vmem, ⟨1, _⟩ => ⟨S512x2560, .bf16⟩
  | .local _ .vmem, ⟨2, _⟩ => ⟨S1024x2560, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S4096x2560 : Shape := ⟨2, ![4096, 2560]⟩
abbrev S1024x2496 : Shape := ⟨2, ![1024, 2496]⟩
abbrev S4096x448 : Shape := ⟨2, ![4096, 448]⟩
abbrev S4096x2048 : Shape := ⟨2, ![4096, 2048]⟩
abbrev S4096x2496 : Shape := ⟨2, ![4096, 2496]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S1024x2496, .bf16⟩
  | .hbm, ⟨3, _⟩ => ⟨S4096x448, .bf16⟩
  | .hbm, ⟨4, _⟩ => ⟨S4096x2048, .bf16⟩
  | .hbm, ⟨5, _⟩ => ⟨S4096x2496, .bf16⟩
  | .hbm, ⟨6, _⟩ => ⟨S4096x1024, .f32⟩
  | .hbm, ⟨7, _⟩ => ⟨S1024x2496, .f32⟩
  | .hbm, ⟨8, _⟩ => ⟨S4096x2496, .f32⟩
  | .hbm, ⟨9, _⟩ => ⟨S4096x2496, .f32⟩
  | .hbm, ⟨10, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4096x1024 : Shape := ⟨2, ![4096, 1024]⟩
abbrev S1024x2496 : Shape := ⟨2, ![1024, 2496]⟩
abbrev S4096x2496 : Shape := ⟨2, ![4096, 2496]⟩
abbrev S4096x448 : Shape := ⟨2, ![4096, 448]⟩
abbrev S_ : Shape := ⟨0, ![]⟩
abbrev S4096x64 : Shape := ⟨2, ![4096, 64]⟩
abbrev S4096x2048 : Shape := ⟨2, ![4096, 2048]⟩
abbrev S4096x2560 : Shape := ⟨2, ![4096, 2560]⟩
abbrev S1024x2560 : Shape := ⟨2, ![1024, 2560]⟩
abbrev S4096x256 : Shape := ⟨2, ![4096, 256]⟩
abbrev S4096x1280 : Shape := ⟨2, ![4096, 1280]⟩
abbrev S256x1280 : Shape := ⟨2, ![256, 1280]⟩

abbrev nBuf : Space → Nat
  | .hbm => 9
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2496, .bf16⟩
  | .hbm, ⟨2, _⟩ => ⟨S4096x2496, .bf16⟩
  | .hbm, ⟨3, _⟩ => ⟨S4096x448, .bf16⟩
  | .hbm, ⟨4, _⟩ => ⟨S_, .bf16⟩
  | .hbm, ⟨5, _⟩ => ⟨S4096x64, .bf16⟩
  | .hbm, ⟨6, _⟩ => ⟨S4096x2048, .bf16⟩
  | .hbm, ⟨7, _⟩ => ⟨S4096x2560, .bf16⟩
  | .hbm, ⟨8, _⟩ => ⟨S1024x2560, .bf16⟩
  | .local _ .vmem, ⟨0, _⟩ => ⟨S4096x256, .bf16⟩
  | .local _ .vmem, ⟨1, _⟩ => ⟨S4096x256, .bf16⟩
  | .local _ .vmem, ⟨2, _⟩ => ⟨S4096x1280, .bf16⟩
  | .local _ .vmem, ⟨3, _⟩ => ⟨S4096x1280, .bf16⟩
  | .local _ .vmem, ⟨4, _⟩ => ⟨S256x1280, .bf16⟩
  | .local _ .vmem, ⟨5, _⟩ => ⟨S256x1280, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x1024 : Shape := ⟨2, ![4096, 1024]⟩
abbrev S1024x2496 : Shape := ⟨2, ![1024, 2496]⟩
abbrev S4096x2496 : Shape := ⟨2, ![4096, 2496]⟩
abbrev S2496x1024 : Shape := ⟨2, ![2496, 1024]⟩
abbrev S1024x448 : Shape := ⟨2, ![1024, 448]⟩
abbrev S_ : Shape := ⟨0, ![]⟩
abbrev S1024x64 : Shape := ⟨2, ![1024, 64]⟩
abbrev S1024x2048 : Shape := ⟨2, ![1024, 2048]⟩
abbrev S1024x2560 : Shape := ⟨2, ![1024, 2560]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2496, .bf16⟩
  | .hbm, ⟨2, _⟩ => ⟨S4096x2496, .bf16⟩
  | .hbm, ⟨3, _⟩ => ⟨S1024x2496, .f32⟩
  | .hbm, ⟨4, _⟩ => ⟨S4096x1024, .f32⟩
  | .hbm, ⟨5, _⟩ => ⟨S4096x2496, .f32⟩
  | .hbm, ⟨6, _⟩ => ⟨S4096x2496, .f32⟩
  | .hbm, ⟨7, _⟩ => ⟨S2496x1024, .f32⟩
  | .hbm, ⟨8, _⟩ => ⟨S1024x2496, .f32⟩
  | .hbm, ⟨9, _⟩ => ⟨S1024x2496, .bf16⟩
  | .hbm, ⟨10, _⟩ => ⟨S1024x448, .bf16⟩
  | .hbm, ⟨11, _⟩ => ⟨S_, .bf16⟩
  | .hbm, ⟨12, _⟩ => ⟨S1024x64, .bf16⟩
  | .hbm, ⟨13, _⟩ => ⟨S1024x2048, .bf16⟩
  | .hbm, ⟨14, _⟩ => ⟨S1024x2560, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel12.lean ====
abbrev S4x1024x640 : Shape := ⟨3, ![4, 1024, 640]⟩
abbrev S1x1024x640 : Shape := ⟨3, ![1, 1024, 640]⟩
abbrev S4x256x640 : Shape := ⟨3, ![4, 256, 640]⟩
abbrev S1x256x640 : Shape := ⟨3, ![1, 256, 640]⟩
abbrev S256x640 : Shape := ⟨2, ![256, 640]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x640, .bf16⟩
  | .hbm, ⟨1, _⟩ => ⟨S1x1024x640, .f32⟩
  | .hbm, ⟨2, _⟩ => ⟨S1x1024x640, .f32⟩
  | .hbm, ⟨3, _⟩ => ⟨S1x1024x640, .f32⟩
  | .hbm, ⟨4, _⟩ => ⟨S1x1024x640, .f32⟩
  | .hbm, ⟨5, _⟩ => ⟨S1x1024x640, .f32⟩
  | .hbm, ⟨6, _⟩ => ⟨S1x1024x640, .f32⟩
  | .hbm, ⟨7, _⟩ => ⟨S1x1024x640, .f32⟩
  | .local _ .vmem, ⟨0, _⟩ => ⟨S4x256x640, .bf16⟩
  | .local _ .vmem, ⟨1, _⟩ => ⟨S4x256x640, .bf16⟩
  | .local _ .vmem, ⟨2, _⟩ => ⟨S1x256x640, .f32⟩
  | .local _ .vmem, ⟨3, _⟩ => ⟨S1x256x640, .f32⟩
  | .local _ .vmem, ⟨4, _⟩ => ⟨S1x256x640, .f32⟩
  | .local _ .vmem, ⟨5, _⟩ => ⟨S1x256x640, .f32⟩
  | .local _ .vmem, ⟨6, _⟩ => ⟨S1x256x640, .f32⟩
  | .local _ .vmem, ⟨7, _⟩ => ⟨S1x256x640, .f32⟩
  | .local _ .vmem, ⟨8, _⟩ => ⟨S1x256x640, .f32⟩
  | .local _ .vmem, ⟨9, _⟩ => ⟨S1x256x640, .f32⟩
  | .local _ .vmem, ⟨10, _⟩ => ⟨S1x256x640, .f32⟩
  | .local _ .vmem, ⟨11, _⟩ => ⟨S1x256x640, .f32⟩
  | .local _ .vmem, ⟨12, _⟩ => ⟨S1x256x640, .f32⟩
  | .local _ .vmem, ⟨13, _⟩ => ⟨S1x256x640, .f32⟩
  | .local _ .vmem, ⟨14, _⟩ => ⟨S1x256x640, .f32⟩
  | .local _ .vmem, ⟨15, _⟩ => ⟨S1x256x640, .f32⟩
  | _, _ => ⟨S4x1024x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4x1024x640 : Shape := ⟨3, ![4, 1024, 640]⟩
abbrev S1x1024x640 : Shape := ⟨3, ![1, 1024, 640]⟩
abbrev S_ : Shape := ⟨0, ![]⟩
abbrev S1024x640 : Shape := ⟨2, ![1024, 640]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x640, .bf16⟩
  | .hbm, ⟨1, _⟩ => ⟨S1x1024x640, .f32⟩
  | .hbm, ⟨2, _⟩ => ⟨S1x1024x640, .f32⟩
  | .hbm, ⟨3, _⟩ => ⟨S1x1024x640, .f32⟩
  | .hbm, ⟨4, _⟩ => ⟨S4x1024x640, .f32⟩
  | .hbm, ⟨5, _⟩ => ⟨S_, .f32⟩
  | .hbm, ⟨6, _⟩ => ⟨S1024x640, .f32⟩
  | .hbm, ⟨7, _⟩ => ⟨S1x1024x640, .f32⟩
  | .hbm, ⟨8, _⟩ => ⟨S_, .f32⟩
  | .hbm, ⟨9, _⟩ => ⟨S1x1024x640, .f32⟩
  | .hbm, ⟨10, _⟩ => ⟨S1x1024x640, .f32⟩
  | .hbm, ⟨11, _⟩ => ⟨S_, .f32⟩
  | .hbm, ⟨12, _⟩ => ⟨S1x1024x640, .f32⟩
  | .hbm, ⟨13, _⟩ => ⟨S1x1024x640, .f32⟩
  | .hbm, ⟨14, _⟩ => ⟨S1x1024x640, .f32⟩
  | .hbm, ⟨15, _⟩ => ⟨S_, .f32⟩
  | .hbm, ⟨16, _⟩ => ⟨S1x1024x640, .f32⟩
  | .hbm, ⟨17, _⟩ => ⟨S1x1024x640, .f32⟩
  | .hbm, ⟨18, _⟩ => ⟨S1x1024x640, .f32⟩
  | .hbm, ⟨19, _⟩ => ⟨S_, .f32⟩
  | .hbm, ⟨20, _⟩ => ⟨S1x1024x640, .f32⟩
  | .hbm, ⟨21, _⟩ => ⟨S1x1024x640, .f32⟩
  | .hbm, ⟨22, _⟩ => ⟨S1x1024x640, .f32⟩
  | .hbm, ⟨23, _⟩ => ⟨S_, .f32⟩
  | .hbm, ⟨24, _⟩ => ⟨S1x1024x640, .f32⟩
  | .hbm, ⟨25, _⟩ => ⟨S1x1024x640, .f32⟩
  | .hbm, ⟨26, _⟩ => ⟨S_, .f32⟩
  | .hbm, ⟨27, _⟩ => ⟨S1x1024x640, .f32⟩
  | .hbm, ⟨28, _⟩ => ⟨S1x1024x640, .f32⟩
  | .hbm, ⟨29, _⟩ => ⟨S1x1024x640, .f32⟩
  | .hbm, ⟨30, _⟩ => ⟨S_, .f32⟩
  | .hbm, ⟨31, _⟩ => ⟨S1x1024x640, .f32⟩
  | .hbm, ⟨32, _⟩ => ⟨S1x1024x640, .f32⟩
  | .hbm, ⟨33, _⟩ => ⟨S1x1024x640, .f32⟩
  | .hbm, ⟨34, _⟩ => ⟨S_, .f32⟩
  | .hbm, ⟨35, _⟩ => ⟨S1x1024x640, .f32⟩
  | .hbm, ⟨36, _⟩ => ⟨S1x1024x640, .f32⟩
  | .hbm, ⟨37, _⟩ => ⟨S1x1024x640, .f32⟩
  | .hbm, ⟨38, _⟩ => ⟨S_, .f32⟩
  | .hbm, ⟨39, _⟩ => ⟨S1x1024x640, .f32⟩
  | .hbm, ⟨40, _⟩ => ⟨S1x1024x640, .f32⟩
  | _, _ => ⟨S4x1024x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel13.lean ====
abbrev S8x1024x312 : Shape := ⟨3, ![8, 1024, 312]⟩
abbrev S1x1024x312 : Shape := ⟨3, ![1, 1024, 312]⟩
abbrev S8x256x312 : Shape := ⟨3, ![8, 256, 312]⟩
abbrev S1x256x312 : Shape := ⟨3, ![1, 256, 312]⟩
abbrev S256x312 : Shape := ⟨2, ![256, 312]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x312, .bf16⟩
  | .hbm, ⟨1, _⟩ => ⟨S1x1024x312, .f32⟩
  | .hbm, ⟨2, _⟩ => ⟨S1x1024x312, .f32⟩
  | .hbm, ⟨3, _⟩ => ⟨S1x1024x312, .f32⟩
  | .hbm, ⟨4, _⟩ => ⟨S1x1024x312, .f32⟩
  | .hbm, ⟨5, _⟩ => ⟨S1x1024x312, .f32⟩
  | .hbm, ⟨6, _⟩ => ⟨S1x1024x312, .f32⟩
  | .hbm, ⟨7, _⟩ => ⟨S1x1024x312, .f32⟩
  | .local _ .vmem, ⟨0, _⟩ => ⟨S8x256x312, .bf16⟩
  | .local _ .vmem, ⟨1, _⟩ => ⟨S8x256x312, .bf16⟩
  | .local _ .vmem, ⟨2, _⟩ => ⟨S1x256x312, .f32⟩
  | .local _ .vmem, ⟨3, _⟩ => ⟨S1x256x312, .f32⟩
  | .local _ .vmem, ⟨4, _⟩ => ⟨S1x256x312, .f32⟩
  | .local _ .vmem, ⟨5, _⟩ => ⟨S1x256x312, .f32⟩
  | .local _ .vmem, ⟨6, _⟩ => ⟨S1x256x312, .f32⟩
  | .local _ .vmem, ⟨7, _⟩ => ⟨S1x256x312, .f32⟩
  | .local _ .vmem, ⟨8, _⟩ => ⟨S1x256x312, .f32⟩
  | .local _ .vmem, ⟨9, _⟩ => ⟨S1x256x312, .f32⟩
  | .local _ .vmem, ⟨10, _⟩ => ⟨S1x256x312, .f32⟩
  | .local _ .vmem, ⟨11, _⟩ => ⟨S1x256x312, .f32⟩
  | .local _ .vmem, ⟨12, _⟩ => ⟨S1x256x312, .f32⟩
  | .local _ .vmem, ⟨13, _⟩ => ⟨S1x256x312, .f32⟩
  | .local _ .vmem, ⟨14, _⟩ => ⟨S1x256x312, .f32⟩
  | .local _ .vmem, ⟨15, _⟩ => ⟨S1x256x312, .f32⟩
  | _, _ => ⟨S8x1024x312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x312 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x312 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x312 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x312 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x312 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x312 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x312 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x312 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8x1024x312 : Shape := ⟨3, ![8, 1024, 312]⟩
abbrev S1x1024x312 : Shape := ⟨3, ![1, 1024, 312]⟩
abbrev S_ : Shape := ⟨0, ![]⟩
abbrev S1024x312 : Shape := ⟨2, ![1024, 312]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x312, .bf16⟩
  | .hbm, ⟨1, _⟩ => ⟨S1x1024x312, .f32⟩
  | .hbm, ⟨2, _⟩ => ⟨S1x1024x312, .f32⟩
  | .hbm, ⟨3, _⟩ => ⟨S1x1024x312, .f32⟩
  | .hbm, ⟨4, _⟩ => ⟨S8x1024x312, .f32⟩
  | .hbm, ⟨5, _⟩ => ⟨S_, .f32⟩
  | .hbm, ⟨6, _⟩ => ⟨S1024x312, .f32⟩
  | .hbm, ⟨7, _⟩ => ⟨S1x1024x312, .f32⟩
  | .hbm, ⟨8, _⟩ => ⟨S_, .f32⟩
  | .hbm, ⟨9, _⟩ => ⟨S1x1024x312, .f32⟩
  | .hbm, ⟨10, _⟩ => ⟨S1x1024x312, .f32⟩
  | .hbm, ⟨11, _⟩ => ⟨S_, .f32⟩
  | .hbm, ⟨12, _⟩ => ⟨S1x1024x312, .f32⟩
  | .hbm, ⟨13, _⟩ => ⟨S1x1024x312, .f32⟩
  | .hbm, ⟨14, _⟩ => ⟨S1x1024x312, .f32⟩
  | .hbm, ⟨15, _⟩ => ⟨S_, .f32⟩
  | .hbm, ⟨16, _⟩ => ⟨S1x1024x312, .f32⟩
  | .hbm, ⟨17, _⟩ => ⟨S1x1024x312, .f32⟩
  | .hbm, ⟨18, _⟩ => ⟨S1x1024x312, .f32⟩
  | .hbm, ⟨19, _⟩ => ⟨S_, .f32⟩
  | .hbm, ⟨20, _⟩ => ⟨S1x1024x312, .f32⟩
  | .hbm, ⟨21, _⟩ => ⟨S1x1024x312, .f32⟩
  | .hbm, ⟨22, _⟩ => ⟨S1x1024x312, .f32⟩
  | .hbm, ⟨23, _⟩ => ⟨S_, .f32⟩
  | .hbm, ⟨24, _⟩ => ⟨S1x1024x312, .f32⟩
  | .hbm, ⟨25, _⟩ => ⟨S1x1024x312, .f32⟩
  | .hbm, ⟨26, _⟩ => ⟨S_, .f32⟩
  | .hbm, ⟨27, _⟩ => ⟨S1x1024x312, .f32⟩
  | .hbm, ⟨28, _⟩ => ⟨S1x1024x312, .f32⟩
  | .hbm, ⟨29, _⟩ => ⟨S1x1024x312, .f32⟩
  | .hbm, ⟨30, _⟩ => ⟨S_, .f32⟩
  | .hbm, ⟨31, _⟩ => ⟨S1x1024x312, .f32⟩
  | .hbm, ⟨32, _⟩ => ⟨S1x1024x312, .f32⟩
  | .hbm, ⟨33, _⟩ => ⟨S1x1024x312, .f32⟩
  | .hbm, ⟨34, _⟩ => ⟨S_, .f32⟩
  | .hbm, ⟨35, _⟩ => ⟨S1x1024x312, .f32⟩
  | .hbm, ⟨36, _⟩ => ⟨S1x1024x312, .f32⟩
  | .hbm, ⟨37, _⟩ => ⟨S1x1024x312, .f32⟩
  | .hbm, ⟨38, _⟩ => ⟨S_, .f32⟩
  | .hbm, ⟨39, _⟩ => ⟨S1x1024x312, .f32⟩
  | .hbm, ⟨40, _⟩ => ⟨S1x1024x312, .f32⟩
  | _, _ => ⟨S8x1024x312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel14.lean ====
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S8x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S8x256x1024 : Shape := ⟨3, ![8, 256, 1024]⟩
abbrev S1x256x1024 : Shape := ⟨3, ![1, 256, 1024]⟩
abbrev S_ : Shape := ⟨0, ![]⟩
abbrev S256x1024 : Shape := ⟨2, ![256, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel15.lean ====
abbrev S8x32x16x192 : Shape := ⟨4, ![8, 32, 16, 192]⟩
abbrev S1x32x16x192 : Shape := ⟨4, ![1, 32, 16, 192]⟩

abbrev nBuf : Space → Nat
  | .hbm => 8
  | .vmem => 8
  | .smem => 0
  | _ => 0

abbrev bufTy : (tb : Table) → Fin (tcTables nBuf tb) → BufTy
  | .hbm, ⟨0, _⟩ => ⟨S8x32x16x192, .bf16⟩
  | .hbm, ⟨1, _⟩ => ⟨S1x32x16x192, .f32⟩
  | .hbm, ⟨2, _⟩ => ⟨S1x32x16x192, .f32⟩
  | .hbm, ⟨3, _⟩ => ⟨S1x32x16x192, .f32⟩
  | .hbm, ⟨4, _⟩ => ⟨S1x32x16x192, .f32⟩
  | .hbm, ⟨5, _⟩ => ⟨S1x32x16x192, .f32⟩
  | .hbm, ⟨6, _⟩ => ⟨S1x32x16x192, .f32⟩
  | .hbm, ⟨7, _⟩ => ⟨S1x32x16x192, .f32⟩
  | .local _ .vmem, ⟨0, _⟩ => ⟨S8x32x16x192, .bf16⟩
  | .local _ .vmem, ⟨1, _⟩ => ⟨S1x32x16x192, .f32⟩
  | .local _ .vmem, ⟨2, _⟩ => ⟨S1x32x16x192, .f32⟩
  | .local _ .vmem, ⟨3, _⟩ => ⟨S1x32x16x192, .f32⟩
  | .local _ .vmem, ⟨4, _⟩ => ⟨S1x32x16x192, .f32⟩
  | .local _ .vmem, ⟨5, _⟩ => ⟨S1x32x16x192, .f32⟩
  | .local _ .vmem, ⟨6, _⟩ => ⟨S1x32x16x192, .f32⟩
  | .local _ .vmem, ⟨7, _⟩ => ⟨S1x32x16x192, .f32⟩
  | _, _ => ⟨S8x32x16x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x32x16x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x32x16x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32x16x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32x16x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32x16x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32x16x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32x16x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32x16x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference15Ideal.lean ====
abbrev S8x32x16x192 : Shape := ⟨4, ![8, 32, 16, 192]⟩
abbrev S1x32x16x192 : Shape := ⟨4, ![1, 32, 16, 192]⟩
abbrev S_ : Shape := ⟨0, ![]⟩
abbrev S32x16x192 : Shape := ⟨3, ![32, 16, 192]⟩

abbrev nBuf : Space → Nat
  | .hbm => 41
  | .vmem => 0
  | .smem => 0
  | _ => 0

abbrev bufTy : (tb : Table) → Fin (tcTables nBuf tb) → BufTy
  | .hbm, ⟨0, _⟩ => ⟨S8x32x16x192, .bf16⟩
  | .hbm, ⟨1, _⟩ => ⟨S1x32x16x192, .f32⟩
  | .hbm, ⟨2, _⟩ => ⟨S1x32x16x192, .f32⟩
  | .hbm, ⟨3, _⟩ => ⟨S1x32x16x192, .f32⟩
  | .hbm, ⟨4, _⟩ => ⟨S8x32x16x192, .f32⟩
  | .hbm, ⟨5, _⟩ => ⟨S_, .f32⟩
  | .hbm, ⟨6, _⟩ => ⟨S32x16x192, .f32⟩
  | .hbm, ⟨7, _⟩ => ⟨S1x32x16x192, .f32⟩
  | .hbm, ⟨8, _⟩ => ⟨S_, .f32⟩
  | .hbm, ⟨9, _⟩ => ⟨S1x32x16x192, .f32⟩
  | .hbm, ⟨10, _⟩ => ⟨S1x32x16x192, .f32⟩
  | .hbm, ⟨11, _⟩ => ⟨S_, .f32⟩
  | .hbm, ⟨12, _⟩ => ⟨S1x32x16x192, .f32⟩
  | .hbm, ⟨13, _⟩ => ⟨S1x32x16x192, .f32⟩
  | .hbm, ⟨14, _⟩ => ⟨S1x32x16x192, .f32⟩
  | .hbm, ⟨15, _⟩ => ⟨S_, .f32⟩
  | .hbm, ⟨16, _⟩ => ⟨S1x32x16x192, .f32⟩
  | .hbm, ⟨17, _⟩ => ⟨S1x32x16x192, .f32⟩
  | .hbm, ⟨18, _⟩ => ⟨S1x32x16x192, .f32⟩
  | .hbm, ⟨19, _⟩ => ⟨S_, .f32⟩
  | .hbm, ⟨20, _⟩ => ⟨S1x32x16x192, .f32⟩
  | .hbm, ⟨21, _⟩ => ⟨S1x32x16x192, .f32⟩
  | .hbm, ⟨22, _⟩ => ⟨S1x32x16x192, .f32⟩
  | .hbm, ⟨23, _⟩ => ⟨S_, .f32⟩
  | .hbm, ⟨24, _⟩ => ⟨S1x32x16x192, .f32⟩
  | .hbm, ⟨25, _⟩ => ⟨S1x32x16x192, .f32⟩
  | .hbm, ⟨26, _⟩ => ⟨S_, .f32⟩
  | .hbm, ⟨27, _⟩ => ⟨S1x32x16x192, .f32⟩
  | .hbm, ⟨28, _⟩ => ⟨S1x32x16x192, .f32⟩
  | .hbm, ⟨29, _⟩ => ⟨S1x32x16x192, .f32⟩
  | .hbm, ⟨30, _⟩ => ⟨S_, .f32⟩
  | .hbm, ⟨31, _⟩ => ⟨S1x32x16x192, .f32⟩
  | .hbm, ⟨32, _⟩ => ⟨S1x32x16x192, .f32⟩
  | .hbm, ⟨33, _⟩ => ⟨S1x32x16x192, .f32⟩
  | .hbm, ⟨34, _⟩ => ⟨S_, .f32⟩
  | .hbm, ⟨35, _⟩ => ⟨S1x32x16x192, .f32⟩
  | .hbm, ⟨36, _⟩ => ⟨S1x32x16x192, .f32⟩
  | .hbm, ⟨37, _⟩ => ⟨S1x32x16x192, .f32⟩
  | .hbm, ⟨38, _⟩ => ⟨S_, .f32⟩
  | .hbm, ⟨39, _⟩ => ⟨S1x32x16x192, .f32⟩
  | .hbm, ⟨40, _⟩ => ⟨S1x32x16x192, .f32⟩
  | _, _ => ⟨S8x32x16x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S8x4x32x256 : Shape := ⟨4, ![8, 4, 32, 256]⟩
abbrev S1x4x32x256 : Shape := ⟨4, ![1, 4, 32, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x4x32x256, .f32⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S1x4x32x256, .f32⟩
  | .hbm, ⟨5, _⟩ => ⟨S1x4x32x256, .f32⟩
  | .hbm, ⟨6, _⟩ => ⟨S1x4x32x256, .f32⟩
  | .hbm, ⟨7, _⟩ => ⟨S1x4x32x256, .f32⟩
  | .local _ .vmem, ⟨0, _⟩ => ⟨S8x4x32x256, .f32⟩
  | .local _ .vmem, ⟨1, _⟩ => ⟨S1x4x32x256, .f32⟩
  | .local _ .vmem, ⟨2, _⟩ => ⟨S1x4x32x256, .f32⟩
  | .local _ .vmem, ⟨3, _⟩ => ⟨S1x4x32x256, .f32⟩
  | .local _ .vmem, ⟨4, _⟩ => ⟨S1x4x32x256, .f32⟩
  | .local _ .vmem, ⟨5, _⟩ => ⟨S1x4x32x256, .f32⟩
  | .local _ .vmem, ⟨6, _⟩ => ⟨S1x4x32x256, .f32⟩
  | .local _ .vmem, ⟨7, _⟩ => ⟨S1x4x32x256, .f32⟩
  | _, _ => ⟨S8x4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x4x32x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4x32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4x32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4x32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4x32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4x32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4x32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4x32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference16Ideal.lean ====
abbrev S8x4x32x256 : Shape := ⟨4, ![8, 4, 32, 256]⟩
abbrev S1x4x32x256 : Shape := ⟨4, ![1, 4, 32, 256]⟩
abbrev S_ : Shape := ⟨0, ![]⟩
abbrev S4x32x256 : Shape := ⟨3, ![4, 32, 256]⟩

abbrev nBuf : Space → Nat
  | .hbm => 40
  | .vmem => 0
  | .smem => 0
  | _ => 0

abbrev bufTy : (tb : Table) → Fin (tcTables nBuf tb) → BufTy
  | .hbm, ⟨0, _⟩ => ⟨S8x4x32x256, .f32⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S_, .f32⟩
  | .hbm, ⟨5, _⟩ => ⟨S4x32x256, .f32⟩
  | .hbm, ⟨6, _⟩ => ⟨S1x4x32x256, .f32⟩
  | .hbm, ⟨7, _⟩ => ⟨S_, .f32⟩
  | .hbm, ⟨8, _⟩ => ⟨S1x4x32x256, .f32⟩
  | .hbm, ⟨9, _⟩ => ⟨S1x4x32x256, .f32⟩
  | .hbm, ⟨10, _⟩ => ⟨S_, .f32⟩
  | .hbm, ⟨11, _⟩ => ⟨S1x4x32x256, .f32⟩
  | .hbm, ⟨12, _⟩ => ⟨S1x4x32x256, .f32⟩
  | .hbm, ⟨13, _⟩ => ⟨S1x4x32x256, .f32⟩
  | .hbm, ⟨14, _⟩ => ⟨S_, .f32⟩
  | .hbm, ⟨15, _⟩ => ⟨S1x4x32x256, .f32⟩
  | .hbm, ⟨16, _⟩ => ⟨S1x4x32x256, .f32⟩
  | .hbm, ⟨17, _⟩ => ⟨S1x4x32x256, .f32⟩
  | .hbm, ⟨18, _⟩ => ⟨S_, .f32⟩
  | .hbm, ⟨19, _⟩ => ⟨S1x4x32x256, .f32⟩
  | .hbm, ⟨20, _⟩ => ⟨S1x4x32x256, .f32⟩
  | .hbm, ⟨21, _⟩ => ⟨S1x4x32x256, .f32⟩
  | .hbm, ⟨22, _⟩ => ⟨S_, .f32⟩
  | .hbm, ⟨23, _⟩ => ⟨S1x4x32x256, .f32⟩
  | .hbm, ⟨24, _⟩ => ⟨S1x4x32x256, .f32⟩
  | .hbm, ⟨25, _⟩ => ⟨S_, .f32⟩
  | .hbm, ⟨26, _⟩ => ⟨S1x4x32x256, .f32⟩
  | .hbm, ⟨27, _⟩ => ⟨S1x4x32x256, .f32⟩
  | .hbm, ⟨28, _⟩ => ⟨S1x4x32x256, .f32⟩
  | .hbm, ⟨29, _⟩ => ⟨S_, .f32⟩
  | .hbm, ⟨30, _⟩ => ⟨S1x4x32x256, .f32⟩
  | .hbm, ⟨31, _⟩ => ⟨S1x4x32x256, .f32⟩
  | .hbm, ⟨32, _⟩ => ⟨S1x4x32x256, .f32⟩
  | .hbm, ⟨33, _⟩ => ⟨S_, .f32⟩
  | .hbm, ⟨34, _⟩ => ⟨S1x4x32x256, .f32⟩
  | .hbm, ⟨35, _⟩ => ⟨S1x4x32x256, .f32⟩
  | .hbm, ⟨36, _⟩ => ⟨S1x4x32x256, .f32⟩
  | .hbm, ⟨37, _⟩ => ⟨S_, .f32⟩
  | .hbm, ⟨38, _⟩ => ⟨S1x4x32x256, .f32⟩
  | .hbm, ⟨39, _⟩ => ⟨S1x4x32x256, .f32⟩
  | _, _ => ⟨S8x4x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.KernelIdeal.Offsets.lean ====
/-
  The control of the attention's backward call at a grid point, evaluated: how many whole blocks of 512 keys the point visits,
  at which rows each block lies, and which of the two masked tails it takes.
-/
module

public import proofs.«01_k».proof.Proof.Gen.KernelIdeal.Frame
public import proofs.«01_k».proof.Proof.Gen.KernelIdeal.Loops

@[expose] public section

noncomputable section

namespace Cert.Proof.KernelIdeal

open Cert.KernelIdeal Cert.KernelIdeal.Gen
open Idealize.ShloMosaic Idealize.ShloMosaic.TcCoe Idealize.ShloMosaic.Tactic

/-- The trips of the paired loop at a point: half the whole blocks, rounded down. -/
theorem trips_eq : ∀ i : grid0.Coords, (k0_t1_loop i).trips = (i 0).val / 8 / 2 := by decide +kernel

/-- The rows of a trip's first block, in the keys and their gradient. -/
theorem off1_eq : ∀ (i : grid0.Coords) (k : Fin (k0_t1_loop i).trips), k0_off1 i k = ![1024 * k.val, 0] := by decide +kernel
/-- The rows of a trip's first block, in the values' gradient. -/
theorem off2_eq : ∀ (i : grid0.Coords) (k : Fin (k0_t1_loop i).trips), k0_off2 i k = ![1024 * k.val, 0] := by decide +kernel
/-- The rows of a trip's second block, in the keys and their gradient. -/
theorem off3_eq : ∀ (i : grid0.Coords) (k : Fin (k0_t1_loop i).trips), k0_off3 i k = ![1024 * k.val + 512, 0] := by decide +kernel
/-- The rows of a trip's second block, in the values' gradient. -/
theorem off4_eq : ∀ (i : grid0.Coords) (k : Fin (k0_t1_loop i).trips), k0_off4 i k = ![1024 * k.val + 512, 0] := by decide +kernel

instance (i : grid0.Coords) (k : Fin (k0_t1_loop i).trips) : ClosedOff (k0_off1 i k) := ⟨_, off1_eq i k⟩
instance (i : grid0.Coords) (k : Fin (k0_t1_loop i).trips) : ClosedOff (k0_off2 i k) := ⟨_, off2_eq i k⟩
instance (i : grid0.Coords) (k : Fin (k0_t1_loop i).trips) : ClosedOff (k0_off3 i k) := ⟨_, off3_eq i k⟩
instance (i : grid0.Coords) (k : Fin (k0_t1_loop i).trips) : ClosedOff (k0_off4 i k) := ⟨_, off4_eq i k⟩

/-- The odd whole block is taken exactly when the count of whole blocks is odd. -/
theorem cond2_iff : ∀ i : grid0.Coords, k0_cond2 i = 1#1 ↔ (i 0).val / 8 % 2 = 1 := by decide +kernel
/-- The half tail is taken at the first four of a block's eight points. -/
theorem cond3_iff : ∀ i : grid0.Coords, k0_cond3 i = 1#1 ↔ (i 0).val % 8 < 4 := by decide +kernel
/-- The full tail is taken at the last four of a block's eight points. -/
theorem cond4_iff : ∀ i : grid0.Coords, k0_cond4 i = 1#1 ↔ ¬ (i 0).val % 8 < 4 := by decide +kernel

/-- The rows of the odd whole block, in the keys and their gradient. -/
theorem off9_eq : ∀ i : grid0.Coords, k0_cond2 i = 1#1 → k0_off9 i = ![512 * ((i 0).val / 8 - 1), 0] := by decide +kernel
/-- The rows of the odd whole block, in the values' gradient. -/
theorem off10_eq : ∀ i : grid0.Coords, k0_cond2 i = 1#1 → k0_off10 i = ![512 * ((i 0).val / 8 - 1), 0] := by decide +kernel
/-- The rows of the half tail. -/
theorem off11_eq : ∀ i : grid0.Coords, k0_off11 i = ![512 * ((i 0).val / 8), 0] := by decide +kernel
theorem off12_eq : ∀ i : grid0.Coords, k0_off12 i = ![512 * ((i 0).val / 8), 0] := by decide +kernel
/-- The rows of the full tail. -/
theorem off13_eq : ∀ i : grid0.Coords, k0_off13 i = ![512 * ((i 0).val / 8), 0] := by decide +kernel
theorem off14_eq : ∀ i : grid0.Coords, k0_off14 i = ![512 * ((i 0).val / 8), 0] := by decide +kernel

/-- The first word test of the body: whether the point is the grid's first. -/
theorem first_iff : ∀ i : grid0.Coords,
    Scalar.cmpi .ne (Scalar.extui (Scalar.cmpi .eq (BitVec.ofNat 32 (i 0).val) 0#32) : BitVec 32) 0#32 = 1#1 ↔ (i 0).val = 0 := by
  decide +kernel

end Cert.Proof.KernelIdeal
-- ==== Proof.KernelIdeal.Model.lean ====
/-
  What the attention's backward call computes at a grid point, as functions of vectors: the three accumulators (the point's query
  gradient, and the gradients of keys and values kept over all points), one block of keys at a time.
-/
module

public import proofs.«01_k».proof.Proof.KernelIdeal.Offsets

@[expose] public section

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

/-- The accumulators: the point's query gradient, the keys' gradient and the values' gradient. -/
structure Acc (F : FTy → Type) where
  dq : Vec F S1024x256 .f32
  dk : Vec F S4096x256 .f32
  dv : Vec F S4096x128 .f32

/-- What a point holds fixed: its queries, the gradients of its outputs, each row's `delta` and each row's log-sum-exp. -/
structure Fixed (F : FTy → Type) where
  q : FVec F S1024x256 .bf16
  d : FVec F S1024x128 .bf16
  delta : FVec F S1024x512 .f32
  lse : FVec F S1024x512 .f32

/-- A point's fixed vectors from the blocks of its four inputs: queries, outputs, gradients of outputs, log-sum-exps. -/
def fixedOf (q : Vec F S16x64x256 .bf16) (o d : Vec F S16x64x128 .bf16) (l : Vec F S16x64x128 .f32) : Fixed F :=
  ⟨k0_pay48 q, k0_pay49 d, k0_pay50 d o, k0_pay51 l⟩

section steps

variable (w : Fixed F) (k : Vec F S4096x256 .bf16)

/-- One whole block of 512 keys, at the rows stated. -/
def block (o7 : Fin 2 → ℕ) (h7 : ∀ a, o7 a + S512x256.size a ≤ S4096x256.size a)
    (o8 : Fin 2 → ℕ) (h8 : ∀ a, o8 a + S512x128.size a ≤ S4096x128.size a) (s : Acc F) : Acc F where
  dq := k0_pay37 w.q w.d w.delta w.lse (View.ld k (Rect.unit (s := S4096x256) o7 S512x256.size h7)) s.dq
  dk := (Rect.unit (s := S4096x256) o7 S512x256.size h7).overlay s.dk
    (k0_pay38 w.q w.d w.delta w.lse (View.ld k (Rect.unit (s := S4096x256) o7 S512x256.size h7))
      (View.ld s.dk (Rect.unit (s := S4096x256) o7 S512x256.size h7)))
  dv := (Rect.unit (s := S4096x128) o8 S512x128.size h8).overlay s.dv
    (k0_pay35 w.q w.d w.lse (View.ld k (Rect.unit (s := S4096x256) o7 S512x256.size h7))
      (View.ld s.dv (Rect.unit (s := S4096x128) o8 S512x128.size h8)))

/-- The half tail: 256 keys, those after the row's own chunk masked. -/
def half (a0 v85 : BitVec 32) (o7 : Fin 2 → ℕ) (h7 : ∀ a, o7 a + S256x256.size a ≤ S4096x256.size a)
    (o8 : Fin 2 → ℕ) (h8 : ∀ a, o8 a + S256x128.size a ≤ S4096x128.size a) (s : Acc F) : Acc F where
  dq := k0_pay3 w.d w.delta (k0_pay39 (View.ld k (Rect.unit (s := S4096x256) o7 S256x256.size h7)))
    (k0_pay40 a0 w.q w.lse v85 (View.ld k (Rect.unit (s := S4096x256) o7 S256x256.size h7))) s.dq
  dk := (Rect.unit (s := S4096x256) o7 S256x256.size h7).overlay s.dk
    (k0_pay4 w.q w.d w.delta (k0_pay39 (View.ld k (Rect.unit (s := S4096x256) o7 S256x256.size h7)))
      (k0_pay40 a0 w.q w.lse v85 (View.ld k (Rect.unit (s := S4096x256) o7 S256x256.size h7)))
      (View.ld s.dk (Rect.unit (s := S4096x256) o7 S256x256.size h7)))
  dv := (Rect.unit (s := S4096x128) o8 S256x128.size h8).overlay s.dv
    (k0_pay1 (k0_pay41 (View.ld s.dv (Rect.unit (s := S4096x128) o8 S256x128.size h8)))
      (k0_pay42 a0 w.q w.d w.lse v85 (View.ld k (Rect.unit (s := S4096x256) o7 S256x256.size h7))))

/-- The full tail: 512 keys, those after the row's own chunk masked. -/
def full (a0 v85 : BitVec 32) (o7 : Fin 2 → ℕ) (h7 : ∀ a, o7 a + S512x256.size a ≤ S4096x256.size a)
    (o8 : Fin 2 → ℕ) (h8 : ∀ a, o8 a + S512x128.size a ≤ S4096x128.size a) (s : Acc F) : Acc F where
  dq := k0_pay6 w.d w.delta (k0_pay43 (View.ld k (Rect.unit (s := S4096x256) o7 S512x256.size h7)))
    (k0_pay44 a0 w.q w.lse v85 (View.ld k (Rect.unit (s := S4096x256) o7 S512x256.size h7))) s.dq
  dk := (Rect.unit (s := S4096x256) o7 S512x256.size h7).overlay s.dk
    (k0_pay7 w.q w.d w.delta (k0_pay43 (View.ld k (Rect.unit (s := S4096x256) o7 S512x256.size h7)))
      (k0_pay44 a0 w.q w.lse v85 (View.ld k (Rect.unit (s := S4096x256) o7 S512x256.size h7)))
      (View.ld s.dk (Rect.unit (s := S4096x256) o7 S512x256.size h7)))
  dv := (Rect.unit (s := S4096x128) o8 S512x128.size h8).overlay s.dv
    (k0_pay45 a0 w.q w.d w.lse v85 (View.ld k (Rect.unit (s := S4096x256) o7 S512x256.size h7))
      (View.ld s.dv (Rect.unit (s := S4096x128) o8 S512x128.size h8)))

omit [Named F] in
theorem rows_inb {b n m : ℕ} (h : 512 * b + n ≤ 4096) :
    ∀ a, (![512 * b, 0] : Fin 2 → ℕ) a + (![n, m] : Fin 2 → ℕ) a ≤ (![4096, m] : Fin 2 → ℕ) a := by
  intro a
  fin_cases a
  · exact h
  · exact (Nat.zero_add m).le

/-- Block number `b`, if it lies in the keys. -/
def blockAt (b : ℕ) (s : Acc F) : Acc F :=
  if h : 512 * b + 512 ≤ 4096 then block w k ![512 * b, 0] (rows_inb h) ![512 * b, 0] (rows_inb h) s else s

/-- The first `n` blocks in order. -/
def blocks : ℕ → Acc F → Acc F
  | 0, s => s
  | n + 1, s => blockAt w k n (blocks n s)

/-- The half tail at block number `b`. -/
def halfAt (a0 v85 : BitVec 32) (b : ℕ) (s : Acc F) : Acc F :=
  if h : 512 * b + 256 ≤ 4096 then half w k a0 v85 ![512 * b, 0] (rows_inb h) ![512 * b, 0] (rows_inb h) s else s

/-- The full tail at block number `b`. -/
def fullAt (a0 v85 : BitVec 32) (b : ℕ) (s : Acc F) : Acc F :=
  if h : 512 * b + 512 ≤ 4096 then full w k a0 v85 ![512 * b, 0] (rows_inb h) ![512 * b, 0] (rows_inb h) s else s

/-- The tail of point `n`: half of a block at the first four of the block's points, all of it at the last four. -/
def tail (n : ℕ) (s : Acc F) : Acc F :=
  if n % 8 < 4 then halfAt w k (BitVec.ofNat 32 n) (Scalar.muli (BitVec.ofNat 32 (n / 8)) 512#32) (n / 8) s
  else fullAt w k (BitVec.ofNat 32 n) (Scalar.muli (BitVec.ofNat 32 (n / 8)) 512#32) (n / 8) s

/-- The accumulators before point `n`'s blocks: its query gradient from zero, and all three from zero at the first point. -/
def start (n : ℕ) (dk : Vec F S4096x256 .f32) (dv : Vec F S4096x128 .f32) : Acc F :=
  if n = 0 then ⟨k0_pay52, k0_pay46, k0_pay47⟩ else ⟨k0_pay52, dk, dv⟩

/-- The accumulators after point `n`. -/
def point (n : ℕ) (dk : Vec F S4096x256 .f32) (dv : Vec F S4096x128 .f32) : Acc F :=
  tail w k n (blocks w k (n / 8) (start n dk dv))

variable {w k}

theorem block_eq_blockAt {o7 : Fin 2 → ℕ} {h7 : ∀ a, o7 a + S512x256.size a ≤ S4096x256.size a}
    {o8 : Fin 2 → ℕ} {h8 : ∀ a, o8 a + S512x128.size a ≤ S4096x128.size a} {b : ℕ}
    (e7 : o7 = ![512 * b, 0]) (e8 : o8 = ![512 * b, 0]) (s : Acc F) :
    block w k o7 h7 o8 h8 s = blockAt w k b s := by
  subst e7 e8
  have hb : 512 * b + 512 ≤ 4096 := h7 0
  unfold blockAt
  rw [dif_pos hb]

theorem half_eq_halfAt {a0 v85 : BitVec 32} {o7 : Fin 2 → ℕ} {h7 : ∀ a, o7 a + S256x256.size a ≤ S4096x256.size a}
    {o8 : Fin 2 → ℕ} {h8 : ∀ a, o8 a + S256x128.size a ≤ S4096x128.size a} {b : ℕ}
    (e7 : o7 = ![512 * b, 0]) (e8 : o8 = ![512 * b, 0]) (s : Acc F) :
    half w k a0 v85 o7 h7 o8 h8 s = halfAt w k a0 v85 b s := by
  subst e7 e8
  have hb : 512 * b + 256 ≤ 4096 := h7 0
  unfold halfAt
  rw [dif_pos hb]

theorem full_eq_fullAt {a0 v85 : BitVec 32} {o7 : Fin 2 → ℕ} {h7 : ∀ a, o7 a + S512x256.size a ≤ S4096x256.size a}
    {o8 : Fin 2 → ℕ} {h8 : ∀ a, o8 a + S512x128.size a ≤ S4096x128.size a} {b : ℕ}
    (e7 : o7 = ![512 * b, 0]) (e8 : o8 = ![512 * b, 0]) (s : Acc F) :
    full w k a0 v85 o7 h7 o8 h8 s = fullAt w k a0 v85 b s := by
  subst e7 e8
  have hb : 512 * b + 512 ≤ 4096 := h7 0
  unfold fullAt
  rw [dif_pos hb]

end steps

/-! ### Reading a buffer after a store -/

section reads

variable {sig' : RefSig} {κ : Kind} {sp : Space} {s : Shape} {e : EltTy} {Val : EltTy → Type}

/-- A buffer read whole after one more store: the store's payload laid over what was read before. -/
theorem read_store (v : View sig' κ sp s e) (f : v.ty.Contents Val) (r : Rect s) (x : r.shape.Idx → Val e)
    (L : List (View.Piece Val s e)) :
    v.read Val (v.writes Val f (⟨r, x⟩ :: L)) = r.overlay (v.read Val (v.writes Val f L)) x := by
  funext y
  by_cases hy : y ∈ r.set
  · obtain ⟨z, rfl⟩ : ∃ z, r.emb z = y := by
      rw [← Rect.map_emb_univ] at hy
      obtain ⟨z, -, hz⟩ := Finset.mem_map.1 hy
      exact ⟨z, hz⟩
    rw [View.read_writes_cons_emb, Rect.overlay_emb]
  · rw [View.read_writes_cons_miss _ _ _ _ _ hy, Rect.overlay_of_not_mem _ _ _ hy]

/-- A rectangle read after an overlay on another that shares no place with it. -/
theorem ld_overlay_of_disjoint (r q : Rect s) (X : s.Idx → Val e) (G : r.shape.Idx → Val e) (h : Disjoint q.set r.set) :
    View.ld (r.overlay X G) q = View.ld X q := by
  funext z
  refine Rect.overlay_of_not_mem _ _ _ fun hm => Finset.disjoint_left.1 h ?_ hm
  rw [← Rect.map_emb_univ]
  exact Finset.mem_map_of_mem _ (Finset.mem_univ z)

/-- An overlay on the whole of a shape is its payload. -/
theorem overlay_whole {off : Fin s.rank → ℕ} (h : off = fun _ => 0) (inb : ∀ a, off a + s.size a ≤ s.size a)
    (X : s.Idx → Val e) (G : s.Idx → Val e) : (Rect.unit (s := s) off s.size inb).overlay X G = G := by
  subst h
  funext y
  have := Rect.overlay_emb (Rect.unit (s := s) (fun _ => 0) s.size inb) X G y
  rwa [show (Rect.unit (s := s) (fun _ => 0) s.size inb).emb y = y from Rect.emb_whole_apply s y] at this

end reads

end Cert.Proof.KernelIdeal
-- ==== Proof.KernelIdeal.Loop.lean ====
/-
  The paired loop of the attention's backward call: one trip adds two whole blocks of keys to the three accumulators.
-/
module

public import proofs.«01_k».proof.Proof.KernelIdeal.Model
public import Idealize.ShloMosaic.Lib.LoopRemainder
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The three accumulators held at stated vectors, beside the keys. -/
def held (c : Dev nD) (a2 : Memref sig .tc .vmem S4096x256 .bf16) (a7 : Memref sig .tc .vmem S4096x256 .f32)
    (a8 : Memref sig .tc .vmem S4096x128 .f32) (a9 : Memref sig .tc .vmem S1024x256 .f32)
    (k : Vec F S4096x256 .bf16) (s : Acc F) : sProp 𝕄 :=
  iprop(owns (c : Thread nD τ) a2 fullShare k ∗ owns (c : Thread nD τ) a7 fullShare s.dk
    ∗ owns (c : Thread nD τ) a8 fullShare s.dv ∗ owns (c : Thread nD τ) a9 fullShare s.dq)

variable (c : Dev nD) (i : grid0.Coords)
  (arg1 : Memref sig .tc .vmem S16x64x256 .bf16) (harg1 : arg1.IsWhole) (arg2 : Memref sig .tc .vmem S4096x256 .bf16) (harg2 : arg2.IsWhole)
  (arg3 : Memref sig .tc .vmem S16x64x128 .bf16) (harg3 : arg3.IsWhole) (arg4 : Memref sig .tc .vmem S16x64x128 .bf16) (harg4 : arg4.IsWhole)
  (arg5 : Memref sig .tc .vmem S16x64x128 .f32) (harg5 : arg5.IsWhole) (arg6 : Memref sig .tc .vmem S16x64x256 .bf16) (harg6 : arg6.IsWhole)
  (arg7 : Memref sig .tc .vmem S4096x256 .f32) (harg7 : arg7.IsWhole) (arg8 : Memref sig .tc .vmem S4096x128 .f32) (harg8 : arg8.IsWhole)
  (arg9 : Memref sig .tc .vmem S1024x256 .f32) (harg9 : arg9.IsWhole)

/-- One trip: blocks `2k` and `2k + 1`. -/
theorem trip (w : Fixed F) (v29 c512 v30 : BitVec 32) (v32 : BitVec 1) (k : Vec F S4096x256 .bf16) (s : Acc F) (t : Fin (k0_t1_loop i).trips) :
    held c arg2 arg7 arg8 arg9 k s ⊢ wp frame (wpE defs₀ Variants.none (c : Thread nD τ) none) Set.univ
      (k0_t1_body (F := F) i arg1 harg1 arg2 harg2 arg3 harg3 arg4 harg4 arg5 harg5 arg6 harg6 arg7 harg7 arg8 harg8 arg9 harg9
        w.q w.d w.delta w.lse v29 c512 v30 v32 t ())
      (fun _ => held c arg2 arg7 arg8 arg9 k (blockAt w k (2 * t.val + 1) (blockAt w k (2 * t.val) s))) := by
  unfold held owns k0_t1_body
  simp only [k0_part1_eq_skeleton, k0_part2_eq_skeleton]
  unfold k0_part1_skel k0_part2_skel
  iintro ⟨⟨%f2, %h2, H2⟩, ⟨%f7, %h7, H7⟩, ⟨%f8, %h8, H8⟩, ⟨%f9, %h9, H9⟩⟩
  sl_exec
  sl_step
  have e3 : k0_off3 i t = ![512 * (2 * t.val + 1), 0] := by rw [off3_eq]; congr 1; omega
  have e4 : k0_off4 i t = ![512 * (2 * t.val + 1), 0] := by rw [off4_eq]; congr 1; omega
  have e1 : k0_off1 i t = ![512 * (2 * t.val), 0] := by rw [off1_eq]; congr 1; omega
  have e2 : k0_off2 i t = ![512 * (2 * t.val), 0] := by rw [off2_eq]; congr 1; omega
  have d7 : Disjoint (Rect.unit (s := S4096x256) (k0_off3 i t) S512x256.size (k0_off3_inb i t)).set
      (Rect.unit (s := S4096x256) (k0_off1 i t) S512x256.size (k0_off1_inb i t)).set :=
    Rect.unit_disjoint 0 (.inr (by rw [e1, e3]; exact (by omega : 512 * (2 * t.val) + 512 ≤ 512 * (2 * t.val + 1))))
  have d8 : Disjoint (Rect.unit (s := S4096x128) (k0_off4 i t) S512x128.size (k0_off4_inb i t)).set
      (Rect.unit (s := S4096x128) (k0_off2 i t) S512x128.size (k0_off2_inb i t)).set :=
    Rect.unit_disjoint 0 (.inr (by rw [e2, e4]; exact (by omega : 512 * (2 * t.val) + 512 ≤ 512 * (2 * t.val + 1))))
  rw [← block_eq_blockAt (h7 := k0_off3_inb i t) (h8 := k0_off4_inb i t) e3 e4,
    ← block_eq_blockAt (h7 := k0_off1_inb i t) (h8 := k0_off2_inb i t) e1 e2]
  subst h2
  isplitl [H2]
  · iexists _; isplitr [H2]; swap; · iexact H2
    ipureintro; rfl
  isplitl [H7]
  · iexists _; isplitr [H7]; swap; · iexact H7
    ipureintro
    rw [read_store, read_store]
    dsimp only [block]
    rw [ld_overlay_of_disjoint _ _ _ _ d7, ← h7]
    rfl
  isplitl [H8]
  · iexists _; isplitr [H8]; swap; · iexact H8
    ipureintro
    rw [read_store, read_store]
    dsimp only [block]
    rw [ld_overlay_of_disjoint _ _ _ _ d8, ← h8]
    rfl
  · iexists _; isplitr [H9]; swap; · iexact H9
    ipureintro
    rw [read_store, overlay_whole (by funext a; fin_cases a <;> rfl)]
    dsimp only [block]
    rw [← h9]
    unfold trip.sl.v166 trip.sl.H9_1
    rw [View.readCov_cons_toLoadRect]
    refine congrArg (k0_pay37 w.q w.d w.delta w.lse _) (congrArg (k0_pay37 w.q w.d w.delta w.lse _) ?_)
    exact View.ld_unit_zero (by funext a; fin_cases a <;> rfl) _ _

/-- The paired loop: the first `2 * trips` whole blocks. -/
theorem pairs (w : Fixed F) (v29 c512 v30 : BitVec 32) (v32 : BitVec 1) (k : Vec F S4096x256 .bf16) (s : Acc F) :
    held c arg2 arg7 arg8 arg9 k s ⊢ wp frame (wpE defs₀ Variants.none (c : Thread nD τ) none) Set.univ
      (Scf.Loop.for (k0_t1_loop i) (k0_t1_ok i) ⟨⟩
        (k0_t1_body (F := F) i arg1 harg1 arg2 harg2 arg3 harg3 arg4 harg4 arg5 harg5 arg6 harg6 arg7 harg7 arg8 harg8 arg9 harg9
          w.q w.d w.delta w.lse v29 c512 v30 v32))
      (fun _ => held c arg2 arg7 arg8 arg9 k (blocks w k (2 * ((i 0).val / 8 / 2)) s)) := by
  have h := Scf.wp_for (Q := fun _ => held c arg2 arg7 arg8 arg9 k (blocks w k (2 * ((i 0).val / 8 / 2)) s)) frame
    (wpE defs₀ Variants.none (c : Thread nD τ) none) Set.univ _ _ _ (k0_t1_ok i) ()
    (k0_t1_body (F := F) i arg1 harg1 arg2 harg2 arg3 harg3 arg4 harg4 arg5 harg5 arg6 harg6 arg7 harg7 arg8 harg8 arg9 harg9
      w.q w.d w.delta w.lse v29 c512 v30 v32)
    (fun n _ => held c arg2 arg7 arg8 arg9 k (blocks w k (2 * n) s))
    (fun t _ => trip c i arg1 harg1 arg2 harg2 arg3 harg3 arg4 harg4 arg5 harg5 arg6 harg6 arg7 harg7 arg8 harg8 arg9 harg9
      w v29 c512 v30 v32 k _ t)
  refine BIBase.Entails.trans ?_ h
  iintro H
  isplitl [H]; · iexact H
  iintro %acc H
  have e : Scf.trips (k0_t1_loop i).lb (k0_t1_loop i).ub (k0_t1_loop i).st = (i 0).val / 8 / 2 := trips_eq i
  rw [e]
  iexact H

/-- The count of whole blocks, as the words compute it. -/
theorem whole_word : ∀ i : grid0.Coords,
    (let v29 : BitVec 32 := Scalar.subi (Scalar.addi (Scalar.addi (Scalar.muli (BitVec.ofNat 32 (i 0).val) 64#32) 64#32) 512#32) 1#32
     let v30 : BitVec 32 := Scalar.divsi v29 512#32
     let v32 : BitVec 32 := Scalar.extui (Scalar.cmpi .sgt v29 0#32)
     let v34 : BitVec 32 := Scalar.extui (Scalar.cmpi .slt v29 0#32)
     let v37 : BitVec 32 := Scalar.extui (Scalar.cmpi .sgt 512#32 0#32)
     let v39 : BitVec 32 := Scalar.extui (Scalar.cmpi .slt 512#32 0#32)
     let v44 := Scalar.andi (Scalar.cmpi .ne (Scalar.subi v32 v34) (Scalar.subi v37 v39)) (Scalar.cmpi .ne (Scalar.remsi v29 512#32) 0#32)
     Scalar.subi (Scalar.select v44 (Scalar.subi v30 1#32) v30) 1#32) = BitVec.ofNat 32 ((i 0).val / 8) := by
  decide +kernel

/-- The second of the body's parts: the paired loop, and the count of whole blocks it hands on. -/
theorem part9 (w : Fixed F) (k : Vec F S4096x256 .bf16) (s : Acc F) {v29 c512 v30 : BitVec 32} {v32 : BitVec 1}
    (e29 : v29 = Scalar.subi (Scalar.addi (Scalar.addi (Scalar.muli (BitVec.ofNat 32 (i 0).val) 64#32) 64#32) 512#32) 1#32)
    (e512 : c512 = 512#32) (e30 : v30 = Scalar.divsi v29 512#32) (e32 : v32 = Scalar.cmpi .sgt v29 0#32) :
    held c arg2 arg7 arg8 arg9 k s ⊢ wp frame (wpE defs₀ Variants.none (c : Thread nD τ) none) Set.univ
      (k0_part9 (F := F) i arg1 harg1 arg2 harg2 arg3 harg3 arg4 harg4 arg5 harg5 arg6 harg6 arg7 harg7 arg8 harg8 arg9 harg9
        w.q w.d w.delta w.lse v29 c512 v30 v32)
      (fun r => iprop(⌜r.1 = BitVec.ofNat 32 ((i 0).val / 8)⌝
        ∗ held c arg2 arg7 arg8 arg9 k (blocks w k (2 * ((i 0).val / 8 / 2)) s))) := by
  rw [k0_part9_eq_skeleton]
  unfold k0_part9_skel
  rw [wp_bind]
  refine (pairs c i arg1 harg1 arg2 harg2 arg3 harg3 arg4 harg4 arg5 harg5 arg6 harg6 arg7 harg7 arg8 harg8 arg9 harg9
    w v29 c512 v30 v32 k s).trans (wp_mono _ _ _ fun _ => ?_)
  iintro H
  sl_exec
  sl_step
  isplitr [H]
  · ipureintro
    subst e32 e30 e512 e29
    exact whole_word i
  · iexact H

end Cert.Proof.KernelIdeal
-- ==== Proof.KernelIdeal.Body.lean ====
/-
  The body of the attention's backward call at a grid point: from the blocks of its inputs and the accumulators before the point to
  the accumulators after it (Model.lean's `point`), and the point's block of the query gradient.
-/
module

public import proofs.«01_k».proof.Proof.KernelIdeal.Loop

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg1 : Memref sig .tc .vmem S16x64x256 .bf16) (harg1 : arg1.IsWhole) (arg2 : Memref sig .tc .vmem S4096x256 .bf16) (harg2 : arg2.IsWhole)
  (arg3 : Memref sig .tc .vmem S16x64x128 .bf16) (harg3 : arg3.IsWhole) (arg4 : Memref sig .tc .vmem S16x64x128 .bf16) (harg4 : arg4.IsWhole)
  (arg5 : Memref sig .tc .vmem S16x64x128 .f32) (harg5 : arg5.IsWhole) (arg6 : Memref sig .tc .vmem S16x64x256 .bf16) (harg6 : arg6.IsWhole)
  (arg7 : Memref sig .tc .vmem S4096x256 .f32) (harg7 : arg7.IsWhole) (arg8 : Memref sig .tc .vmem S4096x128 .f32) (harg8 : arg8.IsWhole)
  (arg9 : Memref sig .tc .vmem S1024x256 .f32) (harg9 : arg9.IsWhole)

theorem zero2 : (![0, 0] : Fin 2 → ℕ) = fun _ => 0 := by funext a; fin_cases a <;> rfl
theorem zero3 : (![0, 0, 0] : Fin 3 → ℕ) = fun _ => 0 := by funext a; fin_cases a <;> rfl

theorem ld_q {e : EltTy} (x : Vec F S16x64x256 e) :
    View.ld x (Rect.unit (s := S16x64x256) ![0, 0, 0] ![16, 64, 256] inb_S16x64x256_S16x64x256_0_0_0) = x := View.ld_unit_zero zero3 _ _
theorem ld_o {e : EltTy} (x : Vec F S16x64x128 e) :
    View.ld x (Rect.unit (s := S16x64x128) ![0, 0, 0] ![16, 64, 128] inb_S16x64x128_S16x64x128_0_0_0) = x := View.ld_unit_zero zero3 _ _
theorem ld_dq {e : EltTy} (x : Vec F S1024x256 e) :
    View.ld x (Rect.unit (s := S1024x256) ![0, 0] ![1024, 256] inb_S1024x256_S1024x256_0_0) = x := View.ld_unit_zero zero2 _ _

/-- The point's four input blocks. -/
def inputs (q : Vec F S16x64x256 .bf16) (o d : Vec F S16x64x128 .bf16) (l : Vec F S16x64x128 .f32) : sProp 𝕄 :=
  iprop(owns (c : Thread nD τ) arg1 fullShare q ∗ owns (c : Thread nD τ) arg3 fullShare o
    ∗ owns (c : Thread nD τ) arg4 fullShare d ∗ owns (c : Thread nD τ) arg5 fullShare l)

/-- The first of the body's parts: the accumulators from zero where the point asks it, and the point's fixed vectors. -/
theorem part8 (q : Vec F S16x64x256 .bf16) (o d : Vec F S16x64x128 .bf16) (l : Vec F S16x64x128 .f32)
    (k : Vec F S4096x256 .bf16) (s : Acc F) :
    iprop(inputs c arg1 arg3 arg4 arg5 q o d l ∗ held c arg2 arg7 arg8 arg9 k s)
      ⊢ wp frame (wpE defs₀ Variants.none (c : Thread nD τ) none) Set.univ
      (k0_part8 (F := F) i arg1 harg1 arg2 harg2 arg3 harg3 arg4 harg4 arg5 harg5 arg6 harg6 arg7 harg7 arg8 harg8 arg9 harg9)
      (fun r => iprop(⌜r = ⟨BitVec.ofNat 32 (i 0).val, (fixedOf q o d l).q, (fixedOf q o d l).d, (fixedOf q o d l).delta, (fixedOf q o d l).lse,
          Scalar.addi (Scalar.muli (BitVec.ofNat 32 (i 0).val) 64#32) 64#32,
          Scalar.subi (Scalar.addi (Scalar.addi (Scalar.muli (BitVec.ofNat 32 (i 0).val) 64#32) 64#32) 512#32) 1#32, 512#32,
          Scalar.divsi (Scalar.subi (Scalar.addi (Scalar.addi (Scalar.muli (BitVec.ofNat 32 (i 0).val) 64#32) 64#32) 512#32) 1#32) 512#32,
          Scalar.cmpi .sgt (Scalar.subi (Scalar.addi (Scalar.addi (Scalar.muli (BitVec.ofNat 32 (i 0).val) 64#32) 64#32) 512#32) 1#32) 0#32⟩⌝
        ∗ inputs c arg1 arg3 arg4 arg5 q o d l ∗ held c arg2 arg7 arg8 arg9 k (start (i 0).val s.dk s.dv))) := by
  rw [k0_part8_eq_skeleton]
  unfold k0_part8_skel inputs held owns
  by_cases hn : (i 0).val = 0
  · have hc := (first_iff i).2 hn
    rw [start, if_pos hn]
    iintro ⟨⟨⟨%f1, %h1, H1⟩, ⟨%f3, %h3, H3⟩, ⟨%f4, %h4, H4⟩, ⟨%f5, %h5, H5⟩⟩, ⟨%f2, %h2, H2⟩, ⟨%f7, %h7, H7⟩, ⟨%f8, %h8, H8⟩, ⟨%f9, %h9, H9⟩⟩
    sl_exec
    sl_step
    isplitr [H1 H2 H3 H4 H5 H7 H8 H9]
    · ipureintro
      simp only [View.readAt_eq_ld, h1, h3, h4, h5]
      rw [ld_q, ld_o, ld_o, ld_o]
      rfl
    isplitl [H1 H3 H4 H5]
    · isplitl [H1]
      · iexists _; isplitr [H1]; swap; · iexact H1
        ipureintro; exact h1
      isplitl [H3]
      · iexists _; isplitr [H3]; swap; · iexact H3
        ipureintro; exact h3
      isplitl [H4]
      · iexists _; isplitr [H4]; swap; · iexact H4
        ipureintro; exact h4
      · iexists _; isplitr [H5]; swap; · iexact H5
        ipureintro; exact h5
    isplitl [H2]
    · iexists _; isplitr [H2]; swap; · iexact H2
      ipureintro; exact h2
    isplitl [H7]
    · iexists _; isplitr [H7]; swap; · iexact H7
      ipureintro
      rw [read_store, overlay_whole zero2]
    isplitl [H8]
    · iexists _; isplitr [H8]; swap; · iexact H8
      ipureintro
      rw [read_store, overlay_whole zero2]
    · iexists _; isplitr [H9]; swap; · iexact H9
      ipureintro
      rw [read_store, overlay_whole zero2]
  · have hc := mt (first_iff i).1 hn
    rw [start, if_neg hn]
    iintro ⟨⟨⟨%f1, %h1, H1⟩, ⟨%f3, %h3, H3⟩, ⟨%f4, %h4, H4⟩, ⟨%f5, %h5, H5⟩⟩, ⟨%f2, %h2, H2⟩, ⟨%f7, %h7, H7⟩, ⟨%f8, %h8, H8⟩, ⟨%f9, %h9, H9⟩⟩
    sl_exec
    sl_step
    isplitr [H1 H2 H3 H4 H5 H7 H8 H9]
    · ipureintro
      simp only [View.readAt_eq_ld, h1, h3, h4, h5]
      rw [ld_q, ld_o, ld_o, ld_o]
      rfl
    isplitl [H1 H3 H4 H5]
    · isplitl [H1]
      · iexists _; isplitr [H1]; swap; · iexact H1
        ipureintro; exact h1
      isplitl [H3]
      · iexists _; isplitr [H3]; swap; · iexact H3
        ipureintro; exact h3
      isplitl [H4]
      · iexists _; isplitr [H4]; swap; · iexact H4
        ipureintro; exact h4
      · iexists _; isplitr [H5]; swap; · iexact H5
        ipureintro; exact h5
    isplitl [H2]
    · iexists _; isplitr [H2]; swap; · iexact H2
      ipureintro; exact h2
    isplitl [H7]
    · iexists _; isplitr [H7]; swap; · iexact H7
      ipureintro; exact h7
    isplitl [H8]
    · iexists _; isplitr [H8]; swap; · iexact H8
      ipureintro; exact h8
    · iexists _; isplitr [H9]; swap; · iexact H9
      ipureintro
      rw [read_store, overlay_whole zero2]

set_option maxHeartbeats 8000000 in
/-- The body at a point. -/
theorem body (q : Vec F S16x64x256 .bf16) (o d : Vec F S16x64x128 .bf16) (l : Vec F S16x64x128 .f32)
    (k : Vec F S4096x256 .bf16) (x : Vec F S16x64x256 .bf16) (s : Acc F) :
    iprop((inputs c arg1 arg3 arg4 arg5 q o d l ∗ held c arg2 arg7 arg8 arg9 k s) ∗ owns (c : Thread nD τ) arg6 fullShare x)
      ⊢ wp frame (wpE defs₀ Variants.none (c : Thread nD τ) none) Set.univ
      (cc0_attn_bwd (F := F) i arg1 harg1 arg2 harg2 arg3 harg3 arg4 harg4 arg5 harg5 arg6 harg6 arg7 harg7 arg8 harg8 arg9 harg9)
      (fun _ => iprop((inputs c arg1 arg3 arg4 arg5 q o d l
          ∗ held c arg2 arg7 arg8 arg9 k (point (fixedOf q o d l) k (i 0).val s.dk s.dv))
        ∗ owns (c : Thread nD τ) arg6 fullShare (k0_pay8 (point (fixedOf q o d l) k (i 0).val s.dk s.dv).dq))) := by
  rw [cc0_attn_bwd_eq_skeleton]
  unfold cc0_attn_bwd_skel
  rw [wp_bind]
  refine (sep_mono (part8 c i arg1 harg1 arg2 harg2 arg3 harg3 arg4 harg4 arg5 harg5 arg6 harg6 arg7 harg7 arg8 harg8 arg9 harg9
    q o d l k s) .rfl).trans ((wp_frame_r _ _ _).trans (wp_mono _ _ _ fun r => ?_))
  iintro ⟨⟨%hr, HI, HH⟩, H6⟩
  subst hr
  dsimp only
  rw [wp_bind]
  iapply (wp_wand_r _ _ _)
  isplitl [HH]
  · iapply (part9 c i arg1 harg1 arg2 harg2 arg3 harg3 arg4 harg4 arg5 harg5 arg6 harg6 arg7 harg7 arg8 harg8 arg9 harg9
      (fixedOf q o d l) k (start (i 0).val s.dk s.dv) rfl rfl rfl rfl)
    iexact HH
  iintro %r ⟨%hr, HH⟩
  obtain ⟨v47, r1, r2⟩ := r
  obtain rfl : v47 = BitVec.ofNat 32 ((i 0).val / 8) := hr
  dsimp only
  generalize hw : fixedOf q o d l = w
  generalize hs : start (i 0).val s.dk s.dv = s₀
  have tail_step : ∀ X, X = tail w k (i 0).val (blocks w k ((i 0).val / 8) s₀) → point w k (i 0).val s.dk s.dv = X := by
    rintro X rfl; unfold point; rw [hs]
  unfold owns
  icases H6 with ⟨%f6, %h6, H6⟩
  by_cases h2 : k0_cond2 i = 1#1
  rotate_left
  rw [dif_neg h2, show 2 * ((i 0).val / 8 / 2) = (i 0).val / 8 by have := mt (cond2_iff i).2 h2; omega]
  rotate_left
  have hodd := (cond2_iff i).1 h2
  rw [dif_pos h2]
  have hb : block w k (k0_off9 i) (k0_off9_inb i h2) (k0_off10 i) (k0_off10_inb i h2) (blocks w k (2 * ((i 0).val / 8 / 2)) s₀)
      = blocks w k ((i 0).val / 8) s₀ := by
    rw [block_eq_blockAt (off9_eq i h2) (off10_eq i h2)]
    obtain ⟨n, hn⟩ : ∃ n, (i 0).val / 8 = n + 1 := ⟨(i 0).val / 8 - 1, by omega⟩
    rw [show 2 * ((i 0).val / 8 / 2) = n by omega, hn]
    rfl
  generalize hs1 : blocks w k (2 * ((i 0).val / 8 / 2)) s₀ = s₁ at hb ⊢
  unfold held owns
  icases HH with ⟨⟨%f2, %h2', H2⟩, ⟨%f7, %h7, H7⟩, ⟨%f8, %h8, H8⟩, ⟨%f9, %h9, H9⟩⟩
  simp only [k0_part5_eq_skeleton]
  unfold k0_part5_skel
  set_option sl_exec.stopBefore "k0_cond3" in sl_exec
  ihave HH : held c arg2 arg7 arg8 arg9 k (blocks w k ((i 0).val / 8) s₀) $$ [H2 H7 H8 H9]
  · rw [← hb]
    unfold held owns
    subst h2'
    isplitl [H2]
    · iexists _; isplitr [H2]; swap; · iexact H2
      ipureintro; rfl
    isplitl [H7]
    · iexists _; isplitr [H7]; swap; · iexact H7
      ipureintro
      rw [read_store]
      dsimp only [block]
      rw [← h7]
      rfl
    isplitl [H8]
    · iexists _; isplitr [H8]; swap; · iexact H8
      ipureintro
      rw [read_store]
      dsimp only [block]
      rw [← h8]
      rfl
    · iexists _; isplitr [H9]; swap; · iexact H9
      ipureintro
      rw [read_store, overlay_whole zero2]
      dsimp only [block]
      rw [← h9]
      exact congrArg (k0_pay37 w.q w.d w.delta w.lse _) (ld_dq _)
  all_goals
    dsimp only
    generalize hs1 : blocks w k ((i 0).val / 8) s₀ = s₁ at tail_step ⊢
    by_cases h3 : k0_cond3 i = 1#1
    · have h4 : ¬ k0_cond4 i = 1#1 := fun h => (cond4_iff i).1 h ((cond3_iff i).1 h3)
      rw [dif_pos h3, dif_neg h4,
        tail_step (half w k (BitVec.ofNat 32 (i 0).val) (Scalar.muli (BitVec.ofNat 32 ((i 0).val / 8)) 512#32)
          (k0_off11 i) (k0_off11_inb i h3) (k0_off12 i) (k0_off12_inb i h3) s₁)
          (by rw [half_eq_halfAt (off11_eq i) (off12_eq i), tail, if_pos ((cond3_iff i).1 h3)])]
      unfold held owns
      icases HH with ⟨⟨%f2, %h2', H2⟩, ⟨%f7, %h7, H7⟩, ⟨%f8, %h8, H8⟩, ⟨%f9, %h9, H9⟩⟩
      simp only [k0_part6_eq_skeleton]
      unfold k0_part6_skel
      sl_exec
      sl_step
      subst h2'
      isplitr [H6]
      · isplitl [HI]; · iexact HI
        isplitl [H2]
        · iexists _; isplitr [H2]; swap; · iexact H2
          ipureintro; exact rfl
        isplitl [H7]
        · iexists _; isplitr [H7]; swap; · iexact H7
          ipureintro
          rw [read_store]
          dsimp only [half]
          rw [← h7]
          rfl
        isplitl [H8]
        · iexists _; isplitr [H8]; swap; · iexact H8
          ipureintro
          rw [read_store]
          dsimp only [half]
          rw [← h8]
          rfl
        · iexists _; isplitr [H9]; swap; · iexact H9
          ipureintro
          refine (read_store arg9.view _
            (Rect.unit (s := S1024x256) ![0, 0] S1024x256.size inb_S1024x256_S1024x256_0_0) _ _).trans ?_
          rw [overlay_whole zero2]
          dsimp only [half]
          rw [← h9]
          exact congrArg (k0_pay3 w.d w.delta _ _) (ld_dq _)
      · iexists _; isplitr [H6]; swap; · iexact H6
        ipureintro
        rw [read_store, overlay_whole zero3]
        refine congrArg k0_pay8 ?_
        refine (View.readCov_cons_toLoadRect arg9.view
          (Rect.unit (s := S1024x256) ![0, 0] S1024x256.size inb_S1024x256_S1024x256_0_0) _ _).trans ?_
        dsimp only [half]
        rw [← h9]
        exact congrArg (k0_pay3 w.d w.delta _ _) (ld_dq _)

    · have h4 : k0_cond4 i = 1#1 := (cond4_iff i).2 (mt (cond3_iff i).2 h3)
      rw [dif_neg h3, dif_pos h4,
        tail_step (full w k (BitVec.ofNat 32 (i 0).val) (Scalar.muli (BitVec.ofNat 32 ((i 0).val / 8)) 512#32)
          (k0_off13 i) (k0_off13_inb i h4) (k0_off14 i) (k0_off14_inb i h4) s₁)
          (by rw [full_eq_fullAt (off13_eq i) (off14_eq i), tail, if_neg (mt (cond3_iff i).2 h3)])]
      unfold held owns
      icases HH with ⟨⟨%f2, %h2', H2⟩, ⟨%f7, %h7, H7⟩, ⟨%f8, %h8, H8⟩, ⟨%f9, %h9, H9⟩⟩
      simp only [k0_part7_eq_skeleton]
      unfold k0_part7_skel
      sl_exec
      sl_step
      subst h2'
      isplitr [H6]
      · isplitl [HI]; · iexact HI
        isplitl [H2]
        · iexists _; isplitr [H2]; swap; · iexact H2
          ipureintro; exact rfl
        isplitl [H7]
        · iexists _; isplitr [H7]; swap; · iexact H7
          ipureintro
          rw [read_store]
          dsimp only [full]
          rw [← h7]
          rfl
        isplitl [H8]
        · iexists _; isplitr [H8]; swap; · iexact H8
          ipureintro
          rw [read_store]
          dsimp only [full]
          rw [← h8]
          rfl
        · iexists _; isplitr [H9]; swap; · iexact H9
          ipureintro
          refine (read_store arg9.view _
            (Rect.unit (s := S1024x256) ![0, 0] S1024x256.size inb_S1024x256_S1024x256_0_0) _ _).trans ?_
          rw [overlay_whole zero2]
          dsimp only [full]
          rw [← h9]
          exact congrArg (k0_pay6 w.d w.delta _ _) (ld_dq _)
      · iexists _; isplitr [H6]; swap; · iexact H6
        ipureintro
        rw [read_store, overlay_whole zero3]
        refine congrArg k0_pay8 ?_
        refine (View.readCov_cons_toLoadRect arg9.view
          (Rect.unit (s := S1024x256) ![0, 0] S1024x256.size inb_S1024x256_S1024x256_0_0) _ _).trans ?_
        dsimp only [full]
        rw [← h9]
        exact congrArg (k0_pay6 w.d w.delta _ _) (ld_dq _)

end Cert.Proof.KernelIdeal
-- ==== Proof.KernelIdeal.Run.lean ====
/-
  The run of the attention's backward call over its 64 points: what each window's buffer holds after each point, the body's
  obligation at every point, the run of the whole program, and the frame.
-/
module

public import proofs.«01_k».proof.Proof.KernelIdeal.Body
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-- Point number `n`. -/
def pt (n : ℕ) : Fin cfg0.N := ⟨n % 64, lt_of_lt_of_eq (Nat.mod_lt n (by decide)) N_0.symm⟩

omit [FloatOps F] [Named F] in
theorem pt_val (t : Fin cfg0.N) : pt t.val = t := Fin.ext (Nat.mod_eq_of_lt (lt_of_lt_of_eq t.isLt N_0))

/-- The keys, as the call finds them. -/
def keys : Vec F S4096x256 .bf16 := iblk m c 1 (pt 0)

/-- A point's fixed vectors. -/
def fixedAt (t : Fin cfg0.N) : Fixed F := fixedOf (iblk m c 0 t) (iblk m c 2 t) (iblk m c 3 t) (iblk m c 4 t)

/-- The accumulators after point `n`. -/
def accAfter : ℕ → Acc F
  | 0 => point (fixedAt m c (pt 0)) (iblk m c 1 (pt 0)) 0 k0_pay46 k0_pay47
  | n + 1 => point (fixedAt m c (pt (n + 1))) (iblk m c 1 (pt (n + 1))) (n + 1) (accAfter n).dk (accAfter n).dv

/-- At a point the accumulators come from whatever was held before it at the first point, and from the point before at a later one. -/
theorem accAfter_eq (t : Fin cfg0.N) (dk : Vec F S4096x256 .f32) (dv : Vec F S4096x128 .f32)
    (h : t.val ≠ 0 → dk = (accAfter m c (t.val - 1)).dk ∧ dv = (accAfter m c (t.val - 1)).dv) :
    point (fixedOf (iblk m c 0 t) (iblk m c 2 t) (iblk m c 3 t) (iblk m c 4 t)) (iblk m c 1 t) t.val dk dv = accAfter m c t.val := by
  obtain ⟨n, hn⟩ := t
  cases n with
  | zero =>
    have : pt 0 = (⟨0, hn⟩ : Fin cfg0.N) := rfl
    unfold accAfter fixedAt
    rw [this]
    rfl
  | succ n =>
    obtain ⟨rfl, rfl⟩ := h (Nat.succ_ne_zero n)
    have : pt (n + 1) = (⟨n + 1, hn⟩ : Fin cfg0.N) := pt_val ⟨n + 1, hn⟩
    show _ = accAfter m c (n + 1)
    rw [accAfter, this]
    rfl

/-! ### The call's data -/

/-- What the call's buffers hold: each input its block at every point; the query gradient's block of each point; the keys' and the
    values' gradients as accumulated so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay8 (accAfter m c t.val).dq
    | ⟨6, _⟩ => (accAfter m c t.val).dk
    | ⟨7, _⟩ => (accAfter m c t.val).dv
  Φ _ := Pipeline.ΦA spec0 c
  q _ := fullShare
  owed _ := 0

theorem A_eq (w : Fin cfg0.W) : (dats m 0 c).A w = V m c (Pipeline.arrRef spec0 w) := by
  dsimp only [dats]

variable (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = k0_pay8 (accAfter m c t.val).dq := by dsimp only [dats]
theorem after_6 : (dats m 0 c).after 6 t = (accAfter m c t.val).dk := by dsimp only [dats]
theorem after_7 : (dats m 0 c).after 7 t = (accAfter m c t.val).dv := by dsimp only [dats]

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d

/-- After the first point the keys' gradient is found as the point before left it. -/
theorem before_6 (ht : t.val ≠ 0) (d) : (dats m 0 c).before 6 t d = (accAfter m c (t.val - 1)).dk := by
  refine ((dats m 0 c).before_out_kept 6 rfl t ht ?_ (fun _ => rfl) (fun _ _ => rfl) d).trans (after_6 m c _)
  refine Bool.eq_false_iff.2 fun h => ?_
  have h1 := (flush0_6 _).1 h
  have h2 : t.val < 64 := lt_of_lt_of_eq t.isLt N_0
  dsimp only at h1
  omega

/-- After the first point the values' gradient is found as the point before left it. -/
theorem before_7 (ht : t.val ≠ 0) (d) : (dats m 0 c).before 7 t d = (accAfter m c (t.val - 1)).dv := by
  refine ((dats m 0 c).before_out_kept 7 rfl t ht ?_ (fun _ => rfl) (fun _ _ => rfl) d).trans (after_7 m c _)
  refine Bool.eq_false_iff.2 fun h => ?_
  have h1 := (flush0_7 _).1 h
  have h2 : t.val < 64 := lt_of_lt_of_eq t.isLt N_0
  dsimp only at h1
  omega

/-! ### The body at every point -/

/-- What the body is called with at point `t`. -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem coord_val : (grid0.coords t 0).val = t.val := by
  have h := Pipeline.Grid.coords_val (G := grid0) t 0 (S := 1) (B := 64) (by decide) rfl
  have h2 : t.val < 64 := lt_of_lt_of_eq t.isLt N_0
  omega

/-- The body's triple at a point, whatever the first point finds in the accumulated gradients. -/
theorem body_point (x : Vec F S16x64x256 .bf16) (s : Acc F)
    (h : t.val ≠ 0 → s.dk = (accAfter m c (t.val - 1)).dk ∧ s.dv = (accAfter m c (t.val - 1)).dv) :
    iprop((inputs c (st0_0 t) (st0_2 t) (st0_3 t) (st0_4 t) (iblk m c 0 t) (iblk m c 2 t) (iblk m c 3 t) (iblk m c 4 t)
        ∗ held c (st0_1 t) (st0_6 t) (st0_7 t) (Memref.whole cc0_scratch0) (iblk m c 1 t) s)
        ∗ owns (c : Thread nD τ) (st0_5 t) fullShare x)
      ⊢ wp frame (wpE defs₀ Variants.none (c : Thread nD τ) none) Set.univ (bodyAt0 (F := F) t)
        (fun _ => iprop((inputs c (st0_0 t) (st0_2 t) (st0_3 t) (st0_4 t) (iblk m c 0 t) (iblk m c 2 t) (iblk m c 3 t) (iblk m c 4 t)
          ∗ held c (st0_1 t) (st0_6 t) (st0_7 t) (Memref.whole cc0_scratch0) (iblk m c 1 t) (accAfter m c t.val))
          ∗ owns (c : Thread nD τ) (st0_5 t) fullShare (k0_pay8 (accAfter m c t.val).dq))) := by
  have e := accAfter_eq m c t s.dk s.dv h
  have hb := body c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (Memref.whole cc0_scratch0) (Memref.isWhole_whole _)
    (iblk m c 0 t) (iblk m c 2 t) (iblk m c 3 t) (iblk m c 4 t) (iblk m c 1 t) x s
  rw [coord_val t, e] at hb
  exact hb

/-- The body at any point: from what the buffers hold before it to what they hold after it. -/
theorem sound_body :
    bodyPre m c t ⊢ wp frame (wpE (defs₀ (F := F)) Variants.none c none) Set.univ (bodyAt0 t) (fun _ => bodyPost m c t) := by
  unfold bodyPre bodyPost
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7,
    show (dats m 0 c).Φ t.castSucc = Pipeline.ΦA spec0 c from rfl]
  unfold Pipeline.ΦA
  rw [scopedRest0_eq]
  simp only [← owns_whole]
  iintro ⟨⟨⟨%f, HS⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hp := body_point m c t ((dats m 0 c).before 5 t d5) ⟨f, (dats m 0 c).before 6 t d6, (dats m 0 c).before 7 t d7⟩
    (fun ht => ⟨before_6 m c t ht d6, before_7 m c t ht d7⟩)
  iapply (wp_wand_r _ _ _)
  isplitl [HS H0 H1 H2 H3 H4 H5 H6 H7]
  · iapply hp
    unfold inputs held
    isplitl [HS H0 H1 H2 H3 H4 H6 H7]
    · isplitl [H0 H2 H3 H4]
      · isplitl [H0]; · iexact H0
        isplitl [H2]; · iexact H2
        isplitl [H3]; · iexact H3
        iexact H4
      · isplitl [H1]; · iexact H1
        isplitl [H6]; · iexact H6
        isplitl [H7]; · iexact H7
        iexact HS
    · iexact H5
  unfold inputs held
  iintro %u ⟨⟨⟨H0, H2, H3, H4⟩, H1, H6, H7, HS⟩, H5⟩
  isplitl [HS HP]
  · isplitl [HS]
    · iexists _; iexact HS
    · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row : defs₀ (F := F) .tc cfg0.body (cfg0.bodyArgs t (cfg0.slots t)) = bodyAt0 t := by
  unfold defs₀; rw [Defs.onTc_tc]

omit t in
/-- The obligation of the call's body, at every point. -/
theorem body_obligation : BodyObligation (dats (F := F) m 0 c) (defs₀ (F := F)) Variants.none () Set.univ := fun t => by
  rw [bigSep_W0, bigSep_W0, row]
  exact triple_restated (sound_body m c t) rfl .rfl fun _ => .rfl

/-! ### The run -/

set_option backward.isDefEq.respectTransparency.types false in
omit c t in
/-- The program's run: it ends, every array of the call as the data say, every other buffer as the call found it, every counter zero. -/
theorem run_quiescent : θ_run defs (onTc (τ := τ) main) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

omit c t in
/-- The frame: the program ends with its arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Proof.KernelIdeal
-- ==== Proof.Math.lean ====
/-
  The attention's backward pass over the reals: the weights, the gradients of the scores, and the gradients of queries, keys and
  values; and the same quantities for the 1024 rows (16 heads of 64 queries) that one point of the call holds.
-/
module

public import Idealize.ShloMosaic.Lib.Pointwise
public import Mathlib.Analysis.SpecialFunctions.Pow.Real

@[expose] public section

noncomputable section

namespace Cert.Proof.Math

open Finset

/-- The scores' scale, one over the root of 192. -/
def c1 : ℝ := (Real.sqrt 192)⁻¹

/-- The scale in units of base two. -/
def c2 : ℝ := (Real.sqrt 192)⁻¹ * (Real.log 2)⁻¹

/-- The first 128 of a key's 256 lanes, which are its values too. -/
def up (r : Fin 128) : Fin 256 := ⟨r.val, by omega⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section whole

variable (Q : Fin 16 → Fin 4096 → Fin 256 → ℝ) (K : Fin 4096 → Fin 256 → ℝ) (D : Fin 16 → Fin 4096 → Fin 128 → ℝ)
  (M : Fin 16 → Fin 4096 → ℝ)

/-- A query's product with a key. -/
def z (h : Fin 16) (i j : Fin 4096) : ℝ := ∑ d, Q h i d * K j d

/-- The exponential of a score less `M`, zero where the key's chunk is later than the query's. -/
def e (h : Fin 16) (i j : Fin 4096) : ℝ :=
  if j.val / 64 ≤ i.val / 64 then Real.exp (z Q K h i j * c1 - M h i) else 0

/-- A row's sum of exponentials. -/
def S (h : Fin 16) (i : Fin 4096) : ℝ := ∑ j, e Q K M h i j

/-- The softmax's weights. -/
def P (h : Fin 16) (i j : Fin 4096) : ℝ := e Q K M h i j / S Q K M h i

/-- The attention's output. -/
def O (h : Fin 16) (i : Fin 4096) (r : Fin 128) : ℝ := ∑ j, P Q K M h i j * K j (up r)

/-- The gradient of the weights. -/
def dP (h : Fin 16) (i j : Fin 4096) : ℝ := ∑ r, D h i r * K j (up r)

/-- A row's product of output and its gradient. -/
def delta (h : Fin 16) (i : Fin 4096) : ℝ := ∑ r, D h i r * O Q K M h i r

/-- The gradient of the products of queries with keys. -/
def dS (h : Fin 16) (i j : Fin 4096) : ℝ := P Q K M h i j * (dP K D h i j - delta Q K D M h i) * c1

def dQ (h : Fin 16) (i : Fin 4096) (d : Fin 256) : ℝ := ∑ j, dS Q K D M h i j * K j d
def dK (j : Fin 4096) (d : Fin 256) : ℝ := ∑ h, ∑ i, dS Q K D M h i j * Q h i d
def dV (j : Fin 4096) (r : Fin 128) : ℝ := ∑ h, ∑ i, P Q K M h i j * D h i r

/-- A row's log-sum-exp in units of base two. -/
def lse (h : Fin 16) (i : Fin 4096) : ℝ := (M h i + Real.log (S Q K M h i)) / Real.log 2

theorem e_nonneg (h : Fin 16) (i j : Fin 4096) : 0 ≤ e Q K M h i j := by
  unfold e
  split
  · exact (Real.exp_pos _).le
  · exact le_rfl

theorem S_pos (h : Fin 16) (i : Fin 4096) : 0 < S Q K M h i := by
  refine Finset.sum_pos' (fun j _ => e_nonneg Q K M h i j) ⟨i, Finset.mem_univ _, ?_⟩
  unfold e
  rw [if_pos le_rfl]
  exact Real.exp_pos _

/-- The row's product of output and its gradient is the weights' mean of the weights' gradients. -/
theorem delta_eq (h : Fin 16) (i : Fin 4096) :
    delta Q K D M h i = ∑ j, P Q K M h i j * dP K D h i j := by
  unfold delta O dP
  simp only [Finset.mul_sum]
  rw [Finset.sum_comm]
  exact Finset.sum_congr rfl fun j _ => Finset.sum_congr rfl fun r _ => by ring

/-- The gradient of the scores as the softmax's derivative states it. -/
theorem dS_softmax (h : Fin 16) (i j : Fin 4096) :
    dS Q K D M h i j = (dP K D h i j * (1 / S Q K M h i)
      + -∑ j', dP K D h i j' * (1 / (S Q K M h i * S Q K M h i)) * e Q K M h i j') * e Q K M h i j * c1 := by
  have hS := (S_pos Q K M h i).ne'
  have hsum : ∑ j', dP K D h i j' * (1 / (S Q K M h i * S Q K M h i)) * e Q K M h i j'
      = delta Q K D M h i * (1 / S Q K M h i) := by
    rw [delta_eq, Finset.sum_mul]
    refine Finset.sum_congr rfl fun j' _ => ?_
    unfold P
    field_simp
  rw [hsum]
  unfold dS P
  field_simp
  ring

end whole

/-! ### One point's rows -/

section rows

variable (q : Fin 1024 → Fin 256 → ℝ) (d : Fin 1024 → Fin 128 → ℝ) (δ l : Fin 1024 → ℝ) (K : Fin 4096 → Fin 256 → ℝ) (n : ℕ)

/-- A row's weight of a key, zero where the key's chunk is later than the point's. -/
def wt (ρ : Fin 1024) (j : Fin 4096) : ℝ :=
  if j.val / 64 ≤ n then Real.rpow 2 ((∑ a, q ρ a * K j a) * c2 - l ρ) else 0

/-- The gradient of a row's product with a key. -/
def gs (ρ : Fin 1024) (j : Fin 4096) : ℝ := wt q l K n ρ j * ((∑ r, d ρ r * K j (up r)) - δ ρ) * c1

theorem wt_late {ρ : Fin 1024} {j : Fin 4096} (h : n < j.val / 64) : wt q l K n ρ j = 0 := if_neg (by omega)

theorem gs_late {ρ : Fin 1024} {j : Fin 4096} (h : n < j.val / 64) : gs q d δ l K n ρ j = 0 := by
  unfold gs
  rw [wt_late q l K n h, zero_mul, zero_mul]

end rows

/-- The sum over the keys before `m`. -/
def upto (m : ℕ) (f : Fin 4096 → ℝ) : ℝ := ∑ j, if j.val < m then f j else 0

theorem upto_zero (f : Fin 4096 → ℝ) : upto 0 f = 0 := by simp [upto]

theorem upto_eq_range {m : ℕ} (hm : m ≤ 4096) (f : Fin 4096 → ℝ) :
    upto m f = ∑ j ∈ range m, if h : j < 4096 then f ⟨j, h⟩ else 0 := by
  unfold upto
  rw [Finset.sum_fin_eq_sum_range (fun j : Fin 4096 => if j.val < m then f j else 0)]
  rw [← Finset.sum_subset (Finset.range_subset_range.2 hm)]
  · refine Finset.sum_congr rfl fun j hj => ?_
    have := Finset.mem_range.1 hj
    by_cases h : j < 4096
    · rw [dif_pos h, dif_pos h, if_pos this]
    · rw [dif_neg h, dif_neg h]
  · intro j _ hj
    have : ¬ j < m := fun h => hj (Finset.mem_range.2 h)
    by_cases h : j < 4096
    · rw [dif_pos h, if_neg this]
    · rw [dif_neg h]

theorem upto_add {m w : ℕ} (hm : m + w ≤ 4096) (f : Fin 4096 → ℝ) :
    upto (m + w) f = upto m f + ∑ c : Fin w, f ⟨m + c.val, by omega⟩ := by
  rw [upto_eq_range hm, upto_eq_range (by omega), Finset.sum_range_add]
  congr 1
  rw [Finset.sum_range]
  exact Finset.sum_congr rfl fun c _ => dif_pos (by omega)

theorem upto_late {m : ℕ} (f : Fin 4096 → ℝ) (h : ∀ j : Fin 4096, m ≤ j.val → f j = 0) : upto m f = ∑ j, f j := by
  unfold upto
  refine Finset.sum_congr rfl fun j _ => ?_
  split
  · rfl
  · exact (h j (by omega)).symm

/-! ### The rows of a point as heads and queries -/

/-- A row's head. -/
def head (ρ : Fin 1024) : Fin 16 := ⟨ρ.val / 64, by omega⟩

/-- A row's query, at point `n`. -/
def query (n : ℕ) (hn : n < 64) (ρ : Fin 1024) : Fin 4096 := ⟨64 * n + ρ.val % 64, by omega⟩

theorem sum_rows (f : Fin 16 → Fin 4096 → ℝ) :
    ∑ n : Fin 64, ∑ ρ : Fin 1024, f (head ρ) (query n.val n.isLt ρ) = ∑ h, ∑ i, f h i := by
  have h1 : ∀ g : Fin 1024 → ℝ, ∑ ρ, g ρ = ∑ h : Fin 16, ∑ a : Fin 64, g ⟨64 * h.val + a.val, by omega⟩ := by
    intro g
    rw [← Equiv.sum_comp (finProdFinEquiv (m := 16) (n := 64)) g, Fintype.sum_prod_type]
    refine Finset.sum_congr rfl fun h _ => Finset.sum_congr rfl fun a _ => congrArg g (Fin.ext ?_)
    simp [finProdFinEquiv, add_comm]
  have h2 : ∀ g : Fin 4096 → ℝ, ∑ i, g i = ∑ n : Fin 64, ∑ a : Fin 64, g ⟨64 * n.val + a.val, by omega⟩ := by
    intro g
    rw [← Equiv.sum_comp (finProdFinEquiv (m := 64) (n := 64)) g, Fintype.sum_prod_type]
    refine Finset.sum_congr rfl fun h _ => Finset.sum_congr rfl fun a _ => congrArg g (Fin.ext ?_)
    simp [finProdFinEquiv, add_comm]
  simp only [h1, h2]
  rw [Finset.sum_comm]
  refine Finset.sum_congr rfl fun h _ => Finset.sum_congr rfl fun n _ => Finset.sum_congr rfl fun a _ => ?_
  congr 1
  · exact Fin.ext (by simp only [head]; omega)
  · exact Fin.ext (by simp only [query]; omega)

section agree

variable (Q : Fin 16 → Fin 4096 → Fin 256 → ℝ) (K : Fin 4096 → Fin 256 → ℝ) (D : Fin 16 → Fin 4096 → Fin 128 → ℝ)
  (M : Fin 16 → Fin 4096 → ℝ) (n : ℕ) (hn : n < 64)

/-- The point's rows of the queries, the outputs' gradients, the products and the log-sum-exps. -/
def rowQ (ρ : Fin 1024) (a : Fin 256) : ℝ := Q (head ρ) (query n hn ρ) a
def rowD (ρ : Fin 1024) (r : Fin 128) : ℝ := D (head ρ) (query n hn ρ) r
def rowDelta (ρ : Fin 1024) : ℝ := delta Q K D M (head ρ) (query n hn ρ)
def rowLse (ρ : Fin 1024) : ℝ := lse Q K M (head ρ) (query n hn ρ)

theorem wt_eq (ρ : Fin 1024) (j : Fin 4096) :
    wt (rowQ Q n hn) (rowLse Q K M n hn) K n ρ j = P Q K M (head ρ) (query n hn ρ) j := by
  have hq : (query n hn ρ).val / 64 = n := by simp only [query]; omega
  have hS := S_pos Q K M (head ρ) (query n hn ρ)
  have hl : Real.log 2 ≠ 0 := (Real.log_pos (by norm_num)).ne'
  unfold wt P e
  rw [hq]
  split
  · have h2 : (∑ a, rowQ Q n hn ρ a * K j a) * c2 - rowLse Q K M n hn ρ
        = (z Q K (head ρ) (query n hn ρ) j * c1 - M (head ρ) (query n hn ρ)
            - Real.log (S Q K M (head ρ) (query n hn ρ))) / Real.log 2 := by
      unfold rowLse lse c1 c2 z rowQ
      field_simp
      ring
    rw [h2]
    change (2 : ℝ) ^ (_ : ℝ) = _
    rw [Real.rpow_def_of_pos (by norm_num), mul_div_cancel₀ _ hl, Real.exp_sub, Real.exp_log hS]
  · rw [zero_div]

theorem gs_eq (ρ : Fin 1024) (j : Fin 4096) :
    gs (rowQ Q n hn) (rowD D n hn) (rowDelta Q K D M n hn) (rowLse Q K M n hn) K n ρ j
      = dS Q K D M (head ρ) (query n hn ρ) j := by
  unfold gs dS
  rw [wt_eq]
  rfl

end agree

end Cert.Proof.Math
-- ==== Proof.Reference.Scores.lean ====
/-
  The reference's scores, their exponentials, the softmax's weights and the attention's output over the reals, from real inputs.
-/
module

public import proofs.«01_k».proof.Proof.Gen.ReferenceIdeal.Read
public import proofs.«01_k».proof.Proof.Math
public import Idealize.ShloMosaic.Lib.Pointwise

@[expose] public section

noncomputable section

namespace Cert.Proof.Reference

open Cert.ReferenceIdeal Cert.ReferenceIdeal.Gen Cert.ReferenceIdeal.Read Cert.Proof.Math
open Idealize.ShloMosaic Idealize.ShloMosaic.Tactic

/-- The 64 lanes after the first 128. -/
def mid (r : Fin 64) : Fin 256 := ⟨128 + r.val, by omega⟩

/-- The inputs are real: `Q` holds the two parts of the queries side by side, `K` the keys', each with 64 zero lanes after. -/
structure Inputs (x0 : (⟨S16x4096x128, .bf16⟩ : BufTy).Contents (Elt Ideal)) (x1 : (⟨S16x4096x64, .bf16⟩ : BufTy).Contents (Elt Ideal))
    (x2 : (⟨S4096x128, .bf16⟩ : BufTy).Contents (Elt Ideal)) (x3 : (⟨S4096x64, .bf16⟩ : BufTy).Contents (Elt Ideal))
    (x4 : (⟨S16x4096x128, .bf16⟩ : BufTy).Contents (Elt Ideal))
    (Q : Fin 16 → Fin 4096 → Fin 256 → ℝ) (K : Fin 4096 → Fin 256 → ℝ) (D : Fin 16 → Fin 4096 → Fin 128 → ℝ) : Prop where
  ql : ∀ i : S16x4096x128.Idx, x0 i = ((Q (i 0) (i 1) (up (i 2)) : ℝ) : EReal)
  qr : ∀ i : S16x4096x64.Idx, x1 i = ((Q (i 0) (i 1) (mid (i 2)) : ℝ) : EReal)
  kl : ∀ i : S4096x128.Idx, x2 i = ((K (i 0) (up (i 1)) : ℝ) : EReal)
  kr : ∀ i : S4096x64.Idx, x3 i = ((K (i 0) (mid (i 1)) : ℝ) : EReal)
  d : ∀ i : S16x4096x128.Idx, x4 i = ((D (i 0) (i 1) (i 2) : ℝ) : EReal)
  q0 : ∀ h i (a : Fin 256), 192 ≤ a.val → Q h i a = 0
  k0 : ∀ j (a : Fin 256), 192 ≤ a.val → K j a = 0

/-- A sum over 256 lanes of which the last 64 are zero. -/
theorem sum_lanes (f : Fin 256 → ℝ) (h : ∀ a : Fin 256, 192 ≤ a.val → f a = 0) :
    ∑ a, f a = ∑ a, f (up a) + ∑ a, f (mid a) := by
  have h1 := Fin.sum_univ_add (a := 128) (b := 128) f
  have h2 := Fin.sum_univ_add (a := 64) (b := 64) fun a : Fin 128 => f (Fin.natAdd 128 a)
  have h3 : ∑ a : Fin 64, f (Fin.natAdd 128 (Fin.natAdd 64 a)) = 0 :=
    Finset.sum_eq_zero fun a _ => h _ (by simp [Fin.natAdd]; omega)
  rw [h3, add_zero] at h2
  exact h1.trans (congrArg₂ (· + ·) rfl h2)

/-- A query's product with a key is the sum of the two parts' products. -/
theorem z_parts {Q : Fin 16 → Fin 4096 → Fin 256 → ℝ} {K : Fin 4096 → Fin 256 → ℝ}
    (q0 : ∀ h i (a : Fin 256), 192 ≤ a.val → Q h i a = 0) (h : Fin 16) (i j : Fin 4096) :
    z Q K h i j = ∑ a, Q h i (up a) * K j (up a) + ∑ a, Q h i (mid a) * K j (mid a) :=
  sum_lanes _ fun a ha => mul_eq_zero_of_left (q0 _ _ _ ha) _

/-! ### The literals -/

theorem lit_zero : Ideal.ofBits .f32 0x00000000#32 = ((0 : ℝ) : EReal) := by rw [Ideal.ofBits_zero_f32]; rfl

theorem lit_one : Ideal.ofBits .f32 0x3F800000#32 = ((1 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_192 : Ideal.ofBits .f32 0x43400000#32 = ((192 : ℝ) : EReal) := by
  simp [Ideal.ofBits, Ideal.ieee, -EReal.coe_mul]; norm_num

theorem lit_bot : Ideal.ofBits .f32 0xFF800000#32 = (⊥ : EReal) := by
  simp [Ideal.ofBits, Ideal.ieee]

theorem lit_top : Ideal.ofBits .f32 0x7F800000#32 = (⊤ : EReal) := by
  simp [Ideal.ofBits, Ideal.ieee]

theorem lit_zero16 : Ideal.ofBits .bf16 0x0000#16 = ((0 : ℝ) : EReal) := by
  simp [Ideal.ofBits, Ideal.ieee]

/-! ### The mask -/

/-- The word a position's chunk is computed as: its quotient by 64, rounded down. -/
def chunk (x : BitVec 32) : BitVec 32 :=
  Scalar.select
    (IntOp.andi (IntOp.cmpi .ne (if x = 0 then 0 else if x.msb then -1 else 1) 1#32)
      (IntOp.cmpi .ne (IntOp.remsi .host x 64#32) 0#32))
    (IntOp.subi (IntOp.divsi .host x 64#32) 1#32) (IntOp.divsi .host x 64#32)

theorem chunk_eq : ∀ k : Fin 4096, chunk (BitVec.ofNat 32 k.val) = BitVec.ofNat 32 (k.val / 64) := by decide +kernel

theorem v14_eq (i : S4096.Idx) : val_main_v14 (F := Ideal) i = BitVec.ofNat 32 ((i 0).val / 64) := by
  refine Eq.trans ?_ (chunk_eq (i 0))
  simp only [val_main_v14_apply, val_main_call0_v11_apply, val_main_call0_v13_apply, val_main_call0_v2_apply,
    val_main_call0_v6_apply, val_main_call0_v10_apply, val_main_call0_v8_apply, val_main_call0_v12_apply,
    val_main_call0_v9_apply, val_main_call0_v7_apply, val_main_call0_v5_apply, val_main_call0_v1_apply, val_main_v13_apply]
  have h3 : val_main_call0_v3 (F := Ideal) i
      = if BitVec.ofNat 32 (i 0).val = 0 then 0 else if (BitVec.ofNat 32 (i 0).val).msb then -1 else 1 := rfl
  have h4 : ∀ y : S_.Idx, val_main_call0_v4 (F := Ideal) y = 1#32 := fun y => by
    change (if (64#32 : BitVec 32) = 0 then (0 : BitVec 32) else if (64#32 : BitVec 32).msb then -1 else 1) = 1#32
    decide
  have h0 : ∀ y : S_.Idx, val_main_call0_v0 (F := Ideal) y = 64#32 := fun _ => rfl
  rw [h3, h4, h0]
  rfl

theorem sle_chunk : ∀ a b : Fin 64, IntOp.cmpi .sle (BitVec.ofNat 32 a.val) (BitVec.ofNat 32 b.val) = 1#1 ↔ a.val ≤ b.val := by
  decide +kernel

theorem mask_iff (i : S16x4096x4096.Idx) : val_main_v20_1 (F := Ideal) i = 1#1 ↔ (i 2).val / 64 ≤ (i 1).val / 64 := by
  rw [val_main_v20_1_apply, val_main_v19_apply, val_main_v17_apply, val_main_v18_apply, val_main_v15_apply, val_main_v16_apply,
    v14_eq, v14_eq]
  have h1 : (i 1).val < 4096 := (i 1).isLt
  have h2 : (i 2).val < 4096 := (i 2).isLt
  exact sle_chunk ⟨(i 2).val / 64, by omega⟩ ⟨(i 1).val / 64, by omega⟩

/-! ### The scores -/

section values

variable {x0 : (⟨S16x4096x128, .bf16⟩ : BufTy).Contents (Elt Ideal)} {x1 : (⟨S16x4096x64, .bf16⟩ : BufTy).Contents (Elt Ideal)}
  {x2 : (⟨S4096x128, .bf16⟩ : BufTy).Contents (Elt Ideal)} {x3 : (⟨S4096x64, .bf16⟩ : BufTy).Contents (Elt Ideal)}
  {x4 : (⟨S16x4096x128, .bf16⟩ : BufTy).Contents (Elt Ideal)} {Q : Fin 16 → Fin 4096 → Fin 256 → ℝ}
  {K : Fin 4096 → Fin 256 → ℝ} {D : Fin 16 → Fin 4096 → Fin 128 → ℝ} (E : Inputs x0 x1 x2 x3 x4 Q K D)

theorem v10_eq (i : S_.Idx) : val_main_v10 (F := Ideal) i = ((Real.sqrt 192 : ℝ) : EReal) := by
  rw [val_main_v10_apply, Ideal.hostUnary_sqrt_def]
  change Ideal.sqrt (Ideal.ofBits .f32 0x43400000#32) = _
  rw [lit_192, Ideal.sqrt_coe, if_neg (by norm_num)]

theorem root_ne : Real.sqrt 192 ≠ 0 := (Real.sqrt_pos.2 (by norm_num)).ne'

include E in
theorem v12_eq (i : S16x4096x4096.Idx) :
    val_main_v12 (F := Ideal) x0 x1 x2 x3 i = ((z Q K (i 0) (i 1) (i 2) * c1 : ℝ) : EReal) := by
  have h4 : val_main_v4 (F := Ideal) x0 x2 i = ((∑ a, Q (i 0) (i 1) (up a) * K (i 2) (up a) : ℝ) : EReal) := by
    rw [val_main_v4_apply, coe_sum]
    refine Finset.sum_congr rfl fun a _ => ?_
    rw [val_main_v0_apply, val_main_v2_apply, Ideal.extf_def, Ideal.extf_def, E.ql, E.kl, ← EReal.coe_mul]
    rfl
  have h6 : val_main_v6 (F := Ideal) x1 x3 i = ((∑ a, Q (i 0) (i 1) (mid a) * K (i 2) (mid a) : ℝ) : EReal) := by
    rw [val_main_v6_apply, coe_sum]
    refine Finset.sum_congr rfl fun a _ => ?_
    rw [val_main_v1_apply, val_main_v3_apply, Ideal.extf_def, Ideal.extf_def, E.qr, E.kr, ← EReal.coe_mul]
    rfl
  rw [val_main_v12_apply, val_main_v9_apply, val_main_v8_apply, val_main_v5_apply, val_main_v7_apply, val_main_v11_apply, v10_eq,
    h4, h6, Ideal.hostDivf_def, Ideal.extf_def, Ideal.addf_def, Ideal.truncf_def, Ideal.truncf_def, Ideal.div_coe root_ne,
    ← EReal.coe_add, ← EReal.coe_mul]
  rw [one_div]
  exact congrArg (fun y : ℝ => ((y * (Real.sqrt 192)⁻¹ : ℝ) : EReal)) (z_parts E.q0 (i 0) (i 1) (i 2)).symm

include E in
/-- A score, minus infinity where the key's chunk is later. -/
theorem v20_eq (i : S16x4096x4096.Idx) :
    val_main_v20_0 (F := Ideal) x0 x1 x2 x3 i
      = if (i 2).val / 64 ≤ (i 1).val / 64 then ((z Q K (i 0) (i 1) (i 2) * c1 : ℝ) : EReal) else ⊥ := by
  rw [val_main_v20_0_apply, v12_eq E, val_main_call1_v2_apply]
  unfold Scalar.select
  by_cases h : (i 2).val / 64 ≤ (i 1).val / 64
  · rw [if_pos h]; exact if_pos ((mask_iff i).2 h)
  · rw [if_neg h]; exact (if_neg fun h' => h ((mask_iff i).1 h')).trans lit_bot

/-! ### A row's maximum -/

/-- A row's maximum, as a real. -/
def rowMax (x0 : (⟨S16x4096x128, .bf16⟩ : BufTy).Contents (Elt Ideal)) (x1 : (⟨S16x4096x64, .bf16⟩ : BufTy).Contents (Elt Ideal))
    (x2 : (⟨S4096x128, .bf16⟩ : BufTy).Contents (Elt Ideal)) (x3 : (⟨S4096x64, .bf16⟩ : BufTy).Contents (Elt Ideal))
    (h : Fin 16) (i : Fin 4096) : ℝ :=
  (val_main_v21 (F := Ideal) x0 x1 x2 x3 (ValueIdx.ix2 h i)).toReal

/-- The maximum, from minus infinity, of extended reals below plus infinity, one of them real, is real. -/
theorem fold_max_real {n : ℕ} (f : Fin n → EReal) (h : ∀ k, f k < ⊤) (k0 : Fin n) (h0 : f k0 ≠ ⊥) :
    (((Finset.univ : Finset (Fin n)).fold max ⊥ f).toReal : EReal) = (Finset.univ : Finset (Fin n)).fold max ⊥ f := by
  refine EReal.coe_toReal (ne_of_lt ((Finset.fold_max_lt _).2 ⟨bot_lt_top, fun k _ => h k⟩)) (ne_of_gt ?_)
  exact (Finset.lt_fold_max _).2 (Or.inr ⟨k0, Finset.mem_univ _, bot_lt_iff_ne_bot.2 h0⟩)

include E in
theorem v21_eq (i : S16x4096.Idx) :
    val_main_v21 (F := Ideal) x0 x1 x2 x3 i = ((rowMax x0 x1 x2 x3 (i 0) (i 1) : ℝ) : EReal) := by
  have hi : i = ValueIdx.ix2 (i 0) (i 1) := by funext a; fin_cases a <;> rfl
  refine Eq.trans ?_ (congrArg (fun y => ((val_main_v21 (F := Ideal) x0 x1 x2 x3 y).toReal : EReal)) hi)
  have hr : S16x4096x4096.Reduces [2] S16x4096 := by decide
  have hv : val_main_v21 (F := Ideal) x0 x1 x2 x3 i
      = (Finset.univ : Finset (Fin 4096)).fold max ⊥ (fun k => val_main_v20_0 (F := Ideal) x0 x1 x2 x3 (hr.lift i k)) := by
    unfold val_main_v21
    rw [Host.reduce_eq_fold_single _ _ _ _ hr]
    exact congrArg (fun b => (Finset.univ : Finset (Fin 4096)).fold max b
      (fun k => val_main_v20_0 (F := Ideal) x0 x1 x2 x3 (hr.lift i k))) lit_bot
  rw [hv]
  refine (fold_max_real _ (fun k => ?_) (i 1) ?_).symm
  · rw [v20_eq E]
    split
    · exact EReal.coe_lt_top _
    · exact bot_lt_top
  · rw [v20_eq E, if_pos (by exact le_rfl)]
    exact EReal.coe_ne_bot _

/-! ### The softmax -/

include E in
theorem v39_eq (i : S16x4096x4096.Idx) :
    val_main_v39 (F := Ideal) x0 x1 x2 x3 i = ((rowMax x0 x1 x2 x3 (i 0) (i 1) : ℝ) : EReal) := by
  rw [val_main_v39_apply, val_main_v38_apply, val_main_v28_apply, val_main_v27_apply, v21_eq E, Ideal.maximumf_def]
  refine Eq.trans ?_ (max_eq_right (bot_le (a := ((rowMax x0 x1 x2 x3 (i 0) (i 1) : ℝ) : EReal))))
  exact congrArg (fun b => max b ((rowMax x0 x1 x2 x3 (i 0) (i 1) : ℝ) : EReal)) lit_bot

include E in
theorem v41_eq (i : S16x4096x4096.Idx) :
    val_main_v41 (F := Ideal) x0 x1 x2 x3 i = ((e Q K (rowMax x0 x1 x2 x3) (i 0) (i 1) (i 2) : ℝ) : EReal) := by
  rw [val_main_v41_apply, val_main_v40_apply, v20_eq E, v39_eq E, Ideal.hostUnary_exp_def, Ideal.subf_def]
  unfold e
  by_cases h : (i 2).val / 64 ≤ (i 1).val / 64
  · rw [if_pos h, ← EReal.coe_sub, Ideal.exp_coe]
    exact congrArg (fun y : ℝ => (y : EReal)) (if_pos h).symm
  · rw [if_neg h, EReal.bot_sub, Ideal.exp_bot]
    exact (congrArg (fun y : ℝ => (y : EReal)) (if_neg h)).symm

include E in
theorem v42_eq (i : S16x4096.Idx) :
    val_main_v42 (F := Ideal) x0 x1 x2 x3 i = ((S Q K (rowMax x0 x1 x2 x3) (i 0) (i 1) : ℝ) : EReal) := by
  rw [val_main_v42_apply]
  refine (congrArg₂ (· + ·) lit_zero (Finset.sum_congr rfl fun k _ => v41_eq E (idx_main_v42 i k))).trans ?_
  rw [← coe_sum, ← EReal.coe_add, zero_add]
  rfl

include E in
theorem v43_eq (i : S16x4096x1.Idx) :
    val_main_v43 (F := Ideal) x0 x1 x2 x3 i = ((S Q K (rowMax x0 x1 x2 x3) (i 0) (i 1) : ℝ) : EReal) := by
  rw [val_main_v43_apply, v42_eq E]
  rfl

include E in
theorem v45_eq (i : S16x4096x4096.Idx) :
    val_main_v45 (F := Ideal) x0 x1 x2 x3 i = ((P Q K (rowMax x0 x1 x2 x3) (i 0) (i 1) (i 2) : ℝ) : EReal) := by
  have hS : (S Q K (rowMax x0 x1 x2 x3) (i 0) (i 1) : ℝ) ≠ 0 := (S_pos Q K (rowMax x0 x1 x2 x3) (i 0) (i 1)).ne'
  rw [val_main_v45_apply, val_main_v44_apply, v43_eq E, v41_eq E, Ideal.hostDivf_def]
  refine (Ideal.div_coe hS _).trans ?_
  rw [← EReal.coe_mul, ← div_eq_mul_one_div]
  rfl

include E in
theorem v48_eq (i : S16x4096x1.Idx) :
    val_main_v48 (F := Ideal) x0 x1 x2 x3 i
      = ((1 / (S Q K (rowMax x0 x1 x2 x3) (i 0) (i 1) * S Q K (rowMax x0 x1 x2 x3) (i 0) (i 1)) : ℝ) : EReal) := by
  have hS : (S Q K (rowMax x0 x1 x2 x3) (i 0) (i 1) : ℝ) ≠ 0 := (S_pos Q K (rowMax x0 x1 x2 x3) (i 0) (i 1)).ne'
  rw [val_main_v48_apply, val_main_v46_apply, val_main_v47_apply, v43_eq E, Ideal.hostDivf_def, Ideal.mulf_def, ← EReal.coe_mul]
  refine (Ideal.div_coe (mul_ne_zero hS hS) _).trans ?_
  refine (congrArg (· * _) lit_one).trans ?_
  rw [← EReal.coe_mul, one_mul]

include E in
theorem v50_eq (i : S16x4096x4096.Idx) :
    val_main_v50 (F := Ideal) x0 x1 x2 x3 i = ((P Q K (rowMax x0 x1 x2 x3) (i 0) (i 1) (i 2) : ℝ) : EReal) := by
  rw [val_main_v50_apply, val_main_v49_apply, Ideal.extf_def, Ideal.truncf_def, v45_eq E]

include E in
/-- The attention's output. -/
theorem v53_eq (i : S16x4096x128.Idx) :
    val_main_v53 (F := Ideal) x0 x1 x2 x3 i = ((O Q K (rowMax x0 x1 x2 x3) (i 0) (i 1) (i 2) : ℝ) : EReal) := by
  rw [val_main_v53_apply, Ideal.truncf_def, val_main_v52_apply]
  unfold O
  rw [coe_sum]
  refine Finset.sum_congr rfl fun k _ => ?_
  rw [v50_eq E, val_main_v51_apply, Ideal.extf_def, E.kl, ← EReal.coe_mul]
  rfl

end values

end Cert.Proof.Reference

end
-- ==== Proof.Finite.lean ====
/-
  What the precondition says of the inputs: every element of each array is real.
-/
module

public import proofs.«01_k».proof.Pre_finite
public import proofs.«01_k».proof.Proof.Reference.Scores
public import Idealize.ShloMosaic.Lib.ReduceAll

@[expose] public section

set_option maxRecDepth 16384

noncomputable section

namespace Cert.Proof.Finite

open Cert.Pre_finite Cert.Proof.Reference
open Idealize.ShloMosaic Idealize.ShloMosaic.Tactic

/-- The shapes the precondition's operations relate. -/
instance facts : Cert.Pre_finite.Facts := by
  constructor <;> decide

theorem real_of_lt {a : EReal} (h : max a (-a) < ⊤) : a = ((a.toReal : ℝ) : EReal) := by
  refine (EReal.coe_toReal (lt_of_le_of_lt (le_max_left _ _) h).ne ?_).symm
  rintro rfl
  rw [EReal.neg_bot] at h
  exact (lt_of_le_of_lt (le_max_right _ _) h).ne rfl

/-- An array whose magnitudes are all below plus infinity holds reals. -/
theorem real_of_all {s : Shape} {axes : List (Fin s.rank)} (x : FVec Ideal s .bf16) (hb : FTy.bits .bf16 < FTy.bits .f32)
    (hs : S_.BroadcastsInDim s (![] : Fin 0 → Fin s.rank)) (hr : s.ReducesTo axes S_) (hu : 0 < S_.numel) (j : S_.Idx)
    (e : Host.reduce IntOp.andi (cmpf .olt (Host.absf (extf .f32 x hb)) (broadcastInDim s ![] hs (constant S_ .f32 0x7F800000#32)))
      (constantI S_ 1 1#1) hr hu j = 1#1) (i : s.Idx) : x i = (((x i).toReal : ℝ) : EReal) := by
  have : Subsingleton S_.Idx := ⟨fun a b => funext fun k => k.elim0⟩
  have h := Host.reduce_andi_all _ _ _ _ j e i
  have h1 : Ideal.cmp .olt (max (x i) (-(x i))) (Ideal.ofBits .f32 0x7F800000#32) = 1#1 := h
  rw [lit_top] at h1
  refine real_of_lt ?_
  by_contra hc
  have h2 : Ideal.cmp .olt (max (x i) (-(x i))) ⊤ = 0#1 := by
    unfold Ideal.cmp
    simp only [decide_eq_false hc]
    rfl
  rw [h2] at h1
  exact absurd h1 (by decide)

theorem split {x y : IVec S_ 1} {j : S_.Idx} (h : andi x y j = 1#1) : x j = 1#1 ∧ y j = 1#1 := by
  have h1 : IntOp.andi (x j) (y j) = 1#1 := h
  revert h1
  generalize x j = a
  generalize y j = b
  revert a b
  decide

/-- The queries: the two parts side by side, and 64 zero lanes. -/
def queries (a : FVec Ideal S16x4096x128 .bf16) (b : FVec Ideal S16x4096x64 .bf16) (h : Fin 16) (i : Fin 4096) (r : Fin 256) : ℝ :=
  if h1 : r.val < 128 then (a (ix3 h i ⟨r.val, h1⟩)).toReal
  else if h2 : r.val - 128 < 64 then (b (ix3 h i ⟨r.val - 128, h2⟩)).toReal else 0

/-- The keys, likewise. -/
def keys (a : FVec Ideal S4096x128 .bf16) (b : FVec Ideal S4096x64 .bf16) (j : Fin 4096) (r : Fin 256) : ℝ :=
  if h1 : r.val < 128 then (a (ix2 j ⟨r.val, h1⟩)).toReal
  else if h2 : r.val - 128 < 64 then (b (ix2 j ⟨r.val - 128, h2⟩)).toReal else 0

theorem queries_up (a : FVec Ideal S16x4096x128 .bf16) (b : FVec Ideal S16x4096x64 .bf16) (h : Fin 16) (i : Fin 4096) (r : Fin 128) :
    queries a b h i (Math.up r) = (a (ix3 h i r)).toReal := dif_pos r.isLt

theorem queries_mid (a : FVec Ideal S16x4096x128 .bf16) (b : FVec Ideal S16x4096x64 .bf16) (h : Fin 16) (i : Fin 4096) (r : Fin 64) :
    queries a b h i (mid r) = (b (ix3 h i r)).toReal := by
  have h1 : ¬ 128 + r.val < 128 := by omega
  have h2 : 128 + r.val - 128 < 64 := by omega
  refine ((dif_neg h1).trans (dif_pos h2)).trans (congrArg (fun k => (b (ix3 h i k)).toReal) (Fin.ext ?_))
  exact Nat.add_sub_cancel_left _ _

theorem keys_up (a : FVec Ideal S4096x128 .bf16) (b : FVec Ideal S4096x64 .bf16) (j : Fin 4096) (r : Fin 128) :
    keys a b j (Math.up r) = (a (ix2 j r)).toReal := dif_pos r.isLt

theorem keys_mid (a : FVec Ideal S4096x128 .bf16) (b : FVec Ideal S4096x64 .bf16) (j : Fin 4096) (r : Fin 64) :
    keys a b j (mid r) = (b (ix2 j r)).toReal := by
  have h1 : ¬ 128 + r.val < 128 := by omega
  have h2 : 128 + r.val - 128 < 64 := by omega
  refine ((dif_neg h1).trans (dif_pos h2)).trans (congrArg (fun k => (b (ix2 j k)).toReal) (Fin.ext ?_))
  exact Nat.add_sub_cancel_left _ _

/-- The outputs' gradients. -/
def grads (a : FVec Ideal S16x4096x128 .bf16) (h : Fin 16) (i : Fin 4096) (r : Fin 128) : ℝ := (a (ix3 h i r)).toReal

variable {x0 : FVec Ideal S16x4096x128 .bf16} {x1 : FVec Ideal S16x4096x64 .bf16} {x2 : FVec Ideal S4096x128 .bf16}
  {x3 : FVec Ideal S4096x64 .bf16} {x4 : FVec Ideal S16x4096x128 .bf16}

theorem real_all (h : fn (F := Ideal) x0 x1 x2 x3 x4 = fun _ => 1#1) :
    (∀ i, x0 i = (((x0 i).toReal : ℝ) : EReal)) ∧ (∀ i, x1 i = (((x1 i).toReal : ℝ) : EReal))
      ∧ (∀ i, x2 i = (((x2 i).toReal : ℝ) : EReal)) ∧ (∀ i, x3 i = (((x3 i).toReal : ℝ) : EReal))
      ∧ ∀ i, x4 i = (((x4 i).toReal : ℝ) : EReal) := by
  have e := congrFun h (fun k : Fin 0 => k.elim0)
  unfold fn fn_part1 at e
  obtain ⟨e, e4⟩ := split e
  obtain ⟨e, e3⟩ := split e
  obtain ⟨e, e2⟩ := split e
  obtain ⟨e0, e1⟩ := split e
  exact ⟨real_of_all x0 _ _ _ _ _ e0, real_of_all x1 _ _ _ _ _ e1, real_of_all x2 _ _ _ _ _ e2, real_of_all x3 _ _ _ _ _ e3,
    real_of_all x4 _ _ _ _ _ e4⟩

/-- Arrays of reals, as the reference's inputs. -/
theorem inputs_of_real (h0 : ∀ i, x0 i = (((x0 i).toReal : ℝ) : EReal)) (h1 : ∀ i, x1 i = (((x1 i).toReal : ℝ) : EReal))
    (h2 : ∀ i, x2 i = (((x2 i).toReal : ℝ) : EReal)) (h3 : ∀ i, x3 i = (((x3 i).toReal : ℝ) : EReal))
    (h4 : ∀ i, x4 i = (((x4 i).toReal : ℝ) : EReal)) : Inputs x0 x1 x2 x3 x4 (queries x0 x1) (keys x2 x3) (grads x4) := by
  refine ⟨fun i => ?_, fun i => ?_, fun i => ?_, fun i => ?_, fun i => ?_, fun h i a ha => ?_, fun j a ha => ?_⟩
  · idx_vars i
    exact (h0 _).trans (congrArg _ (queries_up x0 x1 _ _ _).symm)
  · idx_vars i
    exact (h1 _).trans (congrArg _ (queries_mid x0 x1 _ _ _).symm)
  · idx_vars i
    exact (h2 _).trans (congrArg _ (keys_up x2 x3 _ _).symm)
  · idx_vars i
    exact (h3 _).trans (congrArg _ (keys_mid x2 x3 _ _).symm)
  · idx_vars i
    exact h4 _
  · unfold queries
    rw [dif_neg (by omega), dif_neg (by omega)]
  · unfold keys
    rw [dif_neg (by omega), dif_neg (by omega)]

/-- Under the precondition the inputs are real. -/
theorem inputs (h : fn (F := Ideal) x0 x1 x2 x3 x4 = fun _ => 1#1) : Inputs x0 x1 x2 x3 x4 (queries x0 x1) (keys x2 x3) (grads x4) := by
  obtain ⟨h0, h1, h2, h3, h4⟩ := real_all h
  exact inputs_of_real h0 h1 h2 h3 h4

end Cert.Proof.Finite

end
-- ==== Proof.KernelIdeal.Val.lean ====
/-
  What the body's vectors are over the reals: each product and sum of a block of keys, at an index, from real queries, keys, outputs'
  gradients, products and log-sum-exps.
-/
module

public import proofs.«01_k».proof.Proof.KernelIdeal.Model
public import proofs.«01_k».proof.Proof.Math
public import Idealize.ShloMosaic.Lib.Pointwise

@[expose] public section

noncomputable section

namespace Cert.Proof.KernelIdeal

open Cert.KernelIdeal Cert.KernelIdeal.Gen Cert.Proof.Math
open Idealize.ShloMosaic Idealize.ShloMosaic.Tactic

theorem exp2_real (r : ℝ) : FloatOps.exp2 (F := Ideal) (φ := .f32) ((r : ℝ) : EReal) = ((Real.rpow 2 r : ℝ) : EReal) := rfl

theorem scale_val : Named.named (F := Ideal) (φ := .f32) κ "scale" 0x3D93CD3A#32 = ((c1 : ℝ) : EReal) :=
  IdealRules.named_const.ideal_named_scalar _ _ _ _ rfl

theorem scale2_val : Named.named (F := Ideal) (φ := .f32) κ "scale_log2" 1037384597#32 = ((c2 : ℝ) : EReal) :=
  IdealRules.named_const.ideal_named_scalar _ _ _ _ rfl

/-! ### The mask -/

/-- The word that a key's chunk is computed as: its quotient by 64 rounded down. -/
def chunkWord (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem chunkWord_eq : ∀ k : Fin 4096, chunkWord (BitVec.ofNat 32 k.val) = BitVec.ofNat 32 (k.val / 64) := by decide +kernel

theorem sle_eq : ∀ a b : Fin 64, IntOp.cmpi CmpIPredicate.sle (BitVec.ofNat 32 a.val) (BitVec.ofNat 32 b.val) = 1#1 ↔ a.val ≤ b.val := by
  decide +kernel

theorem row_word {b c : ℕ} : IntOp.addi (Scalar.muli (BitVec.ofNat 32 b) 512#32) (BitVec.ofNat 32 c) = BitVec.ofNat 32 (512 * b + c) := by
  change BitVec.ofNat 32 b * 512#32 + BitVec.ofNat 32 c = _
  rw [show (512#32 : BitVec 32) = BitVec.ofNat 32 512 from rfl, ← BitVec.ofNat_mul, ← BitVec.ofNat_add, mul_comm]

/-- The mask keeps a key exactly when its chunk is no later than the point's. -/
theorem mask_eq {n b c : ℕ} (hn : n < 64) (h : 512 * b + c < 4096) (x : EReal) :
    Scalar.select (IntOp.cmpi CmpIPredicate.sle
      (chunkWord (IntOp.addi (Scalar.muli (BitVec.ofNat 32 b) 512#32) (BitVec.ofNat 32 c))) (BitVec.ofNat 32 n)) x 0
      = if (512 * b + c) / 64 ≤ n then x else 0 := by
  rw [row_word, chunkWord_eq ⟨512 * b + c, h⟩]
  have := sle_eq ⟨(512 * b + c) / 64, by omega⟩ ⟨n, hn⟩
  unfold Scalar.select
  by_cases hc : (512 * b + c) / 64 ≤ n
  · rw [if_pos hc]; exact if_pos (this.2 hc)
  · rw [if_neg hc]; exact if_neg (fun h' => hc (this.1 h'))

/-! ### The vectors of a block -/

/-- A point's vectors are real. -/
structure Rows (w : Fixed Ideal) (q : Fin 1024 → Fin 256 → ℝ) (d : Fin 1024 → Fin 128 → ℝ) (δ l : Fin 1024 → ℝ) : Prop where
  q : ∀ ρ a, w.q (ix2 ρ a) = ((q ρ a : ℝ) : EReal)
  d : ∀ ρ r, w.d (ix2 ρ r) = ((d ρ r : ℝ) : EReal)
  delta : ∀ ρ c, w.delta (ix2 ρ c) = ((δ ρ : ℝ) : EReal)
  lse : ∀ ρ c, w.lse (ix2 ρ c) = ((l ρ : ℝ) : EReal)

section payloads

variable {w : Fixed Ideal} {q : Fin 1024 → Fin 256 → ℝ} {d : Fin 1024 → Fin 128 → ℝ} {δ l : Fin 1024 → ℝ}
variable {K : Fin 4096 → Fin 256 → ℝ} {n b : ℕ}

theorem p_whole (W : Rows w q d δ l) (hb : 512 * b + 512 ≤ 4096) (hv : 8 * b + 8 ≤ n) {k : Vec Ideal S512x256 .bf16}
    (hk : ∀ (c : Fin 512) a, k (ix2 c a) = ((K ⟨512 * b + c.val, by omega⟩ a : ℝ) : EReal)) (ρ : Fin 1024) (c : Fin 512) :
    k0_pay34 w.q w.lse k (ix2 ρ c) = ((wt q l K n ρ ⟨512 * b + c.val, by omega⟩ : ℝ) : EReal) := by
  pointwise [k0_pay34, k0_pay33]
  simp only [W.q, W.lse, hk, scale2_val, ← EReal.coe_mul, ← coe_sum, ← EReal.coe_sub, exp2_real]
  unfold wt
  rw [if_pos (show (512 * b + c.val) / 64 ≤ n by omega)]

theorem p_full (W : Rows w q d δ l) (hn : n < 64) (hb : 512 * b + 512 ≤ 4096) {k : Vec Ideal S512x256 .bf16}
    (hk : ∀ (c : Fin 512) a, k (ix2 c a) = ((K ⟨512 * b + c.val, by omega⟩ a : ℝ) : EReal)) (ρ : Fin 1024) (c : Fin 512) :
    k0_pay44 (BitVec.ofNat 32 n) w.q w.lse (Scalar.muli (BitVec.ofNat 32 b) 512#32) k (ix2 ρ c)
      = ((wt q l K n ρ ⟨512 * b + c.val, by omega⟩ : ℝ) : EReal) := by
  pointwise [k0_pay44, k0_pay43]
  simp only [W.q, W.lse, hk, scale2_val, ← EReal.coe_mul, ← coe_sum, ← EReal.coe_sub, exp2_real]
  refine (mask_eq hn (by omega) _).trans ?_
  unfold wt
  split <;> rfl

theorem p_half (W : Rows w q d δ l) (hn : n < 64) (hb : 512 * b + 256 ≤ 4096) {k : Vec Ideal S256x256 .bf16}
    (hk : ∀ (c : Fin 256) a, k (ix2 c a) = ((K ⟨512 * b + c.val, by omega⟩ a : ℝ) : EReal)) (ρ : Fin 1024) (c : Fin 256) :
    k0_pay40 (BitVec.ofNat 32 n) w.q w.lse (Scalar.muli (BitVec.ofNat 32 b) 512#32) k (ix2 ρ c)
      = ((wt q l K n ρ ⟨512 * b + c.val, by omega⟩ : ℝ) : EReal) := by
  pointwise [k0_pay40, k0_pay39]
  simp only [W.q, W.lse, hk, scale2_val, ← EReal.coe_mul, ← coe_sum, ← EReal.coe_sub, exp2_real]
  refine (mask_eq hn (by omega) _).trans ?_
  unfold wt
  split <;> rfl

theorem ds_whole (W : Rows w q d δ l) (hb : 512 * b + 512 ≤ 4096) (hv : 8 * b + 8 ≤ n) {k : Vec Ideal S512x256 .bf16}
    (hk : ∀ (c : Fin 512) a, k (ix2 c a) = ((K ⟨512 * b + c.val, by omega⟩ a : ℝ) : EReal)) (ρ : Fin 1024) (c : Fin 512) :
    k0_pay36 w.q w.d w.delta w.lse k (ix2 ρ c) = ((gs q d δ l K n ρ ⟨512 * b + c.val, by omega⟩ : ℝ) : EReal) := by
  have hp := p_whole W hb hv hk ρ c
  generalize hP : k0_pay34 w.q w.lse k = p at hp
  pointwise [k0_pay36, k0_pay33]
  simp only [hP, hp, W.d, W.delta, hk, scale_val, ← EReal.coe_mul, ← coe_sum, ← EReal.coe_sub]
  rfl

theorem ds_full (W : Rows w q d δ l) (hb : 512 * b + 512 ≤ 4096) {k : Vec Ideal S512x256 .bf16} {p : FVec Ideal S1024x512 .f32}
    (hk : ∀ (c : Fin 512) a, k (ix2 c a) = ((K ⟨512 * b + c.val, by omega⟩ a : ℝ) : EReal))
    (hp : ∀ (ρ : Fin 1024) (c : Fin 512), p (ix2 ρ c) = ((wt q l K n ρ ⟨512 * b + c.val, by omega⟩ : ℝ) : EReal))
    (ρ : Fin 1024) (c : Fin 512) :
    k0_pay5 w.d w.delta (k0_pay43 k) p (ix2 ρ c) = ((gs q d δ l K n ρ ⟨512 * b + c.val, by omega⟩ : ℝ) : EReal) := by
  pointwise [k0_pay5, k0_pay43]
  simp only [hp, W.d, W.delta, hk, scale_val, ← EReal.coe_mul, ← coe_sum, ← EReal.coe_sub]
  rfl

theorem ds_half (W : Rows w q d δ l) (hb : 512 * b + 256 ≤ 4096) {k : Vec Ideal S256x256 .bf16} {p : FVec Ideal S1024x256 .f32}
    (hk : ∀ (c : Fin 256) a, k (ix2 c a) = ((K ⟨512 * b + c.val, by omega⟩ a : ℝ) : EReal))
    (hp : ∀ (ρ : Fin 1024) (c : Fin 256), p (ix2 ρ c) = ((wt q l K n ρ ⟨512 * b + c.val, by omega⟩ : ℝ) : EReal))
    (ρ : Fin 1024) (c : Fin 256) :
    k0_pay2 w.d w.delta (k0_pay39 k) p (ix2 ρ c) = ((gs q d δ l K n ρ ⟨512 * b + c.val, by omega⟩ : ℝ) : EReal) := by
  pointwise [k0_pay2, k0_pay39]
  simp only [hp, W.d, W.delta, hk, scale_val, ← EReal.coe_mul, ← coe_sum, ← EReal.coe_sub]
  rfl

end payloads

end Cert.Proof.KernelIdeal
-- ==== Proof.KernelIdeal.Sums.lean ====
/-
  One block of keys adds that block's terms to the three accumulators: the invariant that before key `m` they hold the sums over the
  keys before `m`, and that each kind of block carries it past its own keys.
-/
module

public import proofs.«01_k».proof.Proof.KernelIdeal.Val

@[expose] public section

noncomputable section

namespace Cert.Proof.KernelIdeal

open Cert.KernelIdeal Cert.KernelIdeal.Gen Cert.Proof.Math
open Idealize.ShloMosaic Idealize.ShloMosaic.Tactic

/-! ### Rows of a table -/

section rowsOf

variable {N w m o : ℕ} {e : EltTy} {Val : EltTy → Type}

theorem emb_rows (h : ∀ a, (![o, 0] : Fin 2 → ℕ) a + (![w, m] : Fin 2 → ℕ) a ≤ (![N, m] : Fin 2 → ℕ) a) (c : Fin w) (a : Fin m)
    (hc : o + c.val < N) :
    (Rect.unit (s := ⟨2, ![N, m]⟩) ![o, 0] ![w, m] h).emb (ix2 c a) = ix2 ⟨o + c.val, hc⟩ a := by
  funext i
  apply Fin.ext
  fin_cases i
  · change o + 1 * c.val = o + c.val
    omega
  · change 0 + 1 * a.val = a.val
    omega

theorem ld_rows (X : (⟨2, ![N, m]⟩ : Shape).Idx → Val e)
    (h : ∀ a, (![o, 0] : Fin 2 → ℕ) a + (![w, m] : Fin 2 → ℕ) a ≤ (![N, m] : Fin 2 → ℕ) a) (c : Fin w) (a : Fin m) :
    View.ld X (Rect.unit (s := ⟨2, ![N, m]⟩) ![o, 0] ![w, m] h) (ix2 c a)
      = X (ix2 ⟨o + c.val, lt_of_lt_of_le (Nat.add_lt_add_left c.isLt o) (h 0)⟩ a) :=
  congrArg X (emb_rows h c a _)

theorem overlay_rows_in (X : (⟨2, ![N, m]⟩ : Shape).Idx → Val e)
    (h : ∀ a, (![o, 0] : Fin 2 → ℕ) a + (![w, m] : Fin 2 → ℕ) a ≤ (![N, m] : Fin 2 → ℕ) a)
    (G : (⟨2, ![w, m]⟩ : Shape).Idx → Val e) (j : Fin N) (a : Fin m) (c : Fin w) (hj : j.val = o + c.val) :
    (Rect.unit (s := ⟨2, ![N, m]⟩) ![o, 0] ![w, m] h).overlay X G (ix2 j a) = G (ix2 c a) := by
  have he := emb_rows h c a (hj ▸ j.isLt)
  have hj' : (⟨o + c.val, hj ▸ j.isLt⟩ : Fin N) = j := Fin.ext hj.symm
  rw [hj'] at he
  rw [← he]
  exact Rect.overlay_emb (Rect.unit (s := ⟨2, ![N, m]⟩) ![o, 0] ![w, m] h) X G (ix2 c a)

theorem overlay_rows_out (X : (⟨2, ![N, m]⟩ : Shape).Idx → Val e)
    (h : ∀ a, (![o, 0] : Fin 2 → ℕ) a + (![w, m] : Fin 2 → ℕ) a ≤ (![N, m] : Fin 2 → ℕ) a)
    (G : (⟨2, ![w, m]⟩ : Shape).Idx → Val e) (j : Fin N) (a : Fin m) (hj : j.val < o ∨ o + w ≤ j.val) :
    (Rect.unit (s := ⟨2, ![N, m]⟩) ![o, 0] ![w, m] h).overlay X G (ix2 j a) = X (ix2 j a) := by
  refine Rect.overlay_of_not_mem (Rect.unit (s := ⟨2, ![N, m]⟩) ![o, 0] ![w, m] h) X G fun hm => ?_
  have h0 := Rect.mem_set_unit.1 hm 0
  have h1 : o ≤ j.val := h0.1
  have h2 : j.val < o + w := h0.2
  omega

end rowsOf

/-! ### The invariant -/

section invariant

variable (q : Fin 1024 → Fin 256 → ℝ) (d : Fin 1024 → Fin 128 → ℝ) (δ l : Fin 1024 → ℝ) (K : Fin 4096 → Fin 256 → ℝ) (n : ℕ)
variable (k0 : Fin 4096 → Fin 256 → ℝ) (v0 : Fin 4096 → Fin 128 → ℝ)

/-- The accumulators before key `m`, from the keys' and values' gradients `k0`, `v0` at the point's start. -/
structure Before (m : ℕ) (s : Acc Ideal) : Prop where
  dq : ∀ ρ a, s.dq (ix2 ρ a) = ((upto m (fun j => gs q d δ l K n ρ j * K j a) : ℝ) : EReal)
  dk : ∀ j a, s.dk (ix2 j a) = ((k0 j a + if j.val < m then ∑ ρ, gs q d δ l K n ρ j * q ρ a else 0 : ℝ) : EReal)
  dv : ∀ j r, s.dv (ix2 j r) = ((v0 j r + if j.val < m then ∑ ρ, wt q l K n ρ j * d ρ r else 0 : ℝ) : EReal)

variable {q d δ l K n k0 v0}

/-- A block of `w` keys from `m` on that adds its terms carries the invariant past them. -/
theorem Before.step {m w : ℕ} (hm : m + w ≤ 4096) {s s' : Acc Ideal} (B : Before q d δ l K n k0 v0 m s)
    (hq : ∀ ρ a x, s.dq (ix2 ρ a) = ((x : ℝ) : EReal) →
      s'.dq (ix2 ρ a) = ((x + ∑ c : Fin w, gs q d δ l K n ρ ⟨m + c.val, by omega⟩ * K ⟨m + c.val, by omega⟩ a : ℝ) : EReal))
    (hk : ∀ (c : Fin w) a x, s.dk (ix2 ⟨m + c.val, by omega⟩ a) = ((x : ℝ) : EReal) →
      s'.dk (ix2 ⟨m + c.val, by omega⟩ a) = ((x + ∑ ρ, gs q d δ l K n ρ ⟨m + c.val, by omega⟩ * q ρ a : ℝ) : EReal))
    (hk' : ∀ (j : Fin 4096) a, j.val < m ∨ m + w ≤ j.val → s'.dk (ix2 j a) = s.dk (ix2 j a))
    (hv : ∀ (c : Fin w) r x, s.dv (ix2 ⟨m + c.val, by omega⟩ r) = ((x : ℝ) : EReal) →
      s'.dv (ix2 ⟨m + c.val, by omega⟩ r) = ((x + ∑ ρ, wt q l K n ρ ⟨m + c.val, by omega⟩ * d ρ r : ℝ) : EReal))
    (hv' : ∀ (j : Fin 4096) r, j.val < m ∨ m + w ≤ j.val → s'.dv (ix2 j r) = s.dv (ix2 j r)) :
    Before q d δ l K n k0 v0 (m + w) s' where
  dq ρ a := by rw [hq ρ a _ (B.dq ρ a), upto_add hm]
  dk j a := by
    by_cases hj : j.val < m ∨ m + w ≤ j.val
    · rw [hk' j a hj, B.dk j a]
      congr 3
      exact propext ⟨fun _ => by omega, fun _ => by omega⟩
    · obtain ⟨c, hc⟩ : ∃ c : Fin w, j.val = m + c.val := ⟨⟨j.val - m, by omega⟩, (Nat.add_sub_cancel' (by omega)).symm⟩
      have hj' : j = ⟨m + c.val, by omega⟩ := Fin.ext hc
      have hlt := c.isLt
      rw [hj', hk c a _ (B.dk _ a), if_neg (show ¬ m + c.val < m by omega), if_pos (show m + c.val < m + w by omega), add_zero]
  dv j r := by
    by_cases hj : j.val < m ∨ m + w ≤ j.val
    · rw [hv' j r hj, B.dv j r]
      congr 3
      exact propext ⟨fun _ => by omega, fun _ => by omega⟩
    · obtain ⟨c, hc⟩ : ∃ c : Fin w, j.val = m + c.val := ⟨⟨j.val - m, by omega⟩, (Nat.add_sub_cancel' (by omega)).symm⟩
      have hj' : j = ⟨m + c.val, by omega⟩ := Fin.ext hc
      have hlt := c.isLt
      rw [hj', hv c r _ (B.dv _ r), if_neg (show ¬ m + c.val < m by omega), if_pos (show m + c.val < m + w by omega), add_zero]

/-! ### What a block's products add -/

variable {w : Fixed Ideal} {b : ℕ}

theorem dq_whole (W : Rows w q d δ l) (hb : 512 * b + 512 ≤ 4096) (hv : 8 * b + 8 ≤ n) {k : Vec Ideal S512x256 .bf16}
    (hk : ∀ (c : Fin 512) a, k (ix2 c a) = ((K ⟨512 * b + c.val, by omega⟩ a : ℝ) : EReal))
    (x : Vec Ideal S1024x256 .f32) (y : ℝ) (ρ : Fin 1024) (a : Fin 256) (hx : x (ix2 ρ a) = ((y : ℝ) : EReal)) :
    k0_pay37 w.q w.d w.delta w.lse k x (ix2 ρ a)
      = ((y + ∑ c : Fin 512, gs q d δ l K n ρ ⟨512 * b + c.val, by omega⟩ * K ⟨512 * b + c.val, by omega⟩ a : ℝ) : EReal) := by
  have hs := ds_whole W hb hv hk
  pointwise [k0_pay37, k0_pay33]
  simp only [hx, hs, hk, ← EReal.coe_mul, ← coe_sum, ← EReal.coe_add]

theorem dk_whole (W : Rows w q d δ l) (hb : 512 * b + 512 ≤ 4096) (hv : 8 * b + 8 ≤ n) {k : Vec Ideal S512x256 .bf16}
    (hk : ∀ (c : Fin 512) a, k (ix2 c a) = ((K ⟨512 * b + c.val, by omega⟩ a : ℝ) : EReal))
    (x : Vec Ideal S512x256 .f32) (y : ℝ) (c : Fin 512) (a : Fin 256) (hx : x (ix2 c a) = ((y : ℝ) : EReal)) :
    k0_pay38 w.q w.d w.delta w.lse k x (ix2 c a)
      = ((y + ∑ ρ, gs q d δ l K n ρ ⟨512 * b + c.val, by omega⟩ * q ρ a : ℝ) : EReal) := by
  have hs := ds_whole W hb hv hk
  pointwise [k0_pay38]
  simp only [hx, hs, W.q, ← EReal.coe_mul, ← coe_sum, ← EReal.coe_add]

theorem dv_whole (W : Rows w q d δ l) (hb : 512 * b + 512 ≤ 4096) (hv : 8 * b + 8 ≤ n) {k : Vec Ideal S512x256 .bf16}
    (hk : ∀ (c : Fin 512) a, k (ix2 c a) = ((K ⟨512 * b + c.val, by omega⟩ a : ℝ) : EReal))
    (x : Vec Ideal S512x128 .f32) (y : ℝ) (c : Fin 512) (r : Fin 128) (hx : x (ix2 c r) = ((y : ℝ) : EReal)) :
    k0_pay35 w.q w.d w.lse k x (ix2 c r)
      = ((y + ∑ ρ, wt q l K n ρ ⟨512 * b + c.val, by omega⟩ * d ρ r : ℝ) : EReal) := by
  have hp := p_whole W hb hv hk
  pointwise [k0_pay35]
  simp only [hx, hp, W.d, ← EReal.coe_mul, ← coe_sum, ← EReal.coe_add]

theorem dq_full (W : Rows w q d δ l) (hn : n < 64) (hb : 512 * b + 512 ≤ 4096) {k : Vec Ideal S512x256 .bf16}
    (hk : ∀ (c : Fin 512) a, k (ix2 c a) = ((K ⟨512 * b + c.val, by omega⟩ a : ℝ) : EReal))
    (x : Vec Ideal S1024x256 .f32) (y : ℝ) (ρ : Fin 1024) (a : Fin 256) (hx : x (ix2 ρ a) = ((y : ℝ) : EReal)) :
    k0_pay6 w.d w.delta (k0_pay43 k)
      (k0_pay44 (BitVec.ofNat 32 n) w.q w.lse (Scalar.muli (BitVec.ofNat 32 b) 512#32) k) x (ix2 ρ a)
      = ((y + ∑ c : Fin 512, gs q d δ l K n ρ ⟨512 * b + c.val, by omega⟩ * K ⟨512 * b + c.val, by omega⟩ a : ℝ) : EReal) := by
  have hp := p_full W hn hb hk
  have hs := ds_full W hb hk hp
  have hkk : ∀ (c : Fin 512) a, k0_pay43 k (ix2 c a) = ((K ⟨512 * b + c.val, by omega⟩ a : ℝ) : EReal) := fun c a => by
    pointwise [k0_pay43]
    exact hk c a
  pointwise [k0_pay6]
  simp only [hx, hs, hkk, ← EReal.coe_mul, ← coe_sum, ← EReal.coe_add]

theorem dk_full (W : Rows w q d δ l) (hn : n < 64) (hb : 512 * b + 512 ≤ 4096) {k : Vec Ideal S512x256 .bf16}
    (hk : ∀ (c : Fin 512) a, k (ix2 c a) = ((K ⟨512 * b + c.val, by omega⟩ a : ℝ) : EReal))
    (x : Vec Ideal S512x256 .f32) (y : ℝ) (c : Fin 512) (a : Fin 256) (hx : x (ix2 c a) = ((y : ℝ) : EReal)) :
    k0_pay7 w.q w.d w.delta (k0_pay43 k)
      (k0_pay44 (BitVec.ofNat 32 n) w.q w.lse (Scalar.muli (BitVec.ofNat 32 b) 512#32) k) x (ix2 c a)
      = ((y + ∑ ρ, gs q d δ l K n ρ ⟨512 * b + c.val, by omega⟩ * q ρ a : ℝ) : EReal) := by
  have hp := p_full W hn hb hk
  have hs := ds_full W hb hk hp
  pointwise [k0_pay7]
  simp only [hx, hs, W.q, ← EReal.coe_mul, ← coe_sum, ← EReal.coe_add]

theorem dv_full (W : Rows w q d δ l) (hn : n < 64) (hb : 512 * b + 512 ≤ 4096) {k : Vec Ideal S512x256 .bf16}
    (hk : ∀ (c : Fin 512) a, k (ix2 c a) = ((K ⟨512 * b + c.val, by omega⟩ a : ℝ) : EReal))
    (x : Vec Ideal S512x128 .f32) (y : ℝ) (c : Fin 512) (r : Fin 128) (hx : x (ix2 c r) = ((y : ℝ) : EReal)) :
    k0_pay45 (BitVec.ofNat 32 n) w.q w.d w.lse (Scalar.muli (BitVec.ofNat 32 b) 512#32) k x (ix2 c r)
      = ((y + ∑ ρ, wt q l K n ρ ⟨512 * b + c.val, by omega⟩ * d ρ r : ℝ) : EReal) := by
  have hp := p_full W hn hb hk
  pointwise [k0_pay45]
  simp only [hx, hp, W.d, ← EReal.coe_mul, ← coe_sum, ← EReal.coe_add]

theorem dq_half (W : Rows w q d δ l) (hn : n < 64) (hb : 512 * b + 256 ≤ 4096) {k : Vec Ideal S256x256 .bf16}
    (hk : ∀ (c : Fin 256) a, k (ix2 c a) = ((K ⟨512 * b + c.val, by omega⟩ a : ℝ) : EReal))
    (x : Vec Ideal S1024x256 .f32) (y : ℝ) (ρ : Fin 1024) (a : Fin 256) (hx : x (ix2 ρ a) = ((y : ℝ) : EReal)) :
    k0_pay3 w.d w.delta (k0_pay39 k)
      (k0_pay40 (BitVec.ofNat 32 n) w.q w.lse (Scalar.muli (BitVec.ofNat 32 b) 512#32) k) x (ix2 ρ a)
      = ((y + ∑ c : Fin 256, gs q d δ l K n ρ ⟨512 * b + c.val, by omega⟩ * K ⟨512 * b + c.val, by omega⟩ a : ℝ) : EReal) := by
  have hp := p_half W hn hb hk
  have hs := ds_half W hb hk hp
  have hkk : ∀ (c : Fin 256) a, k0_pay39 k (ix2 c a) = ((K ⟨512 * b + c.val, by omega⟩ a : ℝ) : EReal) := fun c a => by
    pointwise [k0_pay39]
    exact hk c a
  pointwise [k0_pay3]
  simp only [hx, hs, hkk, ← EReal.coe_mul, ← coe_sum, ← EReal.coe_add]

theorem dk_half (W : Rows w q d δ l) (hn : n < 64) (hb : 512 * b + 256 ≤ 4096) {k : Vec Ideal S256x256 .bf16}
    (hk : ∀ (c : Fin 256) a, k (ix2 c a) = ((K ⟨512 * b + c.val, by omega⟩ a : ℝ) : EReal))
    (x : Vec Ideal S256x256 .f32) (y : ℝ) (c : Fin 256) (a : Fin 256) (hx : x (ix2 c a) = ((y : ℝ) : EReal)) :
    k0_pay4 w.q w.d w.delta (k0_pay39 k)
      (k0_pay40 (BitVec.ofNat 32 n) w.q w.lse (Scalar.muli (BitVec.ofNat 32 b) 512#32) k) x (ix2 c a)
      = ((y + ∑ ρ, gs q d δ l K n ρ ⟨512 * b + c.val, by omega⟩ * q ρ a : ℝ) : EReal) := by
  have hp := p_half W hn hb hk
  have hs := ds_half W hb hk hp
  pointwise [k0_pay4]
  simp only [hx, hs, W.q, ← EReal.coe_mul, ← coe_sum, ← EReal.coe_add]

theorem dv_half (W : Rows w q d δ l) (hn : n < 64) (hb : 512 * b + 256 ≤ 4096) {k : Vec Ideal S256x256 .bf16}
    (hk : ∀ (c : Fin 256) a, k (ix2 c a) = ((K ⟨512 * b + c.val, by omega⟩ a : ℝ) : EReal))
    (x : Vec Ideal S256x128 .f32) (y : ℝ) (c : Fin 256) (r : Fin 128) (hx : x (ix2 c r) = ((y : ℝ) : EReal)) :
    k0_pay1 (k0_pay41 x)
      (k0_pay42 (BitVec.ofNat 32 n) w.q w.d w.lse (Scalar.muli (BitVec.ofNat 32 b) 512#32) k) (ix2 c r)
      = ((y + ∑ ρ, wt q l K n ρ ⟨512 * b + c.val, by omega⟩ * d ρ r : ℝ) : EReal) := by
  have hp := p_half W hn hb hk
  pointwise [k0_pay1, k0_pay41, k0_pay42]
  simp only [hx, hp, W.d, ← EReal.coe_mul, ← coe_sum, ← EReal.coe_add]

/-! ### The three kinds of block -/

variable {k : Vec Ideal S4096x256 .bf16}

theorem Before.whole (W : Rows w q d δ l) (hk : ∀ j a, k (ix2 j a) = ((K j a : ℝ) : EReal)) (hb : 512 * b + 512 ≤ 4096) (hv : 8 * b + 8 ≤ n)
    {s : Acc Ideal} (B : Before q d δ l K n k0 v0 (512 * b) s) :
    Before q d δ l K n k0 v0 (512 * b + 512) (blockAt w k b s) := by
  unfold blockAt
  rw [dif_pos hb]
  have hk1 : ∀ (c : Fin 512) a, View.ld k (Rect.unit (s := S4096x256) ![512 * b, 0] S512x256.size (rows_inb hb)) (ix2 c a)
      = ((K ⟨512 * b + c.val, by omega⟩ a : ℝ) : EReal) := fun c a => (ld_rows (N := 4096) (w := 512) (m := 256) (o := 512 * b) k (rows_inb hb) c a).trans (hk _ a)
  refine Before.step hb B ?_ ?_ ?_ ?_ ?_
  · intro ρ a x hx
    exact dq_whole W hb hv hk1 s.dq x ρ a hx
  · intro c a x hx
    unfold block
    dsimp only
    exact (overlay_rows_in (N := 4096) (w := 512) (m := 256) (o := 512 * b) s.dk (rows_inb hb) _ _ a c rfl).trans
      (dk_whole W hb hv hk1 _ x c a ((ld_rows (N := 4096) (w := 512) (m := 256) (o := 512 * b) s.dk (rows_inb hb) c a).trans hx))
  · intro j a hj
    unfold block
    dsimp only
    exact overlay_rows_out (N := 4096) (w := 512) (m := 256) (o := 512 * b) s.dk (rows_inb hb) _ j a hj
  · intro c r x hx
    unfold block
    dsimp only
    exact (overlay_rows_in (N := 4096) (w := 512) (m := 128) (o := 512 * b) s.dv (rows_inb hb) _ _ r c rfl).trans
      (dv_whole W hb hv hk1 _ x c r ((ld_rows (N := 4096) (w := 512) (m := 128) (o := 512 * b) s.dv (rows_inb hb) c r).trans hx))
  · intro j r hj
    unfold block
    dsimp only
    exact overlay_rows_out (N := 4096) (w := 512) (m := 128) (o := 512 * b) s.dv (rows_inb hb) _ j r hj

theorem Before.full (W : Rows w q d δ l) (hk : ∀ j a, k (ix2 j a) = ((K j a : ℝ) : EReal)) (hn : n < 64) (hb : 512 * b + 512 ≤ 4096)
    {s : Acc Ideal} (B : Before q d δ l K n k0 v0 (512 * b) s) :
    Before q d δ l K n k0 v0 (512 * b + 512) (fullAt w k (BitVec.ofNat 32 n) (Scalar.muli (BitVec.ofNat 32 b) 512#32) b s) := by
  unfold fullAt
  rw [dif_pos hb]
  have hk1 : ∀ (c : Fin 512) a, View.ld k (Rect.unit (s := S4096x256) ![512 * b, 0] S512x256.size (rows_inb hb)) (ix2 c a)
      = ((K ⟨512 * b + c.val, by omega⟩ a : ℝ) : EReal) := fun c a => (ld_rows (N := 4096) (w := 512) (m := 256) (o := 512 * b) k (rows_inb hb) c a).trans (hk _ a)
  refine Before.step hb B ?_ ?_ ?_ ?_ ?_
  · intro ρ a x hx
    exact dq_full W hn hb hk1 s.dq x ρ a hx
  · intro c a x hx
    unfold Cert.Proof.KernelIdeal.full
    dsimp only
    exact (overlay_rows_in (N := 4096) (w := 512) (m := 256) (o := 512 * b) s.dk (rows_inb hb) _ _ a c rfl).trans
      (dk_full W hn hb hk1 _ x c a ((ld_rows (N := 4096) (w := 512) (m := 256) (o := 512 * b) s.dk (rows_inb hb) c a).trans hx))
  · intro j a hj
    unfold Cert.Proof.KernelIdeal.full
    dsimp only
    exact overlay_rows_out (N := 4096) (w := 512) (m := 256) (o := 512 * b) s.dk (rows_inb hb) _ j a hj
  · intro c r x hx
    unfold Cert.Proof.KernelIdeal.full
    dsimp only
    exact (overlay_rows_in (N := 4096) (w := 512) (m := 128) (o := 512 * b) s.dv (rows_inb hb) _ _ r c rfl).trans
      (dv_full W hn hb hk1 _ x c r ((ld_rows (N := 4096) (w := 512) (m := 128) (o := 512 * b) s.dv (rows_inb hb) c r).trans hx))
  · intro j r hj
    unfold Cert.Proof.KernelIdeal.full
    dsimp only
    exact overlay_rows_out (N := 4096) (w := 512) (m := 128) (o := 512 * b) s.dv (rows_inb hb) _ j r hj

theorem Before.half (W : Rows w q d δ l) (hk : ∀ j a, k (ix2 j a) = ((K j a : ℝ) : EReal)) (hn : n < 64) (hb : 512 * b + 256 ≤ 4096)
    {s : Acc Ideal} (B : Before q d δ l K n k0 v0 (512 * b) s) :
    Before q d δ l K n k0 v0 (512 * b + 256) (halfAt w k (BitVec.ofNat 32 n) (Scalar.muli (BitVec.ofNat 32 b) 512#32) b s) := by
  unfold halfAt
  rw [dif_pos hb]
  have hk1 : ∀ (c : Fin 256) a, View.ld k (Rect.unit (s := S4096x256) ![512 * b, 0] S256x256.size (rows_inb hb)) (ix2 c a)
      = ((K ⟨512 * b + c.val, by omega⟩ a : ℝ) : EReal) := fun c a => (ld_rows (N := 4096) (w := 256) (m := 256) (o := 512 * b) k (rows_inb hb) c a).trans (hk _ a)
  refine Before.step hb B ?_ ?_ ?_ ?_ ?_
  · intro ρ a x hx
    exact dq_half W hn hb hk1 s.dq x ρ a hx
  · intro c a x hx
    unfold Cert.Proof.KernelIdeal.half
    dsimp only
    exact (overlay_rows_in (N := 4096) (w := 256) (m := 256) (o := 512 * b) s.dk (rows_inb hb) _ _ a c rfl).trans
      (dk_half W hn hb hk1 _ x c a ((ld_rows (N := 4096) (w := 256) (m := 256) (o := 512 * b) s.dk (rows_inb hb) c a).trans hx))
  · intro j a hj
    unfold Cert.Proof.KernelIdeal.half
    dsimp only
    exact overlay_rows_out (N := 4096) (w := 256) (m := 256) (o := 512 * b) s.dk (rows_inb hb) _ j a hj
  · intro c r x hx
    unfold Cert.Proof.KernelIdeal.half
    dsimp only
    exact (overlay_rows_in (N := 4096) (w := 256) (m := 128) (o := 512 * b) s.dv (rows_inb hb) _ _ r c rfl).trans
      (dv_half W hn hb hk1 _ x c r ((ld_rows (N := 4096) (w := 256) (m := 128) (o := 512 * b) s.dv (rows_inb hb) c r).trans hx))
  · intro j r hj
    unfold Cert.Proof.KernelIdeal.half
    dsimp only
    exact overlay_rows_out (N := 4096) (w := 256) (m := 128) (o := 512 * b) s.dv (rows_inb hb) _ j r hj

/-! ### A point -/

theorem Before.blocks (W : Rows w q d δ l) (hk : ∀ j a, k (ix2 j a) = ((K j a : ℝ) : EReal)) {s : Acc Ideal}
    (B : Before q d δ l K n k0 v0 0 s) : ∀ b : ℕ, 8 * b ≤ n → n < 64 →
      Before q d δ l K n k0 v0 (512 * b) (Cert.Proof.KernelIdeal.blocks w k b s)
  | 0, _, _ => B
  | b + 1, h, hn => Before.whole W hk (by omega) (by omega) (Before.blocks W hk B b (by omega) hn)

theorem Before.tail (W : Rows w q d δ l) (hk : ∀ j a, k (ix2 j a) = ((K j a : ℝ) : EReal)) (hn : n < 64) {s : Acc Ideal}
    (B : Before q d δ l K n k0 v0 (512 * (n / 8)) s) :
    ∃ m, 64 * n + 64 ≤ m ∧ Before q d δ l K n k0 v0 m (Cert.Proof.KernelIdeal.tail w k n s) := by
  unfold Cert.Proof.KernelIdeal.tail
  split
  · exact ⟨_, by omega, Before.half W hk hn (by omega) B⟩
  · exact ⟨_, by omega, Before.full W hk hn (by omega) B⟩

/-- A point's query gradient and what it adds to the gradients of keys and values. -/
structure After (q : Fin 1024 → Fin 256 → ℝ) (d : Fin 1024 → Fin 128 → ℝ) (δ l : Fin 1024 → ℝ) (K : Fin 4096 → Fin 256 → ℝ) (n : ℕ)
    (k0 : Fin 4096 → Fin 256 → ℝ) (v0 : Fin 4096 → Fin 128 → ℝ) (s : Acc Ideal) : Prop where
  dq : ∀ ρ a, s.dq (ix2 ρ a) = ((∑ j, gs q d δ l K n ρ j * K j a : ℝ) : EReal)
  dk : ∀ j a, s.dk (ix2 j a) = ((k0 j a + ∑ ρ, gs q d δ l K n ρ j * q ρ a : ℝ) : EReal)
  dv : ∀ j r, s.dv (ix2 j r) = ((v0 j r + ∑ ρ, wt q l K n ρ j * d ρ r : ℝ) : EReal)

theorem Before.after {m : ℕ} (hm : 64 * n + 64 ≤ m) {s : Acc Ideal} (B : Before q d δ l K n k0 v0 m s) :
    After q d δ l K n k0 v0 s where
  dq ρ a := by
    rw [B.dq ρ a, upto_late]
    intro j hj
    rw [gs_late q d δ l K n (by omega), zero_mul]
  dk j a := by
    rw [B.dk j a]
    by_cases hj : j.val < m
    · rw [if_pos hj]
    · rw [if_neg hj, Finset.sum_eq_zero]
      intro ρ _
      rw [gs_late q d δ l K n (by omega), zero_mul]
  dv j r := by
    rw [B.dv j r]
    by_cases hj : j.val < m
    · rw [if_pos hj]
    · rw [if_neg hj, Finset.sum_eq_zero]
      intro ρ _
      rw [wt_late q l K n (by omega), zero_mul]

theorem dq_zero (ρ : Fin 1024) (a : Fin 256) : k0_pay52 (F := Ideal) (ix2 ρ a) = 0 := by pointwise [k0_pay52]
theorem dk_zero (j : Fin 4096) (a : Fin 256) : k0_pay46 (F := Ideal) (ix2 j a) = 0 := by pointwise [k0_pay46]
theorem dv_zero (j : Fin 4096) (r : Fin 128) : k0_pay47 (F := Ideal) (ix2 j r) = 0 := by pointwise [k0_pay47]

/-- What point `n` makes of the keys' and values' gradients; the first point starts both from zero. -/
theorem point_after (W : Rows w q d δ l) (hk : ∀ j a, k (ix2 j a) = ((K j a : ℝ) : EReal)) (hn : n < 64)
    {dk : Vec Ideal S4096x256 .f32} {dv : Vec Ideal S4096x128 .f32}
    (h0 : n = 0 → (∀ j a, k0 j a = 0) ∧ ∀ j r, v0 j r = 0)
    (h1 : n ≠ 0 → (∀ j a, dk (ix2 j a) = ((k0 j a : ℝ) : EReal)) ∧ ∀ j r, dv (ix2 j r) = ((v0 j r : ℝ) : EReal)) :
    After q d δ l K n k0 v0 (point w k n dk dv) := by
  have B0 : Before q d δ l K n k0 v0 0 (start n dk dv) := by
    unfold start
    by_cases h : n = 0
    · rw [if_pos h]
      obtain ⟨ha, hb⟩ := h0 h
      exact ⟨fun ρ a => by rw [upto_zero]; exact dq_zero ρ a,
        fun j a => by rw [ha, if_neg (Nat.not_lt_zero _), add_zero]; exact dk_zero j a,
        fun j r => by rw [hb, if_neg (Nat.not_lt_zero _), add_zero]; exact dv_zero j r⟩
    · rw [if_neg h]
      obtain ⟨ha, hb⟩ := h1 h
      exact ⟨fun ρ a => by rw [upto_zero]; exact dq_zero ρ a,
        fun j a => by rw [if_neg (Nat.not_lt_zero _), add_zero]; exact ha j a,
        fun j r => by rw [if_neg (Nat.not_lt_zero _), add_zero]; exact hb j r⟩
  obtain ⟨m, hm, B⟩ := Before.tail W hk hn (Before.blocks W hk B0 (n / 8) (by omega) hn)
  exact B.after hm

end invariant

end Cert.Proof.KernelIdeal
-- ==== Proof.KernelIdeal.Total.lean ====
/-
  The call's results over the reals: from real arrays at its entry (queries, keys, outputs and their gradients, log-sum-exps), the
  three arrays that it leaves hold the gradients of queries, keys and values.
-/
module

public import proofs.«01_k».proof.Proof.KernelIdeal.Sums
public import proofs.«01_k».proof.Proof.KernelIdeal.Run
public import Idealize.ShloMosaic.Lib.Pipeline.ValueKit

@[expose] public section

noncomputable section

namespace Cert.Proof.KernelIdeal

open Cert.KernelIdeal Cert.KernelIdeal.Gen Cert.Proof.Math
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem index_eq : ∀ t : Fin cfg0.N, (cfg0.win 0).index t = ![0, t.val, 0] ∧ (cfg0.win 1).index t = ![0, 0] ∧ (cfg0.win 2).index t = ![0, t.val, 0]
    ∧ (cfg0.win 3).index t = ![0, t.val, 0] ∧ (cfg0.win 4).index t = ![0, t.val, 0] ∧ (cfg0.win 5).index t = ![0, t.val, 0] := by decide +kernel

theorem iblk_q (t : Fin cfg0.N) (h : Fin 16) (i : Fin 64) (a : Fin 256) :
    iblk m c 0 t (ix3 h i a) = V m c main_v34 (ix3 h ⟨64 * t.val + i.val, by have := lt_of_lt_of_eq t.isLt N_0; omega⟩ a) := by
  blk_ext [iblk, (index_eq t).1]

theorem iblk_k (t : Fin cfg0.N) (j : Fin 4096) (a : Fin 256) :
    iblk m c 1 t (ix2 j a) = V m c main_v36 (ix2 j a) := by
  blk_ext [iblk, (index_eq t).2.1]

theorem iblk_o (t : Fin cfg0.N) (h : Fin 16) (i : Fin 64) (r : Fin 128) :
    iblk m c 2 t (ix3 h i r) = V m c main_v52 (ix3 h ⟨64 * t.val + i.val, by have := lt_of_lt_of_eq t.isLt N_0; omega⟩ r) := by
  blk_ext [iblk, (index_eq t).2.2.1]

theorem iblk_d (t : Fin cfg0.N) (h : Fin 16) (i : Fin 64) (r : Fin 128) :
    iblk m c 3 t (ix3 h i r) = V m c main_arg4 (ix3 h ⟨64 * t.val + i.val, by have := lt_of_lt_of_eq t.isLt N_0; omega⟩ r) := by
  blk_ext [iblk, (index_eq t).2.2.2.1]

theorem iblk_l (t : Fin cfg0.N) (h : Fin 16) (i : Fin 64) (r : Fin 128) :
    iblk m c 4 t (ix3 h i r) = V m c main_v53 (ix3 h ⟨64 * t.val + i.val, by have := lt_of_lt_of_eq t.isLt N_0; omega⟩ r) := by
  blk_ext [iblk, (index_eq t).2.2.2.2.1]

/-! ### A point's vectors from its blocks -/

theorem pay48_apply (x : Vec Ideal S16x64x256 .bf16) (ρ : Fin 1024) (a : Fin 256) :
    k0_pay48 x (ix2 ρ a) = x (ix3 ⟨ρ.val / 64, by omega⟩ ⟨ρ.val % 64, by omega⟩ a) := by
  pointwise [k0_pay48]

theorem pay49_apply (x : Vec Ideal S16x64x128 .bf16) (ρ : Fin 1024) (r : Fin 128) :
    k0_pay49 x (ix2 ρ r) = x (ix3 ⟨ρ.val / 64, by omega⟩ ⟨ρ.val % 64, by omega⟩ r) := by
  pointwise [k0_pay49]

theorem pay50_apply (x o : Vec Ideal S16x64x128 .bf16) (ρ : Fin 1024) (k : Fin 512) :
    k0_pay50 x o (ix2 ρ k) = ∑ r : Fin 128, x (ix3 ⟨ρ.val / 64, by omega⟩ ⟨ρ.val % 64, by omega⟩ r)
      * o (ix3 ⟨ρ.val / 64, by omega⟩ ⟨ρ.val % 64, by omega⟩ r) := by
  pointwise [k0_pay50, k0_pay49]
  split
  · rfl
  split
  · rfl
  split <;> rfl

theorem pay51_apply (x : Vec Ideal S16x64x128 .f32) (v : EReal) (ρ : Fin 1024)
    (hx : ∀ r : Fin 128, x (ix3 ⟨ρ.val / 64, by omega⟩ ⟨ρ.val % 64, by omega⟩ r) = v) (k : Fin 512) :
    k0_pay51 x (ix2 ρ k) = v := by
  pointwise [k0_pay51]
  split
  · exact hx _
  split
  · exact hx _
  split <;> exact hx _

theorem pay8_apply (x : Vec Ideal S1024x256 .f32) (h : Fin 16) (i : Fin 64) (a : Fin 256) :
    k0_pay8 x (ix3 h i a) = x (ix2 ⟨h.val * 64 + i.val, by omega⟩ a) := by
  pointwise [k0_pay8]

/-! ### The whole run -/

variable (Q : Fin 16 → Fin 4096 → Fin 256 → ℝ) (K : Fin 4096 → Fin 256 → ℝ) (D : Fin 16 → Fin 4096 → Fin 128 → ℝ)
  (M : Fin 16 → Fin 4096 → ℝ)

/-- The call's five arrays hold the queries, the keys, the attention's outputs, their gradients and the log-sum-exps. -/
structure Entry : Prop where
  q : ∀ h i a, V m c main_v34 (ix3 h i a) = ((Q h i a : ℝ) : EReal)
  k : ∀ j a, V m c main_v36 (ix2 j a) = ((K j a : ℝ) : EReal)
  o : ∀ h i r, V m c main_v52 (ix3 h i r) = ((O Q K M h i r : ℝ) : EReal)
  d : ∀ h i r, V m c main_arg4 (ix3 h i r) = ((D h i r : ℝ) : EReal)
  l : ∀ h i (r : Fin 128), V m c main_v53 (ix3 h i r) = ((lse Q K M h i : ℝ) : EReal)

variable {m c Q K D M}

/-- A query of point `n`. -/
def at_ (n : ℕ) (hn : n < 64) (i : Fin 64) : Fin 4096 := ⟨64 * n + i.val, by omega⟩

theorem rows_of {n : ℕ} (hn : n < 64) {q : Vec Ideal S16x64x256 .bf16} {o d : Vec Ideal S16x64x128 .bf16} {l : Vec Ideal S16x64x128 .f32}
    (hq : ∀ h i a, q (ix3 h i a) = ((Q h (at_ n hn i) a : ℝ) : EReal))
    (ho : ∀ h i r, o (ix3 h i r) = ((O Q K M h (at_ n hn i) r : ℝ) : EReal))
    (hd : ∀ h i r, d (ix3 h i r) = ((D h (at_ n hn i) r : ℝ) : EReal))
    (hl : ∀ h i (r : Fin 128), l (ix3 h i r) = ((lse Q K M h (at_ n hn i) : ℝ) : EReal)) :
    Rows (fixedOf q o d l) (rowQ Q n hn) (rowD D n hn) (rowDelta Q K D M n hn) (rowLse Q K M n hn) := by
  unfold fixedOf
  refine ⟨fun ρ a => ?_, fun ρ r => ?_, fun ρ k => ?_, fun ρ k => ?_⟩
  · dsimp only
    rw [pay48_apply, hq]
    rfl
  · dsimp only
    rw [pay49_apply, hd]
    rfl
  · dsimp only
    rw [pay50_apply]
    simp only [hd, ho, ← EReal.coe_mul, ← coe_sum]
    rfl
  · dsimp only
    rw [pay51_apply l _ ρ (fun r => hl _ _ r) k]
    rfl

theorem rows_at (E : Entry m c Q K D M) (n : ℕ) (hn : n < 64) :
    Rows (fixedAt m c (pt n)) (rowQ Q n hn) (rowD D n hn) (rowDelta Q K D M n hn) (rowLse Q K M n hn) := by
  have hp : (pt n).val = n := Nat.mod_eq_of_lt hn
  have e : ∀ i : Fin 64, (⟨64 * (pt n).val + i.val, by omega⟩ : Fin 4096) = at_ n hn i := fun i =>
    Fin.ext (congrArg (fun k => 64 * k + i.val) hp)
  unfold fixedAt
  refine rows_of hn (fun h i a => ?_) (fun h i r => ?_) (fun h i r => ?_) (fun h i r => ?_)
  · rw [iblk_q, e, E.q]
  · rw [iblk_o, e, E.o]
  · rw [iblk_d, e, E.d]
  · rw [iblk_l, e, E.l]

/-- What the points before `n` add to the keys' gradient, and to the values'. -/
def partK (Q : Fin 16 → Fin 4096 → Fin 256 → ℝ) (K : Fin 4096 → Fin 256 → ℝ) (D : Fin 16 → Fin 4096 → Fin 128 → ℝ)
    (M : Fin 16 → Fin 4096 → ℝ) (n : ℕ) (j : Fin 4096) (a : Fin 256) : ℝ :=
  ∑ n' ∈ Finset.range n, if h : n' < 64 then
    ∑ ρ, dS Q K D M (head ρ) (query n' h ρ) j * Q (head ρ) (query n' h ρ) a else 0

def partV (Q : Fin 16 → Fin 4096 → Fin 256 → ℝ) (K : Fin 4096 → Fin 256 → ℝ) (D : Fin 16 → Fin 4096 → Fin 128 → ℝ)
    (M : Fin 16 → Fin 4096 → ℝ) (n : ℕ) (j : Fin 4096) (r : Fin 128) : ℝ :=
  ∑ n' ∈ Finset.range n, if h : n' < 64 then
    ∑ ρ, P Q K M (head ρ) (query n' h ρ) j * D (head ρ) (query n' h ρ) r else 0

theorem partK_all (j : Fin 4096) (a : Fin 256) : partK Q K D M 64 j a = dK Q K D M j a := by
  unfold partK dK
  rw [Finset.sum_range, ← sum_rows]
  exact Finset.sum_congr rfl fun n _ => dif_pos n.isLt

theorem partV_all (j : Fin 4096) (r : Fin 128) : partV Q K D M 64 j r = dV Q K D M j r := by
  unfold partV dV
  rw [Finset.sum_range, ← sum_rows]
  exact Finset.sum_congr rfl fun n _ => dif_pos n.isLt

/-- The accumulators after point `n`: its rows' query gradients, and what the points up to it add. -/
structure Upto (Q : Fin 16 → Fin 4096 → Fin 256 → ℝ) (K : Fin 4096 → Fin 256 → ℝ) (D : Fin 16 → Fin 4096 → Fin 128 → ℝ)
    (M : Fin 16 → Fin 4096 → ℝ) (n : ℕ) (hn : n < 64) (s : Acc Ideal) : Prop where
  dq : ∀ ρ a, s.dq (ix2 ρ a) = ((dQ Q K D M (head ρ) (query n hn ρ) a : ℝ) : EReal)
  dk : ∀ j a, s.dk (ix2 j a) = ((partK Q K D M (n + 1) j a : ℝ) : EReal)
  dv : ∀ j r, s.dv (ix2 j r) = ((partV Q K D M (n + 1) j r : ℝ) : EReal)

theorem After.upto {n : ℕ} (hn : n < 64) {s : Acc Ideal}
    (A : After (rowQ Q n hn) (rowD D n hn) (rowDelta Q K D M n hn) (rowLse Q K M n hn) K n (partK Q K D M n) (partV Q K D M n) s) :
    Upto Q K D M n hn s where
  dq ρ a := by
    rw [A.dq ρ a]
    simp only [gs_eq]
    rfl
  dk j a := by
    rw [A.dk j a]
    simp only [gs_eq]
    unfold partK
    rw [Finset.sum_range_succ, dif_pos hn]
    rfl
  dv j r := by
    rw [A.dv j r]
    simp only [wt_eq]
    unfold partV
    rw [Finset.sum_range_succ, dif_pos hn]
    rfl

theorem keys_at (E : Entry m c Q K D M) (t : Fin cfg0.N) (j : Fin 4096) (a : Fin 256) :
    iblk m c 1 t (ix2 j a) = ((K j a : ℝ) : EReal) := (iblk_k m c t j a).trans (E.k j a)

theorem accAfter_upto (E : Entry m c Q K D M) : ∀ (n : ℕ) (hn : n < 64), Upto Q K D M n hn (accAfter m c n)
  | 0, hn => by
    rw [accAfter]
    refine After.upto hn (point_after (rows_at E 0 hn) (keys_at E (pt 0)) hn (fun _ => ⟨fun j a => ?_, fun j r => ?_⟩) fun h => absurd rfl h)
    · unfold partK; rw [Finset.range_zero, Finset.sum_empty]
    · unfold partV; rw [Finset.range_zero, Finset.sum_empty]
  | n + 1, hn => by
    have ih := accAfter_upto E n (by omega)
    rw [accAfter]
    exact After.upto hn (point_after (rows_at E (n + 1) hn) (keys_at E (pt (n + 1))) hn (fun h => absurd h (Nat.succ_ne_zero n)) fun _ => ⟨ih.dk, ih.dv⟩)

/-! ### The three arrays -/

theorem out_dq (E : Entry m c Q K D M) :
    (dats m 0 c).arrAt 5 (cfgs 0).N = fun y : S16x4096x256.Idx => ((dQ Q K D M (y 0) (y 1) (y 2) : ℝ) : EReal) := by
  refine (dats m 0 c).arrAt_eq_of_covers 5 _ (by decide +kernel) fun t hf y => ?_
  have ht : t.val < 64 := lt_of_lt_of_eq t.isLt N_0
  blk_simp
  rw [after_5]
  idx_vars y
  rw [pay8_apply, (accAfter_upto E t.val ht).dq]
  refine congrArg (fun x : ℝ => (x : EReal)) (congr (congr (congrArg (dQ Q K D M) (Fin.ext ?_)) (Fin.ext ?_)) (Fin.ext ?_))
  · blk_simp [(index_eq t).2.2.2.2.2]
    simp only [head]
    omega
  · blk_simp [(index_eq t).2.2.2.2.2]
    simp only [query]
    omega
  · blk_simp [(index_eq t).2.2.2.2.2]

theorem out_dk (E : Entry m c Q K D M) :
    (dats m 0 c).arrAt 6 (cfgs 0).N = fun y : S4096x256.Idx => ((dK Q K D M (y 0) (y 1) : ℝ) : EReal) := by
  refine (dats m 0 c).arrAt_eq_of_after_last 6 (pt 63) (by decide +kernel) _ fun y => ?_
  blk_simp
  rw [after_6]
  idx_vars y
  rw [← partK_all]
  exact (accAfter_upto E 63 (by decide)).dk _ _

theorem out_dv (E : Entry m c Q K D M) :
    (dats m 0 c).arrAt 7 (cfgs 0).N = fun y : S4096x128.Idx => ((dV Q K D M (y 0) (y 1) : ℝ) : EReal) := by
  refine (dats m 0 c).arrAt_eq_of_after_last 7 (pt 63) (by decide +kernel) _ fun y => ?_
  blk_simp
  rw [after_7]
  idx_vars y
  rw [← partV_all]
  exact (accAfter_upto E 63 (by decide)).dv _ _

end Cert.Proof.KernelIdeal
-- ==== Proof.Reference.Gradients.lean ====
/-
  The reference's results over the reals: the gradients of queries, keys and values, from real inputs.
-/
module

public import proofs.«01_k».proof.Proof.Reference.Scores

@[expose] public section

noncomputable section

namespace Cert.Proof.Reference

open Cert.ReferenceIdeal Cert.ReferenceIdeal.Gen Cert.ReferenceIdeal.Read Cert.Proof.Math
open Idealize.ShloMosaic Idealize.ShloMosaic.Tactic

/-! ### Products over heads and queries, and arrays side by side, at an index -/

theorem dot_keys (a : FVec Ideal S16x4096x4096 .f32) (b : FVec Ideal S16x4096x128 .f32) (j : Fin 4096) (r : Fin 128) :
    Host.dotGeneral dot_S16x4096x4096_S16x4096x128_S4096x128_01_01_2_2_n_n none a b (ix2 j r)
      = ∑ h, ∑ i, a (ix3 h i j) * b (ix3 h i r) := by
  pointwise

theorem dot_ropes (a : FVec Ideal S16x4096x4096 .f32) (b : FVec Ideal S16x4096x64 .f32) (j : Fin 4096) (r : Fin 64) :
    Host.dotGeneral dot_S16x4096x4096_S16x4096x64_S4096x64_01_01_2_2_n_n none a b (ix2 j r)
      = ∑ h, ∑ i, a (ix3 h i j) * b (ix3 h i r) := by
  pointwise

theorem dot_values (a : FVec Ideal S16x4096x128 .f32) (b : FVec Ideal S16x4096x4096 .f32) (r : Fin 128) (j : Fin 4096) :
    Host.dotGeneral dot_S16x4096x128_S16x4096x4096_S128x4096_01_01_2_2_n_n none a b (ix2 r j)
      = ∑ h, ∑ i, a (ix3 h i r) * b (ix3 h i j) := by
  pointwise

theorem side_queries (a : FVec Ideal S16x4096x128 .bf16) (b c : FVec Ideal S16x4096x64 .bf16) (h : Fin 16) (i : Fin 4096)
    (r : Fin 256) :
    concatenate S16x4096x256 2 [⟨S16x4096x128, a⟩, ⟨S16x4096x64, b⟩, ⟨S16x4096x64, c⟩]
        concatenates_S16x4096x128_S16x4096x64_S16x4096x64_S16x4096x256_d2 (ix3 h i r)
      = if h1 : r.val < 128 then a (ix3 h i ⟨r.val, h1⟩)
        else if h2 : r.val - 128 < 64 then b (ix3 h i ⟨r.val - 128, h2⟩)
        else c (ix3 h i ⟨r.val - 128 - 64, by omega⟩) := by
  pointwise

theorem side_keys (a : FVec Ideal S4096x128 .bf16) (b c : FVec Ideal S4096x64 .bf16) (j : Fin 4096) (r : Fin 256) :
    concatenate S4096x256 1 [⟨S4096x128, a⟩, ⟨S4096x64, b⟩, ⟨S4096x64, c⟩]
        concatenates_S4096x128_S4096x64_S4096x64_S4096x256_d1 (ix2 j r)
      = if h1 : r.val < 128 then a (ix2 j ⟨r.val, h1⟩)
        else if h2 : r.val - 128 < 64 then b (ix2 j ⟨r.val - 128, h2⟩)
        else c (ix2 j ⟨r.val - 128 - 64, by omega⟩) := by
  pointwise

section values

variable {x0 : (⟨S16x4096x128, .bf16⟩ : BufTy).Contents (Elt Ideal)} {x1 : (⟨S16x4096x64, .bf16⟩ : BufTy).Contents (Elt Ideal)}
  {x2 : (⟨S4096x128, .bf16⟩ : BufTy).Contents (Elt Ideal)} {x3 : (⟨S4096x64, .bf16⟩ : BufTy).Contents (Elt Ideal)}
  {x4 : (⟨S16x4096x128, .bf16⟩ : BufTy).Contents (Elt Ideal)} {Q : Fin 16 → Fin 4096 → Fin 256 → ℝ}
  {K : Fin 4096 → Fin 256 → ℝ} {D : Fin 16 → Fin 4096 → Fin 128 → ℝ} (E : Inputs x0 x1 x2 x3 x4 Q K D)

include E in
theorem v60_eq (i : S16x4096x4096.Idx) :
    val_main_v60 (F := Ideal) x2 x4 i = ((dP K D (i 0) (i 1) (i 2) : ℝ) : EReal) := by
  rw [val_main_v60_apply, val_main_v59_apply, Ideal.extf_def, Ideal.truncf_def, val_main_v57_apply]
  unfold dP
  rw [coe_sum]
  refine Finset.sum_congr rfl fun k _ => ?_
  rw [val_main_v54_apply, val_main_v51_apply, Ideal.extf_def, Ideal.extf_def, E.d, E.kl, ← EReal.coe_mul]
  rfl

include E in
theorem v63_eq (i : S16x4096x4096.Idx) :
    val_main_v63 (F := Ideal) x0 x1 x2 x3 x4 i
      = ((dP K D (i 0) (i 1) (i 2) * (1 / (S Q K (rowMax x0 x1 x2 x3) (i 0) (i 1) * S Q K (rowMax x0 x1 x2 x3) (i 0) (i 1)))
          * e Q K (rowMax x0 x1 x2 x3) (i 0) (i 1) (i 2) : ℝ) : EReal) := by
  rw [val_main_v63_apply, val_main_v62_apply, val_main_v61_apply, v60_eq E, v48_eq E, v41_eq E, Ideal.mulf_def, Ideal.mulf_def,
    ← EReal.coe_mul, ← EReal.coe_mul]
  rfl

/-- A row's product of the weights' gradients with the exponentials over the square of their sum. -/
def rowDot (Q : Fin 16 → Fin 4096 → Fin 256 → ℝ) (K : Fin 4096 → Fin 256 → ℝ) (D : Fin 16 → Fin 4096 → Fin 128 → ℝ)
    (M : Fin 16 → Fin 4096 → ℝ) (h : Fin 16) (i : Fin 4096) : ℝ :=
  ∑ j, dP K D h i j * (1 / (S Q K M h i * S Q K M h i)) * e Q K M h i j

include E in
theorem v64_eq (i : S16x4096.Idx) :
    val_main_v64 (F := Ideal) x0 x1 x2 x3 x4 i = ((rowDot Q K D (rowMax x0 x1 x2 x3) (i 0) (i 1) : ℝ) : EReal) := by
  rw [val_main_v64_apply]
  refine (congrArg₂ (· + ·) lit_zero (Finset.sum_congr rfl fun k _ => v63_eq E (idx_main_v64 i k))).trans ?_
  rw [← coe_sum, ← EReal.coe_add, zero_add]
  rfl

include E in
theorem v66_eq (i : S16x4096x1.Idx) :
    val_main_v66 (F := Ideal) x0 x1 x2 x3 x4 i = ((-rowDot Q K D (rowMax x0 x1 x2 x3) (i 0) (i 1) : ℝ) : EReal) := by
  have h0 : (i 0).val < 16 := (i 0).isLt
  have h1 : (i 1).val < 4096 := (i 1).isLt
  have h2 : (i 2).val < 1 := (i 2).isLt
  have e0 : idx_main_v65 i 0 = i 0 := Fin.ext (by
    change (((i 0).val * 4096 + (i 1).val) * 1 + (i 2).val) / 4096 = (i 0).val; omega)
  have e1 : idx_main_v65 i 1 = i 1 := Fin.ext (by
    change (((i 0).val * 4096 + (i 1).val) * 1 + (i 2).val) % 4096 = (i 1).val; omega)
  rw [val_main_v66_apply, val_main_v65_apply, v64_eq E, Ideal.hostNegf_def, Ideal.negf_def, ← EReal.coe_neg]
  exact congrArg₂ (fun a b => ((-rowDot Q K D (rowMax x0 x1 x2 x3) a b : ℝ) : EReal)) e0 e1

include E in
theorem v69_eq (i : S16x4096.Idx) :
    val_main_v69 (F := Ideal) x0 x1 x2 x3 x4 i = ((-rowDot Q K D (rowMax x0 x1 x2 x3) (i 0) (i 1) : ℝ) : EReal) := by
  rw [val_main_v69_apply]
  refine (congrArg₂ (· + ·) lit_zero (Finset.sum_congr rfl fun k _ => v66_eq E (idx_main_v69 i k))).trans ?_
  rw [← coe_sum, ← EReal.coe_add, zero_add, Fin.sum_univ_one]
  rfl

include E in
theorem v72_eq (i : S16x4096x4096.Idx) :
    val_main_v72 (F := Ideal) x0 x1 x2 x3 x4 i
      = (((dP K D (i 0) (i 1) (i 2) * (1 / S Q K (rowMax x0 x1 x2 x3) (i 0) (i 1))
            + -rowDot Q K D (rowMax x0 x1 x2 x3) (i 0) (i 1)) * e Q K (rowMax x0 x1 x2 x3) (i 0) (i 1) (i 2) : ℝ) : EReal) := by
  have hS : (S Q K (rowMax x0 x1 x2 x3) (i 0) (i 1) : ℝ) ≠ 0 := (S_pos Q K (rowMax x0 x1 x2 x3) (i 0) (i 1)).ne'
  have h68 : val_main_v68 (F := Ideal) x0 x1 x2 x3 x4 i
      = ((dP K D (i 0) (i 1) (i 2) * (1 / S Q K (rowMax x0 x1 x2 x3) (i 0) (i 1)) : ℝ) : EReal) := by
    rw [val_main_v68_apply, val_main_v67_apply, v43_eq E, v60_eq E, Ideal.hostDivf_def]
    refine (Ideal.div_coe hS _).trans ?_
    rw [← EReal.coe_mul]
  rw [val_main_v72_apply, val_main_v71_apply, val_main_v70_apply, h68, v69_eq E, v41_eq E, Ideal.mulf_def, Ideal.addf_def,
    ← EReal.coe_add, ← EReal.coe_mul]
  rfl

include E in
/-- The gradient of a query's product with a key. -/
theorem v75_eq (i : S16x4096x4096.Idx) :
    val_main_v75 (F := Ideal) x0 x1 x2 x3 x4 i = ((dS Q K D (rowMax x0 x1 x2 x3) (i 0) (i 1) (i 2) : ℝ) : EReal) := by
  have h73 : val_main_v73 (F := Ideal) x0 x1 x2 x3 x4 i
      = (((dP K D (i 0) (i 1) (i 2) * (1 / S Q K (rowMax x0 x1 x2 x3) (i 0) (i 1))
            + -rowDot Q K D (rowMax x0 x1 x2 x3) (i 0) (i 1)) * e Q K (rowMax x0 x1 x2 x3) (i 0) (i 1) (i 2) : ℝ) : EReal) := by
    rw [val_main_v73_apply, v72_eq E]
    unfold Scalar.select
    by_cases h : (i 2).val / 64 ≤ (i 1).val / 64
    · exact if_pos ((mask_iff i).2 h)
    · refine (if_neg fun h' => h ((mask_iff i).1 h')).trans ?_
      rw [val_main_call2_v0_apply]
      have he : e Q K (rowMax x0 x1 x2 x3) (i 0) (i 1) (i 2) = 0 := if_neg h
      exact lit_zero.trans (congrArg (fun y : ℝ => (y : EReal)) (mul_eq_zero_of_right _ he).symm)
  rw [val_main_v75_apply, val_main_v74_apply, v10_eq, h73, Ideal.hostDivf_def, Ideal.div_coe root_ne, ← EReal.coe_mul, one_div (Real.sqrt 192)]
  exact congrArg (fun y : ℝ => (y : EReal)) (dS_softmax Q K D (rowMax x0 x1 x2 x3) (i 0) (i 1) (i 2)).symm

include E in
theorem v77_eq (i : S16x4096x4096.Idx) :
    val_main_v77 (F := Ideal) x0 x1 x2 x3 x4 i = ((dS Q K D (rowMax x0 x1 x2 x3) (i 0) (i 1) (i 2) : ℝ) : EReal) := by
  rw [val_main_v77_apply, val_main_v76_apply, Ideal.extf_def, Ideal.truncf_def, v75_eq E]

include E in
theorem v80_eq (i : S16x4096x4096.Idx) :
    val_main_v80 (F := Ideal) x0 x1 x2 x3 x4 i = ((dS Q K D (rowMax x0 x1 x2 x3) (i 0) (i 1) (i 2) : ℝ) : EReal) := by
  rw [val_main_v80_apply, val_main_v76_apply, Ideal.extf_def, Ideal.truncf_def, v75_eq E]

/-! ### The results -/

include E in
theorem v86_eq (i : S16x4096x128.Idx) :
    val_main_v86 (F := Ideal) x0 x1 x2 x3 x4 i = ((dQ Q K D (rowMax x0 x1 x2 x3) (i 0) (i 1) (up (i 2)) : ℝ) : EReal) := by
  rw [val_main_v86_apply, Ideal.truncf_def, val_main_v82_apply]
  unfold dQ
  rw [coe_sum]
  refine Finset.sum_congr rfl fun k _ => ?_
  rw [v80_eq E, val_main_v2_apply, Ideal.extf_def, E.kl, ← EReal.coe_mul]
  rfl

include E in
theorem v85_eq (i : S16x4096x64.Idx) :
    val_main_v85 (F := Ideal) x0 x1 x2 x3 x4 i = ((dQ Q K D (rowMax x0 x1 x2 x3) (i 0) (i 1) (mid (i 2)) : ℝ) : EReal) := by
  rw [val_main_v85_apply, Ideal.truncf_def, val_main_v79_apply]
  unfold dQ
  rw [coe_sum]
  refine Finset.sum_congr rfl fun k _ => ?_
  rw [v77_eq E, val_main_v3_apply, Ideal.extf_def, E.kr, ← EReal.coe_mul]
  rfl

include E in
theorem v84_eq (j : Fin 4096) (r : Fin 128) :
    val_main_v84 (F := Ideal) x0 x1 x2 x3 x4 (ix2 j r) = ((dK Q K D (rowMax x0 x1 x2 x3) j (up r) : ℝ) : EReal) := by
  rw [val_main_v84_apply, Ideal.truncf_def]
  unfold val_main_v81 dK
  rw [dot_keys, coe_sum]
  refine Finset.sum_congr rfl fun h _ => ?_
  rw [coe_sum]
  refine Finset.sum_congr rfl fun i _ => ?_
  rw [v80_eq E, val_main_v0_apply, Ideal.extf_def, E.ql, ← EReal.coe_mul]
  rfl

include E in
theorem v83_eq (j : Fin 4096) (r : Fin 64) :
    val_main_v83 (F := Ideal) x0 x1 x2 x3 x4 (ix2 j r) = ((dK Q K D (rowMax x0 x1 x2 x3) j (mid r) : ℝ) : EReal) := by
  rw [val_main_v83_apply, Ideal.truncf_def]
  unfold val_main_v78 dK
  rw [dot_ropes, coe_sum]
  refine Finset.sum_congr rfl fun h _ => ?_
  rw [coe_sum]
  refine Finset.sum_congr rfl fun i _ => ?_
  rw [v77_eq E, val_main_v1_apply, Ideal.extf_def, E.qr, ← EReal.coe_mul]
  rfl

include E in
/-- The queries' gradient. -/
theorem v88_eq (h : Fin 16) (i : Fin 4096) (r : Fin 256) :
    val_main_v88 (F := Ideal) x0 x1 x2 x3 x4 (ix3 h i r) = ((dQ Q K D (rowMax x0 x1 x2 x3) h i r : ℝ) : EReal) := by
  unfold val_main_v88
  rw [side_queries]
  split
  · rw [v86_eq E]
    rfl
  · split
    · rw [v85_eq E]
      exact congrArg (fun y => ((dQ Q K D (rowMax x0 x1 x2 x3) h i y : ℝ) : EReal)) (Fin.ext (by simp only [mid]; change 128 + (r.val - 128) = r.val; omega))
    · rw [val_main_v87_apply]
      have h0 : dQ Q K D (rowMax x0 x1 x2 x3) h i r = 0 :=
        Finset.sum_eq_zero fun j _ => mul_eq_zero_of_right _ (E.k0 j r (by omega))
      rw [h0]
      exact lit_zero16

include E in
/-- The keys' gradient. -/
theorem v91_eq (j : Fin 4096) (r : Fin 256) :
    val_main_v91 (F := Ideal) x0 x1 x2 x3 x4 (ix2 j r) = ((dK Q K D (rowMax x0 x1 x2 x3) j r : ℝ) : EReal) := by
  rw [val_main_v91_apply, Ideal.extf_def]
  unfold val_main_v90
  rw [side_keys]
  split
  · rw [v84_eq E]
    rfl
  · split
    · rw [v83_eq E]
      exact congrArg (fun y => ((dK Q K D (rowMax x0 x1 x2 x3) j y : ℝ) : EReal)) (Fin.ext (by simp only [mid]; omega))
    · rw [val_main_v89_apply]
      have h0 : dK Q K D (rowMax x0 x1 x2 x3) j r = 0 :=
        Finset.sum_eq_zero fun h _ => Finset.sum_eq_zero fun i _ => mul_eq_zero_of_right _ (E.q0 h i r (by omega))
      rw [h0]
      exact lit_zero16

include E in
/-- The values' gradient. -/
theorem v92_eq (j : Fin 4096) (r : Fin 128) :
    val_main_v92 (F := Ideal) x0 x1 x2 x3 x4 (ix2 j r) = ((dV Q K D (rowMax x0 x1 x2 x3) j r : ℝ) : EReal) := by
  rw [val_main_v92_apply, val_main_v58_apply, Ideal.extf_def, Ideal.truncf_def, val_main_v56_apply]
  have hi : idx_main_v56 (ix2 j r) = ix2 r j := by funext a; fin_cases a <;> rfl
  rw [hi]
  unfold val_main_v55 dV
  rw [dot_values, coe_sum]
  refine Finset.sum_congr rfl fun h _ => ?_
  rw [coe_sum]
  refine Finset.sum_congr rfl fun i _ => ?_
  rw [v50_eq E, val_main_v54_apply, Ideal.extf_def, E.d, ← EReal.coe_mul, mul_comm]
  rfl

end values

end Cert.Proof.Reference

end
-- ==== Proof.KernelIdeal.Host.lean ====
/-
  What the call finds in its buffers: the host lines' queries, keys, outputs and log-sum-exps, as the reference's values of the same
  names, and over the reals.
-/
module

public import proofs.«01_k».proof.Proof.KernelIdeal.Total
public import proofs.«01_k».proof.Proof.Reference.Gradients
public import Idealize.ShloMosaic.Lib.StableHlo.RunRead

@[expose] public section

set_option maxRecDepth 65536

noncomputable section

namespace Cert.Proof.KernelIdeal

open Cert.KernelIdeal Cert.KernelIdeal.Gen Cert.Proof.Math
open Idealize.ShloMosaic Idealize.ShloMosaic.TcCoe Idealize.ShloMosaic.Tactic
open Idealize.SL Idealize.SL.Sem

variable (m : (ℓ : Loc nD τ sig) → Buf (Elt Ideal) ℓ) (c : Dev nD)

/-- The scores, as the reference computes them. -/
abbrev scores : FVec Ideal S16x4096x4096 .f32 :=
  Cert.ReferenceIdeal.Read.val_main_v20_0 (F := Ideal) (m ((c : Thread nD τ).loc main_arg0)) (m ((c : Thread nD τ).loc main_arg1))
    (m ((c : Thread nD τ).loc main_arg2)) (m ((c : Thread nD τ).loc main_arg3))

/-- The scores' maxima over the keys. -/
abbrev maxima : FVec Ideal S16x4096 .f32 :=
  Cert.ReferenceIdeal.Read.val_main_v21 (F := Ideal) (m ((c : Thread nD τ).loc main_arg0)) (m ((c : Thread nD τ).loc main_arg1))
    (m ((c : Thread nD τ).loc main_arg2)) (m ((c : Thread nD τ).loc main_arg3))

/-- The log-sum-exps in units of base two, from scores and their maxima, repeated over 128 lanes. -/
def logSums (s : FVec Ideal S16x4096x4096 .f32) (x : FVec Ideal S16x4096 .f32) : FVec Ideal S16x4096x128 .f32 :=
  broadcastInDim S16x4096x128 ![0, 1, 2] bcast_S16x4096x1_S16x4096x128_0_1_2
    (Host.divf
      (addf (broadcastInDim S16x4096x1 ![0, 1] bcast_S16x4096_S16x4096x1_0_1 x)
        (Host.log (broadcastInDim S16x4096x1 ![0, 1] bcast_S16x4096_S16x4096x1_0_1
          (Host.reduceAdd
            (Host.exp (subf s (broadcastInDim S16x4096x4096 ![0, 1, 2] bcast_S16x4096x1_S16x4096x4096_0_1_2
              (broadcastInDim S16x4096x1 ![0, 1] bcast_S16x4096_S16x4096x1_0_1 x))))
            (constant S_ .f32 0x00000000#32) reducesTo_S16x4096x4096_S16x4096_d2 h_S_))))
      (broadcastInDim S16x4096x1 ![] bcast_S_S16x4096x1 (Host.log (constant S_ .f32 0x40000000#32))))

theorem logSums_apply (s : FVec Ideal S16x4096x4096 .f32) (x : FVec Ideal S16x4096 .f32) (h : Fin 16) (i : Fin 4096) (r : Fin 128) :
    logSums s x (ix3 h i r) = Ideal.div (x (ix2 h i) + Ideal.log (∑ j, Ideal.exp (s (ix3 h i j) - x (ix2 h i))))
      (Ideal.log (Ideal.ofBits .f32 0x40000000#32)) := by
  pointwise [logSums]

open Cert.Proof.Reference in
/-- A row's sum of the exponentials of its scores less their maximum. -/
theorem sum_eq {x0 : (⟨S16x4096x128, .bf16⟩ : BufTy).Contents (Elt Ideal)} {x1 : (⟨S16x4096x64, .bf16⟩ : BufTy).Contents (Elt Ideal)}
    {x2 : (⟨S4096x128, .bf16⟩ : BufTy).Contents (Elt Ideal)} {x3 : (⟨S4096x64, .bf16⟩ : BufTy).Contents (Elt Ideal)}
    {x4 : (⟨S16x4096x128, .bf16⟩ : BufTy).Contents (Elt Ideal)} {Q : Fin 16 → Fin 4096 → Fin 256 → ℝ} {K : Fin 4096 → Fin 256 → ℝ}
    {D : Fin 16 → Fin 4096 → Fin 128 → ℝ} (E : Inputs x0 x1 x2 x3 x4 Q K D) (h : Fin 16) (i : Fin 4096) :
    ∑ j : Fin 4096, Ideal.exp (Cert.ReferenceIdeal.Read.val_main_v20_0 (F := Ideal) x0 x1 x2 x3 (ix3 h i j)
      - Cert.ReferenceIdeal.Read.val_main_v21 (F := Ideal) x0 x1 x2 x3 (ix2 h i)) = ((S Q K (rowMax x0 x1 x2 x3) h i : ℝ) : EReal) := by
  unfold S
  rw [coe_sum]
  refine Finset.sum_congr rfl fun j _ => ?_
  rw [v20_eq E, v21_eq E]
  unfold e
  by_cases hj : j.val / 64 ≤ i.val / 64
  · rw [if_pos (by exact hj), if_pos hj, ← EReal.coe_sub, Ideal.exp_coe]
    rfl
  · rw [if_neg (by exact hj), if_neg hj, EReal.bot_sub, Ideal.exp_bot]
    rfl

open Cert.Proof.Reference in
/-- The rows' log-sum-exps. -/
theorem logSums_eq {x0 : (⟨S16x4096x128, .bf16⟩ : BufTy).Contents (Elt Ideal)} {x1 : (⟨S16x4096x64, .bf16⟩ : BufTy).Contents (Elt Ideal)}
    {x2 : (⟨S4096x128, .bf16⟩ : BufTy).Contents (Elt Ideal)} {x3 : (⟨S4096x64, .bf16⟩ : BufTy).Contents (Elt Ideal)}
    {x4 : (⟨S16x4096x128, .bf16⟩ : BufTy).Contents (Elt Ideal)} {Q : Fin 16 → Fin 4096 → Fin 256 → ℝ} {K : Fin 4096 → Fin 256 → ℝ}
    {D : Fin 16 → Fin 4096 → Fin 128 → ℝ} (E : Inputs x0 x1 x2 x3 x4 Q K D) (h : Fin 16) (i : Fin 4096) (r : Fin 128) :
    logSums (Cert.ReferenceIdeal.Read.val_main_v20_0 (F := Ideal) x0 x1 x2 x3) (Cert.ReferenceIdeal.Read.val_main_v21 (F := Ideal) x0 x1 x2 x3)
      (ix3 h i r) = ((lse Q K (rowMax x0 x1 x2 x3) h i : ℝ) : EReal) := by
  have h2 : ¬ (2 : ℝ) ≤ 0 := by norm_num
  have hx : Cert.ReferenceIdeal.Read.val_main_v21 (F := Ideal) x0 x1 x2 x3 (ix2 h i) = ((rowMax x0 x1 x2 x3 h i : ℝ) : EReal) :=
    v21_eq E (ix2 h i)
  rw [logSums_apply, sum_eq E, hx, lit_two, Ideal.log_coe, if_neg (S_pos _ _ _ _ _).not_ge, Ideal.log_coe, if_neg h2,
    ← EReal.coe_add, Ideal.div_coe (Real.log_pos (by norm_num)).ne', ← EReal.coe_mul, ← div_eq_mul_one_div]
  rfl

theorem V52 : V m c main_v52 = Cert.ReferenceIdeal.Read.val_main_v53 (F := Ideal) (m ((c : Thread nD τ).loc main_arg0))
    (m ((c : Thread nD τ).loc main_arg1)) (m ((c : Thread nD τ).loc main_arg2)) (m ((c : Thread nD τ).loc main_arg3)) := by
  unfold V
  simp only [hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf,
    StableHlo.TRef.ofBuf, cast_eq]
  after_reads_simp
  rfl

theorem V53 : V m c main_v53 = logSums (scores m c) (maxima m c) := by
  unfold V
  simp only [hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf,
    StableHlo.TRef.ofBuf, cast_eq]
  after_reads_simp
  rfl

/-- The queries' two parts side by side, and 64 zero lanes. -/
def sideQueries (a : FVec Ideal S16x4096x128 .bf16) (b : FVec Ideal S16x4096x64 .bf16) : FVec Ideal S16x4096x256 .bf16 :=
  concatenate S16x4096x256 2 [⟨S16x4096x128, a⟩, ⟨S16x4096x64, b⟩,
    ⟨S16x4096x64, broadcastInDim S16x4096x64 ![] bcast_S_S16x4096x64 (constant S_ .bf16 0x0000#16)⟩]
    concatenates_S16x4096x128_S16x4096x64_S16x4096x64_S16x4096x256_d2

/-- The keys' two parts side by side, and 64 zero lanes. -/
def sideKeys (a : FVec Ideal S4096x128 .bf16) (b : FVec Ideal S4096x64 .bf16) : FVec Ideal S4096x256 .bf16 :=
  concatenate S4096x256 1 [⟨S4096x128, a⟩, ⟨S4096x64, b⟩,
    ⟨S4096x64, broadcastInDim S4096x64 ![] bcast_S_S4096x64 (constant S_ .bf16 0x0000#16)⟩]
    concatenates_S4096x128_S4096x64_S4096x64_S4096x256_d1

theorem sideQueries_apply (a : FVec Ideal S16x4096x128 .bf16) (b : FVec Ideal S16x4096x64 .bf16) (h : Fin 16) (i : Fin 4096)
    (r : Fin 256) :
    sideQueries a b (ix3 h i r) = if h1 : r.val < 128 then a (ix3 h i ⟨r.val, h1⟩)
      else if h2 : r.val - 128 < 64 then b (ix3 h i ⟨r.val - 128, h2⟩) else Ideal.ofBits .bf16 0x0000#16 := by
  pointwise [sideQueries]

theorem sideKeys_apply (a : FVec Ideal S4096x128 .bf16) (b : FVec Ideal S4096x64 .bf16) (j : Fin 4096) (r : Fin 256) :
    sideKeys a b (ix2 j r) = if h1 : r.val < 128 then a (ix2 j ⟨r.val, h1⟩)
      else if h2 : r.val - 128 < 64 then b (ix2 j ⟨r.val - 128, h2⟩) else Ideal.ofBits .bf16 0x0000#16 := by
  pointwise [sideKeys]

theorem V34 : V m c main_v34 = sideQueries (m ((c : Thread nD τ).loc main_arg0)) (m ((c : Thread nD τ).loc main_arg1)) := by
  unfold V
  simp only [hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf,
    StableHlo.TRef.ofBuf, cast_eq]
  after_reads_simp
  dsimp only [Matrix.cons_val]
  rfl

theorem V36 : V m c main_v36 = sideKeys (m ((c : Thread nD τ).loc main_arg2)) (m ((c : Thread nD τ).loc main_arg3)) := by
  unfold V
  simp only [hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf,
    StableHlo.TRef.ofBuf, cast_eq]
  after_reads_simp
  dsimp only [Matrix.cons_val]
  rfl

open Cert.Proof.Reference in
/-- With real inputs, the call finds the queries, the keys, the attention's outputs and the log-sum-exps of the same reals. -/
theorem entry {Q : Fin 16 → Fin 4096 → Fin 256 → ℝ} {K : Fin 4096 → Fin 256 → ℝ} {D : Fin 16 → Fin 4096 → Fin 128 → ℝ}
    (E : Inputs (m ((c : Thread nD τ).loc main_arg0)) (m ((c : Thread nD τ).loc main_arg1)) (m ((c : Thread nD τ).loc main_arg2))
      (m ((c : Thread nD τ).loc main_arg3)) (m ((c : Thread nD τ).loc main_arg4)) Q K D) :
    Entry m c Q K D (rowMax (m ((c : Thread nD τ).loc main_arg0)) (m ((c : Thread nD τ).loc main_arg1))
      (m ((c : Thread nD τ).loc main_arg2)) (m ((c : Thread nD τ).loc main_arg3))) where
  q h i a := by
    rw [V34, sideQueries_apply]
    split
    · exact E.ql _
    · split
      · rename_i h1 h2
        refine (E.qr _).trans (congrArg (fun b => ((Q h i b : ℝ) : EReal)) (Fin.ext ?_))
        change 128 + (a.val - 128) = a.val
        omega
      · rw [lit_zero16, E.q0 h i a (by omega)]
  k j a := by
    rw [V36, sideKeys_apply]
    split
    · exact E.kl _
    · split
      · rename_i h1 h2
        refine (E.kr _).trans (congrArg (fun b => ((K j b : ℝ) : EReal)) (Fin.ext ?_))
        change 128 + (a.val - 128) = a.val
        omega
      · rw [lit_zero16, E.k0 j a (by omega)]
  o h i r := by
    rw [V52]
    exact v53_eq E _
  d h i r := by
    rw [V_main_arg4]
    exact E.d _
  l h i r := by
    rw [V53]
    exact logSums_eq E h i r

end Cert.Proof.KernelIdeal

end
-- ==== Proof.Algebraic.lean ====
/-
  The idealized call and the reference, from equal real arguments, end with equal gradients.
-/
module

public import proofs.«01_k».proof.Defs
public import proofs.«01_k».proof.Proof.Finite
public import proofs.«01_k».proof.Proof.KernelIdeal.Host
public import proofs.«01_k».proof.Proof.Gen.ReferenceIdeal.Run
public import Idealize.ShloMosaic.Lib.Pipeline.ValueKit.Geometry

@[expose] public section

set_option maxRecDepth 16384

noncomputable section

namespace Cert.Proof

open Idealize.ShloMosaic Idealize.ShloMosaic.TcCoe Idealize.ShloMosaic.Tactic Idealize.SL.Sem
open Cert.KernelIdeal (nD τ sig main_arg0 main_arg1 main_arg2 main_arg3 main_arg4 main_v54_0 main_v54_1 main_v54_2)
open Cert.Proof.Math Cert.Proof.Reference

variable (m : (ℓ : Loc nD τ sig) → Buf (Elt Ideal) ℓ) (c : Dev nD)

/-- The queries, over the reals. -/
def Q : Fin 16 → Fin 4096 → Fin 256 → ℝ :=
  Finite.queries (m ((c : Thread nD τ).loc main_arg0)) (m ((c : Thread nD τ).loc main_arg1))

/-- The keys, whose first 128 lanes are the values. -/
def K : Fin 4096 → Fin 256 → ℝ := Finite.keys (m ((c : Thread nD τ).loc main_arg2)) (m ((c : Thread nD τ).loc main_arg3))

/-- The outputs' gradients. -/
def D : Fin 16 → Fin 4096 → Fin 128 → ℝ := Finite.grads (m ((c : Thread nD τ).loc main_arg4))

/-- The scores' maxima. -/
def M : Fin 16 → Fin 4096 → ℝ :=
  rowMax (m ((c : Thread nD τ).loc main_arg0)) (m ((c : Thread nD τ).loc main_arg1)) (m ((c : Thread nD τ).loc main_arg2))
    (m ((c : Thread nD τ).loc main_arg3))

/-- The gradients of the queries, of the keys and of the values. -/
def gradQ : Buf (Elt Ideal) ((c : Thread nD τ).loc main_v54_0) := fun y : Cert.KernelIdeal.S16x4096x256.Idx =>
  ((dQ (Q m c) (K m c) (D m c) (M m c) (y 0) (y 1) (y 2) : ℝ) : EReal)

@[inherit_doc gradQ]
def gradK : Buf (Elt Ideal) ((c : Thread nD τ).loc main_v54_1) := fun y : Cert.KernelIdeal.S4096x256.Idx =>
  ((dK (Q m c) (K m c) (D m c) (M m c) (y 0) (y 1) : ℝ) : EReal)

@[inherit_doc gradQ]
def gradV : Buf (Elt Ideal) ((c : Thread nD τ).loc main_v54_2) := fun y : Cert.KernelIdeal.S4096x128.Idx =>
  ((dV (Q m c) (K m c) (D m c) (M m c) (y 0) (y 1) : ℝ) : EReal)

variable {m}

theorem inputs_of (h : Cert.Pre_KernelIdeal_finite m) :
    Inputs (m ((c : Thread nD τ).loc main_arg0)) (m ((c : Thread nD τ).loc main_arg1)) (m ((c : Thread nD τ).loc main_arg2))
      (m ((c : Thread nD τ).loc main_arg3)) (m ((c : Thread nD τ).loc main_arg4)) (Q m c) (K m c) (D m c) :=
  Finite.inputs (h c)

open Cert.KernelIdeal in
/-- The call ends with the gradients. -/
theorem run_kernelIdeal (g : Dev nD → PrngReg) (h : Cert.Pre_KernelIdeal_finite m) :
    θ_run (Cert.KernelIdeal.defs (F := Ideal)) (onTc (τ := τ) (main (F := Ideal))) ⟨m, fun _ => 0, g⟩ (fun r => ∀ c : Dev nD,
      r.2.mem ((c : Thread nD τ).loc main_v54_0) = gradQ m c ∧ r.2.mem ((c : Thread nD τ).loc main_v54_1) = gradK m c
      ∧ r.2.mem ((c : Thread nD τ).loc main_v54_2) = gradV m c) :=
  (θ_run Cert.KernelIdeal.defs _ _).mono (fun r hr c => by
    have E := KernelIdeal.entry m c (inputs_of c h)
    exact ⟨(hr.1.out_eq c 5).trans (KernelIdeal.out_dq E), (hr.1.out_eq c 6).trans (KernelIdeal.out_dk E),
      (hr.1.out_eq c 7).trans (KernelIdeal.out_dv E)⟩) (KernelIdeal.run_quiescent m g)

/-- The reference's results of the same arguments are the gradients. -/
theorem reference_dq (h : Cert.Pre_KernelIdeal_finite m) :
    Cert.ReferenceIdeal.Read.val_main_v88 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = gradQ m c := by
  funext y
  idx_vars y
  exact v88_eq (inputs_of c h) _ _ _

@[inherit_doc reference_dq]
theorem reference_dk (h : Cert.Pre_KernelIdeal_finite m) :
    Cert.ReferenceIdeal.Read.val_main_v91 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = gradK m c := by
  funext y
  idx_vars y
  exact v91_eq (inputs_of c h) _ _

@[inherit_doc reference_dq]
theorem reference_dv (h : Cert.Pre_KernelIdeal_finite m) :
    Cert.ReferenceIdeal.Read.val_main_v92 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = gradV m c := by
  funext y
  idx_vars y
  exact v92_eq (inputs_of c h) _ _

/-- From equal real arguments the idealized call and the reference end with equal gradients, their arguments unchanged. -/
theorem algebraic : Cert.algebraic_KernelIdeal_ReferenceIdeal_pre_finite := by
  intro m g m' g' h ha
  refine ⟨gradQ m, gradK m, gradV m, (θ_run Cert.KernelIdeal.defs _ _).mono (fun r hr c => ?_)
      (θ_run_and (run_kernelIdeal g h) (KernelIdeal.frame m g)),
    (θ_run Cert.ReferenceIdeal.defs _ _).mono (fun r hr c => ?_) (Cert.ReferenceIdeal.Value.run m' g')⟩
  · exact ⟨(hr.1 c).1, (hr.1 c).2.1, (hr.1 c).2.2, hr.2.1 c⟩
  · obtain ⟨a0, a1, a2, a3, a4⟩ := ha c
    obtain ⟨r0, r1, r2, hr⟩ := hr c
    refine ⟨r0.trans ?_, r1.trans ?_, r2.trans ?_, hr⟩
    · refine (Cert.ReferenceIdeal.Read.val_main_v88_eq m' c).trans ?_
      rw [a0, a1, a2, a3, a4]
      exact reference_dq c h
    · refine (Cert.ReferenceIdeal.Read.val_main_v91_eq m' c).trans ?_
      rw [a0, a1, a2, a3, a4]
      exact reference_dk c h
    · refine (Cert.ReferenceIdeal.Read.val_main_v92_eq m' c).trans ?_
      rw [a0, a1, a2, a3, a4]
      exact reference_dv c h

end Cert.Proof

end
-- ==== Proof.Kernel2Ideal.Offsets.lean ====
/-
  The control of the attention's forward call at a grid point, evaluated: how many whole blocks of 512 keys the point visits,
  at which rows each block lies, and which of the two masked tails it takes.
-/
module

public import proofs.«01_k».proof.Proof.Gen.Kernel2Ideal.Frame
public import proofs.«01_k».proof.Proof.Gen.Kernel2Ideal.Loops

@[expose] public section

noncomputable section

namespace Cert.Proof.Kernel2Ideal

open Cert.Kernel2Ideal Cert.Kernel2Ideal.Gen
open Idealize.ShloMosaic Idealize.ShloMosaic.TcCoe Idealize.ShloMosaic.Tactic

/-- The trips of the paired loop at a point: half the whole blocks, rounded down. -/
theorem trips_eq : ∀ i : grid0.Coords, (k0_t1_loop i).trips = (i 0).val / 8 / 2 := by decide +kernel
/-- The loop after it runs no trip. -/
theorem trips2_eq : ∀ i : grid0.Coords, (k0_t2_loop i).trips = 0 := by decide +kernel

/-- The rows of a trip's first block. -/
theorem off1_eq : ∀ (i : grid0.Coords) (k : Fin (k0_t1_loop i).trips), k0_off1 i k = ![1024 * k.val, 0] := by decide +kernel
/-- The rows of a trip's second block. -/
theorem off2_eq : ∀ (i : grid0.Coords) (k : Fin (k0_t1_loop i).trips), k0_off2 i k = ![1024 * k.val + 512, 0] := by decide +kernel

instance (i : grid0.Coords) (k : Fin (k0_t1_loop i).trips) : ClosedOff (k0_off1 i k) := ⟨_, off1_eq i k⟩
instance (i : grid0.Coords) (k : Fin (k0_t1_loop i).trips) : ClosedOff (k0_off2 i k) := ⟨_, off2_eq i k⟩

/-- The odd whole block is taken exactly when the count of whole blocks is odd. -/
theorem cond1_iff : ∀ i : grid0.Coords, k0_cond1 i = 1#1 ↔ (i 0).val / 8 % 2 = 1 := by decide +kernel
/-- The half tail is taken at the first four of a block's eight points. -/
theorem cond2_iff : ∀ i : grid0.Coords, k0_cond2 i = 1#1 ↔ (i 0).val % 8 < 4 := by decide +kernel
/-- The full tail is taken at the last four of a block's eight points. -/
theorem cond3_iff : ∀ i : grid0.Coords, k0_cond3 i = 1#1 ↔ ¬ (i 0).val % 8 < 4 := by decide +kernel

/-- The rows of the odd whole block. -/
theorem off5_eq : ∀ i : grid0.Coords, k0_cond1 i = 1#1 → k0_off5 i = ![512 * ((i 0).val / 8 - 1), 0] := by decide +kernel
/-- The rows of the half tail. -/
theorem off6_eq : ∀ i : grid0.Coords, k0_off6 i = ![512 * ((i 0).val / 8), 0] := by decide +kernel
/-- The rows of the full tail. -/
theorem off7_eq : ∀ i : grid0.Coords, k0_off7 i = ![512 * ((i 0).val / 8), 0] := by decide +kernel

/-- The count of whole blocks, as the words compute it. -/
theorem whole_word : ∀ i : grid0.Coords,
    (let v11 : BitVec 32 := Scalar.subi (Scalar.addi (Scalar.addi (Scalar.muli (BitVec.ofNat 32 (i 0).val) 64#32) 64#32) 512#32) 1#32
     let v12 : BitVec 32 := Scalar.divsi v11 512#32
     let v14 : BitVec 32 := Scalar.extui (Scalar.cmpi .sgt v11 0#32)
     let v16 : BitVec 32 := Scalar.extui (Scalar.cmpi .slt v11 0#32)
     let v19 : BitVec 32 := Scalar.extui (Scalar.cmpi .sgt 512#32 0#32)
     let v21 : BitVec 32 := Scalar.extui (Scalar.cmpi .slt 512#32 0#32)
     let v26 := Scalar.andi (Scalar.cmpi .ne (Scalar.subi v14 v16) (Scalar.subi v19 v21)) (Scalar.cmpi .ne (Scalar.remsi v11 512#32) 0#32)
     Scalar.subi (Scalar.select v26 (Scalar.subi v12 1#32) v12) 1#32) = BitVec.ofNat 32 ((i 0).val / 8) := by
  decide +kernel

end Cert.Proof.Kernel2Ideal
-- ==== Proof.Kernel2Ideal.Model.lean ====
/-
  What the attention's forward call computes at a grid point, as functions of vectors: the running maximum and the running sums of
  each half of the point's heads, one block of keys at a time.
-/
module

public import proofs.«01_k».proof.Proof.Kernel2Ideal.Offsets
public import proofs.«01_k».proof.Proof.KernelIdeal.Sums

@[expose] public section

noncomputable section

namespace Cert.Proof.Kernel2Ideal

open Cert.Kernel2Ideal Cert.Kernel2Ideal.Gen
open Idealize.ShloMosaic Idealize.ShloMosaic.TcCoe Idealize.ShloMosaic.Tactic
open Cert.Proof.KernelIdeal (rows_inb ld_rows overlay_rows_in overlay_rows_out)

/-! ### Two halves of a table's rows -/

section glue

variable {w : ℕ} {e : EltTy} {Val : EltTy → Type}

theorem ix2_of {n : ℕ} (y : (⟨2, ![n, w]⟩ : Shape).Idx) : ∃ c a, y = ix2 c a := ⟨y 0, y 1, by funext i; fin_cases i <;> rfl⟩

/-- A table of 1024 rows from its first and its last 512. -/
def glue (l h : (⟨2, ![512, w]⟩ : Shape).Idx → Val e) : (⟨2, ![1024, w]⟩ : Shape).Idx → Val e :=
  fun y => if hy : (y 0).val < 512 then l (ix2 ⟨(y 0).val, hy⟩ (y 1)) else
    h (ix2 ⟨(y 0).val - 512, by have := (y 0).isLt; change _ < 1024 at this; omega⟩ (y 1))

theorem glue_lo (l h : (⟨2, ![512, w]⟩ : Shape).Idx → Val e) (ρ : Fin 1024) (c : Fin 512) (a : Fin w) (hc : ρ.val = c.val) :
    glue l h (ix2 ρ a) = l (ix2 c a) := by
  have : ((ix2 ρ a : (⟨2, ![1024, w]⟩ : Shape).Idx) 0).val < 512 := by
    change ρ.val < 512; omega
  unfold glue
  rw [dif_pos this]
  congr 2
  exact Fin.ext hc

theorem glue_hi (l h : (⟨2, ![512, w]⟩ : Shape).Idx → Val e) (ρ : Fin 1024) (c : Fin 512) (a : Fin w) (hc : ρ.val = 512 + c.val) :
    glue l h (ix2 ρ a) = h (ix2 c a) := by
  have : ¬ ((ix2 ρ a : (⟨2, ![1024, w]⟩ : Shape).Idx) 0).val < 512 := by
    change ¬ ρ.val < 512; omega
  unfold glue
  rw [dif_neg this]
  congr 2
  exact Fin.ext (show ρ.val - 512 = c.val by omega)

theorem ld_glue_lo (l h : (⟨2, ![512, w]⟩ : Shape).Idx → Val e)
    (i : ∀ a, (![0, 0] : Fin 2 → ℕ) a + (![512, w] : Fin 2 → ℕ) a ≤ (![1024, w] : Fin 2 → ℕ) a) :
    View.ld (glue l h) (Rect.unit (s := ⟨2, ![1024, w]⟩) ![0, 0] ![512, w] i) = l := by
  funext y
  obtain ⟨c, a, rfl⟩ := ix2_of y
  exact (ld_rows _ i c a).trans (glue_lo l h _ c a (Nat.zero_add _))

theorem ld_glue_hi (l h : (⟨2, ![512, w]⟩ : Shape).Idx → Val e)
    (i : ∀ a, (![512, 0] : Fin 2 → ℕ) a + (![512, w] : Fin 2 → ℕ) a ≤ (![1024, w] : Fin 2 → ℕ) a) :
    View.ld (glue l h) (Rect.unit (s := ⟨2, ![1024, w]⟩) ![512, 0] ![512, w] i) = h := by
  funext y
  obtain ⟨c, a, rfl⟩ := ix2_of y
  exact (ld_rows _ i c a).trans (glue_hi l h _ c a rfl)

theorem overlay_glue_lo (l h g : (⟨2, ![512, w]⟩ : Shape).Idx → Val e)
    (i : ∀ a, (![0, 0] : Fin 2 → ℕ) a + (![512, w] : Fin 2 → ℕ) a ≤ (![1024, w] : Fin 2 → ℕ) a) :
    (Rect.unit (s := ⟨2, ![1024, w]⟩) ![0, 0] ![512, w] i).overlay (glue l h) g = glue g h := by
  funext y
  obtain ⟨ρ, a, rfl⟩ := ix2_of y
  by_cases hρ : ρ.val < 512
  · exact (overlay_rows_in _ i g ρ a ⟨ρ.val, hρ⟩ (Nat.zero_add _).symm).trans (glue_lo g h ρ ⟨ρ.val, hρ⟩ a rfl).symm
  · have hc : ρ.val = 512 + (ρ.val - 512) := by omega
    refine (overlay_rows_out _ i g ρ a (.inr (by omega))).trans ?_
    rw [glue_hi l h ρ ⟨ρ.val - 512, by omega⟩ a hc, glue_hi g h ρ ⟨ρ.val - 512, by omega⟩ a hc]

theorem overlay_glue_hi (l h g : (⟨2, ![512, w]⟩ : Shape).Idx → Val e)
    (i : ∀ a, (![512, 0] : Fin 2 → ℕ) a + (![512, w] : Fin 2 → ℕ) a ≤ (![1024, w] : Fin 2 → ℕ) a) :
    (Rect.unit (s := ⟨2, ![1024, w]⟩) ![512, 0] ![512, w] i).overlay (glue l h) g = glue l g := by
  funext y
  obtain ⟨ρ, a, rfl⟩ := ix2_of y
  by_cases hρ : ρ.val < 512
  · refine (overlay_rows_out _ i g ρ a (.inl hρ)).trans ?_
    rw [glue_lo l h ρ ⟨ρ.val, hρ⟩ a rfl, glue_lo l g ρ ⟨ρ.val, hρ⟩ a rfl]
  · have hc : ρ.val = 512 + (ρ.val - 512) := by omega
    exact (overlay_rows_in _ i g ρ a ⟨ρ.val - 512, by omega⟩ hc).trans (glue_hi l g ρ ⟨ρ.val - 512, by omega⟩ a hc).symm

end glue

variable {F : FTy → Type} [FloatOps F] [Named F]

/-- One half of the heads: each row's running maximum (the same in every lane) and its running sums (values, then weights). -/
structure Half (F : FTy → Type) where
  m : Vec F S512x128 .f32
  a : Vec F S512x256 .f32

section steps

variable (q : Vec F S8x64x256 .bf16)

/-- One whole block of 512 keys. -/
def whole (k : Vec F S512x256 .bf16) (s : Half F) : Half F where
  m := k0_pay11 (k0_pay9 k q s.m)
  a := k0_pay10 k q s.m s.a

/-- The half tail: 256 keys, those after the row's own chunk masked. -/
def half (a0 v66 : BitVec 32) (k : Vec F S256x256 .bf16) (s : Half F) : Half F where
  m := k0_pay55 (k0_pay50 k q) (Scalar.ofBits .f32 0xFF800000#32) (k0_pay51 a0 v66) s.m
  a := k0_pay54 (k0_pay49 k) (k0_pay50 k q) (Scalar.ofBits .f32 0xFF800000#32) (k0_pay51 a0 v66) s.m s.a

/-- The full tail: 512 keys, those after the row's own chunk masked. -/
def full (a0 v66 : BitVec 32) (k : Vec F S512x256 .bf16) (s : Half F) : Half F where
  m := k0_pay71 (k0_pay66 k q) (Scalar.ofBits .f32 0xFF800000#32) (k0_pay67 a0 v66) s.m
  a := k0_pay70 (k0_pay65 k) (k0_pay66 k q) (Scalar.ofBits .f32 0xFF800000#32) (k0_pay67 a0 v66) s.m s.a

variable (k : Vec F S4096x256 .bf16)

/-- Block number `b`, if it lies in the keys. -/
def blockAt (b : ℕ) (s : Half F) : Half F :=
  if h : 512 * b + 512 ≤ 4096 then whole q (View.ld k (Rect.unit (s := S4096x256) ![512 * b, 0] S512x256.size (rows_inb h))) s else s

/-- The first `n` blocks in order. -/
def blocks : ℕ → Half F → Half F
  | 0, s => s
  | n + 1, s => blockAt q k n (blocks n s)

/-- The half tail at block number `b`. -/
def halfAt (a0 v66 : BitVec 32) (b : ℕ) (s : Half F) : Half F :=
  if h : 512 * b + 256 ≤ 4096 then
    half q a0 v66 (View.ld k (Rect.unit (s := S4096x256) ![512 * b, 0] S256x256.size (rows_inb h))) s else s

/-- The full tail at block number `b`. -/
def fullAt (a0 v66 : BitVec 32) (b : ℕ) (s : Half F) : Half F :=
  if h : 512 * b + 512 ≤ 4096 then
    full q a0 v66 (View.ld k (Rect.unit (s := S4096x256) ![512 * b, 0] S512x256.size (rows_inb h))) s else s

/-- The tail of point `n`: half of a block at the first four of the block's points, all of it at the last four. -/
def tail (n : ℕ) (s : Half F) : Half F :=
  if n % 8 < 4 then halfAt q k (BitVec.ofNat 32 n) (Scalar.muli (BitVec.ofNat 32 (n / 8)) 512#32) (n / 8) s
  else fullAt q k (BitVec.ofNat 32 n) (Scalar.muli (BitVec.ofNat 32 (n / 8)) 512#32) (n / 8) s

/-- A half before any key. -/
def start : Half F := ⟨broadcast S512x128 (Scalar.ofBits .f32 0xFF800000#32), broadcast S512x256 (Scalar.ofBits .f32 0x00000000#32)⟩

/-- A half after point `n`'s keys. -/
def point (n : ℕ) : Half F := tail q k n (blocks q k (n / 8) start)

variable {q k}

theorem whole_eq_blockAt {o : Fin 2 → ℕ} {h : ∀ a, o a + S512x256.size a ≤ S4096x256.size a} {b : ℕ} (e : o = ![512 * b, 0]) (s : Half F) :
    whole q (View.ld k (Rect.unit (s := S4096x256) o S512x256.size h)) s = blockAt q k b s := by
  subst e
  have hb : 512 * b + 512 ≤ 4096 := h 0
  unfold blockAt
  rw [dif_pos hb]

theorem half_eq_halfAt {a0 v66 : BitVec 32} {o : Fin 2 → ℕ} {h : ∀ a, o a + S256x256.size a ≤ S4096x256.size a} {b : ℕ}
    (e : o = ![512 * b, 0]) (s : Half F) :
    half q a0 v66 (View.ld k (Rect.unit (s := S4096x256) o S256x256.size h)) s = halfAt q k a0 v66 b s := by
  subst e
  have hb : 512 * b + 256 ≤ 4096 := h 0
  unfold halfAt
  rw [dif_pos hb]

theorem full_eq_fullAt {a0 v66 : BitVec 32} {o : Fin 2 → ℕ} {h : ∀ a, o a + S512x256.size a ≤ S4096x256.size a} {b : ℕ}
    (e : o = ![512 * b, 0]) (s : Half F) :
    full q a0 v66 (View.ld k (Rect.unit (s := S4096x256) o S512x256.size h)) s = fullAt q k a0 v66 b s := by
  subst e
  have hb : 512 * b + 512 ≤ 4096 := h 0
  unfold fullAt
  rw [dif_pos hb]

end steps

/-- The first 8 of a point's 16 heads. -/
def qlo (q : Vec F S16x64x256 .bf16) : Vec F S8x64x256 .bf16 :=
  View.ld q (Rect.unit (s := S16x64x256) ![0, 0, 0] S8x64x256.size inb_S16x64x256_S8x64x256_0_0_0)
/-- The last 8. -/
def qhi (q : Vec F S16x64x256 .bf16) : Vec F S8x64x256 .bf16 :=
  View.ld q (Rect.unit (s := S16x64x256) ![8, 0, 0] S8x64x256.size inb_S16x64x256_S8x64x256_8_0_0)

/-- The two tables at the start of a point. -/
theorem start_m : (k0_pay80 : Vec F S1024x128 .f32) = glue (Val := Elt F) (start (F := F)).m (start (F := F)).m := by
  funext y
  unfold glue start
  split <;> exact rfl
theorem start_a : (k0_pay81 : Vec F S1024x256 .f32) = glue (Val := Elt F) (start (F := F)).a (start (F := F)).a := by
  funext y
  unfold glue start
  split <;> exact rfl

end Cert.Proof.Kernel2Ideal
-- ==== Proof.Kernel2Ideal.Online.lean ====
/-
  The running softmax of one row over the extended reals: a maximum and sums that are rescaled whenever the maximum grows. Before key `N`
  the sums are those over the keys before `N` of the weights relative to the maximum; after all keys they give the row's output and its
  log-sum-exp whatever the maximum is.
-/
module

public import proofs.«01_k».proof.Proof.KernelIdeal.Val
public import proofs.«01_k».proof.Proof.Reference.Scores

@[expose] public section

noncomputable section

namespace Cert.Proof.Kernel2Ideal

open Cert.Proof.Math Cert.Proof.KernelIdeal Cert.Proof.Reference
open Idealize.ShloMosaic Idealize.ShloMosaic.Tactic

section row

variable (p : Fin 4096 → ℝ) (v : Fin 4096 → Fin 256 → ℝ) (n : ℕ)

/-- A key's weight relative to `M`, zero where the key's chunk is later than `n`. -/
def weight (M : ℝ) (j : Fin 4096) : ℝ := if j.val / 64 ≤ n then Real.rpow 2 (p j - M) else 0

/-- A key's score as the call masks it. -/
def seen (j : Fin 4096) : EReal := if j.val / 64 ≤ n then ((p j : ℝ) : EReal) else ⊥

/-- The row before key `N`: nothing yet, or a real maximum and the sums relative to it. -/
def Held (N : ℕ) (m : Fin 128 → EReal) (a : Fin 256 → EReal) : Prop :=
  (N = 0 ∧ (∀ r, m r = ⊥) ∧ ∀ x, a x = 0)
    ∨ ∃ M : ℝ, (∀ r, m r = ((M : ℝ) : EReal)) ∧ ∀ x, a x = ((upto N (fun j => weight p n M j * v j x) : ℝ) : EReal)

variable {p v n}

theorem seen_lt (j : Fin 4096) : seen p n j < ⊤ := by
  unfold seen
  split
  · exact EReal.coe_lt_top _
  · exact bot_lt_top

theorem exp2_seen (M : ℝ) (j : Fin 4096) :
    FloatOps.exp2 (F := Ideal) (φ := .f32) (seen p n j - ((M : ℝ) : EReal)) = ((weight p n M j : ℝ) : EReal) := by
  unfold seen weight
  split
  · rw [← EReal.coe_sub]
    exact exp2_real _
  · rw [EReal.bot_sub]
    rfl

variable {N w : ℕ} {m : Fin 128 → EReal} {a : Fin 256 → EReal} (hw : 0 < w) (hN : N + w ≤ 4096) {σ : Fin w → EReal}
  (hσ : ∀ c : Fin w, σ c = seen p n ⟨N + c.val, lt_of_lt_of_le (Nat.add_lt_add_left c.isLt N) hN⟩)

include hw hσ in
/-- The maximum after a block is real. -/
theorem Held.max_real (H : Held p v n N m a) :
    ∃ M : ℝ, ∀ r, max (m r) ((Finset.univ : Finset (Fin w)).fold max ⊥ σ) = ((M : ℝ) : EReal) := by
  have hlt : ∀ c, σ c < ⊤ := fun c => by rw [hσ]; exact seen_lt _
  rcases H with ⟨rfl, hm, _⟩ | ⟨M, hm, _⟩
  · refine ⟨((Finset.univ : Finset (Fin w)).fold max ⊥ σ).toReal, fun r => ?_⟩
    rw [hm, max_eq_right bot_le]
    refine (fold_max_real σ hlt ⟨0, hw⟩ ?_).symm
    rw [hσ]
    unfold seen
    rw [if_pos (show (0 + 0) / 64 ≤ n by omega)]
    exact EReal.coe_ne_bot _
  · refine ⟨(max (M : EReal) ((Finset.univ : Finset (Fin w)).fold max ⊥ σ)).toReal, fun r => ?_⟩
    rw [hm]
    refine (EReal.coe_toReal (ne_of_lt (max_lt (EReal.coe_lt_top M) ?_))
      (ne_of_gt (lt_of_lt_of_le (EReal.bot_lt_coe M) (le_max_left _ _)))).symm
    exact (Finset.fold_max_lt _).2 ⟨bot_lt_top, fun c _ => hlt c⟩

theorem weight_rescale (M M' : ℝ) (j : Fin 4096) : Real.rpow 2 (M - M') * weight p n M j = weight p n M' j := by
  unfold weight
  split
  · refine (Real.rpow_add (by norm_num : (0 : ℝ) < 2) (M - M') (p j - M)).symm.trans (congrArg (Real.rpow 2) ?_)
    ring
  · rw [mul_zero]

include hσ in
/-- The sums after a block: the old ones rescaled, and the block's own. -/
theorem Held.sum_step (H : Held p v n N m a) (M' : ℝ) (r : Fin 128) (x : Fin 256) :
    FloatOps.exp2 (F := Ideal) (φ := .f32) (m r - ((M' : ℝ) : EReal)) * a x
        + ∑ c : Fin w, FloatOps.exp2 (F := Ideal) (φ := .f32) (σ c - ((M' : ℝ) : EReal)) * ((v ⟨N + c.val, lt_of_lt_of_le (Nat.add_lt_add_left c.isLt N) hN⟩ x : ℝ) : EReal)
      = ((upto (N + w) (fun j => weight p n M' j * v j x) : ℝ) : EReal) := by
  have hs : ∑ c : Fin w, FloatOps.exp2 (F := Ideal) (φ := .f32) (σ c - ((M' : ℝ) : EReal)) * ((v ⟨N + c.val, lt_of_lt_of_le (Nat.add_lt_add_left c.isLt N) hN⟩ x : ℝ) : EReal)
      = ((∑ c : Fin w, weight p n M' ⟨N + c.val, lt_of_lt_of_le (Nat.add_lt_add_left c.isLt N) hN⟩ * v ⟨N + c.val, lt_of_lt_of_le (Nat.add_lt_add_left c.isLt N) hN⟩ x : ℝ) : EReal) := by
    rw [coe_sum]
    refine Finset.sum_congr rfl fun c _ => ?_
    rw [hσ, exp2_seen, ← EReal.coe_mul]
  rw [hs, upto_add hN]
  rcases H with ⟨rfl, hm, ha⟩ | ⟨M, hm, ha⟩
  · rw [ha, mul_zero, upto_zero, zero_add]
    exact congrArg (fun y : ℝ => (y : EReal)) (zero_add _).symm
  · rw [hm, ha, ← EReal.coe_sub, exp2_real, ← EReal.coe_mul, ← EReal.coe_add]
    refine congrArg (fun y : ℝ => ((y + _ : ℝ) : EReal)) ?_
    unfold upto
    rw [Finset.mul_sum]
    refine Finset.sum_congr rfl fun j _ => ?_
    split
    · rw [← mul_assoc, weight_rescale]
    · rw [mul_zero]

include hw hσ in
/-- A block carries the row past its keys. -/
theorem Held.step (H : Held p v n N m a) {m' : Fin 128 → EReal} {a' : Fin 256 → EReal} {u : Fin w → Fin 256 → EReal}
    (hu : ∀ (c : Fin w) x, u c x = ((v ⟨N + c.val, lt_of_lt_of_le (Nat.add_lt_add_left c.isLt N) hN⟩ x : ℝ) : EReal))
    (hm : ∀ r, m' r = max (m r) ((Finset.univ : Finset (Fin w)).fold max ⊥ σ))
    (ha : ∀ M : ℝ, (∀ r, m' r = ((M : ℝ) : EReal)) → ∀ x, ∃ r, a' x
      = FloatOps.exp2 (F := Ideal) (φ := .f32) (m r - ((M : ℝ) : EReal)) * a x
        + ∑ c : Fin w, FloatOps.exp2 (F := Ideal) (φ := .f32) (σ c - ((M : ℝ) : EReal)) * u c x) :
    Held p v n (N + w) m' a' := by
  obtain ⟨M, hM⟩ := H.max_real hw hN hσ
  have hM' : ∀ r, m' r = ((M : ℝ) : EReal) := fun r => (hm r).trans (hM r)
  refine Or.inr ⟨M, hM', fun x => ?_⟩
  obtain ⟨r, hr⟩ := ha M hM' x
  rw [hr, ← H.sum_step hN hσ M r x]
  simp only [hu]

/-- Past the last key that is not masked the sums are over all keys. -/
theorem Held.total (H : Held p v n N m a) (h0 : 0 < N) (hn : 64 * n + 64 ≤ N) :
    ∃ M : ℝ, (∀ r, m r = ((M : ℝ) : EReal)) ∧ ∀ x, a x = ((∑ j, weight p n M j * v j x : ℝ) : EReal) := by
  rcases H with ⟨rfl, _⟩ | ⟨M, hm, ha⟩
  · exact absurd h0 (lt_irrefl 0)
  · refine ⟨M, hm, fun x => (ha x).trans (congrArg (fun y : ℝ => (y : EReal)) (upto_late _ fun j hj => ?_))⟩
    unfold weight
    rw [if_neg (by omega), zero_mul]

end row

/-! ### The row's results -/

/-- A key's 128 value lanes, and 128 ones. -/
def side (K : Fin 4096 → Fin 256 → ℝ) (j : Fin 4096) (x : Fin 256) : ℝ := if x.val < 128 then K j x else 1

section results

variable (Q : Fin 16 → Fin 4096 → Fin 256 → ℝ) (K : Fin 4096 → Fin 256 → ℝ) (X : Fin 16 → Fin 4096 → ℝ) (h : Fin 16) (i : Fin 4096)

/-- A weight relative to `M` is the exponential relative to `X` up to a factor of the row's. -/
theorem weight_eq (M : ℝ) (j : Fin 4096) :
    weight (fun j => z Q K h i j * c2) (i.val / 64) M j = Real.exp (X h i - M * Real.log 2) * e Q K X h i j := by
  have hl : Real.log 2 ≠ 0 := (Real.log_pos (by norm_num)).ne'
  unfold weight e
  split
  · change (2 : ℝ) ^ (_ : ℝ) = _
    rw [Real.rpow_def_of_pos (by norm_num), ← Real.exp_add]
    refine congrArg Real.exp ?_
    unfold c1 c2
    field_simp
    ring
  · rw [mul_zero]

theorem sums_eq (M : ℝ) (x : Fin 256) :
    ∑ j, weight (fun j => z Q K h i j * c2) (i.val / 64) M j * side K j x
      = Real.exp (X h i - M * Real.log 2) * ∑ j, e Q K X h i j * side K j x := by
  rw [Finset.mul_sum]
  refine Finset.sum_congr rfl fun j _ => ?_
  rw [weight_eq Q K X h i, mul_assoc]

theorem sums_one (M : ℝ) (x : Fin 256) (hx : 128 ≤ x.val) :
    ∑ j, weight (fun j => z Q K h i j * c2) (i.val / 64) M j * side K j x = Real.exp (X h i - M * Real.log 2) * S Q K X h i := by
  rw [sums_eq Q K X h i]
  unfold S side
  refine congrArg (_ * ·) (Finset.sum_congr rfl fun j _ => ?_)
  rw [if_neg (by omega), mul_one]

/-- The sums' quotient is the row's output. -/
theorem output_eq (M : ℝ) (r : Fin 128) :
    Ideal.div ((∑ j, weight (fun j => z Q K h i j * c2) (i.val / 64) M j * side K j (up r) : ℝ) : EReal)
        ((∑ j, weight (fun j => z Q K h i j * c2) (i.val / 64) M j * side K j ⟨128 + r.val, by omega⟩ : ℝ) : EReal)
      = ((O Q K X h i r : ℝ) : EReal) := by
  have hS := (S_pos Q K X h i).ne'
  have hE := (Real.exp_pos (X h i - M * Real.log 2)).ne'
  rw [sums_one Q K X h i M ⟨128 + r.val, by omega⟩ (Nat.le_add_right _ _), sums_eq Q K X h i, Ideal.div_coe (mul_ne_zero hE hS), ← EReal.coe_mul]
  refine congrArg (fun y : ℝ => (y : EReal)) ?_
  unfold O P side
  have hr : (up r).val < 128 := r.isLt
  simp only [if_pos hr]
  rw [Finset.mul_sum, Finset.sum_mul]
  refine Finset.sum_congr rfl fun j _ => ?_
  field_simp

/-- The maximum and the sums' logarithm give the row's log-sum-exp. -/
theorem lse_eq (M : ℝ) (x : Fin 256) (hx : 128 ≤ x.val) :
    ((M : ℝ) : EReal) + Ideal.log ((∑ j, weight (fun j => z Q K h i j * c2) (i.val / 64) M j * side K j x : ℝ) : EReal)
        * (((Real.log 2)⁻¹ : ℝ) : EReal) = ((lse Q K X h i : ℝ) : EReal) := by
  have hS := S_pos Q K X h i
  have hE := Real.exp_pos (X h i - M * Real.log 2)
  have hl : Real.log 2 ≠ 0 := (Real.log_pos (by norm_num)).ne'
  rw [sums_one Q K X h i M x hx]
  have hlog : Ideal.log ((Real.exp (X h i - M * Real.log 2) * S Q K X h i : ℝ) : EReal)
      = ((X h i - M * Real.log 2 + Real.log (S Q K X h i) : ℝ) : EReal) := by
    refine (if_neg (not_le.2 (mul_pos hE hS))).trans (congrArg (fun y : ℝ => (y : EReal)) ?_)
    rw [Real.log_mul hE.ne' hS.ne', Real.log_exp]
  rw [hlog, ← EReal.coe_mul, ← EReal.coe_add]
  refine congrArg (fun y : ℝ => (y : EReal)) ?_
  unfold lse
  field_simp
  ring

end results

end Cert.Proof.Kernel2Ideal
-- ==== Proof.Kernel2Ideal.Blocks.lean ====
/-
  Each kind of block of keys carries every row of a half past its keys: the block's vectors, at an index, are the running softmax's.
-/
module

public import proofs.«01_k».proof.Proof.Kernel2Ideal.Model
public import proofs.«01_k».proof.Proof.Kernel2Ideal.Online

@[expose] public section

noncomputable section

namespace Cert.Proof.Kernel2Ideal

open Cert.Kernel2Ideal Cert.Kernel2Ideal.Gen Cert.Proof.Math
open Cert.Proof.KernelIdeal (rows_inb ld_rows chunkWord chunkWord_eq sle_eq row_word)
open Cert.Proof.Reference (lit_bot)
open Idealize.ShloMosaic Idealize.ShloMosaic.Tactic

theorem scale2_val : Named.named (F := Ideal) (φ := .f32) κ "scale_log2" 1037384597#32 = ((c2 : ℝ) : EReal) :=
  IdealRules.named_const.ideal_named_scalar _ _ _ _ rfl

theorem inv_log2_val : Named.named (F := Ideal) (φ := .f32) κ "inv_log2" 1069066811#32 = (((Real.log 2)⁻¹ : ℝ) : EReal) :=
  IdealRules.named_const.ideal_named_scalar _ _ _ _ rfl

/-- The mask keeps a key's score exactly when its chunk is no later than the point's, and puts minus infinity otherwise. -/
theorem mask_seen {p : Fin 4096 → ℝ} {n b c : ℕ} (hn : n < 64) (h : 512 * b + c < 4096) (x y : EReal)
    (hx : x = ((p ⟨512 * b + c, h⟩ : ℝ) : EReal)) (hy : y = ⊥) :
    Scalar.select (IntOp.cmpi CmpIPredicate.sle
      (chunkWord (IntOp.addi (Scalar.muli (BitVec.ofNat 32 b) 512#32) (BitVec.ofNat 32 c))) (BitVec.ofNat 32 n)) x y
      = seen p n ⟨512 * b + c, h⟩ := by
  rw [row_word, chunkWord_eq ⟨512 * b + c, h⟩, hx, hy]
  have := sle_eq ⟨(512 * b + c) / 64, by omega⟩ ⟨n, hn⟩
  unfold Scalar.select seen
  by_cases hc : (512 * b + c) / 64 ≤ n
  · rw [if_pos hc]; exact if_pos (this.2 hc)
  · rw [if_neg hc]; exact if_neg (fun h' => hc (this.1 h'))

theorem lane_lt : ∀ j : Fin 256, IntOp.cmpi CmpIPredicate.slt (BitVec.ofNat 32 j.val) 128#32 = 1#1 ↔ j.val < 128 := by decide +kernel

/-- The values' lanes of a key, and ones after them. -/
theorem lanes {K : Fin 4096 → Fin 256 → ℝ} (j : Fin 4096) (x : Fin 256) (y z : EReal) (hy : y = ((K j x : ℝ) : EReal)) (hz : z = 1) :
    Scalar.select (IntOp.cmpi CmpIPredicate.slt (BitVec.ofNat 32 x.val) 128#32) y z = ((side K j x : ℝ) : EReal) := by
  unfold Scalar.select side
  rw [hy, hz]
  by_cases hx : x.val < 128
  · rw [if_pos hx]; exact if_pos ((lane_lt x).2 hx)
  · rw [if_neg hx]; exact if_neg (fun h' => hx ((lane_lt x).1 h'))

/-- A sum over 256 keys, as the sums over the first and the last 128. -/
theorem sum_halves (f : Fin 256 → EReal) : ∑ j, f j = ∑ j : Fin 128, f ⟨j.val, by omega⟩ + ∑ j : Fin 128, f ⟨128 + j.val, by omega⟩ :=
  Fin.sum_univ_add (a := 128) (b := 128) f

section blocks

variable {q : Vec Ideal S8x64x256 .bf16} {qr : Fin 512 → Fin 256 → ℝ}
  (hq : ∀ (c : Fin 512) a, q (ix3 ⟨c.val / 64, Nat.div_lt_of_lt_mul (k := 8) (n := 64) c.isLt⟩ ⟨c.val % 64, Nat.mod_lt c.val (Nat.succ_pos 63)⟩ a) = ((qr c a : ℝ) : EReal))
variable {K : Fin 4096 → Fin 256 → ℝ} {n b : ℕ}

/-- A row's score of a key in units of base two. -/
def score (qr : Fin 512 → Fin 256 → ℝ) (K : Fin 4096 → Fin 256 → ℝ) (c : Fin 512) (j : Fin 4096) : ℝ := (∑ a, qr c a * K j a) * c2

/-- Every row of a half before key `N`. -/
def Rows (qr : Fin 512 → Fin 256 → ℝ) (K : Fin 4096 → Fin 256 → ℝ) (n N : ℕ) (s : Half Ideal) : Prop :=
  ∀ c : Fin 512, Held (score qr K c) (side K) n N (fun r => s.m (ix2 c r)) (fun x => s.a (ix2 c x))

include hq in
theorem pay8_val (hb : 512 * b + 512 ≤ 4096) {k : Vec Ideal S512x256 .bf16}
    (hk : ∀ (c : Fin 512) a, k (ix2 c a) = ((K ⟨512 * b + c.val, by omega⟩ a : ℝ) : EReal)) (c j : Fin 512) :
    k0_pay8 k q (ix2 c j) = ((score qr K c ⟨512 * b + j.val, by omega⟩ : ℝ) : EReal) := by
  pointwise [k0_pay8, k0_pay6]
  simp only [hq, hk, scale2_val, ← EReal.coe_mul, ← coe_sum]
  rfl

theorem pay7_val (hb : 512 * b + 512 ≤ 4096) {k : Vec Ideal S512x256 .bf16}
    (hk : ∀ (c : Fin 512) a, k (ix2 c a) = ((K ⟨512 * b + c.val, by omega⟩ a : ℝ) : EReal)) (c : Fin 512) (x : Fin 256) :
    k0_pay7 k (ix2 c x) = ((side K ⟨512 * b + c.val, by omega⟩ x : ℝ) : EReal) := by
  pointwise [k0_pay7, k0_pay6]
  exact lanes _ _ _ _ (hk c x) rfl

include hq in
theorem whole_rows (hb : 512 * b + 512 ≤ 4096) (hv : 8 * b + 8 ≤ n) {k : Vec Ideal S512x256 .bf16}
    (hk : ∀ (c : Fin 512) a, k (ix2 c a) = ((K ⟨512 * b + c.val, by omega⟩ a : ℝ) : EReal)) {s : Half Ideal}
    (R : Rows qr K n (512 * b) s) : Rows qr K n (512 * b + 512) (whole q k s) := by
  intro c
  have hσ : ∀ j : Fin 512, k0_pay8 k q (ix2 c j) = seen (score qr K c) n ⟨512 * b + j.val, by omega⟩ := fun j => by
    rw [pay8_val hq hb hk]
    unfold seen
    rw [if_pos (show (512 * b + j.val) / 64 ≤ n by omega)]
  have h7 := pay7_val hb hk
  have hm : ∀ r, (whole q k s).m (ix2 c r)
      = max (s.m (ix2 c r)) ((Finset.univ : Finset (Fin 512)).fold max ⊥ fun j => k0_pay8 k q (ix2 c j)) := fun r => by
    pointwise [whole, k0_pay11, k0_pay9]
    rw [lit_bot]
  refine (R c).step (by decide) hb hσ h7 hm fun M hM x => ?_
  have hM' : ∀ r, k0_pay9 k q s.m (ix2 c r) = ((M : ℝ) : EReal) := fun r => by
    refine Eq.trans ?_ (hM r)
    pointwise [whole, k0_pay11]
  by_cases hx : x.val < 128
  · refine ⟨⟨x.val, hx⟩, ?_⟩
    pointwise [whole, k0_pay10]
    simp only [hM', dif_pos hx, dite_eq_ite, ite_self]
  · refine ⟨⟨x.val - 128, by omega⟩, ?_⟩
    pointwise [whole, k0_pay10]
    simp only [hM', dif_neg hx, dite_eq_ite, ite_self]

/-! ### The tails -/

include hq in
theorem half_rows (hn : n < 64) (hb : 512 * b + 256 ≤ 4096) {k : Vec Ideal S256x256 .bf16}
    (hk : ∀ (c : Fin 256) a, k (ix2 c a) = ((K ⟨512 * b + c.val, by omega⟩ a : ℝ) : EReal)) {s : Half Ideal}
    (R : Rows qr K n (512 * b) s) :
    Rows qr K n (512 * b + 256) (half q (BitVec.ofNat 32 n) (Scalar.muli (BitVec.ofNat 32 b) 512#32) k s) := by
  intro c
  have h8 : ∀ j : Fin 256, k0_pay50 k q (ix2 c j) = ((score qr K c ⟨512 * b + j.val, by omega⟩ : ℝ) : EReal) := fun j => by
    pointwise [k0_pay50, k0_pay48]
    simp only [hq, hk, scale2_val, ← EReal.coe_mul, ← coe_sum]
    rfl
  have h7 : ∀ (j : Fin 256) x, k0_pay49 k (ix2 j x) = ((side K ⟨512 * b + j.val, by omega⟩ x : ℝ) : EReal) := fun j x => by
    pointwise [k0_pay49, k0_pay48]
    exact lanes _ _ _ _ (hk j x) rfl
  have hσ : ∀ j : Fin 256, k0_pay52 (k0_pay50 k q) (Ideal.ofBits .f32 0xFF800000#32)
      (k0_pay51 (BitVec.ofNat 32 n) (Scalar.muli (BitVec.ofNat 32 b) 512#32)) (ix2 c j)
        = seen (score qr K c) n ⟨512 * b + j.val, by omega⟩ := fun j => by
    have h8 := h8 j
    generalize k0_pay50 k q = z at h8 ⊢
    pointwise [k0_pay52, k0_pay51]
    exact mask_seen hn (by omega) _ _ h8 lit_bot
  have hm : ∀ r, (half q (BitVec.ofNat 32 n) (Scalar.muli (BitVec.ofNat 32 b) 512#32) k s).m (ix2 c r)
      = max (s.m (ix2 c r)) ((Finset.univ : Finset (Fin 256)).fold max ⊥ fun j => k0_pay52 (k0_pay50 k q) (Ideal.ofBits .f32 0xFF800000#32)
          (k0_pay51 (BitVec.ofNat 32 n) (Scalar.muli (BitVec.ofNat 32 b) 512#32)) (ix2 c j)) := fun r => by
    pointwise [half, k0_pay55, k0_pay53]
    rw [lit_bot]
  refine (R c).step (by decide) hb hσ h7 hm fun M hM x => ?_
  have hM' : ∀ r, k0_pay53 (k0_pay50 k q) (Ideal.ofBits .f32 0xFF800000#32)
      (k0_pay51 (BitVec.ofNat 32 n) (Scalar.muli (BitVec.ofNat 32 b) 512#32)) s.m (ix2 c r) = ((M : ℝ) : EReal) := fun r => by
    refine Eq.trans ?_ (hM r)
    pointwise [half, k0_pay55]
  by_cases hx : x.val < 128
  · refine ⟨⟨x.val, hx⟩, ?_⟩
    pointwise [half, k0_pay54]
    simp only [hM', dif_pos hx, dite_eq_ite, ite_self, sum_halves]
  · refine ⟨⟨x.val - 128, by omega⟩, ?_⟩
    pointwise [half, k0_pay54]
    simp only [hM', dif_neg hx, dite_eq_ite, ite_self, sum_halves]

include hq in
theorem full_rows (hn : n < 64) (hb : 512 * b + 512 ≤ 4096) {k : Vec Ideal S512x256 .bf16}
    (hk : ∀ (c : Fin 512) a, k (ix2 c a) = ((K ⟨512 * b + c.val, by omega⟩ a : ℝ) : EReal)) {s : Half Ideal}
    (R : Rows qr K n (512 * b) s) :
    Rows qr K n (512 * b + 512) (full q (BitVec.ofNat 32 n) (Scalar.muli (BitVec.ofNat 32 b) 512#32) k s) := by
  intro c
  have h8 : ∀ j : Fin 512, k0_pay66 k q (ix2 c j) = ((score qr K c ⟨512 * b + j.val, by omega⟩ : ℝ) : EReal) := fun j => by
    pointwise [k0_pay66, k0_pay64]
    simp only [hq, hk, scale2_val, ← EReal.coe_mul, ← coe_sum]
    rfl
  have h7 : ∀ (j : Fin 512) x, k0_pay65 k (ix2 j x) = ((side K ⟨512 * b + j.val, by omega⟩ x : ℝ) : EReal) := fun j x => by
    pointwise [k0_pay65, k0_pay64]
    exact lanes _ _ _ _ (hk j x) rfl
  have hσ : ∀ j : Fin 512, k0_pay68 (k0_pay66 k q) (Ideal.ofBits .f32 0xFF800000#32)
      (k0_pay67 (BitVec.ofNat 32 n) (Scalar.muli (BitVec.ofNat 32 b) 512#32)) (ix2 c j)
        = seen (score qr K c) n ⟨512 * b + j.val, by omega⟩ := fun j => by
    have h8 := h8 j
    generalize k0_pay66 k q = z at h8 ⊢
    pointwise [k0_pay68, k0_pay67]
    exact mask_seen hn (by omega) _ _ h8 lit_bot
  have hm : ∀ r, (full q (BitVec.ofNat 32 n) (Scalar.muli (BitVec.ofNat 32 b) 512#32) k s).m (ix2 c r)
      = max (s.m (ix2 c r)) ((Finset.univ : Finset (Fin 512)).fold max ⊥ fun j => k0_pay68 (k0_pay66 k q) (Ideal.ofBits .f32 0xFF800000#32)
          (k0_pay67 (BitVec.ofNat 32 n) (Scalar.muli (BitVec.ofNat 32 b) 512#32)) (ix2 c j)) := fun r => by
    pointwise [full, k0_pay71, k0_pay69]
    rw [lit_bot]
  refine (R c).step (by decide) hb hσ h7 hm fun M hM x => ?_
  have hM' : ∀ r, k0_pay69 (k0_pay66 k q) (Ideal.ofBits .f32 0xFF800000#32)
      (k0_pay67 (BitVec.ofNat 32 n) (Scalar.muli (BitVec.ofNat 32 b) 512#32)) s.m (ix2 c r) = ((M : ℝ) : EReal) := fun r => by
    refine Eq.trans ?_ (hM r)
    pointwise [full, k0_pay71]
  by_cases hx : x.val < 128
  · refine ⟨⟨x.val, hx⟩, ?_⟩
    pointwise [full, k0_pay70]
    simp only [hM', dif_pos hx, dite_eq_ite, ite_self]
  · refine ⟨⟨x.val - 128, by omega⟩, ?_⟩
    pointwise [full, k0_pay70]
    simp only [hM', dif_neg hx, dite_eq_ite, ite_self]

/-! ### A point -/

theorem start_rows : Rows qr K n 0 (start (F := Ideal)) := fun _ => Or.inl ⟨rfl, fun _ => lit_bot, fun _ => Ideal.ofBits_zero_f32⟩

variable {k : Vec Ideal S4096x256 .bf16} (hk : ∀ j a, k (ix2 j a) = ((K j a : ℝ) : EReal))

include hq hk in
theorem blocks_rows (hn : n < 64) : ∀ b : ℕ, b ≤ n / 8 → Rows qr K n (512 * b) (blocks q k b start)
  | 0, _ => start_rows
  | b + 1, hb => by
    have h : 512 * b + 512 ≤ 4096 := by omega
    have ih := blocks_rows hn b (by omega)
    rw [blocks]
    unfold blockAt
    rw [dif_pos h]
    exact whole_rows hq h (by omega) (fun c a => (ld_rows k (rows_inb h) c a).trans (hk _ a)) ih

include hq hk in
/-- After a point's keys every row has its maximum and its sums over all keys. -/
theorem point_rows (hn : n < 64) (c : Fin 512) :
    ∃ M : ℝ, (∀ r, (point q k n).m (ix2 c r) = ((M : ℝ) : EReal))
      ∧ ∀ x, (point q k n).a (ix2 c x) = ((∑ j, weight (score qr K c) n M j * side K j x : ℝ) : EReal) := by
  have hb := blocks_rows hq hk hn (n / 8) le_rfl
  unfold point tail
  by_cases h8 : n % 8 < 4
  · have h : 512 * (n / 8) + 256 ≤ 4096 := by omega
    rw [if_pos h8]
    unfold halfAt
    rw [dif_pos h]
    exact (half_rows hq hn h (fun c a => (ld_rows k (rows_inb h) c a).trans (hk _ a)) hb c).total (by omega) (by omega)
  · have h : 512 * (n / 8) + 512 ≤ 4096 := by omega
    rw [if_neg h8]
    unfold fullAt
    rw [dif_pos h]
    exact (full_rows hq hn h (fun c a => (ld_rows k (rows_inb h) c a).trans (hk _ a)) hb c).total (by omega) (by omega)

end blocks

end Cert.Proof.Kernel2Ideal
-- ==== Proof.Kernel2Ideal.Ops.lean ====
/-
  One load or one store of the attention's forward call at a time, against the queries, the keys, the two outputs and the two tables held.
-/
module

public import proofs.«01_k».proof.Proof.Kernel2Ideal.Model
public import Idealize.ShloMosaic.Lib.LoopRemainder
public import Idealize.ShloMosaic.Lib.Pipeline.Value

@[expose] public section

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.KernelIdeal (read_store ld_overlay_of_disjoint overlay_whole)

variable {F : FTy → Type} [FloatOps F] [Named F]

local notation "𝕄" => MT nD τ sig Unit (Elt F) ℕ (UR sig nD τ) ℕ

/-- The queries, the keys, the two outputs and the two tables held, the tables at the vectors of two halves. -/
def held (c : Dev nD) (a1 : Memref sig .tc .vmem S16x64x256 .bf16) (a2 : Memref sig .tc .vmem S4096x256 .bf16)
    (a3 : Memref sig .tc .vmem S16x64x128 .bf16) (a4 : Memref sig .tc .vmem S16x64x128 .f32)
    (a5 : Memref sig .tc .vmem S1024x128 .f32) (a6 : Memref sig .tc .vmem S1024x256 .f32)
    (q : Vec F S16x64x256 .bf16) (k : Vec F S4096x256 .bf16) (o : Vec F S16x64x128 .bf16) (e : Vec F S16x64x128 .f32)
    (l h : Half F) : sProp 𝕄 :=
  iprop(owns (c : Thread nD τ) a1 fullShare q ∗ owns (c : Thread nD τ) a2 fullShare k
    ∗ owns (c : Thread nD τ) a3 fullShare o ∗ owns (c : Thread nD τ) a4 fullShare e
    ∗ owns (c : Thread nD τ) a5 fullShare (glue (Val := Elt F) l.m h.m) ∗ owns (c : Thread nD τ) a6 fullShare (glue (Val := Elt F) l.a h.a))

variable {c : Dev nD} {arg1 : Memref sig .tc .vmem S16x64x256 .bf16} {arg2 : Memref sig .tc .vmem S4096x256 .bf16}
  {arg5 : Memref sig .tc .vmem S1024x128 .f32} {arg6 : Memref sig .tc .vmem S1024x256 .f32}
  {arg3 : Memref sig .tc .vmem S16x64x128 .bf16} {arg4 : Memref sig .tc .vmem S16x64x128 .f32}
  {q : Vec F S16x64x256 .bf16} {k : Vec F S4096x256 .bf16} {o : Vec F S16x64x128 .bf16} {e : Vec F S16x64x128 .f32} {l h : Half F}

section ops

/-- The first eight heads' queries. -/
theorem load_q_lo {β : Type} {Q : β → sProp 𝕄} {f : Vec F S8x64x256 .bf16 → Prog (TpuEff nD τ sig (Elt F) Λ₀ .tc) β}
    (hf : held c arg1 arg2 arg3 arg4 arg5 arg6 q k o e l h ⊢ wp frame (wpE defs₀ Variants.none (c : Thread nD τ) none) Set.univ
      (f (qlo q)) Q) :
    held c arg1 arg2 arg3 arg4 arg5 arg6 q k o e l h ⊢ wp frame (wpE defs₀ Variants.none (c : Thread nD τ) none) Set.univ
      (Prog.lift (.load arg1 (Rect.unit (s := S16x64x256) ![0, 0, 0] S8x64x256.size inb_S16x64x256_S8x64x256_0_0_0).toLoadRect (View.loadsAt_vmem h_S8x64x256)) >>= f) Q := by
  rw [wp_bind]
  refine BIBase.Entails.trans ?_ (wp_mono _ _ _ (Q := fun v => iprop(⌜v = qlo q⌝ ∗ held c arg1 arg2 arg3 arg4 arg5 arg6 q k o e l h)) fun v => ?_)
  rotate_left
  · iintro ⟨%he, H⟩
    subst he
    iapply hf
    iexact H
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitr [H1 H2 H3 H4 H5 H6]
  · ipureintro
    subst h1; rfl
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; exact h6

/-- The last eight heads' queries. -/
theorem load_q_hi {β : Type} {Q : β → sProp 𝕄} {f : Vec F S8x64x256 .bf16 → Prog (TpuEff nD τ sig (Elt F) Λ₀ .tc) β}
    (hf : held c arg1 arg2 arg3 arg4 arg5 arg6 q k o e l h ⊢ wp frame (wpE defs₀ Variants.none (c : Thread nD τ) none) Set.univ
      (f (qhi q)) Q) :
    held c arg1 arg2 arg3 arg4 arg5 arg6 q k o e l h ⊢ wp frame (wpE defs₀ Variants.none (c : Thread nD τ) none) Set.univ
      (Prog.lift (.load arg1 (Rect.unit (s := S16x64x256) ![8, 0, 0] S8x64x256.size inb_S16x64x256_S8x64x256_8_0_0).toLoadRect (View.loadsAt_vmem h_S8x64x256)) >>= f) Q := by
  rw [wp_bind]
  refine BIBase.Entails.trans ?_ (wp_mono _ _ _ (Q := fun v => iprop(⌜v = qhi q⌝ ∗ held c arg1 arg2 arg3 arg4 arg5 arg6 q k o e l h)) fun v => ?_)
  rotate_left
  · iintro ⟨%he, H⟩
    subst he
    iapply hf
    iexact H
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitr [H1 H2 H3 H4 H5 H6]
  · ipureintro
    subst h1; rfl
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; exact h6

/-- A block of 512 keys. -/
theorem load_k_512 {β : Type} {Q : β → sProp 𝕄} {off : Fin 2 → ℕ} {i : ∀ a, off a + S512x256.size a ≤ S4096x256.size a} {f : Vec F S512x256 .bf16 → Prog (TpuEff nD τ sig (Elt F) Λ₀ .tc) β}
    (hf : held c arg1 arg2 arg3 arg4 arg5 arg6 q k o e l h ⊢ wp frame (wpE defs₀ Variants.none (c : Thread nD τ) none) Set.univ
      (f (View.ld k (Rect.unit (s := S4096x256) off S512x256.size i))) Q) :
    held c arg1 arg2 arg3 arg4 arg5 arg6 q k o e l h ⊢ wp frame (wpE defs₀ Variants.none (c : Thread nD τ) none) Set.univ
      (Prog.lift (.load arg2 (Rect.unit (s := S4096x256) off S512x256.size i).toLoadRect (View.loadsAt_vmem h_S512x256)) >>= f) Q := by
  rw [wp_bind]
  refine BIBase.Entails.trans ?_ (wp_mono _ _ _ (Q := fun v => iprop(⌜v = View.ld k (Rect.unit (s := S4096x256) off S512x256.size i)⌝ ∗ held c arg1 arg2 arg3 arg4 arg5 arg6 q k o e l h)) fun v => ?_)
  rotate_left
  · iintro ⟨%he, H⟩
    subst he
    iapply hf
    iexact H
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitr [H1 H2 H3 H4 H5 H6]
  · ipureintro
    subst h2; rfl
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; exact h6

/-- A block of 256 keys. -/
theorem load_k_256 {β : Type} {Q : β → sProp 𝕄} {off : Fin 2 → ℕ} {i : ∀ a, off a + S256x256.size a ≤ S4096x256.size a} {f : Vec F S256x256 .bf16 → Prog (TpuEff nD τ sig (Elt F) Λ₀ .tc) β}
    (hf : held c arg1 arg2 arg3 arg4 arg5 arg6 q k o e l h ⊢ wp frame (wpE defs₀ Variants.none (c : Thread nD τ) none) Set.univ
      (f (View.ld k (Rect.unit (s := S4096x256) off S256x256.size i))) Q) :
    held c arg1 arg2 arg3 arg4 arg5 arg6 q k o e l h ⊢ wp frame (wpE defs₀ Variants.none (c : Thread nD τ) none) Set.univ
      (Prog.lift (.load arg2 (Rect.unit (s := S4096x256) off S256x256.size i).toLoadRect (View.loadsAt_vmem h_S256x256)) >>= f) Q := by
  rw [wp_bind]
  refine BIBase.Entails.trans ?_ (wp_mono _ _ _ (Q := fun v => iprop(⌜v = View.ld k (Rect.unit (s := S4096x256) off S256x256.size i)⌝ ∗ held c arg1 arg2 arg3 arg4 arg5 arg6 q k o e l h)) fun v => ?_)
  rotate_left
  · iintro ⟨%he, H⟩
    subst he
    iapply hf
    iexact H
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitr [H1 H2 H3 H4 H5 H6]
  · ipureintro
    subst h2; rfl
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; exact h6

/-- The first eight heads' maxima. -/
theorem load_m_lo {β : Type} {Q : β → sProp 𝕄} {f : Vec F S512x128 .f32 → Prog (TpuEff nD τ sig (Elt F) Λ₀ .tc) β}
    (hf : held c arg1 arg2 arg3 arg4 arg5 arg6 q k o e l h ⊢ wp frame (wpE defs₀ Variants.none (c : Thread nD τ) none) Set.univ
      (f (l.m)) Q) :
    held c arg1 arg2 arg3 arg4 arg5 arg6 q k o e l h ⊢ wp frame (wpE defs₀ Variants.none (c : Thread nD τ) none) Set.univ
      (Prog.lift (.load arg5 (Rect.unit (s := S1024x128) ![0, 0] S512x128.size inb_S1024x128_S512x128_0_0).toLoadRect (View.loadsAt_vmem h_S512x128)) >>= f) Q := by
  rw [wp_bind]
  refine BIBase.Entails.trans ?_ (wp_mono _ _ _ (Q := fun v => iprop(⌜v = l.m⌝ ∗ held c arg1 arg2 arg3 arg4 arg5 arg6 q k o e l h)) fun v => ?_)
  rotate_left
  · iintro ⟨%he, H⟩
    subst he
    iapply hf
    iexact H
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitr [H1 H2 H3 H4 H5 H6]
  · ipureintro
    rw [View.readAt_eq_ld, h5]; exact ld_glue_lo l.m h.m _
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; exact h6

/-- The first eight heads' sums. -/
theorem load_a_lo {β : Type} {Q : β → sProp 𝕄} {f : Vec F S512x256 .f32 → Prog (TpuEff nD τ sig (Elt F) Λ₀ .tc) β}
    (hf : held c arg1 arg2 arg3 arg4 arg5 arg6 q k o e l h ⊢ wp frame (wpE defs₀ Variants.none (c : Thread nD τ) none) Set.univ
      (f (l.a)) Q) :
    held c arg1 arg2 arg3 arg4 arg5 arg6 q k o e l h ⊢ wp frame (wpE defs₀ Variants.none (c : Thread nD τ) none) Set.univ
      (Prog.lift (.load arg6 (Rect.unit (s := S1024x256) ![0, 0] S512x256.size inb_S1024x256_S512x256_0_0).toLoadRect (View.loadsAt_vmem h_S512x256)) >>= f) Q := by
  rw [wp_bind]
  refine BIBase.Entails.trans ?_ (wp_mono _ _ _ (Q := fun v => iprop(⌜v = l.a⌝ ∗ held c arg1 arg2 arg3 arg4 arg5 arg6 q k o e l h)) fun v => ?_)
  rotate_left
  · iintro ⟨%he, H⟩
    subst he
    iapply hf
    iexact H
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitr [H1 H2 H3 H4 H5 H6]
  · ipureintro
    rw [View.readAt_eq_ld, h6]; exact ld_glue_lo l.a h.a _
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; exact h6

/-- The last eight heads' maxima. -/
theorem load_m_hi {β : Type} {Q : β → sProp 𝕄} {f : Vec F S512x128 .f32 → Prog (TpuEff nD τ sig (Elt F) Λ₀ .tc) β}
    (hf : held c arg1 arg2 arg3 arg4 arg5 arg6 q k o e l h ⊢ wp frame (wpE defs₀ Variants.none (c : Thread nD τ) none) Set.univ
      (f (h.m)) Q) :
    held c arg1 arg2 arg3 arg4 arg5 arg6 q k o e l h ⊢ wp frame (wpE defs₀ Variants.none (c : Thread nD τ) none) Set.univ
      (Prog.lift (.load arg5 (Rect.unit (s := S1024x128) ![512, 0] S512x128.size inb_S1024x128_S512x128_512_0).toLoadRect (View.loadsAt_vmem h_S512x128)) >>= f) Q := by
  rw [wp_bind]
  refine BIBase.Entails.trans ?_ (wp_mono _ _ _ (Q := fun v => iprop(⌜v = h.m⌝ ∗ held c arg1 arg2 arg3 arg4 arg5 arg6 q k o e l h)) fun v => ?_)
  rotate_left
  · iintro ⟨%he, H⟩
    subst he
    iapply hf
    iexact H
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitr [H1 H2 H3 H4 H5 H6]
  · ipureintro
    rw [View.readAt_eq_ld, h5]; exact ld_glue_hi l.m h.m _
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; exact h6

/-- The last eight heads' sums. -/
theorem load_a_hi {β : Type} {Q : β → sProp 𝕄} {f : Vec F S512x256 .f32 → Prog (TpuEff nD τ sig (Elt F) Λ₀ .tc) β}
    (hf : held c arg1 arg2 arg3 arg4 arg5 arg6 q k o e l h ⊢ wp frame (wpE defs₀ Variants.none (c : Thread nD τ) none) Set.univ
      (f (h.a)) Q) :
    held c arg1 arg2 arg3 arg4 arg5 arg6 q k o e l h ⊢ wp frame (wpE defs₀ Variants.none (c : Thread nD τ) none) Set.univ
      (Prog.lift (.load arg6 (Rect.unit (s := S1024x256) ![512, 0] S512x256.size inb_S1024x256_S512x256_512_0).toLoadRect (View.loadsAt_vmem h_S512x256)) >>= f) Q := by
  rw [wp_bind]
  refine BIBase.Entails.trans ?_ (wp_mono _ _ _ (Q := fun v => iprop(⌜v = h.a⌝ ∗ held c arg1 arg2 arg3 arg4 arg5 arg6 q k o e l h)) fun v => ?_)
  rotate_left
  · iintro ⟨%he, H⟩
    subst he
    iapply hf
    iexact H
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitr [H1 H2 H3 H4 H5 H6]
  · ipureintro
    rw [View.readAt_eq_ld, h6]; exact ld_glue_hi l.a h.a _
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; exact h6

/-- The first eight heads' maxima replaced. -/
theorem store_m_lo {β : Type} {Q : β → sProp 𝕄} {x : Vec F S512x128 .f32} {f : PUnit → Prog (TpuEff nD τ sig (Elt F) Λ₀ .tc) β}
    (hf : held c arg1 arg2 arg3 arg4 arg5 arg6 q k o e ⟨x, l.a⟩ h ⊢ wp frame (wpE defs₀ Variants.none (c : Thread nD τ) none) Set.univ
      (f ⟨⟩) Q) :
    held c arg1 arg2 arg3 arg4 arg5 arg6 q k o e l h ⊢ wp frame (wpE defs₀ Variants.none (c : Thread nD τ) none) Set.univ
      (Prog.lift (.store arg5 (Rect.unit (s := S1024x128) ![0, 0] S512x128.size inb_S1024x128_S512x128_0_0) x Finset.univ (View.stores_vmem_bits_univ h_S512x128 rfl) (.inl rfl)) >>= f) Q := by
  rw [wp_bind]
  refine BIBase.Entails.trans ?_ (wp_mono _ _ _ (Q := fun _ => held c arg1 arg2 arg3 arg4 arg5 arg6 q k o e ⟨x, l.a⟩ h) fun _ => hf)
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; refine (read_store _ _ _ _ _).trans ((congrArg (fun X => (Rect.unit (s := S1024x128) ![0, 0] S512x128.size inb_S1024x128_S512x128_0_0).overlay X x) h5).trans (overlay_glue_lo l.m h.m x _))
  · iexists _; isplitr [H6]; swap; · iexact H6
    ipureintro; exact h6

/-- The first eight heads' sums replaced. -/
theorem store_a_lo {β : Type} {Q : β → sProp 𝕄} {x : Vec F S512x256 .f32} {f : PUnit → Prog (TpuEff nD τ sig (Elt F) Λ₀ .tc) β}
    (hf : held c arg1 arg2 arg3 arg4 arg5 arg6 q k o e ⟨l.m, x⟩ h ⊢ wp frame (wpE defs₀ Variants.none (c : Thread nD τ) none) Set.univ
      (f ⟨⟩) Q) :
    held c arg1 arg2 arg3 arg4 arg5 arg6 q k o e l h ⊢ wp frame (wpE defs₀ Variants.none (c : Thread nD τ) none) Set.univ
      (Prog.lift (.store arg6 (Rect.unit (s := S1024x256) ![0, 0] S512x256.size inb_S1024x256_S512x256_0_0) x Finset.univ (View.stores_vmem_bits_univ h_S512x256 rfl) (.inl rfl)) >>= f) Q := by
  rw [wp_bind]
  refine BIBase.Entails.trans ?_ (wp_mono _ _ _ (Q := fun _ => held c arg1 arg2 arg3 arg4 arg5 arg6 q k o e ⟨l.m, x⟩ h) fun _ => hf)
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; refine (read_store _ _ _ _ _).trans ((congrArg (fun X => (Rect.unit (s := S1024x256) ![0, 0] S512x256.size inb_S1024x256_S512x256_0_0).overlay X x) h6).trans (overlay_glue_lo l.a h.a x _))

/-- The last eight heads' maxima replaced. -/
theorem store_m_hi {β : Type} {Q : β → sProp 𝕄} {x : Vec F S512x128 .f32} {f : PUnit → Prog (TpuEff nD τ sig (Elt F) Λ₀ .tc) β}
    (hf : held c arg1 arg2 arg3 arg4 arg5 arg6 q k o e l ⟨x, h.a⟩ ⊢ wp frame (wpE defs₀ Variants.none (c : Thread nD τ) none) Set.univ
      (f ⟨⟩) Q) :
    held c arg1 arg2 arg3 arg4 arg5 arg6 q k o e l h ⊢ wp frame (wpE defs₀ Variants.none (c : Thread nD τ) none) Set.univ
      (Prog.lift (.store arg5 (Rect.unit (s := S1024x128) ![512, 0] S512x128.size inb_S1024x128_S512x128_512_0) x Finset.univ (View.stores_vmem_bits_univ h_S512x128 rfl) (.inl rfl)) >>= f) Q := by
  rw [wp_bind]
  refine BIBase.Entails.trans ?_ (wp_mono _ _ _ (Q := fun _ => held c arg1 arg2 arg3 arg4 arg5 arg6 q k o e l ⟨x, h.a⟩) fun _ => hf)
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; refine (read_store _ _ _ _ _).trans ((congrArg (fun X => (Rect.unit (s := S1024x128) ![512, 0] S512x128.size inb_S1024x128_S512x128_512_0).overlay X x) h5).trans (overlay_glue_hi l.m h.m x _))
  · iexists _; isplitr [H6]; swap; · iexact H6
    ipureintro; exact h6

/-- The last eight heads' sums replaced. -/
theorem store_a_hi {β : Type} {Q : β → sProp 𝕄} {x : Vec F S512x256 .f32} {f : PUnit → Prog (TpuEff nD τ sig (Elt F) Λ₀ .tc) β}
    (hf : held c arg1 arg2 arg3 arg4 arg5 arg6 q k o e l ⟨h.m, x⟩ ⊢ wp frame (wpE defs₀ Variants.none (c : Thread nD τ) none) Set.univ
      (f ⟨⟩) Q) :
    held c arg1 arg2 arg3 arg4 arg5 arg6 q k o e l h ⊢ wp frame (wpE defs₀ Variants.none (c : Thread nD τ) none) Set.univ
      (Prog.lift (.store arg6 (Rect.unit (s := S1024x256) ![512, 0] S512x256.size inb_S1024x256_S512x256_512_0) x Finset.univ (View.stores_vmem_bits_univ h_S512x256 rfl) (.inl rfl)) >>= f) Q := by
  rw [wp_bind]
  refine BIBase.Entails.trans ?_ (wp_mono _ _ _ (Q := fun _ => held c arg1 arg2 arg3 arg4 arg5 arg6 q k o e l ⟨h.m, x⟩) fun _ => hf)
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; refine (read_store _ _ _ _ _).trans ((congrArg (fun X => (Rect.unit (s := S1024x256) ![512, 0] S512x256.size inb_S1024x256_S512x256_512_0).overlay X x) h6).trans (overlay_glue_hi l.a h.a x _))

theorem zero2 : (![0, 0] : Fin 2 → ℕ) = fun _ => 0 := by funext a; fin_cases a <;> rfl
theorem zero3 : (![0, 0, 0] : Fin 3 → ℕ) = fun _ => 0 := by funext a; fin_cases a <;> rfl

/-- All the maxima. -/
theorem load_m {β : Type} {Q : β → sProp 𝕄} {f : Vec F S1024x128 .f32 → Prog (TpuEff nD τ sig (Elt F) Λ₀ .tc) β}
    (hf : held c arg1 arg2 arg3 arg4 arg5 arg6 q k o e l h ⊢ wp frame (wpE defs₀ Variants.none (c : Thread nD τ) none) Set.univ
      (f (glue (Val := Elt F) l.m h.m)) Q) :
    held c arg1 arg2 arg3 arg4 arg5 arg6 q k o e l h ⊢ wp frame (wpE defs₀ Variants.none (c : Thread nD τ) none) Set.univ
      (Prog.lift (.load arg5 (Rect.unit (s := S1024x128) ![0, 0] S1024x128.size inb_S1024x128_S1024x128_0_0).toLoadRect (View.loadsAt_vmem h_S1024x128)) >>= f) Q := by
  rw [wp_bind]
  refine BIBase.Entails.trans ?_ (wp_mono _ _ _ (Q := fun v => iprop(⌜v = glue (Val := Elt F) l.m h.m⌝ ∗ held c arg1 arg2 arg3 arg4 arg5 arg6 q k o e l h)) fun v => ?_)
  rotate_left
  · iintro ⟨%he, H⟩
    subst he
    iapply hf
    iexact H
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitr [H1 H2 H3 H4 H5 H6]
  · ipureintro
    rw [View.readAt_eq_ld, h5]; exact View.ld_unit_zero zero2 _ _
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; exact h6

/-- All the sums. -/
theorem load_a {β : Type} {Q : β → sProp 𝕄} {f : Vec F S1024x256 .f32 → Prog (TpuEff nD τ sig (Elt F) Λ₀ .tc) β}
    (hf : held c arg1 arg2 arg3 arg4 arg5 arg6 q k o e l h ⊢ wp frame (wpE defs₀ Variants.none (c : Thread nD τ) none) Set.univ
      (f (glue (Val := Elt F) l.a h.a)) Q) :
    held c arg1 arg2 arg3 arg4 arg5 arg6 q k o e l h ⊢ wp frame (wpE defs₀ Variants.none (c : Thread nD τ) none) Set.univ
      (Prog.lift (.load arg6 (Rect.unit (s := S1024x256) ![0, 0] S1024x256.size inb_S1024x256_S1024x256_0_0).toLoadRect (View.loadsAt_vmem h_S1024x256)) >>= f) Q := by
  rw [wp_bind]
  refine BIBase.Entails.trans ?_ (wp_mono _ _ _ (Q := fun v => iprop(⌜v = glue (Val := Elt F) l.a h.a⌝ ∗ held c arg1 arg2 arg3 arg4 arg5 arg6 q k o e l h)) fun v => ?_)
  rotate_left
  · iintro ⟨%he, H⟩
    subst he
    iapply hf
    iexact H
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitr [H1 H2 H3 H4 H5 H6]
  · ipureintro
    rw [View.readAt_eq_ld, h6]; exact View.ld_unit_zero zero2 _ _
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; exact h6

/-- The outputs. -/
theorem load_o {β : Type} {Q : β → sProp 𝕄} {f : Vec F S16x64x128 .bf16 → Prog (TpuEff nD τ sig (Elt F) Λ₀ .tc) β}
    (hf : held c arg1 arg2 arg3 arg4 arg5 arg6 q k o e l h ⊢ wp frame (wpE defs₀ Variants.none (c : Thread nD τ) none) Set.univ
      (f (o)) Q) :
    held c arg1 arg2 arg3 arg4 arg5 arg6 q k o e l h ⊢ wp frame (wpE defs₀ Variants.none (c : Thread nD τ) none) Set.univ
      (Prog.lift (.load arg3 (Rect.unit (s := S16x64x128) ![0, 0, 0] S16x64x128.size inb_S16x64x128_S16x64x128_0_0_0).toLoadRect (View.loadsAt_vmem h_S16x64x128)) >>= f) Q := by
  rw [wp_bind]
  refine BIBase.Entails.trans ?_ (wp_mono _ _ _ (Q := fun v => iprop(⌜v = o⌝ ∗ held c arg1 arg2 arg3 arg4 arg5 arg6 q k o e l h)) fun v => ?_)
  rotate_left
  · iintro ⟨%he, H⟩
    subst he
    iapply hf
    iexact H
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitr [H1 H2 H3 H4 H5 H6]
  · ipureintro
    rw [View.readAt_eq_ld, h3]; exact View.ld_unit_zero zero3 _ _
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; exact h6

/-- The log-sum-exps. -/
theorem load_e {β : Type} {Q : β → sProp 𝕄} {f : Vec F S16x64x128 .f32 → Prog (TpuEff nD τ sig (Elt F) Λ₀ .tc) β}
    (hf : held c arg1 arg2 arg3 arg4 arg5 arg6 q k o e l h ⊢ wp frame (wpE defs₀ Variants.none (c : Thread nD τ) none) Set.univ
      (f (e)) Q) :
    held c arg1 arg2 arg3 arg4 arg5 arg6 q k o e l h ⊢ wp frame (wpE defs₀ Variants.none (c : Thread nD τ) none) Set.univ
      (Prog.lift (.load arg4 (Rect.unit (s := S16x64x128) ![0, 0, 0] S16x64x128.size inb_S16x64x128_S16x64x128_0_0_0).toLoadRect (View.loadsAt_vmem h_S16x64x128)) >>= f) Q := by
  rw [wp_bind]
  refine BIBase.Entails.trans ?_ (wp_mono _ _ _ (Q := fun v => iprop(⌜v = e⌝ ∗ held c arg1 arg2 arg3 arg4 arg5 arg6 q k o e l h)) fun v => ?_)
  rotate_left
  · iintro ⟨%he, H⟩
    subst he
    iapply hf
    iexact H
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitr [H1 H2 H3 H4 H5 H6]
  · ipureintro
    rw [View.readAt_eq_ld, h4]; exact View.ld_unit_zero zero3 _ _
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; exact h6

/-- All the maxima replaced. -/
theorem store_m {β : Type} {Q : β → sProp 𝕄} {x : Vec F S1024x128 .f32} {y z : Vec F S512x128 .f32} (hx : x = glue (Val := Elt F) y z) {f : PUnit → Prog (TpuEff nD τ sig (Elt F) Λ₀ .tc) β}
    (hf : held c arg1 arg2 arg3 arg4 arg5 arg6 q k o e ⟨y, l.a⟩ ⟨z, h.a⟩ ⊢ wp frame (wpE defs₀ Variants.none (c : Thread nD τ) none) Set.univ
      (f ⟨⟩) Q) :
    held c arg1 arg2 arg3 arg4 arg5 arg6 q k o e l h ⊢ wp frame (wpE defs₀ Variants.none (c : Thread nD τ) none) Set.univ
      (Prog.lift (.store arg5 (Rect.unit (s := S1024x128) ![0, 0] S1024x128.size inb_S1024x128_S1024x128_0_0) x Finset.univ (View.stores_vmem_bits_univ h_S1024x128 rfl) (.inl rfl)) >>= f) Q := by
  rw [wp_bind]
  refine BIBase.Entails.trans ?_ (wp_mono _ _ _ (Q := fun _ => held c arg1 arg2 arg3 arg4 arg5 arg6 q k o e ⟨y, l.a⟩ ⟨z, h.a⟩) fun _ => hf)
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; subst hx; rw [read_store, overlay_whole zero2]
  · iexists _; isplitr [H6]; swap; · iexact H6
    ipureintro; exact h6

/-- All the sums replaced. -/
theorem store_a {β : Type} {Q : β → sProp 𝕄} {x : Vec F S1024x256 .f32} {y z : Vec F S512x256 .f32} (hx : x = glue (Val := Elt F) y z) {f : PUnit → Prog (TpuEff nD τ sig (Elt F) Λ₀ .tc) β}
    (hf : held c arg1 arg2 arg3 arg4 arg5 arg6 q k o e ⟨l.m, y⟩ ⟨h.m, z⟩ ⊢ wp frame (wpE defs₀ Variants.none (c : Thread nD τ) none) Set.univ
      (f ⟨⟩) Q) :
    held c arg1 arg2 arg3 arg4 arg5 arg6 q k o e l h ⊢ wp frame (wpE defs₀ Variants.none (c : Thread nD τ) none) Set.univ
      (Prog.lift (.store arg6 (Rect.unit (s := S1024x256) ![0, 0] S1024x256.size inb_S1024x256_S1024x256_0_0) x Finset.univ (View.stores_vmem_bits_univ h_S1024x256 rfl) (.inl rfl)) >>= f) Q := by
  rw [wp_bind]
  refine BIBase.Entails.trans ?_ (wp_mono _ _ _ (Q := fun _ => held c arg1 arg2 arg3 arg4 arg5 arg6 q k o e ⟨l.m, y⟩ ⟨h.m, z⟩) fun _ => hf)
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; subst hx; rw [read_store, overlay_whole zero2]

/-- The outputs replaced. -/
theorem store_o {β : Type} {Q : β → sProp 𝕄} {x : Vec F S16x64x128 .bf16} {harg3 : arg3.IsWhole} {f : PUnit → Prog (TpuEff nD τ sig (Elt F) Λ₀ .tc) β}
    (hf : held c arg1 arg2 arg3 arg4 arg5 arg6 q k x e l h ⊢ wp frame (wpE defs₀ Variants.none (c : Thread nD τ) none) Set.univ
      (f ⟨⟩) Q) :
    held c arg1 arg2 arg3 arg4 arg5 arg6 q k o e l h ⊢ wp frame (wpE defs₀ Variants.none (c : Thread nD τ) none) Set.univ
      (Prog.lift (.store arg3 (Rect.unit (s := S16x64x128) ![0, 0, 0] S16x64x128.size inb_S16x64x128_S16x64x128_0_0_0) x Finset.univ (View.stores_vmem h_S16x64x128 (harg3.storeExact_slice rfl _ packedbf16_S16x64x128_S16x64x128_0_0_0) (fun _ => rfl)) (.inl rfl)) >>= f) Q := by
  rw [wp_bind]
  refine BIBase.Entails.trans ?_ (wp_mono _ _ _ (Q := fun _ => held c arg1 arg2 arg3 arg4 arg5 arg6 q k x e l h) fun _ => hf)
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; rw [read_store, overlay_whole zero3]
  isplitl [H4]
  · iexists _; isplitr [H4]; swap; · iexact H4
    ipureintro; exact h4
  isplitl [H5]
  · iexists _; isplitr [H5]; swap; · iexact H5
    ipureintro; exact h5
  · iexists _; isplitr [H6]; swap; · iexact H6
    ipureintro; exact h6

/-- The log-sum-exps replaced. -/
theorem store_e {β : Type} {Q : β → sProp 𝕄} {x : Vec F S16x64x128 .f32} {f : PUnit → Prog (TpuEff nD τ sig (Elt F) Λ₀ .tc) β}
    (hf : held c arg1 arg2 arg3 arg4 arg5 arg6 q k o x l h ⊢ wp frame (wpE defs₀ Variants.none (c : Thread nD τ) none) Set.univ
      (f ⟨⟩) Q) :
    held c arg1 arg2 arg3 arg4 arg5 arg6 q k o e l h ⊢ wp frame (wpE defs₀ Variants.none (c : Thread nD τ) none) Set.univ
      (Prog.lift (.store arg4 (Rect.unit (s := S16x64x128) ![0, 0, 0] S16x64x128.size inb_S16x64x128_S16x64x128_0_0_0) x Finset.univ (View.stores_vmem_bits_univ h_S16x64x128 rfl) (.inl rfl)) >>= f) Q := by
  rw [wp_bind]
  refine BIBase.Entails.trans ?_ (wp_mono _ _ _ (Q := fun _ => held c arg1 arg2 arg3 arg4 arg5 arg6 q k o x l h) fun _ => hf)
  unfold held owns
  iintro ⟨⟨%f1, %h1, H1⟩, ⟨%f2, %h2, H2⟩, ⟨%f3, %h3, H3⟩, ⟨%f4, %h4, H4⟩, ⟨%f5, %h5, H5⟩, ⟨%f6, %h6, H6⟩⟩
  sl_exec
  sl_step
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; rw [read_store, overlay_whole zero3]
  isplitl [H5]
  · iexists _; isplitr [H5]; swap; · iexact H5
    ipureintro; exact h5
  · iexists _; isplitr [H6]; swap; · iexact H6
    ipureintro; exact h6

end ops

end Cert.Proof.Kernel2Ideal
-- ==== Proof.Kernel2Ideal.Loop.lean ====
/-
  The loops of the attention's forward call: one trip of the paired loop takes two whole blocks of keys.
-/
module

public import proofs.«01_k».proof.Proof.Kernel2Ideal.Ops
public import Idealize.ShloMosaic.Lib.LoopRemainder
public import Idealize.ShloMosaic.Lib.Pipeline.Value

@[expose] public section

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.KernelIdeal (read_store ld_overlay_of_disjoint overlay_whole)

variable {F : FTy → Type} [FloatOps F] [Named F]

local notation "𝕄" => MT nD τ sig Unit (Elt F) ℕ (UR sig nD τ) ℕ

variable (c : Dev nD) (i : grid0.Coords)
  (arg1 : Memref sig .tc .vmem S16x64x256 .bf16) (harg1 : arg1.IsWhole) (arg2 : Memref sig .tc .vmem S4096x256 .bf16) (harg2 : arg2.IsWhole)
  (arg3 : Memref sig .tc .vmem S16x64x128 .bf16) (harg3 : arg3.IsWhole) (arg4 : Memref sig .tc .vmem S16x64x128 .f32) (harg4 : arg4.IsWhole)
  (arg5 : Memref sig .tc .vmem S1024x128 .f32) (harg5 : arg5.IsWhole) (arg6 : Memref sig .tc .vmem S1024x256 .f32) (harg6 : arg6.IsWhole)

/-- One trip: blocks `2t` and `2t + 1`, for each half. -/
theorem trip (v9 v29 c2 v30 v35 : BitVec 32) (q : Vec F S16x64x256 .bf16) (k : Vec F S4096x256 .bf16)
    (o : Vec F S16x64x128 .bf16) (e : Vec F S16x64x128 .f32) (l h : Half F)
    (t : Fin (k0_t1_loop i).trips) :
    held c arg1 arg2 arg3 arg4 arg5 arg6 q k o e l h ⊢ wp frame (wpE defs₀ Variants.none (c : Thread nD τ) none) Set.univ
      (k0_t1_body (F := F) i arg1 harg1 arg2 harg2 arg3 harg3 arg4 harg4 arg5 harg5 arg6 harg6 v9 v29 c2 v30 v35 t ())
      (fun _ => held c arg1 arg2 arg3 arg4 arg5 arg6 q k o e (blockAt (qlo q) k (2 * t.val + 1) (blockAt (qlo q) k (2 * t.val) l))
        (blockAt (qhi q) k (2 * t.val + 1) (blockAt (qhi q) k (2 * t.val) h))) := by
  have e2 : k0_off2 i t = ![512 * (2 * t.val + 1), 0] := by rw [off2_eq]; congr 1; omega
  have e1 : k0_off1 i t = ![512 * (2 * t.val), 0] := by rw [off1_eq]; congr 1; omega
  rw [← whole_eq_blockAt (h := k0_off2_inb i t) e2, ← whole_eq_blockAt (h := k0_off1_inb i t) e1,
    ← whole_eq_blockAt (h := k0_off2_inb i t) e2, ← whole_eq_blockAt (h := k0_off1_inb i t) e1]
  unfold k0_t1_body
  simp only [k0_part1_eq_skeleton, k0_part2_eq_skeleton, k0_part3_eq_skeleton]
  unfold k0_part1_skel k0_part2_skel k0_part3_skel
  simp only [bind_assoc, pure_bind]
  refine load_k_512 ?_
  refine load_q_lo ?_
  refine load_m_lo ?_
  refine load_a_lo ?_
  refine load_a_lo ?_
  refine store_a_lo ?_
  refine load_m_lo ?_
  refine store_m_lo ?_
  refine load_q_hi ?_
  refine load_m_hi ?_
  refine load_a_hi ?_
  refine load_a_hi ?_
  refine store_a_hi ?_
  refine load_m_hi ?_
  refine store_m_hi ?_
  refine load_k_512 ?_
  refine load_q_lo ?_
  refine load_m_lo ?_
  refine load_a_lo ?_
  refine load_a_lo ?_
  refine store_a_lo ?_
  refine load_m_lo ?_
  refine store_m_lo ?_
  refine load_q_hi ?_
  refine load_m_hi ?_
  refine load_a_hi ?_
  refine load_a_hi ?_
  refine store_a_hi ?_
  refine load_m_hi ?_
  refine store_m_hi ?_
  iintro H
  sl_step
  iexact H

/-- The paired loop: the first `2 * trips` whole blocks. -/
theorem pairs (v9 v29 c2 v30 v35 : BitVec 32) (q : Vec F S16x64x256 .bf16) (k : Vec F S4096x256 .bf16)
    (o : Vec F S16x64x128 .bf16) (e : Vec F S16x64x128 .f32) (l h : Half F) :
    held c arg1 arg2 arg3 arg4 arg5 arg6 q k o e l h ⊢ wp frame (wpE defs₀ Variants.none (c : Thread nD τ) none) Set.univ
      (Scf.Loop.for (k0_t1_loop i) (k0_t1_ok i) ⟨⟩
        (k0_t1_body (F := F) i arg1 harg1 arg2 harg2 arg3 harg3 arg4 harg4 arg5 harg5 arg6 harg6 v9 v29 c2 v30 v35))
      (fun _ => held c arg1 arg2 arg3 arg4 arg5 arg6 q k o e (blocks (qlo q) k (2 * ((i 0).val / 8 / 2)) l)
        (blocks (qhi q) k (2 * ((i 0).val / 8 / 2)) h)) := by
  have H := Scf.wp_for (Q := fun _ => held c arg1 arg2 arg3 arg4 arg5 arg6 q k o e (blocks (qlo q) k (2 * ((i 0).val / 8 / 2)) l)
      (blocks (qhi q) k (2 * ((i 0).val / 8 / 2)) h)) frame
    (wpE defs₀ Variants.none (c : Thread nD τ) none) Set.univ _ _ _ (k0_t1_ok i) ()
    (k0_t1_body (F := F) i arg1 harg1 arg2 harg2 arg3 harg3 arg4 harg4 arg5 harg5 arg6 harg6 v9 v29 c2 v30 v35)
    (fun n _ => held c arg1 arg2 arg3 arg4 arg5 arg6 q k o e (blocks (qlo q) k (2 * n) l) (blocks (qhi q) k (2 * n) h))
    (fun t _ => trip c i arg1 harg1 arg2 harg2 arg3 harg3 arg4 harg4 arg5 harg5 arg6 harg6 v9 v29 c2 v30 v35 q k o e _ _ t)
  refine BIBase.Entails.trans ?_ H
  iintro H
  isplitl [H]; · iexact H
  iintro %acc H
  have et : Scf.trips (k0_t1_loop i).lb (k0_t1_loop i).ub (k0_t1_loop i).st = (i 0).val / 8 / 2 := trips_eq i
  rw [et]
  iexact H

/-- The loop after it changes nothing. -/
theorem rest (v9 v29 c2 v30 v35 v51 : BitVec 32) (q : Vec F S16x64x256 .bf16) (k : Vec F S4096x256 .bf16)
    (o : Vec F S16x64x128 .bf16) (e : Vec F S16x64x128 .f32) (l h : Half F) :
    held c arg1 arg2 arg3 arg4 arg5 arg6 q k o e l h ⊢ wp frame (wpE defs₀ Variants.none (c : Thread nD τ) none) Set.univ
      (Scf.Loop.for (k0_t2_loop i) (k0_t2_ok i) ⟨⟩
        (k0_t2_body (F := F) i arg1 harg1 arg2 harg2 arg3 harg3 arg4 harg4 arg5 harg5 arg6 harg6 v9 v29 c2 v30 v35 v51))
      (fun _ => held c arg1 arg2 arg3 arg4 arg5 arg6 q k o e l h) := by
  have H := Scf.wp_for (Q := fun _ => held c arg1 arg2 arg3 arg4 arg5 arg6 q k o e l h) frame
    (wpE defs₀ Variants.none (c : Thread nD τ) none) Set.univ _ _ _ (k0_t2_ok i) ()
    (k0_t2_body (F := F) i arg1 harg1 arg2 harg2 arg3 harg3 arg4 harg4 arg5 harg5 arg6 harg6 v9 v29 c2 v30 v35 v51)
    (fun _ _ => held c arg1 arg2 arg3 arg4 arg5 arg6 q k o e l h)
    (fun t _ => absurd t.isLt (by have e := trips2_eq i; change ¬ t.val < (k0_t2_loop i).trips; omega))
  refine BIBase.Entails.trans ?_ H
  iintro H
  isplitl [H]; · iexact H
  iintro %acc H
  iexact H

/-- The loops and the odd block: all the whole blocks, and the count of them handed on as their rows. -/
theorem part15 {β : Type} {Q : β → sProp 𝕄} {f : BitVec 32 → Prog (TpuEff nD τ sig (Elt F) Λ₀ .tc) β}
    (v9 v29 c2 v30 v35 : BitVec 32) (q : Vec F S16x64x256 .bf16) (k : Vec F S4096x256 .bf16)
    (o : Vec F S16x64x128 .bf16) (e : Vec F S16x64x128 .f32) (l h : Half F)
    (hf : held c arg1 arg2 arg3 arg4 arg5 arg6 q k o e (blocks (qlo q) k ((i 0).val / 8) l) (blocks (qhi q) k ((i 0).val / 8) h)
      ⊢ wp frame (wpE defs₀ Variants.none (c : Thread nD τ) none) Set.univ (f (Scalar.muli v29 512#32)) Q) :
    held c arg1 arg2 arg3 arg4 arg5 arg6 q k o e l h ⊢ wp frame (wpE defs₀ Variants.none (c : Thread nD τ) none) Set.univ
      (k0_part15 (F := F) i arg1 harg1 arg2 harg2 arg3 harg3 arg4 harg4 arg5 harg5 arg6 harg6 v9 v29 c2 v30 v35 >>= f) Q := by
  rw [k0_part15_eq_skeleton]
  unfold k0_part15_skel
  simp only [bind_assoc, pure_bind]
  rw [wp_bind]
  refine (pairs c i arg1 harg1 arg2 harg2 arg3 harg3 arg4 harg4 arg5 harg5 arg6 harg6 v9 v29 c2 v30 v35 q k o e l h).trans
    (wp_mono _ _ _ fun _ => ?_)
  rw [wp_bind]
  refine (rest c i arg1 harg1 arg2 harg2 arg3 harg3 arg4 harg4 arg5 harg5 arg6 harg6 v9 v29 c2 v30 v35 _ q k o e _ _).trans
    (wp_mono _ _ _ fun _ => ?_)
  by_cases h1 : k0_cond1 i = 1#1
  · have hodd := (cond1_iff i).1 h1
    have hb : ∀ (q' : Vec F S8x64x256 .bf16) (s : Half F),
        whole q' (View.ld k (Rect.unit (s := S4096x256) (k0_off5 i) S512x256.size (k0_off5_inb i h1))) (blocks q' k (2 * ((i 0).val / 8 / 2)) s)
          = blocks q' k ((i 0).val / 8) s := by
      intro q' s
      rw [whole_eq_blockAt (off5_eq i h1)]
      obtain ⟨n, hn⟩ : ∃ n, (i 0).val / 8 = n + 1 := ⟨(i 0).val / 8 - 1, by omega⟩
      rw [show 2 * ((i 0).val / 8 / 2) = n by omega, hn]
      rfl
    rw [← hb, ← hb] at hf
    rw [dif_pos h1]
    simp only [k0_part7_eq_skeleton]
    unfold k0_part7_skel
    simp only [bind_assoc, pure_bind]
    refine load_k_512 ?_
    refine load_q_lo ?_
    refine load_m_lo ?_
    refine load_a_lo ?_
    refine load_a_lo ?_
    refine store_a_lo ?_
    refine load_m_lo ?_
    refine store_m_lo ?_
    refine load_q_hi ?_
    refine load_m_hi ?_
    refine load_a_hi ?_
    refine load_a_hi ?_
    refine store_a_hi ?_
    refine load_m_hi ?_
    refine store_m_hi ?_
    exact hf
  · rw [dif_neg h1]
    simp only [pure_bind]
    rw [show 2 * ((i 0).val / 8 / 2) = (i 0).val / 8 by have := mt (cond1_iff i).2 h1; omega]
    exact hf

/-- The half tail. -/
theorem halfTail {β : Type} {Q : β → sProp 𝕄} {f : PUnit → Prog (TpuEff nD τ sig (Elt F) Λ₀ .tc) β}
    (h2 : k0_cond2 i = 1#1) (a0 v66 : BitVec 32) (q : Vec F S16x64x256 .bf16) (k : Vec F S4096x256 .bf16)
    (o : Vec F S16x64x128 .bf16) (e : Vec F S16x64x128 .f32) (l h : Half F)
    (hf : held c arg1 arg2 arg3 arg4 arg5 arg6 q k o e (halfAt (qlo q) k a0 v66 ((i 0).val / 8) l) (halfAt (qhi q) k a0 v66 ((i 0).val / 8) h)
      ⊢ wp frame (wpE defs₀ Variants.none (c : Thread nD τ) none) Set.univ (f ⟨⟩) Q) :
    held c arg1 arg2 arg3 arg4 arg5 arg6 q k o e l h ⊢ wp frame (wpE defs₀ Variants.none (c : Thread nD τ) none) Set.univ
      ((do
        let ⟨v93, v98, v104, cst_62, v134⟩ ← k0_part8 (F := F) i arg1 harg1 arg2 harg2 arg3 harg3 arg4 harg4 arg5 harg5 arg6 harg6 a0 v66 h2
        let ⟨v165, v168, c64, v170, v173, v174⟩ ← k0_part9 (F := F) i arg1 harg1 arg2 harg2 arg3 harg3 arg4 harg4 arg5 harg5 arg6 harg6 v66 v93 v98 v104 cst_62 v134
        let ⟨v203, _v218⟩ ← k0_part10 (F := F) i arg1 harg1 arg2 harg2 arg3 harg3 arg4 harg4 arg5 harg5 arg6 harg6 a0 v98 v165 v168 c64 v170 v173 v174
        Prog.lift (.store arg5 (Rect.unit (s := S1024x128) ![512, 0] S512x128.size inb_S1024x128_S512x128_512_0) (k0_pay1 v203) Finset.univ
          (View.stores_vmem_bits_univ h_S512x128 rfl) (.inl rfl))
        pure (⟨⟩ : PUnit)) >>= f) Q := by
  rw [← half_eq_halfAt (h := k0_off6_inb i h2) (off6_eq i), ← half_eq_halfAt (h := k0_off6_inb i h2) (off6_eq i)] at hf
  simp only [k0_part8_eq_skeleton, k0_part9_eq_skeleton, k0_part10_eq_skeleton]
  unfold k0_part8_skel k0_part9_skel k0_part10_skel
  simp only [bind_assoc, pure_bind]
  refine load_k_256 ?_
  refine load_q_lo ?_
  refine load_m_lo ?_
  refine load_a_lo ?_
  refine load_a_lo ?_
  refine store_a_lo ?_
  refine load_m_lo ?_
  refine store_m_lo ?_
  refine load_q_hi ?_
  refine load_m_hi ?_
  refine load_a_hi ?_
  refine load_a_hi ?_
  refine store_a_hi ?_
  refine load_m_hi ?_
  refine store_m_hi ?_
  exact hf

/-- The full tail. -/
theorem fullTail {β : Type} {Q : β → sProp 𝕄} {f : PUnit → Prog (TpuEff nD τ sig (Elt F) Λ₀ .tc) β}
    (h3 : k0_cond3 i = 1#1) (a0 v66 : BitVec 32) (q : Vec F S16x64x256 .bf16) (k : Vec F S4096x256 .bf16)
    (o : Vec F S16x64x128 .bf16) (e : Vec F S16x64x128 .f32) (l h : Half F)
    (hf : held c arg1 arg2 arg3 arg4 arg5 arg6 q k o e (fullAt (qlo q) k a0 v66 ((i 0).val / 8) l) (fullAt (qhi q) k a0 v66 ((i 0).val / 8) h)
      ⊢ wp frame (wpE defs₀ Variants.none (c : Thread nD τ) none) Set.univ (f ⟨⟩) Q) :
    held c arg1 arg2 arg3 arg4 arg5 arg6 q k o e l h ⊢ wp frame (wpE defs₀ Variants.none (c : Thread nD τ) none) Set.univ
      ((do
        let ⟨v93, v98, v104, cst_62, v134⟩ ← k0_part11 (F := F) i arg1 harg1 arg2 harg2 arg3 harg3 arg4 harg4 arg5 harg5 arg6 harg6 a0 v66 h3
        let ⟨v165, v168, c64, v170, v173, v174⟩ ← k0_part12 (F := F) i arg1 harg1 arg2 harg2 arg3 harg3 arg4 harg4 arg5 harg5 arg6 harg6 v66 v93 v98 v104 cst_62 v134
        let ⟨v203, _v218⟩ ← k0_part13 (F := F) i arg1 harg1 arg2 harg2 arg3 harg3 arg4 harg4 arg5 harg5 arg6 harg6 a0 v98 v165 v168 c64 v170 v173 v174
        Prog.lift (.store arg5 (Rect.unit (s := S1024x128) ![512, 0] S512x128.size inb_S1024x128_S512x128_512_0) (k0_pay2 v203) Finset.univ
          (View.stores_vmem_bits_univ h_S512x128 rfl) (.inl rfl))
        pure (⟨⟩ : PUnit)) >>= f) Q := by
  rw [← full_eq_fullAt (h := k0_off7_inb i h3) (off7_eq i), ← full_eq_fullAt (h := k0_off7_inb i h3) (off7_eq i)] at hf
  simp only [k0_part11_eq_skeleton, k0_part12_eq_skeleton, k0_part13_eq_skeleton]
  unfold k0_part11_skel k0_part12_skel k0_part13_skel
  simp only [bind_assoc, pure_bind]
  refine load_k_512 ?_
  refine load_q_lo ?_
  refine load_m_lo ?_
  refine load_a_lo ?_
  refine load_a_lo ?_
  refine store_a_lo ?_
  refine load_m_lo ?_
  refine store_m_lo ?_
  refine load_q_hi ?_
  refine load_m_hi ?_
  refine load_a_hi ?_
  refine load_a_hi ?_
  refine store_a_hi ?_
  refine load_m_hi ?_
  refine store_m_hi ?_
  exact hf

end Cert.Proof.Kernel2Ideal
-- ==== Proof.Kernel2Ideal.Body.lean ====
/-
  The body of the attention's forward call at a grid point: from the point's queries and the keys to its block of outputs and of
  log-sum-exps.
-/
module

public import proofs.«01_k».proof.Proof.Kernel2Ideal.Loop

@[expose] public section

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.KernelIdeal (read_store ld_overlay_of_disjoint overlay_whole)

variable {F : FTy → Type} [FloatOps F] [Named F]

local notation "𝕄" => MT nD τ sig Unit (Elt F) ℕ (UR sig nD τ) ℕ

variable (c : Dev nD) (i : grid0.Coords)
  (arg1 : Memref sig .tc .vmem S16x64x256 .bf16) (harg1 : arg1.IsWhole) (arg2 : Memref sig .tc .vmem S4096x256 .bf16) (harg2 : arg2.IsWhole)
  (arg3 : Memref sig .tc .vmem S16x64x128 .bf16) (harg3 : arg3.IsWhole) (arg4 : Memref sig .tc .vmem S16x64x128 .f32) (harg4 : arg4.IsWhole)
  (arg5 : Memref sig .tc .vmem S1024x128 .f32) (harg5 : arg5.IsWhole) (arg6 : Memref sig .tc .vmem S1024x256 .f32) (harg6 : arg6.IsWhole)

/-- A table's first 512 rows. -/
def lo {w : ℕ} {α : Type} (X : (⟨2, ![1024, w]⟩ : Shape).Idx → α) : (⟨2, ![512, w]⟩ : Shape).Idx → α :=
  fun y => X (ix2 ⟨(y 0).val, lt_of_lt_of_le (y 0).isLt (by decide : 512 ≤ 1024)⟩ (y 1))
/-- A table's last 512 rows. -/
def hi {w : ℕ} {α : Type} (X : (⟨2, ![1024, w]⟩ : Shape).Idx → α) : (⟨2, ![512, w]⟩ : Shape).Idx → α :=
  fun y => X (ix2 ⟨512 + (y 0).val, by have h := (y 0).isLt; change _ < 512 at h; omega⟩ (y 1))

/-- Any table is its own two halves. -/
theorem glue_self {w : ℕ} {e : EltTy} {Val : EltTy → Type} (X : (⟨2, ![1024, w]⟩ : Shape).Idx → Val e) :
    glue (Val := Val) (e := e) (lo X) (hi X) = X := by
  funext y
  obtain ⟨ρ, a, rfl⟩ := ix2_of y
  by_cases hρ : ρ.val < 512
  · rw [glue_lo _ _ ρ ⟨ρ.val, hρ⟩ a rfl]
    rfl
  · rw [glue_hi _ _ ρ ⟨ρ.val - 512, by omega⟩ a (by change ρ.val = 512 + (ρ.val - 512); omega)]
    refine congrArg (fun r => X (ix2 r a)) (Fin.ext ?_)
    change 512 + (ρ.val - 512) = ρ.val
    omega

/-- The body at a point, from any two tables. -/
theorem body_held (q : Vec F S16x64x256 .bf16) (k : Vec F S4096x256 .bf16)
    (o : Vec F S16x64x128 .bf16) (e : Vec F S16x64x128 .f32) (l h : Half F) :
    held c arg1 arg2 arg3 arg4 arg5 arg6 q k o e l h ⊢ wp frame (wpE defs₀ Variants.none (c : Thread nD τ) none) Set.univ
      (cc0_attn_fwd (F := F) i arg1 harg1 arg2 harg2 arg3 harg3 arg4 harg4 arg5 harg5 arg6 harg6)
      (fun _ => held c arg1 arg2 arg3 arg4 arg5 arg6 q k
        (k0_pay4 (glue (Val := Elt F) (point (qlo q) k (i 0).val).a (point (qhi q) k (i 0).val).a))
        (k0_pay5 (glue (Val := Elt F) (point (qlo q) k (i 0).val).a (point (qhi q) k (i 0).val).a)
          (glue (Val := Elt F) (point (qlo q) k (i 0).val).m (point (qhi q) k (i 0).val).m))
        (point (qlo q) k (i 0).val) (point (qhi q) k (i 0).val)) := by
  rw [cc0_attn_fwd_eq_skeleton]
  unfold cc0_attn_fwd_skel
  rw [k0_part14_eq_skeleton]
  unfold k0_part14_skel
  simp only [bind_assoc, pure_bind]
  refine load_m ?_
  refine store_m start_m ?_
  refine load_a ?_
  refine store_a start_a ?_
  refine part15 c i arg1 harg1 arg2 harg2 arg3 harg3 arg4 harg4 arg5 harg5 arg6 harg6 _ _ _ _ _ q k o e _ _ ?_
  dsimp only
  have hw := whole_word i
  dsimp only at hw
  rw [hw]
  by_cases h2 : k0_cond2 i = 1#1
  · have h3 : ¬ k0_cond3 i = 1#1 := fun h => (cond3_iff i).1 h ((cond2_iff i).1 h2)
    rw [dif_pos h2, dif_neg h3]
    have ht : ∀ q', point q' k (i 0).val = halfAt q' k (BitVec.ofNat 32 (i 0).val) (Scalar.muli (BitVec.ofNat 32 ((i 0).val / 8)) 512#32)
        ((i 0).val / 8) (blocks q' k ((i 0).val / 8) start) := fun q' => by
      unfold point tail
      rw [if_pos ((cond2_iff i).1 h2)]
    rw [ht, ht]
    refine halfTail c i arg1 harg1 arg2 harg2 arg3 harg3 arg4 harg4 arg5 harg5 arg6 harg6 h2 _ _ q k o e _ _ ?_
    simp only [pure_bind]
    refine load_a ?_
    refine load_o ?_
    refine store_o (harg3 := harg3) ?_
    refine load_m ?_
    refine load_e ?_
    refine store_e ?_
    iintro H
    sl_step
    iexact H
  · have h3 : k0_cond3 i = 1#1 := (cond3_iff i).2 (mt (cond2_iff i).2 h2)
    rw [dif_neg h2, dif_pos h3]
    have ht : ∀ q', point q' k (i 0).val = fullAt q' k (BitVec.ofNat 32 (i 0).val) (Scalar.muli (BitVec.ofNat 32 ((i 0).val / 8)) 512#32)
        ((i 0).val / 8) (blocks q' k ((i 0).val / 8) start) := fun q' => by
      unfold point tail
      rw [if_neg (mt (cond2_iff i).2 h2)]
    rw [ht, ht]
    simp only [pure_bind]
    refine fullTail c i arg1 harg1 arg2 harg2 arg3 harg3 arg4 harg4 arg5 harg5 arg6 harg6 h3 _ _ q k o e _ _ ?_
    refine load_a ?_
    refine load_o ?_
    refine store_o (harg3 := harg3) ?_
    refine load_m ?_
    refine load_e ?_
    refine store_e ?_
    iintro H
    sl_step
    iexact H

/-- The same, the tables at any contents. -/
theorem body (q : Vec F S16x64x256 .bf16) (k : Vec F S4096x256 .bf16) (o : Vec F S16x64x128 .bf16) (e : Vec F S16x64x128 .f32)
    (M : Vec F S1024x128 .f32) (A : Vec F S1024x256 .f32) :
    iprop(owns (c : Thread nD τ) arg1 fullShare q ∗ owns (c : Thread nD τ) arg2 fullShare k
        ∗ owns (c : Thread nD τ) arg3 fullShare o ∗ owns (c : Thread nD τ) arg4 fullShare e
        ∗ owns (c : Thread nD τ) arg5 fullShare M ∗ owns (c : Thread nD τ) arg6 fullShare A)
      ⊢ wp frame (wpE defs₀ Variants.none (c : Thread nD τ) none) Set.univ
      (cc0_attn_fwd (F := F) i arg1 harg1 arg2 harg2 arg3 harg3 arg4 harg4 arg5 harg5 arg6 harg6)
      (fun _ => held c arg1 arg2 arg3 arg4 arg5 arg6 q k
        (k0_pay4 (glue (Val := Elt F) (point (qlo q) k (i 0).val).a (point (qhi q) k (i 0).val).a))
        (k0_pay5 (glue (Val := Elt F) (point (qlo q) k (i 0).val).a (point (qhi q) k (i 0).val).a)
          (glue (Val := Elt F) (point (qlo q) k (i 0).val).m (point (qhi q) k (i 0).val).m))
        (point (qlo q) k (i 0).val) (point (qhi q) k (i 0).val)) := by
  have H := body_held c i arg1 harg1 arg2 harg2 arg3 harg3 arg4 harg4 arg5 harg5 arg6 harg6 q k o e
    ⟨lo M, lo A⟩ ⟨hi M, hi A⟩
  unfold held at H
  dsimp only at H
  rw [glue_self M, glue_self A] at H
  exact H

end Cert.Proof.Kernel2Ideal
-- ==== Proof.Kernel2Ideal.Run.lean ====
/-
  The run of the attention's forward call over its 64 points: what each window's buffer holds after each point, the body's obligation
  at every point, and the run of the whole program.
-/
module

public import proofs.«01_k».proof.Proof.Kernel2Ideal.Body
public import proofs.«01_k».proof.Proof.Gen.Kernel2Ideal.Frame
public import Idealize.ShloMosaic.Lib.Claim

@[expose] public section

set_option maxRecDepth 16384

noncomputable section

namespace Cert.Proof.Kernel2Ideal

open Cert.Kernel2Ideal
open Cert.Kernel2Ideal.Gen hiding dats A_eq bodyPre bodyPost sound_body body_obligation frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-- The two halves after a point. -/
def endLo (t : Fin cfg0.N) : Half F := point (qlo (iblk m c 0 t)) (iblk m c 1 t) t.val

@[inherit_doc endLo]
def endHi (t : Fin cfg0.N) : Half F := point (qhi (iblk m c 0 t)) (iblk m c 1 t) t.val

/-- A point's block of the outputs. -/
def outAt (t : Fin cfg0.N) : Vec F S16x64x128 .bf16 := k0_pay4 (glue (Val := Elt F) (endLo m c t).a (endHi m c t).a)

/-- A point's block of the log-sum-exps. -/
def lseAt (t : Fin cfg0.N) : Vec F S16x64x128 .f32 :=
  k0_pay5 (glue (Val := Elt F) (endLo m c t).a (endHi m c t).a) (glue (Val := Elt F) (endLo m c t).m (endHi m c t).m)

/-- What the call's buffers hold: each input its block at every point; the outputs' and the log-sum-exps' block of each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
    | ⟨3, _⟩ => lseAt m c t
  Φ _ := Pipeline.ΦA spec0 c
  q _ := fullShare
  owed _ := 0

theorem A_eq (w : Fin cfg0.W) : (dats m 0 c).A w = V m c (Pipeline.arrRef spec0 w) := by
  dsimp only [dats]

variable (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = outAt m c t := by dsimp only [dats]
theorem after_3 : (dats m 0 c).after 3 t = lseAt m c t := by dsimp only [dats]

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d

/-! ### The body at every point -/

/-- What the body is called with at point `t`. -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem coord_val : (grid0.coords t 0).val = t.val := by
  have h := Pipeline.Grid.coords_val (G := grid0) t 0 (S := 1) (B := 64) (by decide) rfl
  have h2 : t.val < 64 := lt_of_lt_of_eq t.isLt N_0
  omega

/-- The body's triple at a point. -/
theorem body_point (o : Vec F S16x64x128 .bf16) (e : Vec F S16x64x128 .f32) (M : Vec F S1024x128 .f32) (A : Vec F S1024x256 .f32) :
    iprop(owns (c : Thread nD τ) (ms0_0 t) fullShare (iblk m c 0 t) ∗ owns (c : Thread nD τ) (ms0_1 t) fullShare (iblk m c 1 t)
        ∗ owns (c : Thread nD τ) (ms0_2 t) fullShare o ∗ owns (c : Thread nD τ) (ms0_3 t) fullShare e
        ∗ owns (c : Thread nD τ) scM0_0 fullShare M ∗ owns (c : Thread nD τ) scM0_1 fullShare A)
      ⊢ wp frame (wpE defs₀ Variants.none (c : Thread nD τ) none) Set.univ (bodyAt0 (F := F) t)
        (fun _ => held c (ms0_0 t) (ms0_1 t) (ms0_2 t) (ms0_3 t) scM0_0 scM0_1 (iblk m c 0 t) (iblk m c 1 t)
          (outAt m c t) (lseAt m c t) (endLo m c t) (endHi m c t)) := by
  have hb := body c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) o e M A
  rw [coord_val t] at hb
  exact hb

/-- The body at any point: from what the buffers hold before it to what they hold after it. -/
theorem sound_body :
    bodyPre m c t ⊢ wp frame (wpE (defs₀ (F := F)) Variants.none c none) Set.univ (bodyAt0 t) (fun _ => bodyPost m c t) := by
  unfold bodyPre bodyPost
  simp only [before_0, before_1]
  rw [show (dats m 0 c).Φ t.succ = (dats m 0 c).Φ t.castSucc from rfl,
    show (dats m 0 c).owesAt () t.succ = (dats m 0 c).owesAt () t.castSucc from rfl,
    after_0, after_1, after_2, after_3,
    show (dats m 0 c).Φ t.castSucc = Pipeline.ΦA spec0 c from rfl, PhiA0_eq]
  iintro ⟨⟨⟨⟨%f, HS⟩, ⟨%g, HT⟩⟩, HP⟩, Ho, ⟨%d0, H0⟩, ⟨%d1, H1⟩, ⟨%d2, H2⟩, ⟨%d3, H3⟩⟩
  have hp := body_point m c t ((dats m 0 c).before 2 t d2) ((dats m 0 c).before 3 t d3) f g
  iapply (wp_wand_r _ _ _)
  isplitl [HS HT H0 H1 H2 H3]
  · iapply hp
    isplitl [H0]; · iexact H0
    isplitl [H1]; · iexact H1
    isplitl [H2]; · iexact H2
    isplitl [H3]; · iexact H3
    isplitl [HS]; · iexact HS
    iexact HT
  unfold held
  iintro %u ⟨H0, H1, H2, H3, HS, HT⟩
  isplitl [HS HT HP]
  · isplitl [HS HT]
    · isplitl [HS]
      · iexists _; iexact HS
      · iexists _; iexact HT
    · iexact HP
  isplitl [Ho]; · iexact Ho
  isplitl [H0]; · iexact H0
  isplitl [H1]; · iexact H1
  isplitl [H2]; · iexact H2
  iexact H3

theorem row : defs₀ (F := F) .tc cfg0.body (cfg0.bodyArgs t (cfg0.slots t)) = bodyAt0 t := by
  unfold defs₀; rw [Defs.onTc_tc]

omit t in
/-- The obligation of the call's body, at every point. -/
theorem body_obligation : BodyObligation (dats (F := F) m 0 c) (defs₀ (F := F)) Variants.none () Set.univ := fun t => by
  rw [bigSep_W0, bigSep_W0, row]
  exact triple_restated (sound_body m c t) rfl .rfl fun _ => .rfl

/-! ### The run -/

set_option backward.isDefEq.respectTransparency.types false in
omit c t in
/-- The program's run: it ends, every array of the call as the data say, every other buffer as the call found it, every counter zero. -/
theorem run_quiescent : θ_run defs (onTc (τ := τ) main) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Proof.Kernel2Ideal
-- ==== Proof.Kernel2Ideal.Results.lean ====
/-
  The forward call's results over the reals: from real queries and keys at its entry, the two arrays that it leaves hold the
  attention's outputs and the log-sum-exps.
-/
module

public import proofs.«01_k».proof.Proof.Kernel2Ideal.Blocks
public import proofs.«01_k».proof.Proof.Kernel2Ideal.Run
public import proofs.«01_k».proof.Proof.KernelIdeal.Total
public import Idealize.ShloMosaic.Lib.Pipeline.ValueKit

@[expose] public section

noncomputable section

namespace Cert.Proof.Kernel2Ideal

open Cert.Kernel2Ideal Cert.Proof.Math
open Cert.Kernel2Ideal.Gen hiding dats A_eq bodyPre bodyPost sound_body body_obligation frame
open Cert.Proof.KernelIdeal (at_)
open Idealize.ShloMosaic Idealize.ShloMosaic.TcCoe Idealize.ShloMosaic.Tactic
open Idealize.ShloMosaic.Pipeline (Dat Cfg Window)

/-! ### A point's rows -/

theorem qlo_apply (q : Vec Ideal S16x64x256 .bf16) (h : Fin 8) (i : Fin 64) (a : Fin 256) :
    qlo q (ix3 h i a) = q (ix3 ⟨h.val, by omega⟩ i a) := by
  unfold qlo View.ld
  refine congrArg q ?_
  funext k
  fin_cases k <;> exact Fin.ext (by simp [Rect.unit, Rect.emb])

theorem qhi_apply (q : Vec Ideal S16x64x256 .bf16) (h : Fin 8) (i : Fin 64) (a : Fin 256) :
    qhi q (ix3 h i a) = q (ix3 ⟨8 + h.val, by omega⟩ i a) := by
  unfold qhi View.ld
  refine congrArg q ?_
  funext k
  fin_cases k <;> exact Fin.ext (by simp [Rect.unit, Rect.emb])

section row

variable {Q : Fin 16 → Fin 4096 → Fin 256 → ℝ} {K : Fin 4096 → Fin 256 → ℝ} {n : ℕ} (hn : n < 64)
  {q : Vec Ideal S16x64x256 .bf16} {k : Vec Ideal S4096x256 .bf16}
  (hq : ∀ h i a, q (ix3 h i a) = ((Q h (at_ n hn i) a : ℝ) : EReal)) (hk : ∀ j a, k (ix2 j a) = ((K j a : ℝ) : EReal))

/-- A row's maximum and its sums, in the tables of both halves. -/
def Ends (Q : Fin 16 → Fin 4096 → Fin 256 → ℝ) (K : Fin 4096 → Fin 256 → ℝ) (h : Fin 16) (i : Fin 4096) (ρ : Fin 1024)
    (lo hi : Half Ideal) : Prop :=
  ∃ M : ℝ, (∀ r, glue (Val := Elt Ideal) (e := .f32) lo.m hi.m (ix2 ρ r) = ((M : ℝ) : EReal))
    ∧ ∀ x, glue (Val := Elt Ideal) (e := .f32) lo.a hi.a (ix2 ρ x)
      = ((∑ j, weight (fun j => z Q K h i j * c2) (i.val / 64) M j * side K j x : ℝ) : EReal)

include hq hk in
theorem ends (h : Fin 16) (i : Fin 64) :
    Ends Q K h (at_ n hn i) ⟨h.val * 64 + i.val, by omega⟩ (point (qlo q) k n) (point (qhi q) k n) := by
  have hi : (at_ n hn i).val / 64 = n := by unfold at_; dsimp only; omega
  by_cases h8 : h.val < 8
  · obtain ⟨M, hm, ha⟩ := point_rows (q := qlo q) (qr := fun c a => Q ⟨c.val / 64, by omega⟩ (at_ n hn ⟨c.val % 64, by omega⟩) a)
      (fun c a => (qlo_apply q _ _ a).trans (hq _ _ a)) hk hn ⟨h.val * 64 + i.val, by omega⟩
    refine ⟨M, fun r => (glue_lo _ _ _ _ r rfl).trans (hm r), fun x => (glue_lo _ _ _ _ x rfl).trans ((ha x).trans ?_)⟩
    have e1 : (h.val * 64 + i.val) / 64 = h.val := by omega
    have e2 : (h.val * 64 + i.val) % 64 = i.val := by omega
    unfold score
    simp only [e1, e2, hi]
    rfl
  · obtain ⟨M, hm, ha⟩ := point_rows (q := qhi q) (qr := fun c a => Q ⟨8 + c.val / 64, by omega⟩ (at_ n hn ⟨c.val % 64, by omega⟩) a)
      (fun c a => (qhi_apply q _ _ a).trans (hq _ _ a)) hk hn ⟨(h.val - 8) * 64 + i.val, by omega⟩
    have hc : h.val * 64 + i.val = 512 + ((h.val - 8) * 64 + i.val) := by omega
    refine ⟨M, fun r => (glue_hi _ _ _ _ r hc).trans (hm r), fun x => (glue_hi _ _ _ _ x hc).trans ((ha x).trans ?_)⟩
    have e1 : 8 + ((h.val - 8) * 64 + i.val) / 64 = h.val := by omega
    have e2 : ((h.val - 8) * 64 + i.val) % 64 = i.val := by omega
    unfold score
    simp only [e1, e2, hi]
    rfl

end row

theorem pay4_apply (a : Vec Ideal S1024x256 .f32) (h : Fin 16) (i : Fin 64) (r : Fin 128) :
    k0_pay4 a (ix3 h i r) = Ideal.div (a (ix2 ⟨h.val * 64 + i.val, by omega⟩ ⟨r.val, by omega⟩))
      (a (ix2 ⟨h.val * 64 + i.val, by omega⟩ ⟨128 + r.val, by omega⟩)) := by
  pointwise [k0_pay4, k0_pay3]

theorem pay5_apply (a : Vec Ideal S1024x256 .f32) (m : Vec Ideal S1024x128 .f32) (h : Fin 16) (i : Fin 64) (r : Fin 128) :
    k0_pay5 a m (ix3 h i r) = m (ix2 ⟨h.val * 64 + i.val, by omega⟩ r)
      + Ideal.log (a (ix2 ⟨h.val * 64 + i.val, by omega⟩ ⟨128 + r.val, by omega⟩)) * (((Real.log 2)⁻¹ : ℝ) : EReal) := by
  pointwise [k0_pay5, k0_pay3]
  rw [inv_log2_val]

/-! ### The two arrays -/

variable (m : (ℓ : Loc nD τ sig) → Buf (Elt Ideal) ℓ) (c : Dev nD)

theorem index_eq : ∀ t : Fin cfg0.N, (cfg0.win 0).index t = ![0, t.val, 0] ∧ (cfg0.win 1).index t = ![0, 0]
    ∧ (cfg0.win 2).index t = ![0, t.val, 0] ∧ (cfg0.win 3).index t = ![0, t.val, 0] := by decide +kernel

theorem iblk_q (t : Fin cfg0.N) (h : Fin 16) (i : Fin 64) (a : Fin 256) :
    iblk m c 0 t (ix3 h i a) = V m c main_v1 (ix3 h ⟨64 * t.val + i.val, by have := lt_of_lt_of_eq t.isLt N_0; omega⟩ a) := by
  blk_ext [iblk, (index_eq t).1]

theorem iblk_k (t : Fin cfg0.N) (j : Fin 4096) (a : Fin 256) :
    iblk m c 1 t (ix2 j a) = V m c main_v3 (ix2 j a) := by
  blk_ext [iblk, (index_eq t).2.1]

/-- The call's two arrays hold the queries and the keys. -/
structure Entry (Q : Fin 16 → Fin 4096 → Fin 256 → ℝ) (K : Fin 4096 → Fin 256 → ℝ) : Prop where
  q : ∀ h i a, V m c main_v1 (ix3 h i a) = ((Q h i a : ℝ) : EReal)
  k : ∀ j a, V m c main_v3 (ix2 j a) = ((K j a : ℝ) : EReal)

variable {m c} {Q : Fin 16 → Fin 4096 → Fin 256 → ℝ} {K : Fin 4096 → Fin 256 → ℝ}

theorem ends_at (E : Entry m c Q K) (t : Fin cfg0.N) (ht : t.val < 64) (h : Fin 16) (i : Fin 64) :
    Ends Q K h (at_ t.val ht i) ⟨h.val * 64 + i.val, by omega⟩ (endLo m c t) (endHi m c t) :=
  ends ht (fun h i a => (iblk_q m c t h i a).trans (E.q _ _ _)) (fun j a => (iblk_k m c t j a).trans (E.k _ _)) h i

variable (X : Fin 16 → Fin 4096 → ℝ)

theorem outAt_apply (E : Entry m c Q K) (t : Fin cfg0.N) (ht : t.val < 64) (h : Fin 16) (i : Fin 64) (r : Fin 128) :
    outAt m c t (ix3 h i r) = ((O Q K X h (at_ t.val ht i) r : ℝ) : EReal) := by
  obtain ⟨M, _, ha⟩ := ends_at E t ht h i
  unfold outAt
  rw [pay4_apply, ha, ha]
  exact output_eq Q K X h (at_ t.val ht i) M r

theorem lseAt_apply (E : Entry m c Q K) (t : Fin cfg0.N) (ht : t.val < 64) (h : Fin 16) (i : Fin 64) (r : Fin 128) :
    lseAt m c t (ix3 h i r) = ((lse Q K X h (at_ t.val ht i) : ℝ) : EReal) := by
  obtain ⟨M, hm, ha⟩ := ends_at E t ht h i
  unfold lseAt
  rw [pay5_apply, hm, ha]
  exact lse_eq Q K X h (at_ t.val ht i) M ⟨128 + r.val, by omega⟩ (Nat.le_add_right _ _)

theorem out_o (E : Entry m c Q K) :
    (dats m 0 c).arrAt 2 (cfgs 0).N = fun y : S16x4096x128.Idx => ((O Q K X (y 0) (y 1) (y 2) : ℝ) : EReal) := by
  refine (dats m 0 c).arrAt_eq_of_covers 2 _ (by decide +kernel) fun t hf y => ?_
  have ht : t.val < 64 := lt_of_lt_of_eq t.isLt N_0
  blk_simp
  rw [after_2]
  idx_vars y
  rw [outAt_apply X E t ht]
  refine congrArg (fun x : ℝ => (x : EReal)) (congr (congr (congrArg (O Q K X) (Fin.ext ?_)) (Fin.ext ?_)) (Fin.ext ?_))
  · blk_simp [(index_eq t).2.2.1]
  · blk_simp [(index_eq t).2.2.1]
    simp only [at_]
    omega
  · blk_simp [(index_eq t).2.2.1]

theorem out_l (E : Entry m c Q K) :
    (dats m 0 c).arrAt 3 (cfgs 0).N = fun y : S16x4096x128.Idx => ((lse Q K X (y 0) (y 1) : ℝ) : EReal) := by
  refine (dats m 0 c).arrAt_eq_of_covers 3 _ (by decide +kernel) fun t hf y => ?_
  have ht : t.val < 64 := lt_of_lt_of_eq t.isLt N_0
  blk_simp
  rw [after_3]
  idx_vars y
  rw [lseAt_apply X E t ht]
  refine congrArg (fun x : ℝ => (x : EReal)) (congr (congrArg (lse Q K X) (Fin.ext ?_)) (Fin.ext ?_))
  · blk_simp [(index_eq t).2.2.2]
  · blk_simp [(index_eq t).2.2.2]
    simp only [at_]
    omega

end Cert.Proof.Kernel2Ideal

end
-- ==== Proof.Kernel2Ideal.Host.lean ====
/-
  What the forward call finds in its buffers: the host lines' queries and keys.
-/
module

public import proofs.«01_k».proof.Proof.Kernel2Ideal.Results
public import proofs.«01_k».proof.Proof.KernelIdeal.Host
public import Idealize.ShloMosaic.Lib.StableHlo.RunRead

@[expose] public section

set_option maxRecDepth 65536

noncomputable section

namespace Cert.Proof.Kernel2Ideal

open Cert.Kernel2Ideal Cert.Proof.Reference
open Cert.Kernel2Ideal.Gen hiding dats A_eq bodyPre bodyPost sound_body body_obligation frame
open Cert.Proof.KernelIdeal (sideQueries sideKeys sideQueries_apply sideKeys_apply)
open Idealize.ShloMosaic Idealize.ShloMosaic.TcCoe Idealize.ShloMosaic.Tactic
open Idealize.SL Idealize.SL.Sem

variable (m : (ℓ : Loc nD τ sig) → Buf (Elt Ideal) ℓ) (c : Dev nD)

theorem V1 : V m c main_v1 = sideQueries (m ((c : Thread nD τ).loc main_arg0)) (m ((c : Thread nD τ).loc main_arg1)) := by
  unfold V
  simp only [hostOps0, List.flatten_cons, List.flatten_nil, List.append_nil, List.cons_append,
    List.nil_append, StableHlo.TRef.binary, StableHlo.TRef.nullary, StableHlo.TRef.ternary, StableHlo.TRef.unary, StableHlo.TRef.toBuf,
    StableHlo.TRef.ofBuf, cast_eq]
  after_reads_simp
  dsimp only [Matrix.cons_val]
  rfl

theorem V3 : V m c main_v3 = sideKeys (m ((c : Thread nD τ).loc main_arg2)) (m ((c : Thread nD τ).loc main_arg3)) := by
  unfold V
  simp only [hostOps0, List.flatten_cons, List.flatten_nil, List.append_nil, List.cons_append,
    List.nil_append, StableHlo.TRef.binary, StableHlo.TRef.nullary, StableHlo.TRef.ternary, StableHlo.TRef.unary, StableHlo.TRef.toBuf,
    StableHlo.TRef.ofBuf, cast_eq]
  after_reads_simp
  dsimp only [Matrix.cons_val]
  rfl

/-- With real inputs, the call finds the same reals' queries and keys. -/
theorem entry {x4 : (⟨S16x4096x128, .bf16⟩ : BufTy).Contents (Elt Ideal)} {Q : Fin 16 → Fin 4096 → Fin 256 → ℝ}
    {K : Fin 4096 → Fin 256 → ℝ} {D : Fin 16 → Fin 4096 → Fin 128 → ℝ}
    (E : Inputs (m ((c : Thread nD τ).loc main_arg0)) (m ((c : Thread nD τ).loc main_arg1)) (m ((c : Thread nD τ).loc main_arg2))
      (m ((c : Thread nD τ).loc main_arg3)) x4 Q K D) : Entry m c Q K where
  q h i a := by
    rw [V1, sideQueries_apply]
    split
    · exact E.ql _
    · split
      · rename_i h1 h2
        exact (E.qr _).trans (congrArg (fun b => ((Q h i b : ℝ) : EReal)) (Fin.ext (Nat.add_sub_cancel' (not_lt.1 h1))))
      · rw [lit_zero16, E.q0 h i a (by omega)]
  k j a := by
    rw [V3, sideKeys_apply]
    split
    · exact E.kl _
    · split
      · rename_i h1 h2
        exact (E.kr _).trans (congrArg (fun b => ((K j b : ℝ) : EReal)) (Fin.ext (Nat.add_sub_cancel' (not_lt.1 h1))))
      · rw [lit_zero16, E.k0 j a (by omega)]

end Cert.Proof.Kernel2Ideal

end
-- ==== Proof.Forward.lean ====
/-
  The idealized forward call and its reference, from equal real arguments, end with equal outputs and equal log-sum-exps.
-/
module

public import proofs.«01_k».proof.Defs
public import proofs.«01_k».proof.Proof.Finite
public import proofs.«01_k».proof.Proof.Kernel2Ideal.Host
public import proofs.«01_k».proof.Proof.Gen.Reference2Ideal.Run
public import proofs.«01_k».proof.Proof.Gen.Reference2Ideal.Read

@[expose] public section

set_option maxRecDepth 16384

noncomputable section

namespace Cert.Proof.Forward

open Idealize.ShloMosaic Idealize.ShloMosaic.TcCoe Idealize.ShloMosaic.Tactic Idealize.SL.Sem
open Cert.Kernel2Ideal (nD τ sig main_arg0 main_arg1 main_arg2 main_arg3 main_v4_0 main_v4_1 S16x4096x128 S16x4096x64 S4096x128 S4096x64)
open Cert.Proof.Math Cert.Proof.Reference

/-- The shapes the precondition's operations relate. -/
instance facts : Cert.Pre_finite2.Facts := by
  constructor <;> decide

section values

variable {x0 : FVec Ideal S16x4096x128 .bf16} {x1 : FVec Ideal S16x4096x64 .bf16} {x2 : FVec Ideal S4096x128 .bf16}
  {x3 : FVec Ideal S4096x64 .bf16}

/-- The forward call has no gradients among its inputs. -/
def none : FVec Ideal S16x4096x128 .bf16 := fun _ => ((0 : ℝ) : EReal)

/-- Under the precondition the inputs are real. -/
theorem inputs (h : Cert.Pre_finite2.fn (F := Ideal) x0 x1 x2 x3 = fun _ => 1#1) :
    Inputs x0 x1 x2 x3 none (Finite.queries x0 x1) (Finite.keys x2 x3) (Finite.grads none) := by
  have e := congrFun h (fun k : Fin 0 => k.elim0)
  unfold Cert.Pre_finite2.fn Cert.Pre_finite2.fn_part1 at e
  obtain ⟨e, e3⟩ := Finite.split e
  obtain ⟨e, e2⟩ := Finite.split e
  obtain ⟨e0, e1⟩ := Finite.split e
  exact Finite.inputs_of_real (Finite.real_of_all x0 _ _ _ _ _ e0) (Finite.real_of_all x1 _ _ _ _ _ e1)
    (Finite.real_of_all x2 _ _ _ _ _ e2) (Finite.real_of_all x3 _ _ _ _ _ e3) (fun _ => rfl)

/-- The reference's outputs are the ones the backward call's reference computes on the way. -/
theorem v48_eq : Cert.Reference2Ideal.Read.val_main_v48 (F := Ideal) x0 x1 x2 x3
    = Cert.ReferenceIdeal.Read.val_main_v53 (F := Ideal) x0 x1 x2 x3 := rfl

/-- Its log-sum-exps come from the same scores and maxima. -/
theorem v49_eq : Cert.Reference2Ideal.Read.val_main_v49 (F := Ideal) x0 x1 x2 x3
    = KernelIdeal.logSums (Cert.ReferenceIdeal.Read.val_main_v20_0 (F := Ideal) x0 x1 x2 x3)
      (Cert.ReferenceIdeal.Read.val_main_v21 (F := Ideal) x0 x1 x2 x3) := rfl

end values

variable (m : (ℓ : Loc nD τ sig) → Buf (Elt Ideal) ℓ) (c : Dev nD)

/-- The queries, over the reals. -/
def Q : Fin 16 → Fin 4096 → Fin 256 → ℝ :=
  Finite.queries (m ((c : Thread nD τ).loc main_arg0)) (m ((c : Thread nD τ).loc main_arg1))

/-- The keys, whose first 128 lanes are the values. -/
def K : Fin 4096 → Fin 256 → ℝ := Finite.keys (m ((c : Thread nD τ).loc main_arg2)) (m ((c : Thread nD τ).loc main_arg3))

/-- The scores' maxima. -/
def M : Fin 16 → Fin 4096 → ℝ :=
  rowMax (m ((c : Thread nD τ).loc main_arg0)) (m ((c : Thread nD τ).loc main_arg1)) (m ((c : Thread nD τ).loc main_arg2))
    (m ((c : Thread nD τ).loc main_arg3))

/-- The attention's outputs, and the log-sum-exps on 128 equal lanes. -/
def outputs : Buf (Elt Ideal) ((c : Thread nD τ).loc main_v4_0) := fun y : S16x4096x128.Idx =>
  ((O (Q m c) (K m c) (M m c) (y 0) (y 1) (y 2) : ℝ) : EReal)

@[inherit_doc outputs]
def logs : Buf (Elt Ideal) ((c : Thread nD τ).loc main_v4_1) := fun y : S16x4096x128.Idx =>
  ((lse (Q m c) (K m c) (M m c) (y 0) (y 1) : ℝ) : EReal)

variable {m}

theorem inputs_of (h : Cert.Pre_Kernel2Ideal_finite2 m) :
    Inputs (m ((c : Thread nD τ).loc main_arg0)) (m ((c : Thread nD τ).loc main_arg1)) (m ((c : Thread nD τ).loc main_arg2))
      (m ((c : Thread nD τ).loc main_arg3)) none (Q m c) (K m c) (Finite.grads none) :=
  inputs (h c)

open Cert.Kernel2Ideal in
/-- The call ends with the outputs and the log-sum-exps. -/
theorem run_call (g : Dev nD → PrngReg) (h : Cert.Pre_Kernel2Ideal_finite2 m) :
    θ_run (Cert.Kernel2Ideal.defs (F := Ideal)) (onTc (τ := τ) (main (F := Ideal))) ⟨m, fun _ => 0, g⟩ (fun r => ∀ c : Dev nD,
      r.2.mem ((c : Thread nD τ).loc main_v4_0) = outputs m c ∧ r.2.mem ((c : Thread nD τ).loc main_v4_1) = logs m c) :=
  (θ_run Cert.Kernel2Ideal.defs _ _).mono (fun r hr c => by
    have E := Kernel2Ideal.entry m c (inputs_of c h)
    exact ⟨(hr.1.out_eq c 2).trans (Kernel2Ideal.out_o (M m c) E), (hr.1.out_eq c 3).trans (Kernel2Ideal.out_l (M m c) E)⟩)
    (Kernel2Ideal.run_quiescent m g)

theorem reference_outputs (h : Cert.Pre_Kernel2Ideal_finite2 m) :
    Cert.Reference2Ideal.Read.val_main_v48 (F := Ideal) (m ((c : Thread nD τ).loc main_arg0)) (m ((c : Thread nD τ).loc main_arg1))
      (m ((c : Thread nD τ).loc main_arg2)) (m ((c : Thread nD τ).loc main_arg3)) = outputs m c := by
  rw [v48_eq]
  funext y
  exact v53_eq (inputs_of c h) y

theorem reference_logs (h : Cert.Pre_Kernel2Ideal_finite2 m) :
    Cert.Reference2Ideal.Read.val_main_v49 (F := Ideal) (m ((c : Thread nD τ).loc main_arg0)) (m ((c : Thread nD τ).loc main_arg1))
      (m ((c : Thread nD τ).loc main_arg2)) (m ((c : Thread nD τ).loc main_arg3)) = logs m c := by
  rw [v49_eq]
  funext y
  idx_vars y
  exact KernelIdeal.logSums_eq (inputs_of c h) _ _ _

/-- From equal real arguments the idealized call and the reference end with equal results, their arguments unchanged. -/
theorem algebraic : Cert.algebraic_Kernel2Ideal_Reference2Ideal_pre_finite2 := by
  intro m g m' g' h ha
  refine ⟨outputs m, logs m, (θ_run Cert.Kernel2Ideal.defs _ _).mono (fun r hr c => ?_)
      (θ_run_and (run_call g h) (Cert.Kernel2Ideal.Gen.frame m g)),
    (θ_run Cert.Reference2Ideal.defs _ _).mono (fun r hr c => ?_) (Cert.Reference2Ideal.Value.run m' g')⟩
  · exact ⟨(hr.1 c).1, (hr.1 c).2, hr.2.1 c⟩
  · obtain ⟨a0, a1, a2, a3⟩ := ha c
    obtain ⟨r0, r1, hr⟩ := hr c
    refine ⟨r0.trans ?_, r1.trans ?_, hr⟩
    · refine (Cert.Reference2Ideal.Read.val_main_v48_eq m' c).trans ?_
      rw [a0, a1, a2, a3]
      exact reference_outputs c h
    · refine (Cert.Reference2Ideal.Read.val_main_v49_eq m' c).trans ?_
      rw [a0, a1, a2, a3]
      exact reference_logs c h

end Cert.Proof.Forward

end
-- ==== Proof.Kernel3Ideal.Sums.lean ====
/-
  The derivative with respect to the even layer's input, its shift and its scale: the sums, what the body's vectors are at an index,
  and the reference's results as those sums.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise

@[expose] public section

set_option maxRecDepth 16384

noncomputable section

namespace Cert.Proof.Kernel3Ideal

open Cert.Kernel3Ideal Cert.Kernel3Ideal.Gen
open Idealize.ShloMosaic Idealize.ShloMosaic.TcCoe Idealize.ShloMosaic.Tactic Idealize.SL.Sem

/-- The derivative with respect to the modulated input: the projection's derivative times the weights' transpose. -/
def dh (d : FVec Ideal S4096x5120 .bf16) (w : FVec Ideal S1024x5120 .bf16) (s : Fin 4096) (a : Fin 1024) : EReal :=
  ∑ k : Fin 5120, d (ix2 s k) * w (ix2 a k)

/-- With respect to the input: the residual branch's derivative, and the modulated input's times one plus the scale. -/
def dx (d : FVec Ideal S4096x5120 .bf16) (w : FVec Ideal S1024x5120 .bf16) (r : FVec Ideal S4096x1024 .f32) (g : FVec Ideal S8x3072 .f32)
    (s : Fin 4096) (a : Fin 1024) : EReal :=
  r (ix2 s a) + dh d w s a * (1 + g (ix2 0 ⟨1024 + a.val, Nat.add_lt_add_left a.isLt 1024 |>.trans (by decide)⟩))

/-- With respect to the scale (row 0) and to the shift (row 1). -/
def red (d : FVec Ideal S4096x5120 .bf16) (w : FVec Ideal S1024x5120 .bf16) (x : FVec Ideal S1x4096x1024 .f32) (r : Fin 8) (a : Fin 1024) :
    EReal :=
  if r.val = 0 then ∑ s, dh d w s a * x (ix3 0 s a) else if r.val = 1 then ∑ s, dh d w s a else 0

/-! ### The body's vectors -/

/-- A block of the derivative with respect to the modulated input, as the body computes it from its blocks. -/
abbrev dhv (D : Vec Ideal S256x5120 .bf16) (W : Vec Ideal S8x1024x640 .bf16) : FVec Ideal S256x1024 .f32 :=
  k0_pay6
    (k0_pay4 (View.ld D (Rect.unit ![0, 0] ![256, 640] inb_S256x5120_S256x640_0_0))
      (View.ld W (Rect.unit ![0, 0, 0] ![1, 1024, 640] inb_S8x1024x640_S1x1024x640_0_0_0))
      (View.ld D (Rect.unit ![0, 640] ![256, 640] inb_S256x5120_S256x640_0_640))
      (View.ld W (Rect.unit ![1, 0, 0] ![1, 1024, 640] inb_S8x1024x640_S1x1024x640_1_0_0))
      (View.ld D (Rect.unit ![0, 1280] ![256, 640] inb_S256x5120_S256x640_0_1280))
      (View.ld W (Rect.unit ![2, 0, 0] ![1, 1024, 640] inb_S8x1024x640_S1x1024x640_2_0_0))
      (View.ld D (Rect.unit ![0, 1920] ![256, 640] inb_S256x5120_S256x640_0_1920))
      (View.ld W (Rect.unit ![3, 0, 0] ![1, 1024, 640] inb_S8x1024x640_S1x1024x640_3_0_0)))
    (k0_pay5 (View.ld D (Rect.unit ![0, 2560] ![256, 640] inb_S256x5120_S256x640_0_2560))
      (View.ld W (Rect.unit ![4, 0, 0] ![1, 1024, 640] inb_S8x1024x640_S1x1024x640_4_0_0)))
    (View.ld D (Rect.unit ![0, 3200] ![256, 640] inb_S256x5120_S256x640_0_3200))
    (View.ld W (Rect.unit ![5, 0, 0] ![1, 1024, 640] inb_S8x1024x640_S1x1024x640_5_0_0))
    (View.ld D (Rect.unit ![0, 3840] ![256, 640] inb_S256x5120_S256x640_0_3840))
    (View.ld W (Rect.unit ![6, 0, 0] ![1, 1024, 640] inb_S8x1024x640_S1x1024x640_6_0_0))
    (View.ld D (Rect.unit ![0, 4480] ![256, 640] inb_S256x5120_S256x640_0_4480))
    (View.ld W (Rect.unit ![7, 0, 0] ![1, 1024, 640] inb_S8x1024x640_S1x1024x640_7_0_0))

theorem ld_cols (D : Vec Ideal S256x5120 .bf16) (o : ℕ) (inb) (p : Fin 256) (l : Fin 640) (h : o + l.val < 5120) :
    View.ld D (Rect.unit ![0, o] ![256, 640] inb) (ix2 p l) = D (ix2 p ⟨o + l.val, h⟩) :=
  View.ld_unit_apply_of D _ _ inb _ _ (Fin.forall_fin_two.mpr ⟨(Nat.zero_add _).symm, rfl⟩)

theorem ld_piece (W : Vec Ideal S8x1024x640 .bf16) (j : Fin 8) (inb) (a : Fin 1024) (l : Fin 640) :
    View.ld W (Rect.unit ![j.val, 0, 0] ![1, 1024, 640] inb) (ix3 0 a l) = W (ix3 j a l) :=
  View.ld_unit_apply_of W _ _ inb _ _ fun b => match b with
    | ⟨0, _⟩ => rfl
    | ⟨1, _⟩ => (Nat.zero_add _).symm
    | ⟨2, _⟩ => (Nat.zero_add _).symm

theorem pay4_apply (d0 d1 d2 d3 : Vec Ideal S256x640 .bf16) (w0 w1 w2 w3 : Vec Ideal S1x1024x640 .bf16) (p : Fin 256) (a : Fin 1024) :
    k0_pay4 d0 w0 d1 w1 d2 w2 d3 w3 (ix2 p a) = (((∑ l : Fin 640, d0 (ix2 p l) * w0 (ix3 0 a l)) + ∑ l : Fin 640, d1 (ix2 p l) * w1 (ix3 0 a l))
      + ∑ l : Fin 640, d2 (ix2 p l) * w2 (ix3 0 a l)) + ∑ l : Fin 640, d3 (ix2 p l) * w3 (ix3 0 a l) := by
  pointwise [k0_pay4]

theorem pay5_apply (d : Vec Ideal S256x640 .bf16) (w : Vec Ideal S1x1024x640 .bf16) (p : Fin 256) (a : Fin 1024) :
    k0_pay5 d w (ix2 p a) = ∑ l : Fin 640, d (ix2 p l) * w (ix3 0 a l) := by
  pointwise [k0_pay5]

theorem pay6_apply (u v : FVec Ideal S256x1024 .f32) (d5 d6 d7 : Vec Ideal S256x640 .bf16) (w5 w6 w7 : Vec Ideal S1x1024x640 .bf16)
    (p : Fin 256) (a : Fin 1024) :
    k0_pay6 u v d5 w5 d6 w6 d7 w7 (ix2 p a) = (((u (ix2 p a) + v (ix2 p a)) + ∑ l : Fin 640, d5 (ix2 p l) * w5 (ix3 0 a l))
      + ∑ l : Fin 640, d6 (ix2 p l) * w6 (ix3 0 a l)) + ∑ l : Fin 640, d7 (ix2 p l) * w7 (ix3 0 a l) := by
  pointwise [k0_pay6]

theorem dhv_apply (D : Vec Ideal S256x5120 .bf16) (W : Vec Ideal S8x1024x640 .bf16) (p : Fin 256) (a : Fin 1024) :
    dhv D W (ix2 p a) = ∑ j : Fin 8, ∑ l : Fin 640, D (ix2 p ⟨j.val * 640 + l.val, by omega⟩) * W (ix3 j a l) := by
  have e : ∀ (j : Fin 8) (inb) (inb'), ∑ l : Fin 640, View.ld D (Rect.unit ![0, j.val * 640] ![256, 640] inb) (ix2 p l)
      * View.ld W (Rect.unit ![j.val, 0, 0] ![1, 1024, 640] inb') (ix3 0 a l)
      = ∑ l : Fin 640, D (ix2 p ⟨j.val * 640 + l.val, by omega⟩) * W (ix3 j a l) := fun j inb inb' =>
    Finset.sum_congr rfl fun l _ => by rw [ld_cols D _ inb p l (by omega), ld_piece]
  rw [dhv, pay6_apply, pay4_apply, pay5_apply, Fin.sum_univ_eight]
  exact congrArg₂ (· + ·) (congrArg₂ (· + ·) (congrArg₂ (· + ·) (congrArg₂ (· + ·) (congrArg₂ (· + ·) (congrArg₂ (· + ·)
    (congrArg₂ (· + ·) (e 0 _ _) (e 1 _ _)) (e 2 _ _)) (e 3 _ _)) (e 4 _ _)) (e 5 _ _)) (e 6 _ _)) (e 7 _ _)

theorem pay7_apply (u v : FVec Ideal S256x1024 .f32) (d5 d6 d7 : Vec Ideal S256x640 .bf16) (w5 w6 w7 : Vec Ideal S1x1024x640 .bf16)
    (r : Vec Ideal S256x1024 .f32) (g : Vec Ideal S1x1024 .f32) (z : Fin 1) (p : Fin 256) (a : Fin 1024) :
    k0_pay7 u v d5 w5 d6 w6 d7 w7 r g (ix3 z p a) = r (ix2 p a) + k0_pay6 u v d5 w5 d6 w6 d7 w7 (ix2 p a) * (1 + g (ix2 0 a)) := by
  unfold k0_pay7
  generalize k0_pay6 u v d5 w5 d6 w6 d7 w7 = y
  pointwise []

theorem pay1_apply (y : FVec Ideal S256x1024 .f32) (o : Vec Ideal S1x1024 .f32) (x : Vec Ideal S1x256x1024 .f32) (z : Fin 1) (a : Fin 1024) :
    k0_pay1 y (k0_pay8 o) x (ix2 z a) = o (ix2 z a) + ∑ p : Fin 256, y (ix2 p a) * x (ix3 0 p a) := by
  pointwise [k0_pay1, k0_pay8]

theorem pay2_apply (y : FVec Ideal S256x1024 .f32) (o : Vec Ideal S1x1024 .f32) (z : Fin 1) (a : Fin 1024) :
    k0_pay2 y o (ix2 z a) = o (ix2 z a) + ∑ p : Fin 256, y (ix2 p a) := by
  pointwise [k0_pay2]

theorem pay3_apply (r : Fin 8) (a : Fin 1024) : k0_pay3 (F := Ideal) (ix2 r a) = 0 := by
  pointwise [k0_pay3]

/-! ### The reference -/

open Cert.Reference3Ideal.Read in
theorem ref_dh (x0 : FVec Ideal S4096x5120 .bf16) (x1 : FVec Ideal S1024x5120 .bf16) (s : Fin 4096) (a : Fin 1024) :
    val_main_v17 (F := Ideal) x0 x1 (ix2 s a) = dh x0 x1 s a := by
  unfold dh
  pointwise [val_main_v17, val_main_v16, val_main_v6]

open Cert.Reference3Ideal.Read in
theorem ref_dx (x0 : FVec Ideal S4096x5120 .bf16) (x1 : FVec Ideal S1024x5120 .bf16) (x2 : FVec Ideal S4096x1024 .f32)
    (x4 : FVec Ideal S8x3072 .f32) (z : Fin 1) (s : Fin 4096) (a : Fin 1024) :
    val_main_v28 (F := Ideal) x0 x1 x2 x4 (ix3 z s a) = dx x0 x1 x2 x4 s a := by
  unfold dx
  rw [← ref_dh]
  unfold val_main_v28 val_main_v26 val_main_v25
  generalize val_main_v17 (F := Ideal) x0 x1 = y
  pointwise [val_main_v24, val_main_v9, val_main_v8, val_main_v7, val_main_cst, val_main_v3, val_main_v1, val_main_v0]

open Cert.Reference3Ideal.Read in
theorem ref_scale (x0 : FVec Ideal S4096x5120 .bf16) (x1 : FVec Ideal S1024x5120 .bf16) (x3 : FVec Ideal S1x4096x1024 .f32)
    (z : Fin 1) (a : Fin 1024) :
    val_main_v29 (F := Ideal) x0 x1 x3 (ix2 z a) = ∑ s, dh x0 x1 s a * x3 (ix3 0 s a) := by
  have e : ∑ s, dh x0 x1 s a * x3 (ix3 0 s a) = ∑ s : Fin 4096, x3 (ix3 0 s a) * val_main_v17 (F := Ideal) x0 x1 (ix2 s a) :=
    Finset.sum_congr rfl fun s _ => by rw [ref_dh, mul_comm]
  rw [e]
  unfold val_main_v29 val_main_v27 val_main_v23 val_main_v22 val_main_v21
  generalize val_main_v17 (F := Ideal) x0 x1 = y
  pointwise [val_main_v5, val_main_cst_2, val_main_cst_3]
  exact Fin.sum_univ_one _

open Cert.Reference3Ideal.Read in
theorem ref_shift (x0 : FVec Ideal S4096x5120 .bf16) (x1 : FVec Ideal S1024x5120 .bf16) (z : Fin 1) (a : Fin 1024) :
    val_main_v30 (F := Ideal) x0 x1 (ix2 z a) = ∑ s, dh x0 x1 s a := by
  have e : ∑ s, dh x0 x1 s a = ∑ s : Fin 4096, val_main_v17 (F := Ideal) x0 x1 (ix2 s a) :=
    Finset.sum_congr rfl fun s _ => (ref_dh x0 x1 s a).symm
  rw [e]
  unfold val_main_v30 val_main_v20 val_main_v19 val_main_v18
  generalize val_main_v17 (F := Ideal) x0 x1 = y
  pointwise [val_main_cst_0, val_main_cst_1]
  exact Fin.sum_univ_one _

open Cert.Reference3Ideal.Read in
theorem ref_red (x0 : FVec Ideal S4096x5120 .bf16) (x1 : FVec Ideal S1024x5120 .bf16) (x3 : FVec Ideal S1x4096x1024 .f32)
    (r : Fin 8) (a : Fin 1024) :
    val_main_v32 (F := Ideal) x0 x1 x3 (ix2 r a) = red x0 x1 x3 r a := by
  unfold red
  rw [← ref_scale x0 x1 x3 0 a, ← ref_shift x0 x1 0 a]
  unfold val_main_v32
  generalize val_main_v29 (F := Ideal) x0 x1 x3 = y
  generalize val_main_v30 (F := Ideal) x0 x1 = y'
  pointwise [val_main_v31, val_main_cst_4]
  by_cases h0 : r.val = 0
  · rw [dif_pos (by omega), if_pos h0]
    exact congrArg (fun z => y (ix2 z a)) (Fin.ext h0)
  · rw [dif_neg (by omega), if_neg h0]
    by_cases h1 : r.val = 1
    · rw [dif_pos (by omega), if_pos h1]
      exact congrArg (fun z => y' (ix2 z a)) (Fin.ext (show r.val - 1 = 0 by omega))
    · rw [dif_neg (by omega), if_neg h1]

end Cert.Proof.Kernel3Ideal

end
-- ==== Proof.Kernel3Ideal.Input.lean ====
/-
  The idealized call and the reference end with equal derivatives with respect to the input, the shift and the scale.
-/
module

public import proofs.«01_k».proof.Proof.Kernel3Ideal.Sums
public import Idealize.ShloMosaic.Lib.Pipeline.ReadBack
public import Idealize.ShloMosaic.Lib.StableHlo.RunRead
public import Idealize.ShloMosaic.Lib.WritesUnit

@[expose] public section

set_option maxRecDepth 16384

noncomputable section

namespace Cert.Proof.Kernel3Ideal

open Cert.Kernel3Ideal Cert.Kernel3Ideal.Gen
open Idealize.ShloMosaic Idealize.ShloMosaic.TcCoe Idealize.ShloMosaic.Tactic Idealize.SL.Sem

variable (m : (ℓ : Loc nD τ sig) → Buf (Elt Ideal) ℓ) (c : Dev nD)

/-! ### The blocks -/

theorem V_weights : V m c main_v1 = transpose S8x1024x640 [1, 0, 2]
    (shapeCast S1024x8x640 (m ((c : Thread nD τ).loc main_arg1) : FVec Ideal S1024x5120 .bf16) shapeCasts_S1024x5120_S1024x8x640)
    transposes_S1024x8x640_S8x1024x640_1_0_2 := by
  unfold V
  simp only [hostOps0, List.flatten_cons, List.flatten_nil, List.append_nil, List.cons_append, List.nil_append,
    StableHlo.unary, StableHlo.reshape, StableHlo.TRef.unary, StableHlo.TRef.reshape, StableHlo.TRef.toBuf, StableHlo.TRef.ofBuf, cast_eq]
  after_reads_simp
  rfl

theorem index_eq : ∀ t : Fin cfg0.N, (cfg0.win 0).index t = ![t.val, 0] ∧ (cfg0.win 1).index t = ![0, 0, 0]
    ∧ (cfg0.win 2).index t = ![t.val, 0] ∧ (cfg0.win 3).index t = ![0, t.val, 0] ∧ (cfg0.win 4).index t = ![0, 0]
    ∧ (cfg0.win 5).index t = ![0, t.val, 0] := by decide +kernel

/-- Row `p` of block `t`, among all rows. -/
abbrev row (t : Fin cfg0.N) (p : Fin 256) : Fin 4096 := ⟨t.val * 256 + p.val, by have := lt_of_lt_of_eq t.isLt N_0; omega⟩

theorem iblk_d (t : Fin cfg0.N) (p : Fin 256) (k : Fin 5120) :
    iblk m c 0 t (ix2 p k) = m ((c : Thread nD τ).loc main_arg0) (ix2 (row t p) k) := by
  blk_ext [iblk, (index_eq t).1]

theorem iblk_w (t : Fin cfg0.N) (j : Fin 8) (a : Fin 1024) (l : Fin 640) :
    iblk m c 1 t (ix3 j a l) = m ((c : Thread nD τ).loc main_arg1) (ix2 a ⟨j.val * 640 + l.val, by omega⟩) := by
  have e : iblk m c 1 t (ix3 j a l) = V m c main_v1 (ix3 j a l) := by
    blk_ext [iblk, (index_eq t).2.1]
  rw [e, V_weights]
  pointwise []

theorem iblk_r (t : Fin cfg0.N) (p : Fin 256) (a : Fin 1024) :
    iblk m c 2 t (ix2 p a) = m ((c : Thread nD τ).loc main_arg2) (ix2 (row t p) a) := by
  blk_ext [iblk, (index_eq t).2.2.1]

theorem iblk_x (t : Fin cfg0.N) (z : Fin 1) (p : Fin 256) (a : Fin 1024) :
    iblk m c 3 t (ix3 z p a) = m ((c : Thread nD τ).loc main_arg3) (ix3 z (row t p) a) := by
  blk_ext [iblk, (index_eq t).2.2.2.1]

theorem iblk_g (t : Fin cfg0.N) (r : Fin 8) (a : Fin 3072) :
    iblk m c 4 t (ix2 r a) = m ((c : Thread nD τ).loc main_arg4) (ix2 r a) := by
  blk_ext [iblk, (index_eq t).2.2.2.2.1]

/-- A block of the derivative with respect to the modulated input. -/
theorem dhv_eq (t : Fin cfg0.N) (p : Fin 256) (a : Fin 1024) :
    dhv (iblk m c 0 t) (iblk m c 1 t) (ix2 p a)
      = dh (m ((c : Thread nD τ).loc main_arg0)) (m ((c : Thread nD τ).loc main_arg1)) (row t p) a := by
  rw [dhv_apply]
  unfold dh
  exact Fin.sum_mul_add_congr (S := 8) (n := 640) (fun j l hl => by rw [iblk_d, iblk_w]) (by decide)

/-! ### The derivative with respect to the input -/

/-- The derivative with respect to the input, as the array of it that the call leaves. -/
def arrayX : Buf (Elt Ideal) ((c : Thread nD τ).loc main_v2_0) := fun y : S1x4096x1024.Idx =>
  dx (m ((c : Thread nD τ).loc main_arg0)) (m ((c : Thread nD τ).loc main_arg1)) (m ((c : Thread nD τ).loc main_arg2))
    (m ((c : Thread nD τ).loc main_arg4)) (y 1) (y 2)

theorem ld_scale (g : Vec Ideal S8x3072 .f32) (inb) (a : Fin 1024) :
    View.ld g (Rect.unit ![0, 1024] ![1, 1024] inb) (ix2 0 a) = g (ix2 0 ⟨1024 + a.val, by omega⟩) :=
  View.ld_unit_apply_of g _ _ inb _ _ (Fin.forall_fin_two.mpr ⟨rfl, rfl⟩)

theorem out5 (t : Fin cfg0.N) (z : Fin 1) (p : Fin 256) (a : Fin 1024) : (outsAt0 m c t.val t.isLt).1 (ix3 z p a)
    = dx (m ((c : Thread nD τ).loc main_arg0)) (m ((c : Thread nD τ).loc main_arg1)) (m ((c : Thread nD τ).loc main_arg2))
      (m ((c : Thread nD τ).loc main_arg4)) (row t p) a := by
  by_cases h : t.val % 16 = 0
  · rw [outsAt0_A m c t h]
    frame_out
    rw [pay7_apply, ld_scale, iblk_r, iblk_g]
    unfold dx
    rw [← dhv_eq m c t p a]
  · rw [outsAt0_B m c t h]
    frame_out
    rw [pay7_apply, ld_scale, iblk_r, iblk_g]
    unfold dx
    rw [← dhv_eq m c t p a]

theorem finalX : (dats m 0 c).arrAt 5 cfg0.N = arrayX m c := by
  refine (dats m 0 c).arrAt_eq_of_covers 5 _ (by decide +kernel) fun t hf y => ?_
  blk_simp
  rw [after0_5]
  idx_vars y
  rw [out5]
  unfold arrayX
  refine congrArg₂ (dx _ _ _ _) (Fin.ext ?_) (Fin.ext ?_) <;> blk_simp [(index_eq t).2.2.2.2.2]

/-! ### The derivatives with respect to the shift and the scale -/

section Rows

variable {κ : Kind} {sp : Space} (v : View sig κ sp S8x1024 .f32) (f : v.ty.Contents (Elt Ideal))

/-- Row 0 and then row 1 written over what was there. -/
theorem read_rows (inb1) (w1 : Vec Ideal S1x1024 .f32) (inb0) (w0 : Vec Ideal S1x1024 .f32) (L : List (View.Piece (Elt Ideal) S8x1024 .f32))
    (r : Fin 8) (a : Fin 1024) :
    v.read (Elt Ideal) (v.writes (Elt Ideal) f
      (⟨Rect.unit ![1, 0] ![1, 1024] inb1, w1⟩ :: ⟨Rect.unit ![0, 0] ![1, 1024] inb0, w0⟩ :: L)) (ix2 r a)
      = if r.val = 0 then w0 (ix2 0 a) else if r.val = 1 then w1 (ix2 0 a) else v.read (Elt Ideal) (v.writes (Elt Ideal) f L) (ix2 r a) := by
  by_cases h0 : r.val = 0
  · rw [if_pos h0, View.read_writes_cons_rows_of_not_mem v f inb1 w1 _ (ix2 r a) (o := 1) (W := 1) rfl rfl (Or.inl (show r.val < 1 by omega))]
    exact View.read_writes_cons_rows_of_mem v f inb0 w0 L (ix2 r a) (ix2 0 a) (o := 0) rfl (show r.val = 0 + 0 by omega) rfl
  · rw [if_neg h0]
    by_cases h1 : r.val = 1
    · rw [if_pos h1]
      exact View.read_writes_cons_rows_of_mem v f inb1 w1 _ (ix2 r a) (ix2 0 a) (o := 1) rfl (show r.val = 1 + 0 by omega) rfl
    · rw [if_neg h1, View.read_writes_cons_rows_of_not_mem v f inb1 w1 _ (ix2 r a) (o := 1) (W := 1) rfl rfl
        (Or.inr (show 1 + 1 ≤ r.val by omega))]
      exact View.read_writes_cons_rows_of_not_mem v f inb0 w0 L (ix2 r a) (o := 0) (W := 1) rfl rfl (Or.inr (show 0 + 1 ≤ r.val by omega))

theorem read_all (inb) (w : Vec Ideal S8x1024 .f32) (r : Fin 8) (a : Fin 1024) :
    v.read (Elt Ideal) (v.writes (Elt Ideal) f [⟨Rect.unit ![0, 0] ![8, 1024] inb, w⟩]) (ix2 r a) = w (ix2 r a) :=
  View.read_writes_cons_rows_of_mem v f inb w [] (ix2 r a) (ix2 r a) (o := 0) rfl (show r.val = 0 + r.val from (Nat.zero_add _).symm) rfl

end Rows

theorem ld_row (o : Fin 8) (X : Vec Ideal S8x1024 .f32) (inb) (a : Fin 1024) :
    View.ld X (Rect.unit ![o.val, 0] ![1, 1024] inb) (ix2 0 a) = X (ix2 o a) :=
  View.ld_unit_apply_of X _ _ inb _ _ (Fin.forall_fin_two.mpr ⟨rfl, (Nat.zero_add _).symm⟩)

/-- What point `t` adds at row `r`. -/
def part (t : Fin cfg0.N) (r : Fin 8) (a : Fin 1024) : EReal :=
  if r.val = 0 then ∑ p : Fin 256, dh (m ((c : Thread nD τ).loc main_arg0)) (m ((c : Thread nD τ).loc main_arg1)) (row t p) a
      * (m ((c : Thread nD τ).loc main_arg3) : FVec Ideal S1x4096x1024 .f32) (ix3 0 (row t p) a)
    else if r.val = 1 then ∑ p : Fin 256, dh (m ((c : Thread nD τ).loc main_arg0)) (m ((c : Thread nD τ).loc main_arg1)) (row t p) a
    else 0

theorem row_scale (t : Fin cfg0.N) (o : Vec Ideal S1x1024 .f32) (a : Fin 1024) :
    k0_pay1 (dhv (iblk m c 0 t) (iblk m c 1 t)) (k0_pay8 o) (iblk m c 3 t) (ix2 0 a) = o (ix2 0 a) + part m c t 0 a := by
  rw [pay1_apply]
  refine congrArg (_ + ·) (Eq.trans ?_ (if_pos rfl).symm)
  refine Fin.sum_fin_congr fun p => ?_
  rw [dhv_eq, iblk_x]

theorem row_shift (t : Fin cfg0.N) (o : Vec Ideal S1x1024 .f32) (a : Fin 1024) :
    k0_pay2 (dhv (iblk m c 0 t) (iblk m c 1 t)) o (ix2 0 a) = o (ix2 0 a) + part m c t 1 a := by
  rw [pay2_apply]
  refine congrArg (_ + ·) (Eq.trans ?_ ((if_neg (by decide)).trans (if_pos rfl)).symm)
  exact Fin.sum_fin_congr fun p => dhv_eq m c t p a

/-- One point's rows, over `o0` and `o1` at rows 0 and 1 and `g` elsewhere. -/
theorem rows_eq (t : Fin cfg0.N) (o0 o1 : Vec Ideal S1x1024 .f32) (g : Vec Ideal S8x1024 .f32) (q : EReal)
    (r : Fin 8) (a : Fin 1024) (hq : q = g (ix2 r a)) (h0 : o0 (ix2 0 a) = g (ix2 0 a)) (h1 : o1 (ix2 0 a) = g (ix2 1 a)) :
    (if r.val = 0 then k0_pay1 (dhv (iblk m c 0 t) (iblk m c 1 t)) (k0_pay8 o0) (iblk m c 3 t) (ix2 0 a)
      else if r.val = 1 then k0_pay2 (dhv (iblk m c 0 t) (iblk m c 1 t)) o1 (ix2 0 a) else q) = g (ix2 r a) + part m c t r a := by
  by_cases e0 : r.val = 0
  · rw [if_pos e0, row_scale, h0, show r = 0 from Fin.ext e0]
  · rw [if_neg e0]
    by_cases e1 : r.val = 1
    · rw [if_pos e1, row_shift, h1, show r = 1 from Fin.ext e1]
    · rw [if_neg e1, hq]
      exact ((congrArg (_ + ·) ((if_neg e0).trans (if_neg e1))).trans (add_zero _)).symm

theorem out6_A (t : Fin cfg0.N) (h : t.val % 16 = 0) (r : Fin 8) (a : Fin 1024) :
    (outsAt0 m c t.val t.isLt).2 (ix2 r a) = 0 + part m c t r a := by
  rw [outsAt0_A m c t h]
  frame_out
  rw [← View.read_writes_junk_apply_eq_canon (ms0_6 t).view]
  refine (read_rows (ms0_6 t).view (ms0_6 t).view.junk _ _ _ _ _ r a).trans ?_
  refine (rows_eq m c t _ _ (k0_pay3 (F := Ideal)) _ r a (read_all (ms0_6 t).view (ms0_6 t).view.junk _ _ r a) ?_ ?_).trans (congrArg (· + _) (pay3_apply r a))
  · exact (congrFun (View.readCov_fill _ _ _ _ _ (by decide)) _).trans (ld_row 0 _ _ a)
  · exact (congrFun (View.readCov_skip _ _ _ _ _ rfl) _).trans
      ((congrFun (View.readCov_fill _ _ _ _ _ (by decide)) _).trans (ld_row 1 _ _ a))

theorem out6_B (t : Fin cfg0.N) (h : ¬ t.val % 16 = 0) (r : Fin 8) (a : Fin 1024) :
    (outsAt0 m c t.val t.isLt).2 (ix2 r a)
      = (outsAt0 m c (t.val - 1) (Nat.lt_of_le_of_lt (Nat.sub_le _ _) t.isLt)).2 (ix2 r a) + part m c t r a := by
  rw [outsAt0_B m c t h]
  frame_out
  rw [read_rows, View.writes_nil, (hs0_6 t).read_unread]
  exact rows_eq m c t _ _ _ _ r a rfl (ld_row 0 _ _ a) (ld_row 1 _ _ a)

/-- The derivatives with respect to the shift and the scale, as the array of them that the call leaves. -/
def arrayR : Buf (Elt Ideal) ((c : Thread nD τ).loc main_v2_1) := fun y : S8x1024.Idx =>
  red (m ((c : Thread nD τ).loc main_arg0)) (m ((c : Thread nD τ).loc main_arg1)) (m ((c : Thread nD τ).loc main_arg3)) (y 0) (y 1)

theorem sum_part (r : Fin 8) (a : Fin 1024) : ∑ t : Fin cfg0.N, part m c t r a
    = red (m ((c : Thread nD τ).loc main_arg0)) (m ((c : Thread nD τ).loc main_arg1)) (m ((c : Thread nD τ).loc main_arg3)) r a := by
  unfold part red
  by_cases h0 : r.val = 0
  · simp only [if_pos h0]
    exact Fin.sum_mul_add_congr (S := cfg0.N) (n := 256) (fun t p hl => rfl) (by decide)
  · simp only [if_neg h0]
    by_cases h1 : r.val = 1
    · simp only [if_pos h1]
      exact Fin.sum_mul_add_congr (S := cfg0.N) (n := 256) (fun t p hl => rfl) (by decide)
    · simp only [if_neg h1]
      exact Finset.sum_const_zero

theorem last6 (r : Fin 8) (a : Fin 1024) : (outsAt0 m c t0_15.val t0_15.isLt).2 (ix2 r a)
    = red (m ((c : Thread nD τ).loc main_arg0)) (m ((c : Thread nD τ).loc main_arg1)) (m ((c : Thread nD τ).loc main_arg3)) r a := by
  have := Pipeline.eq_sum_fin_of_reset_step_apply_last (fun n h (i : Fin 8 × Fin 1024) => (outsAt0 m c n h).2 (ix2 i.1 i.2)) 16 (fun _ => 0)
    (fun t i => part m c t i.1 i.2) (fun t h i => out6_A m c t h i.1 i.2) (fun t h i => out6_B m c t h i.1 i.2) (le_of_eq N_0) t0_15 rfl (r, a)
  exact this.trans ((zero_add _).trans (sum_part m c r a))

theorem finalR : (dats m 0 c).arrAt 6 cfg0.N = arrayR m c := by
  refine (dats m 0 c).arrAt_eq_of_after_last 6 t0_15 (by decide +kernel) _ ?_
  rw [after0_6]
  intro j
  idx_vars j
  refine (last6 m c j0 j1).trans ?_
  rfl

/-- From equal arguments the idealized call and the reference end with equal arrays, their arguments unchanged. -/
theorem algebraic : Cert.algebraic_Kernel3Ideal_Reference3Ideal := by
  intro m g m' g' _ ha
  refine ⟨arrayX m, arrayR m, (θ_run Cert.Kernel3Ideal.defs _ _).mono (fun r hr c => ?_) (Cert.Kernel3Ideal.Value.run_blocks m g),
    (θ_run Cert.Reference3Ideal.defs _ _).mono (fun r hr c => ?_) (Cert.Reference3Ideal.Value.run m' g')⟩
  · exact ⟨(hr c).1.trans (finalX m c), (hr c).2.1.trans (finalR m c), (hr c).2.2⟩
  · obtain ⟨a0, a1, a2, a3, a4⟩ := ha c
    obtain ⟨r0, r1, hr⟩ := hr c
    refine ⟨r0.trans ((Cert.Reference3Ideal.Read.val_main_v28_eq _ _ _ _).trans ?_),
      r1.trans ((Cert.Reference3Ideal.Read.val_main_v32_eq _ _ _).trans ?_), hr⟩
    · rw [a0, a1, a2, a4]
      funext y
      idx_vars y
      exact ref_dx _ _ _ _ _ _ _
    · rw [a0, a1, a3]
      funext y
      idx_vars y
      exact ref_red _ _ _ _ _

end Cert.Proof.Kernel3Ideal

end
-- ==== Proof.Kernel4Ideal.Product.lean ====
/-
  The even layer's input weights' derivative: the idealized call and the reference end with equal arrays, the product of the
  modulated input's transpose and the derivative with respect to the projection, each device's columns apart.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Proof.Kernel4Ideal

open Cert.Kernel4Ideal Cert.Kernel4Ideal.Gen
open Idealize.ShloMosaic Idealize.ShloMosaic.TcCoe Idealize.ShloMosaic.Tactic Idealize.SL.Sem

/-- Device `j`'s columns of the derivative: over the rows, the modulated input's entry times the projection's derivative's. -/
def weights (h : FVec Ideal S4096x1024 .bf16) (d : FVec Ideal S4096x5120 .bf16) (j : Fin 8) (a : Fin 1024) (b : Fin 640) : EReal :=
  ∑ k : Fin 4096, h (ix2 k a) * d (ix2 k ⟨j.val * 640 + b.val, by omega⟩)

theorem pay1_apply (x : Vec Ideal S4096x512 .bf16) (y : Vec Ideal S4096x640 .bf16) (u : Fin 1) (a : Fin 512) (b : Fin 640) :
    k0_pay1 x y (ix3 u a b) = ∑ k : Fin 4096, x (ix2 k a) * y (ix2 k b) := by
  pointwise [k0_pay1]

variable (m : (ℓ : Loc nD τ sig) → Buf (Elt Ideal) ℓ) (c : Dev nD)

theorem index_eq : ∀ t : Fin cfg0.N, (cfg0.win 0).index t = ![0, t.val % 2] ∧ (cfg0.win 1).index t = ![0, t.val / 2]
    ∧ (cfg0.win 2).index t = ![t.val / 2, t.val % 2, 0] := by decide +kernel

theorem iblk_h (t : Fin cfg0.N) (k : Fin 4096) (a : Fin 512) :
    iblk m c 0 t (ix2 k a) = m ((c : Thread nD τ).loc main_arg0) (ix2 k ⟨512 * (t.val % 2) + a.val, by omega⟩) := by
  blk_ext [iblk, (index_eq t).1]

theorem iblk_d (t : Fin cfg0.N) (k : Fin 4096) (b : Fin 640) :
    iblk m c 1 t (ix2 k b) = m ((c : Thread nD τ).loc main_arg2)
      (ix2 k ⟨t.val / 2 * 640 + b.val, by have := lt_of_lt_of_eq t.isLt N_0; omega⟩) := by
  blk_ext [iblk, (index_eq t).2.1]

/-- The derivative, as the array of it that the call leaves. -/
def array : Buf (Elt Ideal) ((c : Thread nD τ).loc main_v0) := fun y : S8x1024x640.Idx =>
  weights (m ((c : Thread nD τ).loc main_arg0)) (m ((c : Thread nD τ).loc main_arg2)) (y 0) (y 1) (y 2)

theorem final : (dats m 0 c).arrAt 2 cfg0.N = array m c := by
  refine (dats m 0 c).arrAt_eq_of_covers 2 _ (by decide +kernel) fun t hf y => ?_
  blk_simp
  rw [after0_2]
  frame_out
  idx_vars y
  rw [pay1_apply]
  unfold array weights
  refine Fin.sum_fin_congr fun k => ?_
  rw [iblk_h, iblk_d]
  refine congr (congrArg HMul.hMul (congrArg (fun z => m ((c : Thread nD τ).loc main_arg0) (ix2 k z)) (Fin.ext ?_)))
    (congrArg (fun z => m ((c : Thread nD τ).loc main_arg2) (ix2 k z)) (Fin.ext ?_))
  · blk_simp [(index_eq t).2.2]
    exact congrArg (· + y1.val) (Nat.mul_comm _ _)
  · blk_simp [(index_eq t).2.2]

theorem reference (x0 : FVec Ideal S4096x1024 .bf16) (x2 : FVec Ideal S4096x5120 .bf16) (j : Fin 8) (a : Fin 1024) (b : Fin 640) :
    Cert.Reference4Ideal.Read.val_main_v8 (F := Ideal) x0 x2 (ix3 j a b) = weights x0 x2 j a b := by
  unfold weights
  pointwise [Cert.Reference4Ideal.Read.val_main_v8, Cert.Reference4Ideal.Read.val_main_v7, Cert.Reference4Ideal.Read.val_main_v6,
    Cert.Reference4Ideal.Read.val_main_v5, Cert.Reference4Ideal.Read.val_main_v4, Cert.Reference4Ideal.Read.val_main_v3,
    Cert.Reference4Ideal.Read.val_main_v1]
  exact Finset.sum_congr rfl fun k _ => mul_comm _ _

/-- From equal arguments the idealized call and the reference end with equal arrays, their arguments unchanged. -/
theorem algebraic : Cert.algebraic_Kernel4Ideal_Reference4Ideal := by
  intro m g m' g' _ ha
  refine ⟨array m, (θ_run Cert.Kernel4Ideal.defs _ _).mono (fun r hr c => ?_) (Cert.Kernel4Ideal.Value.run_blocks m g),
    (θ_run Cert.Reference4Ideal.defs _ _).mono (fun r hr c => ?_) (Cert.Reference4Ideal.Value.run m' g')⟩
  · exact ⟨(hr c).1.trans (final m c), (hr c).2⟩
  · obtain ⟨a0, a1, a2⟩ := ha c
    obtain ⟨r0, hr⟩ := hr c
    refine ⟨r0.trans ((Cert.Reference4Ideal.Read.val_main_v8_eq _ _).trans ?_), hr⟩
    rw [a0, a2]
    funext y
    idx_vars y
    exact reference _ _ _ _ _

end Cert.Proof.Kernel4Ideal

end
-- ==== Proof.Kernel5Ideal.Product.lean ====
/-
  The even layer's input projection: the idealized call and the reference end with equal arrays, the product of the modulated input and
  the weights. The call has each device's columns of the weights apart.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.StableHlo.RunRead
public import Idealize.ShloMosaic.Lib.Pipeline.ValueKit

@[expose] public section

set_option maxRecDepth 16384

noncomputable section

namespace Cert.Proof.Kernel5Ideal

open Cert.Kernel5Ideal Cert.Kernel5Ideal.Gen
open Idealize.ShloMosaic Idealize.ShloMosaic.TcCoe Idealize.ShloMosaic.Tactic Idealize.SL.Sem

/-- The projection: the modulated input times the weights. -/
def product (x : FVec Ideal S4096x1024 .bf16) (y : FVec Ideal S1024x5120 .bf16) (a : Fin 4096) (b : Fin 5120) : EReal :=
  ∑ k : Fin 1024, x (ix2 a k) * y (ix2 k b)

theorem pay4_apply (x : Vec Ideal S512x1024 .bf16) (y : Vec Ideal S1x1024x640 .bf16) (a : Fin 512) (b : Fin 640) :
    k0_pay4 x y (ix2 a b) = ∑ k : Fin 1024, x (ix2 a k) * y (ix3 0 k b) := by
  pointwise [k0_pay4]

theorem ld_piece (W : Vec Ideal S8x1024x640 .bf16) (j : Fin 8) (inb) (a : Fin 1024) (l : Fin 640) :
    View.ld W (Rect.unit ![j.val, 0, 0] ![1, 1024, 640] inb) (ix3 0 a l) = W (ix3 j a l) :=
  View.ld_unit_apply_of W _ _ inb _ _ fun b => match b with
    | ⟨0, _⟩ => rfl
    | ⟨1, _⟩ => (Nat.zero_add _).symm
    | ⟨2, _⟩ => (Nat.zero_add _).symm

theorem ld_all (x : Vec Ideal S512x1024 .bf16) (inb) (a : Fin 512) (k : Fin 1024) :
    View.ld x (Rect.unit ![0, 0] ![512, 1024] inb) (ix2 a k) = x (ix2 a k) :=
  View.ld_unit_apply_of x _ _ inb _ _ (Fin.forall_fin_two.mpr ⟨(Nat.zero_add _).symm, (Nat.zero_add _).symm⟩)

/-- What the body stores at device `j`'s columns. -/
def piece (x : Vec Ideal S512x1024 .bf16) (W : Vec Ideal S8x1024x640 .bf16) (j : Fin 8) : FVec Ideal S512x640 .bf16 :=
  k0_pay4 (View.ld x r0_0) (View.ld W (Rect.unit ![j.val, 0, 0] ![1, 1024, 640] fun a => match a with
    | ⟨0, _⟩ => j.isLt
    | ⟨1, _⟩ => le_rfl
    | ⟨2, _⟩ => le_rfl))

/-- The product at one column, in which the weights have each device's columns apart. -/
def column (x : Vec Ideal S512x1024 .bf16) (W : Vec Ideal S8x1024x640 .bf16) (a : Fin 512) (b : Fin 5120) : EReal :=
  ∑ k : Fin 1024, x (ix2 a k) * W (ix3 ⟨b.val / 640, by omega⟩ k ⟨b.val % 640, by omega⟩)

theorem piece_apply (x : Vec Ideal S512x1024 .bf16) (W : Vec Ideal S8x1024x640 .bf16) (j : Fin 8) (a : Fin 512) (b : Fin 5120)
    (a' : Fin 512) (b' : Fin 640) (ha : a.val = a'.val) (hb : b.val = 640 * j.val + b'.val) :
    piece x W j (ix2 a' b') = column x W a b := by
  obtain rfl : a = a' := Fin.ext ha
  unfold piece column
  rw [pay4_apply]
  refine Fin.sum_fin_congr fun k => ?_
  rw [ld_piece, show View.ld x r0_0 (ix2 a k) = x (ix2 a k) from ld_all x _ a k]
  refine congrArg (x (ix2 a k) * ·) (congrArg₂ (fun i l => W (ix3 i k l)) (Fin.ext ?_) (Fin.ext ?_))
  · show j.val = b.val / 640
    omega
  · show b'.val = b.val % 640
    omega

/-- The block that the eight stores leave, at one column. -/
theorem out_apply (x : Vec Ideal S512x1024 .bf16) (W : Vec Ideal S8x1024x640 .bf16) (a : Fin 512) (b : Fin 5120) :
    out0_2 x W (ix2 a b) = column x W a b := by
  canon_tiles z h using cover0_2 ..
  all_goals idx_vars z
  · exact piece_apply x W 7 a b z0 z1 h0 h1
  · exact piece_apply x W 6 a b z0 z1 h0 h1
  · exact piece_apply x W 5 a b z0 z1 h0 h1
  · exact piece_apply x W 4 a b z0 z1 h0 h1
  · exact piece_apply x W 3 a b z0 z1 h0 h1
  · exact piece_apply x W 2 a b z0 z1 h0 h1
  · exact piece_apply x W 1 a b z0 z1 h0 h1
  · exact piece_apply x W 0 a b z0 z1 h0 (h1.trans (Nat.zero_add _).symm)

variable (m : (ℓ : Loc nD τ sig) → Buf (Elt Ideal) ℓ) (c : Dev nD)

theorem V_weights : V m c main_v1 = transpose S8x1024x640 [1, 0, 2]
    (shapeCast S1024x8x640 (m ((c : Thread nD τ).loc main_arg1) : FVec Ideal S1024x5120 .bf16) shapeCasts_S1024x5120_S1024x8x640)
    transposes_S1024x8x640_S8x1024x640_1_0_2 := by
  unfold V
  simp only [hostOps0, List.flatten_cons, List.flatten_nil, List.append_nil, List.cons_append, List.nil_append,
    StableHlo.unary, StableHlo.reshape, StableHlo.TRef.unary, StableHlo.TRef.reshape, StableHlo.TRef.toBuf, StableHlo.TRef.ofBuf, cast_eq]
  after_reads_simp
  rfl

theorem index_eq : ∀ t : Fin cfg0.N, (cfg0.win 0).index t = ![t.val, 0] ∧ (cfg0.win 1).index t = ![0, 0, 0]
    ∧ (cfg0.win 2).index t = ![t.val, 0] := by decide +kernel

theorem iblk_x (t : Fin cfg0.N) (p : Fin 512) (k : Fin 1024) :
    iblk m c 0 t (ix2 p k) = m ((c : Thread nD τ).loc main_arg0) (ix2 ⟨t.val * 512 + p.val, by have := lt_of_lt_of_eq t.isLt N_0; omega⟩ k) := by
  blk_ext [iblk, (index_eq t).1]

theorem iblk_y (t : Fin cfg0.N) (j : Fin 8) (k : Fin 1024) (l : Fin 640) :
    iblk m c 1 t (ix3 j k l) = m ((c : Thread nD τ).loc main_arg1) (ix2 k ⟨j.val * 640 + l.val, by omega⟩) := by
  have e : iblk m c 1 t (ix3 j k l) = V m c main_v1 (ix3 j k l) := by
    blk_ext [iblk, (index_eq t).2.1]
  rw [e, V_weights]
  pointwise []

/-- The projection, as the array of it that the call leaves. -/
def array : Buf (Elt Ideal) ((c : Thread nD τ).loc main_v2) := fun y : S4096x5120.Idx =>
  product (m ((c : Thread nD τ).loc main_arg0)) (m ((c : Thread nD τ).loc main_arg1)) (y 0) (y 1)

theorem final : (dats m 0 c).arrAt 2 cfg0.N = array m c := by
  refine (dats m 0 c).arrAt_eq_of_covers 2 _ (by decide +kernel) fun t hf y => ?_
  blk_simp
  rw [after0_2]
  idx_vars y
  rw [out_apply]
  unfold column
  unfold array product
  refine Fin.sum_fin_congr fun k => ?_
  rw [iblk_x, iblk_y]
  refine congr (congrArg HMul.hMul (congrArg (fun z => m ((c : Thread nD τ).loc main_arg0) (ix2 z k)) (Fin.ext ?_)))
    (congrArg (fun z => m ((c : Thread nD τ).loc main_arg1) (ix2 k z)) (Fin.ext ?_))
  · blk_simp [(index_eq t).2.2]
  · refine (show y1.val / 640 * 640 + y1.val % 640 = y1.val by omega).trans ?_
    blk_simp [(index_eq t).2.2]

theorem reference (x : FVec Ideal S4096x1024 .bf16) (y : FVec Ideal S1024x5120 .bf16) (a : Fin 4096) (b : Fin 5120) :
    Cert.Reference5Ideal.Read.val_main_v3 (F := Ideal) x y (ix2 a b) = product x y a b := by
  unfold product
  pointwise [Cert.Reference5Ideal.Read.val_main_v3, Cert.Reference5Ideal.Read.val_main_v2, Cert.Reference5Ideal.Read.val_main_v1,
    Cert.Reference5Ideal.Read.val_main_v0]

/-- From equal arguments the idealized call and the reference end with equal arrays, their arguments unchanged. -/
theorem algebraic : Cert.algebraic_Kernel5Ideal_Reference5Ideal := by
  intro m g m' g' _ ha
  refine ⟨array m, (θ_run Cert.Kernel5Ideal.defs _ _).mono (fun r hr c => ?_) (Cert.Kernel5Ideal.Value.run_blocks m g),
    (θ_run Cert.Reference5Ideal.defs _ _).mono (fun r hr c => ?_) (Cert.Reference5Ideal.Value.run m' g')⟩
  · exact ⟨(hr c).1.trans (final m c), (hr c).2⟩
  · obtain ⟨a0, a1⟩ := ha c
    obtain ⟨r0, hr⟩ := hr c
    refine ⟨r0.trans ((Cert.Reference5Ideal.Read.val_main_v3_eq _ _).trans ?_), hr⟩
    rw [a0, a1]
    funext y
    idx_vars y
    exact reference _ _ _ _

end Cert.Proof.Kernel5Ideal

end
-- ==== Proof.Kernel6Ideal.Product.lean ====
/-
  A layer's output projection: the idealized call and the reference end with equal arrays, the product of the mixer's output and
  the weights.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise

@[expose] public section

set_option maxRecDepth 16384

noncomputable section

namespace Cert.Proof.Kernel6Ideal

open Cert.Kernel6Ideal Cert.Kernel6Ideal.Gen
open Idealize.ShloMosaic Idealize.ShloMosaic.TcCoe Idealize.ShloMosaic.Tactic Idealize.SL.Sem

/-- The product: the mixer's output times the weights. -/
def product (x : FVec Ideal S4096x2048 .bf16) (y : FVec Ideal S2048x1024 .bf16) (a : Fin 4096) (b : Fin 1024) : EReal :=
  ∑ k : Fin 2048, x (ix2 a k) * y (ix2 k b)

theorem pay1_apply (x : Vec Ideal S512x2048 .bf16) (y : Vec Ideal S2048x1024 .bf16) (a : Fin 512) (b : Fin 1024) :
    k0_pay1 x y (ix2 a b) = ∑ k : Fin 2048, x (ix2 a k) * y (ix2 k b) := by
  pointwise [k0_pay1]

variable (m : (ℓ : Loc nD τ sig) → Buf (Elt Ideal) ℓ) (c : Dev nD)

theorem index_eq : ∀ t : Fin cfg0.N, (cfg0.win 0).index t = ![t.val, 0] ∧ (cfg0.win 1).index t = ![0, 0]
    ∧ (cfg0.win 2).index t = ![t.val, 0] := by decide +kernel

theorem iblk_x (t : Fin cfg0.N) (p : Fin 512) (k : Fin 2048) :
    iblk m c 0 t (ix2 p k) = m ((c : Thread nD τ).loc main_arg0) (ix2 ⟨t.val * 512 + p.val, by have := lt_of_lt_of_eq t.isLt N_0; omega⟩ k) := by
  blk_ext [iblk, (index_eq t).1]

theorem iblk_y (t : Fin cfg0.N) (k : Fin 2048) (b : Fin 1024) :
    iblk m c 1 t (ix2 k b) = m ((c : Thread nD τ).loc main_arg1) (ix2 k b) := by
  blk_ext [iblk, (index_eq t).2.1]

/-- The product, as the array of it that the call leaves. -/
def array : Buf (Elt Ideal) ((c : Thread nD τ).loc main_v0) := fun y : S4096x1024.Idx =>
  product (m ((c : Thread nD τ).loc main_arg0)) (m ((c : Thread nD τ).loc main_arg1)) (y 0) (y 1)

theorem final : (dats m 0 c).arrAt 2 cfg0.N = array m c := by
  refine (dats m 0 c).arrAt_eq_of_covers 2 _ (by decide +kernel) fun t hf y => ?_
  blk_simp
  rw [after0_2]
  frame_out
  idx_vars y
  rw [pay1_apply]
  unfold array product
  refine Fin.sum_fin_congr fun k => ?_
  rw [iblk_x, iblk_y]
  refine congr (congrArg HMul.hMul (congrArg (fun z => m ((c : Thread nD τ).loc main_arg0) (ix2 z k)) (Fin.ext ?_)))
    (congrArg (fun z => m ((c : Thread nD τ).loc main_arg1) (ix2 k z)) (Fin.ext ?_)) <;> blk_simp [(index_eq t).2.2]

theorem reference (x : FVec Ideal S4096x2048 .bf16) (y : FVec Ideal S2048x1024 .bf16) (a : Fin 4096) (b : Fin 1024) :
    Cert.Reference6Ideal.Read.val_main_v2 (F := Ideal) x y (ix2 a b) = product x y a b := by
  unfold product
  pointwise [Cert.Reference6Ideal.Read.val_main_v2, Cert.Reference6Ideal.Read.val_main_v1, Cert.Reference6Ideal.Read.val_main_v0]

/-- From equal arguments the idealized call and the reference end with equal arrays, their arguments unchanged. -/
theorem algebraic : Cert.algebraic_Kernel6Ideal_Reference6Ideal := by
  intro m g m' g' _ ha
  refine ⟨array m, (θ_run Cert.Kernel6Ideal.defs _ _).mono (fun r hr c => ?_) (Cert.Kernel6Ideal.Value.run_blocks m g),
    (θ_run Cert.Reference6Ideal.defs _ _).mono (fun r hr c => ?_) (Cert.Reference6Ideal.Value.run m' g')⟩
  · exact ⟨(hr c).1.trans (final m c), (hr c).2⟩
  · obtain ⟨a0, a1⟩ := ha c
    obtain ⟨r0, hr⟩ := hr c
    refine ⟨r0.trans ((Cert.Reference6Ideal.Read.val_main_v2_eq _ _).trans ?_), hr⟩
    rw [a0, a1]
    funext y
    idx_vars y
    exact reference _ _ _ _

end Cert.Proof.Kernel6Ideal

end
-- ==== Proof.Kernel7Ideal.Product.lean ====
/-
  The derivative of a layer's output projection with respect to what it projects: the idealized call and the reference end with
  equal arrays, the product of the result's derivative and the weights' transpose.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise

@[expose] public section

set_option maxRecDepth 16384

noncomputable section

namespace Cert.Proof.Kernel7Ideal

open Cert.Kernel7Ideal Cert.Kernel7Ideal.Gen
open Idealize.ShloMosaic Idealize.ShloMosaic.TcCoe Idealize.ShloMosaic.Tactic Idealize.SL.Sem

/-- The derivative: the result's derivative times the weights' transpose. -/
def product (x : FVec Ideal S4096x1024 .bf16) (y : FVec Ideal S2048x1024 .bf16) (a : Fin 4096) (b : Fin 2048) : EReal :=
  ∑ k : Fin 1024, x (ix2 a k) * y (ix2 b k)

theorem pay1_apply (x : Vec Ideal S512x1024 .bf16) (y : Vec Ideal S2048x1024 .bf16) (a : Fin 512) (b : Fin 2048) :
    k0_pay1 x y (ix2 a b) = ∑ k : Fin 1024, x (ix2 a k) * y (ix2 b k) := by
  pointwise [k0_pay1]

variable (m : (ℓ : Loc nD τ sig) → Buf (Elt Ideal) ℓ) (c : Dev nD)

theorem index_eq : ∀ t : Fin cfg0.N, (cfg0.win 0).index t = ![t.val, 0] ∧ (cfg0.win 1).index t = ![0, 0]
    ∧ (cfg0.win 2).index t = ![t.val, 0] := by decide +kernel

theorem iblk_x (t : Fin cfg0.N) (p : Fin 512) (k : Fin 1024) :
    iblk m c 0 t (ix2 p k) = m ((c : Thread nD τ).loc main_arg1) (ix2 ⟨t.val * 512 + p.val, by have := lt_of_lt_of_eq t.isLt N_0; omega⟩ k) := by
  blk_ext [iblk, (index_eq t).1]

theorem iblk_y (t : Fin cfg0.N) (b : Fin 2048) (k : Fin 1024) :
    iblk m c 1 t (ix2 b k) = m ((c : Thread nD τ).loc main_arg2) (ix2 b k) := by
  blk_ext [iblk, (index_eq t).2.1]

/-- The product, as the array of it that the call leaves. -/
def array : Buf (Elt Ideal) ((c : Thread nD τ).loc main_v0) := fun y : S4096x2048.Idx =>
  product (m ((c : Thread nD τ).loc main_arg1)) (m ((c : Thread nD τ).loc main_arg2)) (y 0) (y 1)

theorem final : (dats m 0 c).arrAt 2 cfg0.N = array m c := by
  refine (dats m 0 c).arrAt_eq_of_covers 2 _ (by decide +kernel) fun t hf y => ?_
  blk_simp
  rw [after0_2]
  frame_out
  idx_vars y
  rw [pay1_apply]
  unfold array product
  refine Fin.sum_fin_congr fun k => ?_
  rw [iblk_x, iblk_y]
  refine congr (congrArg HMul.hMul (congrArg (fun z => m ((c : Thread nD τ).loc main_arg1) (ix2 z k)) (Fin.ext ?_)))
    (congrArg (fun z => m ((c : Thread nD τ).loc main_arg2) (ix2 z k)) (Fin.ext ?_)) <;> blk_simp [(index_eq t).2.2]

theorem reference (x : FVec Ideal S4096x1024 .bf16) (y : FVec Ideal S2048x1024 .bf16) (a : Fin 4096) (b : Fin 2048) :
    Cert.Reference7Ideal.Read.val_main_v5 (F := Ideal) x y (ix2 a b) = product x y a b := by
  unfold product
  pointwise [Cert.Reference7Ideal.Read.val_main_v5, Cert.Reference7Ideal.Read.val_main_v4, Cert.Reference7Ideal.Read.val_main_v3,
    Cert.Reference7Ideal.Read.val_main_v1]

/-- From equal arguments the idealized call and the reference end with equal arrays, their arguments unchanged. -/
theorem algebraic : Cert.algebraic_Kernel7Ideal_Reference7Ideal := by
  intro m g m' g' _ ha
  refine ⟨array m, (θ_run Cert.Kernel7Ideal.defs _ _).mono (fun r hr c => ?_) (Cert.Kernel7Ideal.Value.run_blocks m g),
    (θ_run Cert.Reference7Ideal.defs _ _).mono (fun r hr c => ?_) (Cert.Reference7Ideal.Value.run m' g')⟩
  · exact ⟨(hr c).1.trans (final m c), (hr c).2⟩
  · obtain ⟨a0, a1, a2⟩ := ha c
    obtain ⟨r0, hr⟩ := hr c
    refine ⟨r0.trans ((Cert.Reference7Ideal.Read.val_main_v5_eq _ _).trans ?_), hr⟩
    rw [a1, a2]
    funext y
    idx_vars y
    exact reference _ _ _ _

end Cert.Proof.Kernel7Ideal

end
-- ==== Proof.Kernel8Ideal.Product.lean ====
/-
  The derivative of a layer's output projection with respect to its weights: the idealized call and the reference end with equal
  arrays, the product of the transpose of what it projects and the result's derivative.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise

@[expose] public section

set_option maxRecDepth 16384

noncomputable section

namespace Cert.Proof.Kernel8Ideal

open Cert.Kernel8Ideal Cert.Kernel8Ideal.Gen
open Idealize.ShloMosaic Idealize.ShloMosaic.TcCoe Idealize.ShloMosaic.Tactic Idealize.SL.Sem

/-- The derivative: the transpose of the mixer's output times the result's derivative. -/
def product (x : FVec Ideal S4096x2048 .bf16) (y : FVec Ideal S4096x1024 .bf16) (a : Fin 2048) (b : Fin 1024) : EReal :=
  ∑ k : Fin 4096, x (ix2 k a) * y (ix2 k b)

theorem pay1_apply (x : Vec Ideal S4096x256 .bf16) (y : Vec Ideal S4096x1024 .bf16) (a : Fin 256) (b : Fin 1024) :
    k0_pay1 x y (ix2 a b) = ∑ k : Fin 4096, x (ix2 k a) * y (ix2 k b) := by
  pointwise [k0_pay1]

variable (m : (ℓ : Loc nD τ sig) → Buf (Elt Ideal) ℓ) (c : Dev nD)

theorem index_eq : ∀ t : Fin cfg0.N, (cfg0.win 0).index t = ![0, t.val] ∧ (cfg0.win 1).index t = ![0, 0]
    ∧ (cfg0.win 2).index t = ![t.val, 0] := by decide +kernel

theorem iblk_x (t : Fin cfg0.N) (k : Fin 4096) (a : Fin 256) :
    iblk m c 0 t (ix2 k a) = m ((c : Thread nD τ).loc main_arg0) (ix2 k ⟨t.val * 256 + a.val, by have := lt_of_lt_of_eq t.isLt N_0; omega⟩) := by
  blk_ext [iblk, (index_eq t).1]

theorem iblk_y (t : Fin cfg0.N) (k : Fin 4096) (b : Fin 1024) :
    iblk m c 1 t (ix2 k b) = m ((c : Thread nD τ).loc main_arg2) (ix2 k b) := by
  blk_ext [iblk, (index_eq t).2.1]

/-- The product, as the array of it that the call leaves. -/
def array : Buf (Elt Ideal) ((c : Thread nD τ).loc main_v0) := fun y : S2048x1024.Idx =>
  product (m ((c : Thread nD τ).loc main_arg0)) (m ((c : Thread nD τ).loc main_arg2)) (y 0) (y 1)

theorem final : (dats m 0 c).arrAt 2 cfg0.N = array m c := by
  refine (dats m 0 c).arrAt_eq_of_covers 2 _ (by decide +kernel) fun t hf y => ?_
  blk_simp
  rw [after0_2]
  frame_out
  idx_vars y
  rw [pay1_apply]
  unfold array product
  refine Fin.sum_fin_congr fun k => ?_
  rw [iblk_x, iblk_y]
  refine congr (congrArg HMul.hMul (congrArg (fun z => m ((c : Thread nD τ).loc main_arg0) (ix2 k z)) (Fin.ext ?_)))
    (congrArg (fun z => m ((c : Thread nD τ).loc main_arg2) (ix2 k z)) (Fin.ext ?_)) <;> blk_simp [(index_eq t).2.2]

theorem reference (x : FVec Ideal S4096x2048 .bf16) (y : FVec Ideal S4096x1024 .bf16) (a : Fin 2048) (b : Fin 1024) :
    Cert.Reference8Ideal.Read.val_main_v6 (F := Ideal) x y (ix2 a b) = product x y a b := by
  unfold product
  pointwise [Cert.Reference8Ideal.Read.val_main_v6, Cert.Reference8Ideal.Read.val_main_v5, Cert.Reference8Ideal.Read.val_main_v4,
    Cert.Reference8Ideal.Read.val_main_v3, Cert.Reference8Ideal.Read.val_main_v1]
  exact Finset.sum_congr rfl fun k _ => mul_comm _ _

/-- From equal arguments the idealized call and the reference end with equal arrays, their arguments unchanged. -/
theorem algebraic : Cert.algebraic_Kernel8Ideal_Reference8Ideal := by
  intro m g m' g' _ ha
  refine ⟨array m, (θ_run Cert.Kernel8Ideal.defs _ _).mono (fun r hr c => ?_) (Cert.Kernel8Ideal.Value.run_blocks m g),
    (θ_run Cert.Reference8Ideal.defs _ _).mono (fun r hr c => ?_) (Cert.Reference8Ideal.Value.run m' g')⟩
  · exact ⟨(hr c).1.trans (final m c), (hr c).2⟩
  · obtain ⟨a0, a1, a2⟩ := ha c
    obtain ⟨r0, hr⟩ := hr c
    refine ⟨r0.trans ((Cert.Reference8Ideal.Read.val_main_v6_eq _ _).trans ?_), hr⟩
    rw [a0, a2]
    funext y
    idx_vars y
    exact reference _ _ _ _

end Cert.Proof.Kernel8Ideal

end
-- ==== Proof.Lanes.lean ====
/-
  The odd layer's input projection has 2496 lanes. The calls put 64 zero lanes after the first 448, so that the gate starts at a whole
  tile.
-/
module

public import Idealize.ShloMosaic.Lib.Pointwise

@[expose] public section

noncomputable section

namespace Cert.Proof

/-- The lanes of `f`, 64 zero lanes put after the first 448. -/
def lanes (f : Fin 2496 → EReal) (l : Fin 2560) : EReal :=
  if h : l.val < 448 then f ⟨l.val, by omega⟩ else if h' : l.val < 512 then 0 else f ⟨l.val - 64, by omega⟩

/-- Where lane `j` is put. -/
def place (j : Fin 2496) : Fin 2560 := if h : j.val < 448 then ⟨j.val, by omega⟩ else ⟨j.val + 64, by omega⟩

theorem lanes_place (f : Fin 2496 → EReal) (j : Fin 2496) : lanes f (place j) = f j := by
  unfold lanes place
  by_cases h : j.val < 448
  · simp only [dif_pos h]
  · simp only [dif_neg h]
    rw [dif_neg (by omega), dif_neg (by omega)]
    exact congrArg f (Fin.ext (Nat.add_sub_cancel _ _))

theorem place_injective : Function.Injective place := by
  intro i j e
  have e := congrArg Fin.val e
  unfold place at e
  split at e <;> split at e <;> exact Fin.ext (by simp only at e; omega)

/-- Sums of products with such lanes are such lanes of the sums. -/
theorem sum_mul_lanes {n : ℕ} (x : Fin n → EReal) (y : Fin n → Fin 2496 → EReal) (b : Fin 2560) :
    ∑ k, x k * lanes (y k) b = lanes (fun j => ∑ k, x k * y k j) b := by
  unfold lanes
  split
  · rfl
  · split
    · exact Finset.sum_eq_zero fun k _ => mul_zero _
    · rfl

/-- A sum over the lanes of products with them skips the zero lanes. -/
theorem sum_lanes (d : Fin 2560 → EReal) (w : Fin 2496 → EReal) : ∑ l, d l * lanes w l = ∑ j, d (place j) * w j := by
  refine (Finset.sum_of_injOn place place_injective.injOn (fun _ _ => Finset.mem_coe.2 (Finset.mem_univ _)) (fun l _ hl => ?_)
    (fun j _ => by rw [lanes_place])).symm
  have e : lanes w l = 0 := by
    unfold lanes
    by_cases h : l.val < 448
    · exact absurd ⟨⟨l.val, by omega⟩, Finset.mem_coe.2 (Finset.mem_univ _), dif_pos h⟩ hl
    · by_cases h' : l.val < 512
      · rw [dif_neg h, dif_pos h']
      · exact absurd ⟨⟨l.val - 64, by omega⟩, Finset.mem_coe.2 (Finset.mem_univ _),
          (dif_neg (show ¬ l.val - 64 < 448 by omega)).trans (Fin.ext (show l.val - 64 + 64 = l.val by omega))⟩ hl
  rw [e, mul_zero]

end Cert.Proof

end
-- ==== Proof.Kernel9Ideal.Product.lean ====
/-
  The odd layer's input projection: the idealized call and the reference end with equal arrays, the product of the modulated input
  and the weights, with the 64 zero lanes.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise
public import Idealize.ShloMosaic.Lib.StableHlo.RunRead
public import proofs.«01_k».proof.Proof.Lanes

@[expose] public section

set_option maxRecDepth 16384

noncomputable section

namespace Cert.Proof.Kernel9Ideal

open Cert.Kernel9Ideal Cert.Kernel9Ideal.Gen
open Idealize.ShloMosaic Idealize.ShloMosaic.TcCoe Idealize.ShloMosaic.Tactic Idealize.SL.Sem

/-- The projection: the modulated input times the weights. -/
def product (x : FVec Ideal S4096x1024 .bf16) (y : FVec Ideal S1024x2496 .bf16) (a : Fin 4096) (b : Fin 2560) : EReal :=
  lanes (fun j => ∑ k : Fin 1024, x (ix2 a k) * y (ix2 k j)) b

theorem pay1_apply (x : Vec Ideal S512x1024 .bf16) (y : Vec Ideal S1024x2560 .bf16) (a : Fin 512) (b : Fin 2560) :
    k0_pay1 x y (ix2 a b) = ∑ k : Fin 1024, x (ix2 a k) * y (ix2 k b) := by
  pointwise [k0_pay1]

/-- The lanes of `x`, 64 zero lanes put after the first 448. -/
def padded (x : FVec Ideal S1024x2496 .bf16) : FVec Ideal S1024x2560 .bf16 :=
  concatenate S1024x2560 1 [⟨S1024x448, extractStridedSlice S1024x448 ![0, 0] x slices_S1024x2496_S1024x448_0_0⟩,
    ⟨S1024x64, broadcastInDim S1024x64 ![] bcast_S_S1024x64 (constant S_ .bf16 0x0000#16)⟩,
    ⟨S1024x2048, extractStridedSlice S1024x2048 ![0, 448] x slices_S1024x2496_S1024x2048_0_448⟩]
    concatenates_S1024x448_S1024x64_S1024x2048_S1024x2560_d1

theorem padded_apply (x : FVec Ideal S1024x2496 .bf16) (k : Fin 1024) (l : Fin 2560) :
    padded x (ix2 k l) = lanes (fun j => x (ix2 k j)) l := by
  unfold lanes
  pointwise [padded]
  by_cases h : l.val < 448
  · rw [dif_pos h, dif_pos h]
  · rw [dif_neg h, dif_neg h]
    by_cases h' : l.val < 512
    · rw [dif_pos (by omega), dif_pos h']
    · rw [dif_neg (by omega), dif_neg h']
      exact congrArg (fun z => x (ix2 k z)) (Fin.ext (show 448 + (l.val - 448 - 64) = l.val - 64 by omega))

variable (m : (ℓ : Loc nD τ sig) → Buf (Elt Ideal) ℓ) (c : Dev nD)

theorem V_padded : V m c main_v3 = padded (m ((c : Thread nD τ).loc main_arg1)) := by
  unfold V
  simp only [hostOps0, List.flatten_cons, List.flatten_nil, List.append_nil, List.cons_append,
    List.nil_append, StableHlo.TRef.binary, StableHlo.TRef.nullary, StableHlo.TRef.ternary, StableHlo.TRef.unary, StableHlo.TRef.toBuf,
    StableHlo.TRef.ofBuf, cast_eq]
  after_reads_simp
  dsimp only [Matrix.cons_val]
  rfl

theorem index_eq : ∀ t : Fin cfg0.N, (cfg0.win 0).index t = ![t.val, 0] ∧ (cfg0.win 1).index t = ![0, 0]
    ∧ (cfg0.win 2).index t = ![t.val, 0] := by decide +kernel

theorem iblk_x (t : Fin cfg0.N) (p : Fin 512) (k : Fin 1024) :
    iblk m c 0 t (ix2 p k) = m ((c : Thread nD τ).loc main_arg0) (ix2 ⟨t.val * 512 + p.val, by have := lt_of_lt_of_eq t.isLt N_0; omega⟩ k) := by
  blk_ext [iblk, (index_eq t).1]

theorem iblk_y (t : Fin cfg0.N) (k : Fin 1024) (b : Fin 2560) :
    iblk m c 1 t (ix2 k b) = lanes (fun j => m ((c : Thread nD τ).loc main_arg1) (ix2 k j)) b := by
  have e : iblk m c 1 t (ix2 k b) = V m c main_v3 (ix2 k b) := by
    blk_ext [iblk, (index_eq t).2.1]
  rw [e, V_padded, padded_apply]

/-- The projection, as the array of it that the call leaves. -/
def array : Buf (Elt Ideal) ((c : Thread nD τ).loc main_v4) := fun y : S4096x2560.Idx =>
  product (m ((c : Thread nD τ).loc main_arg0)) (m ((c : Thread nD τ).loc main_arg1)) (y 0) (y 1)

theorem final : (dats m 0 c).arrAt 2 cfg0.N = array m c := by
  refine (dats m 0 c).arrAt_eq_of_covers 2 _ (by decide +kernel) fun t hf y => ?_
  blk_simp
  rw [after0_2]
  frame_out
  idx_vars y
  rw [pay1_apply]
  unfold array product
  refine Eq.trans ?_ (sum_mul_lanes (fun k => m ((c : Thread nD τ).loc main_arg0) (ix2 _ k)) (fun k j => m ((c : Thread nD τ).loc main_arg1) (ix2 k j)) _)
  refine Fin.sum_fin_congr fun k => ?_
  rw [iblk_x, iblk_y]
  refine congr (congrArg HMul.hMul (congrArg (fun z => m ((c : Thread nD τ).loc main_arg0) (ix2 z k)) (Fin.ext ?_)))
    (congrArg (lanes fun j => m ((c : Thread nD τ).loc main_arg1) (ix2 k j)) (Fin.ext ?_)) <;> blk_simp [(index_eq t).2.2]

theorem reference (x : FVec Ideal S4096x1024 .bf16) (y : FVec Ideal S1024x2496 .bf16) (a : Fin 4096) (b : Fin 2560) :
    Cert.Reference9Ideal.Read.val_main_v7 (F := Ideal) x y (ix2 a b) = product x y a b := by
  unfold product lanes
  pointwise [Cert.Reference9Ideal.Read.val_main_v7, Cert.Reference9Ideal.Read.val_main_v6, Cert.Reference9Ideal.Read.val_main_v5,
    Cert.Reference9Ideal.Read.val_main_v4, Cert.Reference9Ideal.Read.val_main_v3, Cert.Reference9Ideal.Read.val_main_v2,
    Cert.Reference9Ideal.Read.val_main_v1, Cert.Reference9Ideal.Read.val_main_v0, Cert.Reference9Ideal.Read.val_main_cst]
  by_cases h : b.val < 448
  · rw [dif_pos h, dif_pos h]
  · rw [dif_neg h, dif_neg h]
    by_cases h' : b.val < 512
    · rw [dif_pos (by omega), dif_pos h']
    · rw [dif_neg (by omega), dif_neg h']
      refine Finset.sum_congr rfl fun k _ => congrArg (fun z => x (ix2 a k) * y (ix2 k z)) (Fin.ext (show 448 + (b.val - 448 - 64) = b.val - 64 by omega))

/-- From equal arguments the idealized call and the reference end with equal arrays, their arguments unchanged. -/
theorem algebraic : Cert.algebraic_Kernel9Ideal_Reference9Ideal := by
  intro m g m' g' _ ha
  refine ⟨array m, (θ_run Cert.Kernel9Ideal.defs _ _).mono (fun r hr c => ?_) (Cert.Kernel9Ideal.Value.run_blocks m g),
    (θ_run Cert.Reference9Ideal.defs _ _).mono (fun r hr c => ?_) (Cert.Reference9Ideal.Value.run m' g')⟩
  · exact ⟨(hr c).1.trans (final m c), (hr c).2⟩
  · obtain ⟨a0, a1⟩ := ha c
    obtain ⟨r0, hr⟩ := hr c
    refine ⟨r0.trans ((Cert.Reference9Ideal.Read.val_main_v7_eq _ _).trans ?_), hr⟩
    rw [a0, a1]
    funext y
    idx_vars y
    exact reference _ _ _ _

end Cert.Proof.Kernel9Ideal

end
-- ==== Proof.Kernel10Ideal.Product.lean ====
/-
  The derivative of the odd layer's input projection with respect to what it projects: the idealized call and the reference end with
  equal arrays, the product of the projection's derivative, but for 64 of its lanes, and the weights' transpose.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise
public import Idealize.ShloMosaic.Lib.StableHlo.RunRead
public import proofs.«01_k».proof.Proof.Lanes

@[expose] public section

set_option maxRecDepth 16384

noncomputable section

namespace Cert.Proof.Kernel10Ideal

open Cert.Kernel10Ideal Cert.Kernel10Ideal.Gen
open Idealize.ShloMosaic Idealize.ShloMosaic.TcCoe Idealize.ShloMosaic.Tactic Idealize.SL.Sem

/-- The derivative: the projection's derivative times the weights' transpose. -/
def product (x : FVec Ideal S4096x2560 .bf16) (y : FVec Ideal S1024x2496 .bf16) (a : Fin 4096) (b : Fin 1024) : EReal :=
  ∑ j : Fin 2496, x (ix2 a (place j)) * y (ix2 b j)

theorem pay1_apply (x : Vec Ideal S512x2560 .bf16) (y : Vec Ideal S1024x2560 .bf16) (a : Fin 512) (b : Fin 1024) :
    k0_pay1 x y (ix2 a b) = ∑ k : Fin 2560, x (ix2 a k) * y (ix2 b k) := by
  pointwise [k0_pay1]

/-- The lanes of `x`, 64 zero lanes put after the first 448. -/
def padded (x : FVec Ideal S1024x2496 .bf16) : FVec Ideal S1024x2560 .bf16 :=
  concatenate S1024x2560 1 [⟨S1024x448, extractStridedSlice S1024x448 ![0, 0] x slices_S1024x2496_S1024x448_0_0⟩,
    ⟨S1024x64, broadcastInDim S1024x64 ![] bcast_S_S1024x64 (constant S_ .bf16 0x0000#16)⟩,
    ⟨S1024x2048, extractStridedSlice S1024x2048 ![0, 448] x slices_S1024x2496_S1024x2048_0_448⟩]
    concatenates_S1024x448_S1024x64_S1024x2048_S1024x2560_d1

theorem padded_apply (x : FVec Ideal S1024x2496 .bf16) (k : Fin 1024) (l : Fin 2560) :
    padded x (ix2 k l) = lanes (fun j => x (ix2 k j)) l := by
  unfold lanes
  pointwise [padded]
  by_cases h : l.val < 448
  · rw [dif_pos h, dif_pos h]
  · rw [dif_neg h, dif_neg h]
    by_cases h' : l.val < 512
    · rw [dif_pos (by omega), dif_pos h']
    · rw [dif_neg (by omega), dif_neg h']
      exact congrArg (fun z => x (ix2 k z)) (Fin.ext (show 448 + (l.val - 448 - 64) = l.val - 64 by omega))

variable (m : (ℓ : Loc nD τ sig) → Buf (Elt Ideal) ℓ) (c : Dev nD)

theorem V_padded : V m c main_v3 = padded (m ((c : Thread nD τ).loc main_arg2)) := by
  unfold V
  simp only [hostOps0, List.flatten_cons, List.flatten_nil, List.append_nil, List.cons_append,
    List.nil_append, StableHlo.TRef.binary, StableHlo.TRef.nullary, StableHlo.TRef.ternary, StableHlo.TRef.unary, StableHlo.TRef.toBuf,
    StableHlo.TRef.ofBuf, cast_eq]
  after_reads_simp
  dsimp only [Matrix.cons_val]
  rfl

theorem index_eq : ∀ t : Fin cfg0.N, (cfg0.win 0).index t = ![t.val, 0] ∧ (cfg0.win 1).index t = ![0, 0]
    ∧ (cfg0.win 2).index t = ![t.val, 0] := by decide +kernel

theorem iblk_x (t : Fin cfg0.N) (p : Fin 512) (k : Fin 2560) :
    iblk m c 0 t (ix2 p k) = m ((c : Thread nD τ).loc main_arg1) (ix2 ⟨t.val * 512 + p.val, by have := lt_of_lt_of_eq t.isLt N_0; omega⟩ k) := by
  blk_ext [iblk, (index_eq t).1]

theorem iblk_y (t : Fin cfg0.N) (b : Fin 1024) (k : Fin 2560) :
    iblk m c 1 t (ix2 b k) = lanes (fun j => m ((c : Thread nD τ).loc main_arg2) (ix2 b j)) k := by
  have e : iblk m c 1 t (ix2 b k) = V m c main_v3 (ix2 b k) := by
    blk_ext [iblk, (index_eq t).2.1]
  rw [e, V_padded, padded_apply]

/-- The derivative, as the array of it that the call leaves. -/
def array : Buf (Elt Ideal) ((c : Thread nD τ).loc main_v4) := fun y : S4096x1024.Idx =>
  product (m ((c : Thread nD τ).loc main_arg1)) (m ((c : Thread nD τ).loc main_arg2)) (y 0) (y 1)

theorem final : (dats m 0 c).arrAt 2 cfg0.N = array m c := by
  refine (dats m 0 c).arrAt_eq_of_covers 2 _ (by decide +kernel) fun t hf y => ?_
  blk_simp
  rw [after0_2]
  frame_out
  idx_vars y
  rw [pay1_apply]
  unfold array product
  refine Eq.trans ?_ (sum_lanes (fun k => m ((c : Thread nD τ).loc main_arg1) (ix2 _ k)) (fun j => m ((c : Thread nD τ).loc main_arg2) (ix2 _ j)))
  refine Fin.sum_fin_congr fun k => ?_
  rw [iblk_x, iblk_y]
  refine congr (congrArg HMul.hMul (congrArg (fun z => m ((c : Thread nD τ).loc main_arg1) (ix2 z k)) (Fin.ext ?_)))
    (congrArg (fun z => lanes (fun j => m ((c : Thread nD τ).loc main_arg2) (ix2 z j)) k) (Fin.ext ?_)) <;> blk_simp [(index_eq t).2.2]

theorem reference (x : FVec Ideal S4096x2560 .bf16) (y : FVec Ideal S1024x2496 .bf16) (a : Fin 4096) (b : Fin 1024) :
    Cert.Reference10Ideal.Read.val_main_v7 (F := Ideal) x y (ix2 a b) = product x y a b := by
  unfold product
  pointwise [Cert.Reference10Ideal.Read.val_main_v7, Cert.Reference10Ideal.Read.val_main_v6, Cert.Reference10Ideal.Read.val_main_v4,
    Cert.Reference10Ideal.Read.val_main_v2, Cert.Reference10Ideal.Read.val_main_v1, Cert.Reference10Ideal.Read.val_main_v0]
  refine Eq.symm <| (Fin.sum_univ_add (a := 448) (b := 2048) fun j => x (ix2 a (place j)) * y (ix2 b j)).trans <|
    congr (congrArg HAdd.hAdd (Finset.sum_congr rfl fun k _ => ?_)) (Finset.sum_congr rfl fun k _ => ?_)
  · exact congrArg (fun z => x (ix2 a z) * y (ix2 b ⟨k.val, by omega⟩)) (dif_pos k.isLt)
  · exact congrArg (fun z => x (ix2 a z) * y (ix2 b ⟨448 + k.val, by omega⟩))
      ((dif_neg (show ¬ 448 + k.val < 448 by omega)).trans (Fin.ext (show 448 + k.val + 64 = 512 + k.val by omega)))

theorem algebraic : Cert.algebraic_Kernel10Ideal_Reference10Ideal := by
  intro m g m' g' _ ha
  refine ⟨array m, (θ_run Cert.Kernel10Ideal.defs _ _).mono (fun r hr c => ?_) (Cert.Kernel10Ideal.Value.run_blocks m g),
    (θ_run Cert.Reference10Ideal.defs _ _).mono (fun r hr c => ?_) (Cert.Reference10Ideal.Value.run m' g')⟩
  · exact ⟨(hr c).1.trans (final m c), (hr c).2⟩
  · obtain ⟨a0, a1, a2⟩ := ha c
    obtain ⟨r0, hr⟩ := hr c
    refine ⟨r0.trans ((Cert.Reference10Ideal.Read.val_main_v7_eq _ _).trans ?_), hr⟩
    rw [a1, a2]
    funext y
    idx_vars y
    exact reference _ _ _ _

end Cert.Proof.Kernel10Ideal

end
-- ==== Proof.Kernel11Ideal.Product.lean ====
/-
  The derivative of the odd layer's input projection with respect to its weights: the idealized call and the reference end with equal
  arrays, the product of the modulated input's transpose and the projection's derivative, with the 64 zero lanes.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise
public import Idealize.ShloMosaic.Lib.StableHlo.RunRead
public import proofs.«01_k».proof.Proof.Lanes

@[expose] public section

set_option maxRecDepth 16384

noncomputable section

namespace Cert.Proof.Kernel11Ideal

open Cert.Kernel11Ideal Cert.Kernel11Ideal.Gen
open Idealize.ShloMosaic Idealize.ShloMosaic.TcCoe Idealize.ShloMosaic.Tactic Idealize.SL.Sem

/-- The derivative: the modulated input's transpose times the projection's derivative. -/
def product (x : FVec Ideal S4096x1024 .bf16) (y : FVec Ideal S4096x2496 .bf16) (a : Fin 1024) (b : Fin 2560) : EReal :=
  lanes (fun j => ∑ k : Fin 4096, x (ix2 k a) * y (ix2 k j)) b

theorem pay1_apply (x : Vec Ideal S4096x256 .bf16) (y : Vec Ideal S4096x1280 .bf16) (a : Fin 256) (b : Fin 1280) :
    k0_pay1 x y (ix2 a b) = ∑ k : Fin 4096, x (ix2 k a) * y (ix2 k b) := by
  pointwise [k0_pay1]

/-- The lanes of `x`, 64 zero lanes put after the first 448. -/
def padded (x : FVec Ideal S4096x2496 .bf16) : FVec Ideal S4096x2560 .bf16 :=
  concatenate S4096x2560 1 [⟨S4096x448, extractStridedSlice S4096x448 ![0, 0] x slices_S4096x2496_S4096x448_0_0⟩,
    ⟨S4096x64, broadcastInDim S4096x64 ![] bcast_S_S4096x64 (constant S_ .bf16 0x0000#16)⟩,
    ⟨S4096x2048, extractStridedSlice S4096x2048 ![0, 448] x slices_S4096x2496_S4096x2048_0_448⟩]
    concatenates_S4096x448_S4096x64_S4096x2048_S4096x2560_d1

theorem padded_apply (x : FVec Ideal S4096x2496 .bf16) (k : Fin 4096) (l : Fin 2560) :
    padded x (ix2 k l) = lanes (fun j => x (ix2 k j)) l := by
  unfold lanes
  pointwise [padded]
  by_cases h : l.val < 448
  · rw [dif_pos h, dif_pos h]
  · rw [dif_neg h, dif_neg h]
    by_cases h' : l.val < 512
    · rw [dif_pos (by omega), dif_pos h']
    · rw [dif_neg (by omega), dif_neg h']
      exact congrArg (fun z => x (ix2 k z)) (Fin.ext (show 448 + (l.val - 448 - 64) = l.val - 64 by omega))

variable (m : (ℓ : Loc nD τ sig) → Buf (Elt Ideal) ℓ) (c : Dev nD)

theorem V_padded : V m c main_v3 = padded (m ((c : Thread nD τ).loc main_arg2)) := by
  unfold V
  simp only [hostOps0, List.flatten_cons, List.flatten_nil, List.append_nil, List.cons_append,
    List.nil_append, StableHlo.TRef.binary, StableHlo.TRef.nullary, StableHlo.TRef.ternary, StableHlo.TRef.unary, StableHlo.TRef.toBuf,
    StableHlo.TRef.ofBuf, cast_eq]
  after_reads_simp
  dsimp only [Matrix.cons_val]
  rfl

theorem index_eq : ∀ t : Fin cfg0.N, (cfg0.win 0).index t = ![0, t.val % 4] ∧ (cfg0.win 1).index t = ![0, t.val / 4]
    ∧ (cfg0.win 2).index t = ![t.val % 4, t.val / 4] := by decide +kernel

theorem iblk_x (t : Fin cfg0.N) (k : Fin 4096) (a : Fin 256) :
    iblk m c 0 t (ix2 k a) = m ((c : Thread nD τ).loc main_arg0) (ix2 k ⟨t.val % 4 * 256 + a.val, by omega⟩) := by
  blk_ext [iblk, (index_eq t).1]

theorem iblk_y (t : Fin cfg0.N) (k : Fin 4096) (b : Fin 1280) :
    iblk m c 1 t (ix2 k b) = lanes (fun j => m ((c : Thread nD τ).loc main_arg2) (ix2 k j)) ⟨t.val / 4 * 1280 + b.val, by have := lt_of_lt_of_eq t.isLt N_0; omega⟩ := by
  have e : iblk m c 1 t (ix2 k b) = V m c main_v3 (ix2 k ⟨t.val / 4 * 1280 + b.val, by have := lt_of_lt_of_eq t.isLt N_0; omega⟩) := by
    blk_ext [iblk, (index_eq t).2.1]
  rw [e, V_padded, padded_apply]

/-- The derivative, as the array of it that the call leaves. -/
def array : Buf (Elt Ideal) ((c : Thread nD τ).loc main_v4) := fun y : S1024x2560.Idx =>
  product (m ((c : Thread nD τ).loc main_arg0)) (m ((c : Thread nD τ).loc main_arg2)) (y 0) (y 1)

theorem final : (dats m 0 c).arrAt 2 cfg0.N = array m c := by
  refine (dats m 0 c).arrAt_eq_of_covers 2 _ (by decide +kernel) fun t hf y => ?_
  blk_simp
  rw [after0_2]
  frame_out
  idx_vars y
  rw [pay1_apply]
  unfold array product
  refine Eq.trans ?_ (sum_mul_lanes (fun k => m ((c : Thread nD τ).loc main_arg0) (ix2 k _)) (fun k j => m ((c : Thread nD τ).loc main_arg2) (ix2 k j)) _)
  refine Fin.sum_fin_congr fun k => ?_
  rw [iblk_x, iblk_y]
  refine congr (congrArg HMul.hMul (congrArg (fun z => m ((c : Thread nD τ).loc main_arg0) (ix2 k z)) (Fin.ext ?_)))
    (congrArg (lanes fun j => m ((c : Thread nD τ).loc main_arg2) (ix2 k j)) (Fin.ext ?_)) <;> blk_simp [(index_eq t).2.2]

theorem reference (x : FVec Ideal S4096x1024 .bf16) (y : FVec Ideal S4096x2496 .bf16) (a : Fin 1024) (b : Fin 2560) :
    Cert.Reference11Ideal.Read.val_main_v10 (F := Ideal) x y (ix2 a b) = product x y a b := by
  unfold product lanes
  pointwise [Cert.Reference11Ideal.Read.val_main_v10, Cert.Reference11Ideal.Read.val_main_v9, Cert.Reference11Ideal.Read.val_main_v8,
    Cert.Reference11Ideal.Read.val_main_v7, Cert.Reference11Ideal.Read.val_main_v6, Cert.Reference11Ideal.Read.val_main_v5,
    Cert.Reference11Ideal.Read.val_main_v4, Cert.Reference11Ideal.Read.val_main_v3, Cert.Reference11Ideal.Read.val_main_v1, Cert.Reference11Ideal.Read.val_main_cst]
  by_cases h : b.val < 448
  · rw [dif_pos h, dif_pos h]
    exact Finset.sum_congr rfl fun k _ => mul_comm _ _
  · rw [dif_neg h, dif_neg h]
    by_cases h' : b.val < 512
    · rw [dif_pos (by omega), dif_pos h']
    · rw [dif_neg (by omega), dif_neg h']
      refine Finset.sum_congr rfl fun k _ => (mul_comm _ _).trans <| congrArg (fun z => x (ix2 k a) * y (ix2 k z)) (Fin.ext (show 448 + (b.val - 448 - 64) = b.val - 64 by omega))

/-- From equal arguments the idealized call and the reference end with equal arrays, their arguments unchanged. -/
theorem algebraic : Cert.algebraic_Kernel11Ideal_Reference11Ideal := by
  intro m g m' g' _ ha
  refine ⟨array m, (θ_run Cert.Kernel11Ideal.defs _ _).mono (fun r hr c => ?_) (Cert.Kernel11Ideal.Value.run_blocks m g),
    (θ_run Cert.Reference11Ideal.defs _ _).mono (fun r hr c => ?_) (Cert.Reference11Ideal.Value.run m' g')⟩
  · exact ⟨(hr c).1.trans (final m c), (hr c).2⟩
  · obtain ⟨a0, a1, a2⟩ := ha c
    obtain ⟨r0, hr⟩ := hr c
    refine ⟨r0.trans ((Cert.Reference11Ideal.Read.val_main_v10_eq _ _).trans ?_), hr⟩
    rw [a0, a2]
    funext y
    idx_vars y
    exact reference _ _ _ _

end Cert.Proof.Kernel11Ideal

end
-- ==== Proof.Step.lean ====
/-
  One element's step of the optimiser: the moments' moving averages of the gradient and of its square, and the change of the
  weight from the two, with their start at zero corrected for and with decay of the weight. The constants are the float32
  numbers that both programs hold.
-/
module

public import Idealize.ShloMosaic.Lib.Pointwise

@[expose] public section

noncomputable section

namespace Cert.Proof.Step

open Idealize.ShloMosaic

/-- The first moment: nine tenths of the old one, one tenth of the gradient. -/
def first (g m : EReal) : EReal := Ideal.ofBits .f32 0x3F666666#32 * m + Ideal.ofBits .f32 0x3DCCCCCD#32 * g

/-- The second moment: the old one and a thousandth of the gradient's square. -/
def second (g v : EReal) : EReal := Ideal.ofBits .f32 0x3F7FBE77#32 * v + Ideal.ofBits .f32 0x3A83126F#32 * (g * g)

/-- The change of the weight `w`. -/
def change (w g m v : EReal) : EReal :=
  Ideal.ofBits .f32 0xBA83126F#32 *
    (Ideal.div (Ideal.div (first g m) (Ideal.ofBits .f32 0x3F26BD02#32))
      (Ideal.sqrt (Ideal.div (second g v) (Ideal.ofBits .f32 0x3C231ACC#32)) + Ideal.ofBits .f32 0x322BCC77#32)
      + Ideal.ofBits .f32 0x3C23D70A#32 * w)

end Cert.Proof.Step

end
-- ==== Proof.Kernel12Ideal.Update.lean ====
/-
  The optimiser's step for the even layers' input projection: the gradient is the sum of the devices' derivatives, and the change of the weight and
  the two moments are each element's step of it, as in the reference.
-/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Step
public import Idealize.ShloMosaic.Lib.Pipeline.ValueKit
public import Idealize.ShloMosaic.Lib.Pointwise

@[expose] public section

set_option maxRecDepth 16384

noncomputable section

namespace Cert.Proof.Kernel12Ideal

open Cert.Kernel12Ideal Cert.Kernel12Ideal.Gen
open Cert.Proof.Step
open Idealize.ShloMosaic Idealize.ShloMosaic.TcCoe Idealize.ShloMosaic.Tactic Idealize.SL.Sem

/-- The gradient at an element: the sum of the devices' derivatives there. -/
def total {n : Nat} (p : Fin n → EReal) : EReal := ∑ j, p j

theorem ld0 (x : Vec Ideal S4x256x640 .bf16) (u : Fin 1) (a : Fin 256) (b : Fin 640) : View.ld x r0_0 (ix3 u a b) = x (ix3 (0 : Fin 4) a b) :=
  View.ld_unit_apply_of x _ _ _ _ _ fun d => match d with
    | ⟨0, _⟩ => by show 0 = 0 + u.val; omega
    | ⟨1, _⟩ => (Nat.zero_add _).symm
    | ⟨2, _⟩ => (Nat.zero_add _).symm

theorem ld1 (x : Vec Ideal S4x256x640 .bf16) (u : Fin 1) (a : Fin 256) (b : Fin 640) : View.ld x r0_1 (ix3 u a b) = x (ix3 (1 : Fin 4) a b) :=
  View.ld_unit_apply_of x _ _ _ _ _ fun d => match d with
    | ⟨0, _⟩ => by show 1 = 1 + u.val; omega
    | ⟨1, _⟩ => (Nat.zero_add _).symm
    | ⟨2, _⟩ => (Nat.zero_add _).symm

theorem ld2 (x : Vec Ideal S4x256x640 .bf16) (u : Fin 1) (a : Fin 256) (b : Fin 640) : View.ld x r0_2 (ix3 u a b) = x (ix3 (2 : Fin 4) a b) :=
  View.ld_unit_apply_of x _ _ _ _ _ fun d => match d with
    | ⟨0, _⟩ => by show 2 = 2 + u.val; omega
    | ⟨1, _⟩ => (Nat.zero_add _).symm
    | ⟨2, _⟩ => (Nat.zero_add _).symm

theorem ld3 (x : Vec Ideal S4x256x640 .bf16) (u : Fin 1) (a : Fin 256) (b : Fin 640) : View.ld x r0_3 (ix3 u a b) = x (ix3 (3 : Fin 4) a b) :=
  View.ld_unit_apply_of x _ _ _ _ _ fun d => match d with
    | ⟨0, _⟩ => by show 3 = 3 + u.val; omega
    | ⟨1, _⟩ => (Nat.zero_add _).symm
    | ⟨2, _⟩ => (Nat.zero_add _).symm

theorem ld4 (x : Vec Ideal S1x256x640 .f32) (u : Fin 1) (a : Fin 256) (b : Fin 640) : View.ld x r0_4 (ix3 u a b) = x (ix3 u a b) :=
  View.ld_unit_apply_of x _ _ _ _ _ fun d => match d with
    | ⟨0, _⟩ => (Nat.zero_add _).symm
    | ⟨1, _⟩ => (Nat.zero_add _).symm
    | ⟨2, _⟩ => (Nat.zero_add _).symm

theorem sum_apply (y0 y1 y2 y3 : Vec Ideal S1x256x640 .bf16) (a : Fin 256) (b : Fin 640) :
    k0_pay5 y0 y1 y2 y3 (ix2 a b) = y0 (ix3 0 a b) + y1 (ix3 0 a b) + y2 (ix3 0 a b) + y3 (ix3 0 a b) := by
  pointwise [k0_pay5]

theorem total_apply (x0 : Vec Ideal S4x256x640 .bf16) (x1 x2 x3 : Vec Ideal S1x256x640 .f32) (a : Fin 256) (b : Fin 640) :
    k0_pay10 x0 x1 x2 x3 (ix2 a b) = total fun j : Fin 4 => x0 (ix3 j a b) := by
  unfold k0_pay10 total
  rw [sum_apply, ld0, ld1, ld2, ld3, Fin.sum_univ_four]
  all_goals rfl

theorem grad_apply (x0 : Vec Ideal S4x256x640 .bf16) (x1 x2 x3 : Vec Ideal S1x256x640 .f32) (u : Fin 1) (a : Fin 256) (b : Fin 640) :
    (k0_pay6 (View.ld x0 r0_0) (View.ld x0 r0_1) (View.ld x0 r0_2) (View.ld x0 r0_3) : Vec Ideal S1x256x640 .f32) (ix3 u a b) = (total fun j : Fin 4 => x0 (ix3 j a b)) := by
  refine (show _ = k0_pay10 x0 x1 x2 x3 (ix2 a b) from ?_).trans (total_apply x0 x1 x2 x3 a b)
  unfold k0_pay10
  pointwise [k0_pay6, k0_pay5]

theorem delta_pay (g : FVec Ideal S256x640 .f32) (w m v : Vec Ideal S1x256x640 .f32) (u : Fin 1) (a : Fin 256) (b : Fin 640) :
    (k0_pay2 g (k0_pay7 w) (addf (mulf (broadcast S256x640 (Scalar.ofBits .f32 0x3F666666#32)) (shapeCast S256x640 m shapeCasts_S1x256x640_S256x640)) (mulf (broadcast S256x640 (Scalar.ofBits .f32 0x3DCCCCCD#32)) g)) (k0_pay9 v) : Vec Ideal S1x256x640 .f32) (ix3 u a b) = change (w (ix3 0 a b)) (g (ix2 a b)) (m (ix3 0 a b)) (v (ix3 0 a b)) := by
  unfold change first second
  pointwise [k0_pay1, k0_pay2, k0_pay3, k0_pay4, k0_pay5, k0_pay6, k0_pay7, k0_pay8, k0_pay9]

theorem delta_apply (x0 : Vec Ideal S4x256x640 .bf16) (x1 x2 x3 : Vec Ideal S1x256x640 .f32) (u : Fin 1) (a : Fin 256) (b : Fin 640) :
    (k0_pay2 (k0_pay10 x0 x1 x2 x3) (k0_pay7 (View.ld x1 r0_4)) (k0_pay11 x0 x1 x2 x3) (k0_pay12 x0 x1 x2 x3) : Vec Ideal S1x256x640 .f32) (ix3 u a b) = change (x1 (ix3 0 a b)) (total fun j : Fin 4 => x0 (ix3 j a b)) (x2 (ix3 0 a b)) (x3 (ix3 0 a b)) := by
  refine (delta_pay (k0_pay10 x0 x1 x2 x3) (View.ld x1 r0_4) (View.ld x2 r0_4) (View.ld x3 r0_4) u a b).trans ?_
  rw [total_apply, ld4 x1, ld4 x2, ld4 x3]

theorem mom1_pay (g : FVec Ideal S256x640 .f32) (w m v : Vec Ideal S1x256x640 .f32) (u : Fin 1) (a : Fin 256) (b : Fin 640) :
    (k0_pay3 (addf (mulf (broadcast S256x640 (Scalar.ofBits .f32 0x3F666666#32)) (shapeCast S256x640 m shapeCasts_S1x256x640_S256x640)) (mulf (broadcast S256x640 (Scalar.ofBits .f32 0x3DCCCCCD#32)) g)) : Vec Ideal S1x256x640 .f32) (ix3 u a b) = first (g (ix2 a b)) (m (ix3 0 a b)) := by
  unfold first
  pointwise [k0_pay1, k0_pay2, k0_pay3, k0_pay4, k0_pay5, k0_pay6, k0_pay7, k0_pay8, k0_pay9]

theorem mom1_apply (x0 : Vec Ideal S4x256x640 .bf16) (x1 x2 x3 : Vec Ideal S1x256x640 .f32) (u : Fin 1) (a : Fin 256) (b : Fin 640) :
    (k0_pay3 (k0_pay11 x0 x1 x2 x3) : Vec Ideal S1x256x640 .f32) (ix3 u a b) = first (total fun j : Fin 4 => x0 (ix3 j a b)) (x2 (ix3 0 a b)) := by
  refine (mom1_pay (k0_pay10 x0 x1 x2 x3) (View.ld x1 r0_4) (View.ld x2 r0_4) (View.ld x3 r0_4) u a b).trans ?_
  rw [total_apply, ld4 x2]

theorem mom2_pay (g : FVec Ideal S256x640 .f32) (w m v : Vec Ideal S1x256x640 .f32) (u : Fin 1) (a : Fin 256) (b : Fin 640) :
    (k0_pay4 g (k0_pay9 v) : Vec Ideal S1x256x640 .f32) (ix3 u a b) = second (g (ix2 a b)) (v (ix3 0 a b)) := by
  unfold second
  pointwise [k0_pay1, k0_pay2, k0_pay3, k0_pay4, k0_pay5, k0_pay6, k0_pay7, k0_pay8, k0_pay9]

theorem mom2_apply (x0 : Vec Ideal S4x256x640 .bf16) (x1 x2 x3 : Vec Ideal S1x256x640 .f32) (u : Fin 1) (a : Fin 256) (b : Fin 640) :
    (k0_pay4 (k0_pay10 x0 x1 x2 x3) (k0_pay12 x0 x1 x2 x3) : Vec Ideal S1x256x640 .f32) (ix3 u a b) = second (total fun j : Fin 4 => x0 (ix3 j a b)) (x3 (ix3 0 a b)) := by
  refine (mom2_pay (k0_pay10 x0 x1 x2 x3) (View.ld x1 r0_4) (View.ld x2 r0_4) (View.ld x3 r0_4) u a b).trans ?_
  rw [total_apply, ld4 x3]

variable (m : (ℓ : Loc nD τ sig) → Buf (Elt Ideal) ℓ) (c : Dev nD)

/-- The gradient, as the array of it that the call leaves. -/
def array0 : Buf (Elt Ideal) ((c : Thread nD τ).loc main_v0_0) := fun y : S1x1024x640.Idx =>
  (total fun j : Fin 4 => (m ((c : Thread nD τ).loc main_arg0)) (ix3 j (y 1) (y 2)))

/-- The weight's change, as the array of it that the call leaves. -/
def array1 : Buf (Elt Ideal) ((c : Thread nD τ).loc main_v0_1) := fun y : S1x1024x640.Idx =>
  change ((m ((c : Thread nD τ).loc main_arg1)) (ix3 (0 : Fin 1) (y 1) (y 2))) (total fun j : Fin 4 => (m ((c : Thread nD τ).loc main_arg0)) (ix3 j (y 1) (y 2))) ((m ((c : Thread nD τ).loc main_arg2)) (ix3 (0 : Fin 1) (y 1) (y 2))) ((m ((c : Thread nD τ).loc main_arg3)) (ix3 (0 : Fin 1) (y 1) (y 2)))

/-- The first moment, as the array of it that the call leaves. -/
def array2 : Buf (Elt Ideal) ((c : Thread nD τ).loc main_v0_2) := fun y : S1x1024x640.Idx =>
  first (total fun j : Fin 4 => (m ((c : Thread nD τ).loc main_arg0)) (ix3 j (y 1) (y 2))) ((m ((c : Thread nD τ).loc main_arg2)) (ix3 (0 : Fin 1) (y 1) (y 2)))

/-- The second moment, as the array of it that the call leaves. -/
def array3 : Buf (Elt Ideal) ((c : Thread nD τ).loc main_v0_3) := fun y : S1x1024x640.Idx =>
  second (total fun j : Fin 4 => (m ((c : Thread nD τ).loc main_arg0)) (ix3 j (y 1) (y 2))) ((m ((c : Thread nD τ).loc main_arg3)) (ix3 (0 : Fin 1) (y 1) (y 2)))

theorem index_eq : ∀ t : Fin cfg0.N, (cfg0.win 0).index t = ![0, t.val, 0] ∧ (cfg0.win 1).index t = ![0, t.val, 0] ∧ (cfg0.win 2).index t = ![0, t.val, 0]
    ∧ (cfg0.win 3).index t = ![0, t.val, 0] ∧ (cfg0.win 4).index t = ![0, t.val, 0] ∧ (cfg0.win 5).index t = ![0, t.val, 0]
    ∧ (cfg0.win 6).index t = ![0, t.val, 0] ∧ (cfg0.win 7).index t = ![0, t.val, 0] := by decide +kernel

/-- Row `a` of block `t`. -/
def row (t : Fin cfg0.N) (a : Fin 256) : Fin 1024 := ⟨t.val * 256 + a.val, by have := lt_of_lt_of_eq t.isLt N_0; omega⟩

theorem iblk0 (t : Fin cfg0.N) (j : Fin 4) (a : Fin 256) (b : Fin 640) :
    iblk m c 0 t (ix3 j a b) = m ((c : Thread nD τ).loc main_arg0) (ix3 j (row t a) b) := by
  blk_ext [iblk, row, (index_eq t).1]

theorem iblk1 (t : Fin cfg0.N) (u : Fin 1) (a : Fin 256) (b : Fin 640) :
    iblk m c 1 t (ix3 u a b) = m ((c : Thread nD τ).loc main_arg1) (ix3 u (row t a) b) := by
  blk_ext [iblk, row, (index_eq t).2.1]

theorem iblk2 (t : Fin cfg0.N) (u : Fin 1) (a : Fin 256) (b : Fin 640) :
    iblk m c 2 t (ix3 u a b) = m ((c : Thread nD τ).loc main_arg2) (ix3 u (row t a) b) := by
  blk_ext [iblk, row, (index_eq t).2.2.1]

theorem iblk3 (t : Fin cfg0.N) (u : Fin 1) (a : Fin 256) (b : Fin 640) :
    iblk m c 3 t (ix3 u a b) = m ((c : Thread nD τ).loc main_arg3) (ix3 u (row t a) b) := by
  blk_ext [iblk, row, (index_eq t).2.2.2.1]

theorem offset_zero : (![0, 0, 0] : Fin 3 → Nat) = fun _ => 0 := funext fun a => by fin_cases a <;> rfl

theorem grad_out (x0 : Vec Ideal S4x256x640 .bf16) (x1 x2 x3 : Vec Ideal S1x256x640 .f32) : out0_4 x0 x1 x2 x3 = k0_pay6 (View.ld x0 r0_0) (View.ld x0 r0_1) (View.ld x0 r0_2) (View.ld x0 r0_3) := by
  unfold out0_4
  rw [View.canon_unit_zero offset_zero]

theorem delta_out (x0 : Vec Ideal S4x256x640 .bf16) (x1 x2 x3 : Vec Ideal S1x256x640 .f32) : out0_5 x0 x1 x2 x3 = k0_pay2 (k0_pay10 x0 x1 x2 x3) (k0_pay7 (View.ld x1 r0_4)) (k0_pay11 x0 x1 x2 x3) (k0_pay12 x0 x1 x2 x3) := by
  unfold out0_5
  rw [View.canon_unit_zero offset_zero]

theorem mom1_out (x0 : Vec Ideal S4x256x640 .bf16) (x1 x2 x3 : Vec Ideal S1x256x640 .f32) : out0_6 x0 x1 x2 x3 = k0_pay3 (k0_pay11 x0 x1 x2 x3) := by
  unfold out0_6
  rw [View.canon_unit_zero offset_zero]

theorem mom2_out (x0 : Vec Ideal S4x256x640 .bf16) (x1 x2 x3 : Vec Ideal S1x256x640 .f32) : out0_7 x0 x1 x2 x3 = k0_pay4 (k0_pay10 x0 x1 x2 x3) (k0_pay12 x0 x1 x2 x3) := by
  unfold out0_7
  rw [View.canon_unit_zero offset_zero]

theorem final0 : (dats m 0 c).arrAt 4 cfg0.N = array0 m c := by
  refine (dats m 0 c).arrAt_eq_of_covers 4 _ (by decide +kernel) fun t hf y => ?_
  blk_simp
  rw [after0_4, grad_out]
  idx_vars y
  refine (grad_apply (iblk m c 0 t) (iblk m c 1 t) (iblk m c 2 t) (iblk m c 3 t) y0 y1 y2).trans ?_
  refine (show _ = array0 m c (ix3 (0 : Fin 1) (row t y1) y2) from ?_).trans (congrArg (array0 m c) (funext fun d => Fin.ext ?_))
  · unfold array0
    simp only [iblk0]
    rfl
  · match d with
    | ⟨0, _⟩ => blk_simp [(index_eq t).2.2.2.2.1]; omega
    | ⟨1, _⟩ => blk_simp [row, (index_eq t).2.2.2.2.1]
    | ⟨2, _⟩ => blk_simp [(index_eq t).2.2.2.2.1]

theorem final1 : (dats m 0 c).arrAt 5 cfg0.N = array1 m c := by
  refine (dats m 0 c).arrAt_eq_of_covers 5 _ (by decide +kernel) fun t hf y => ?_
  blk_simp
  rw [after0_5, delta_out]
  idx_vars y
  refine (delta_apply (iblk m c 0 t) (iblk m c 1 t) (iblk m c 2 t) (iblk m c 3 t) y0 y1 y2).trans ?_
  refine (show _ = array1 m c (ix3 (0 : Fin 1) (row t y1) y2) from ?_).trans (congrArg (array1 m c) (funext fun d => Fin.ext ?_))
  · unfold array1
    simp only [iblk0, iblk1, iblk2, iblk3]
    rfl
  · match d with
    | ⟨0, _⟩ => blk_simp [(index_eq t).2.2.2.2.2.1]; omega
    | ⟨1, _⟩ => blk_simp [row, (index_eq t).2.2.2.2.2.1]
    | ⟨2, _⟩ => blk_simp [(index_eq t).2.2.2.2.2.1]

theorem final2 : (dats m 0 c).arrAt 6 cfg0.N = array2 m c := by
  refine (dats m 0 c).arrAt_eq_of_covers 6 _ (by decide +kernel) fun t hf y => ?_
  blk_simp
  rw [after0_6, mom1_out]
  idx_vars y
  refine (mom1_apply (iblk m c 0 t) (iblk m c 1 t) (iblk m c 2 t) (iblk m c 3 t) y0 y1 y2).trans ?_
  refine (show _ = array2 m c (ix3 (0 : Fin 1) (row t y1) y2) from ?_).trans (congrArg (array2 m c) (funext fun d => Fin.ext ?_))
  · unfold array2
    simp only [iblk0, iblk2]
    rfl
  · match d with
    | ⟨0, _⟩ => blk_simp [(index_eq t).2.2.2.2.2.2.1]; omega
    | ⟨1, _⟩ => blk_simp [row, (index_eq t).2.2.2.2.2.2.1]
    | ⟨2, _⟩ => blk_simp [(index_eq t).2.2.2.2.2.2.1]

theorem final3 : (dats m 0 c).arrAt 7 cfg0.N = array3 m c := by
  refine (dats m 0 c).arrAt_eq_of_covers 7 _ (by decide +kernel) fun t hf y => ?_
  blk_simp
  rw [after0_7, mom2_out]
  idx_vars y
  refine (mom2_apply (iblk m c 0 t) (iblk m c 1 t) (iblk m c 2 t) (iblk m c 3 t) y0 y1 y2).trans ?_
  refine (show _ = array3 m c (ix3 (0 : Fin 1) (row t y1) y2) from ?_).trans (congrArg (array3 m c) (funext fun d => Fin.ext ?_))
  · unfold array3
    simp only [iblk0, iblk3]
    rfl
  · match d with
    | ⟨0, _⟩ => blk_simp [(index_eq t).2.2.2.2.2.2.2]; omega
    | ⟨1, _⟩ => blk_simp [row, (index_eq t).2.2.2.2.2.2.2]
    | ⟨2, _⟩ => blk_simp [(index_eq t).2.2.2.2.2.2.2]

theorem ref_grad (x0 : Vec Ideal S4x1024x640 .bf16) (u : Fin 1) (a : Fin 1024) (b : Fin 640) : Cert.Reference12Ideal.Read.val_main_v2 (F := Ideal) x0 (ix3 u a b) = (total fun j : Fin 4 => x0 (ix3 j a b)) := by
  unfold total
  pointwise [Cert.Reference12Ideal.Read.val_main_v2, Cert.Reference12Ideal.Read.val_main_v1, Cert.Reference12Ideal.Read.val_main_v0, Cert.Reference12Ideal.Read.val_main_cst]
  all_goals first | exact (congrArg (· + _) (Ideal.ofBits_zero _ _)).trans (zero_add _) | skip

theorem ref_delta (x0 : Vec Ideal S4x1024x640 .bf16) (x1 x2 x3 : Vec Ideal S1x1024x640 .f32) (u : Fin 1) (a : Fin 1024) (b : Fin 640) :
    Cert.Reference12Ideal.Read.val_main_v26 (F := Ideal) x0 x1 x2 x3 (ix3 u a b) = change (x1 (ix3 u a b)) (total fun j : Fin 4 => x0 (ix3 j a b)) (x2 (ix3 u a b)) (x3 (ix3 u a b)) := by
  rw [← ref_grad x0 u a b]
  unfold change first second
  pointwise [Cert.Reference12Ideal.Read.val_main_v26, Cert.Reference12Ideal.Read.val_main_v25, Cert.Reference12Ideal.Read.val_main_v24, Cert.Reference12Ideal.Read.val_main_v23, Cert.Reference12Ideal.Read.val_main_v22, Cert.Reference12Ideal.Read.val_main_v21, Cert.Reference12Ideal.Read.val_main_v20, Cert.Reference12Ideal.Read.val_main_v19, Cert.Reference12Ideal.Read.val_main_v18, Cert.Reference12Ideal.Read.val_main_v17, Cert.Reference12Ideal.Read.val_main_v16, Cert.Reference12Ideal.Read.val_main_v15, Cert.Reference12Ideal.Read.val_main_v14, Cert.Reference12Ideal.Read.val_main_v13, Cert.Reference12Ideal.Read.val_main_v12, Cert.Reference12Ideal.Read.val_main_v11, Cert.Reference12Ideal.Read.val_main_v10, Cert.Reference12Ideal.Read.val_main_v9, Cert.Reference12Ideal.Read.val_main_v8, Cert.Reference12Ideal.Read.val_main_v7, Cert.Reference12Ideal.Read.val_main_v6, Cert.Reference12Ideal.Read.val_main_v5, Cert.Reference12Ideal.Read.val_main_v4, Cert.Reference12Ideal.Read.val_main_v3, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8]

theorem ref_mom1 (x0 : Vec Ideal S4x1024x640 .bf16) (x2 : Vec Ideal S1x1024x640 .f32) (u : Fin 1) (a : Fin 1024) (b : Fin 640) :
    Cert.Reference12Ideal.Read.val_main_v7 (F := Ideal) x0 x2 (ix3 u a b) = first (total fun j : Fin 4 => x0 (ix3 j a b)) (x2 (ix3 u a b)) := by
  rw [← ref_grad x0 u a b]
  unfold first
  pointwise [Cert.Reference12Ideal.Read.val_main_v7, Cert.Reference12Ideal.Read.val_main_v6, Cert.Reference12Ideal.Read.val_main_v5, Cert.Reference12Ideal.Read.val_main_v4, Cert.Reference12Ideal.Read.val_main_v3, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8]

theorem ref_mom2 (x0 : Vec Ideal S4x1024x640 .bf16) (x3 : Vec Ideal S1x1024x640 .f32) (u : Fin 1) (a : Fin 1024) (b : Fin 640) :
    Cert.Reference12Ideal.Read.val_main_v13 (F := Ideal) x0 x3 (ix3 u a b) = second (total fun j : Fin 4 => x0 (ix3 j a b)) (x3 (ix3 u a b)) := by
  rw [← ref_grad x0 u a b]
  unfold second
  pointwise [Cert.Reference12Ideal.Read.val_main_v13, Cert.Reference12Ideal.Read.val_main_v12, Cert.Reference12Ideal.Read.val_main_v11, Cert.Reference12Ideal.Read.val_main_v10, Cert.Reference12Ideal.Read.val_main_v9, Cert.Reference12Ideal.Read.val_main_v8, Cert.Reference12Ideal.Read.val_main_v7, Cert.Reference12Ideal.Read.val_main_v6, Cert.Reference12Ideal.Read.val_main_v5, Cert.Reference12Ideal.Read.val_main_v4, Cert.Reference12Ideal.Read.val_main_v3, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8]

/-- From equal arguments the idealized call and the reference end with equal arrays, their arguments unchanged. -/
theorem algebraic : Cert.algebraic_Kernel12Ideal_Reference12Ideal := by
  intro m g m' g' _ ha
  refine ⟨array0 m, array1 m, array2 m, array3 m, (θ_run Cert.Kernel12Ideal.defs _ _).mono (fun r hr c => ?_) (Cert.Kernel12Ideal.Value.run_blocks m g),
    (θ_run Cert.Reference12Ideal.defs _ _).mono (fun r hr c => ?_) (Cert.Reference12Ideal.Value.run m' g')⟩
  · obtain ⟨h0, h1, h2, h3, hr⟩ := hr c
    exact ⟨h0.trans (final0 m c), h1.trans (final1 m c), h2.trans (final2 m c), h3.trans (final3 m c), hr⟩
  · obtain ⟨a0, a1, a2, a3⟩ := ha c
    obtain ⟨h0, h1, h2, h3, hr⟩ := hr c
    refine ⟨h0.trans ((Cert.Reference12Ideal.Read.val_main_v2_eq _).trans ?_), h1.trans ((Cert.Reference12Ideal.Read.val_main_v26_eq _ _ _ _).trans ?_),
      h2.trans ((Cert.Reference12Ideal.Read.val_main_v7_eq _ _).trans ?_), h3.trans ((Cert.Reference12Ideal.Read.val_main_v13_eq _ _).trans ?_), hr⟩
    · rw [a0]
      funext y
      idx_vars y
      obtain rfl : y0 = 0 := Subsingleton.elim _ _
      exact ref_grad _ 0 _ _
    · rw [a0, a1, a2, a3]
      funext y
      idx_vars y
      obtain rfl : y0 = 0 := Subsingleton.elim _ _
      exact ref_delta _ _ _ _ 0 _ _
    · rw [a0, a2]
      funext y
      idx_vars y
      obtain rfl : y0 = 0 := Subsingleton.elim _ _
      exact ref_mom1 _ _ 0 _ _
    · rw [a0, a3]
      funext y
      idx_vars y
      obtain rfl : y0 = 0 := Subsingleton.elim _ _
      exact ref_mom2 _ _ 0 _ _

end Cert.Proof.Kernel12Ideal

end
-- ==== Proof.Kernel13Ideal.Update.lean ====
/-
  The optimiser's step for the odd layers' input projection: the gradient is the sum of the devices' derivatives, and the change of the weight and
  the two moments are each element's step of it, as in the reference.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Step
public import Idealize.ShloMosaic.Lib.Pipeline.ValueKit
public import Idealize.ShloMosaic.Lib.Pointwise

@[expose] public section

set_option maxRecDepth 16384

noncomputable section

namespace Cert.Proof.Kernel13Ideal

open Cert.Kernel13Ideal Cert.Kernel13Ideal.Gen
open Cert.Proof.Step
open Idealize.ShloMosaic Idealize.ShloMosaic.TcCoe Idealize.ShloMosaic.Tactic Idealize.SL.Sem

/-- The gradient at an element: the sum of the devices' derivatives there. -/
def total {n : Nat} (p : Fin n → EReal) : EReal := ∑ j, p j

theorem ld0 (x : Vec Ideal S8x256x312 .bf16) (u : Fin 1) (a : Fin 256) (b : Fin 312) : View.ld x r0_0 (ix3 u a b) = x (ix3 (0 : Fin 8) a b) :=
  View.ld_unit_apply_of x _ _ _ _ _ fun d => match d with
    | ⟨0, _⟩ => by show 0 = 0 + u.val; omega
    | ⟨1, _⟩ => (Nat.zero_add _).symm
    | ⟨2, _⟩ => (Nat.zero_add _).symm

theorem ld1 (x : Vec Ideal S8x256x312 .bf16) (u : Fin 1) (a : Fin 256) (b : Fin 312) : View.ld x r0_1 (ix3 u a b) = x (ix3 (1 : Fin 8) a b) :=
  View.ld_unit_apply_of x _ _ _ _ _ fun d => match d with
    | ⟨0, _⟩ => by show 1 = 1 + u.val; omega
    | ⟨1, _⟩ => (Nat.zero_add _).symm
    | ⟨2, _⟩ => (Nat.zero_add _).symm

theorem ld2 (x : Vec Ideal S8x256x312 .bf16) (u : Fin 1) (a : Fin 256) (b : Fin 312) : View.ld x r0_2 (ix3 u a b) = x (ix3 (2 : Fin 8) a b) :=
  View.ld_unit_apply_of x _ _ _ _ _ fun d => match d with
    | ⟨0, _⟩ => by show 2 = 2 + u.val; omega
    | ⟨1, _⟩ => (Nat.zero_add _).symm
    | ⟨2, _⟩ => (Nat.zero_add _).symm

theorem ld3 (x : Vec Ideal S8x256x312 .bf16) (u : Fin 1) (a : Fin 256) (b : Fin 312) : View.ld x r0_3 (ix3 u a b) = x (ix3 (3 : Fin 8) a b) :=
  View.ld_unit_apply_of x _ _ _ _ _ fun d => match d with
    | ⟨0, _⟩ => by show 3 = 3 + u.val; omega
    | ⟨1, _⟩ => (Nat.zero_add _).symm
    | ⟨2, _⟩ => (Nat.zero_add _).symm

theorem ld4 (x : Vec Ideal S8x256x312 .bf16) (u : Fin 1) (a : Fin 256) (b : Fin 312) : View.ld x r0_4 (ix3 u a b) = x (ix3 (4 : Fin 8) a b) :=
  View.ld_unit_apply_of x _ _ _ _ _ fun d => match d with
    | ⟨0, _⟩ => by show 4 = 4 + u.val; omega
    | ⟨1, _⟩ => (Nat.zero_add _).symm
    | ⟨2, _⟩ => (Nat.zero_add _).symm

theorem ld5 (x : Vec Ideal S8x256x312 .bf16) (u : Fin 1) (a : Fin 256) (b : Fin 312) : View.ld x r0_5 (ix3 u a b) = x (ix3 (5 : Fin 8) a b) :=
  View.ld_unit_apply_of x _ _ _ _ _ fun d => match d with
    | ⟨0, _⟩ => by show 5 = 5 + u.val; omega
    | ⟨1, _⟩ => (Nat.zero_add _).symm
    | ⟨2, _⟩ => (Nat.zero_add _).symm

theorem ld6 (x : Vec Ideal S8x256x312 .bf16) (u : Fin 1) (a : Fin 256) (b : Fin 312) : View.ld x r0_6 (ix3 u a b) = x (ix3 (6 : Fin 8) a b) :=
  View.ld_unit_apply_of x _ _ _ _ _ fun d => match d with
    | ⟨0, _⟩ => by show 6 = 6 + u.val; omega
    | ⟨1, _⟩ => (Nat.zero_add _).symm
    | ⟨2, _⟩ => (Nat.zero_add _).symm

theorem ld7 (x : Vec Ideal S8x256x312 .bf16) (u : Fin 1) (a : Fin 256) (b : Fin 312) : View.ld x r0_7 (ix3 u a b) = x (ix3 (7 : Fin 8) a b) :=
  View.ld_unit_apply_of x _ _ _ _ _ fun d => match d with
    | ⟨0, _⟩ => by show 7 = 7 + u.val; omega
    | ⟨1, _⟩ => (Nat.zero_add _).symm
    | ⟨2, _⟩ => (Nat.zero_add _).symm

theorem ld8 (x : Vec Ideal S1x256x312 .f32) (u : Fin 1) (a : Fin 256) (b : Fin 312) : View.ld x r0_8 (ix3 u a b) = x (ix3 u a b) :=
  View.ld_unit_apply_of x _ _ _ _ _ fun d => match d with
    | ⟨0, _⟩ => (Nat.zero_add _).symm
    | ⟨1, _⟩ => (Nat.zero_add _).symm
    | ⟨2, _⟩ => (Nat.zero_add _).symm

theorem sum_apply (y0 y1 y2 y3 y4 y5 y6 y7 : Vec Ideal S1x256x312 .bf16) (a : Fin 256) (b : Fin 312) :
    k0_pay3 y0 y1 y2 y3 y4 y5 y6 y7 (ix2 a b) = y0 (ix3 0 a b) + y1 (ix3 0 a b) + y2 (ix3 0 a b) + y3 (ix3 0 a b) + y4 (ix3 0 a b) + y5 (ix3 0 a b) + y6 (ix3 0 a b) + y7 (ix3 0 a b) := by
  pointwise [k0_pay3]

theorem total_apply (x0 : Vec Ideal S8x256x312 .bf16) (x1 x2 x3 : Vec Ideal S1x256x312 .f32) (a : Fin 256) (b : Fin 312) :
    k0_pay8 x0 x1 x2 x3 (ix2 a b) = total fun j : Fin 8 => x0 (ix3 j a b) := by
  unfold k0_pay8 total
  rw [sum_apply, ld0, ld1, ld2, ld3, ld4, ld5, ld6, ld7, Fin.sum_univ_eight]
  all_goals rfl

theorem grad_pay (g : FVec Ideal S256x312 .f32) (w m v : Vec Ideal S1x256x312 .f32) (u : Fin 1) (a : Fin 256) (b : Fin 312) :
    (k0_pay4 g : Vec Ideal S1x256x312 .f32) (ix3 u a b) = g (ix2 a b) := by
  pointwise [k0_pay1, k0_pay2, k0_pay3, k0_pay4, k0_pay5, k0_pay6, k0_pay7]

theorem grad_apply (x0 : Vec Ideal S8x256x312 .bf16) (x1 x2 x3 : Vec Ideal S1x256x312 .f32) (u : Fin 1) (a : Fin 256) (b : Fin 312) :
    (k0_pay4 (k0_pay8 x0 x1 x2 x3) : Vec Ideal S1x256x312 .f32) (ix3 u a b) = (total fun j : Fin 8 => x0 (ix3 j a b)) := by
  refine (grad_pay (k0_pay8 x0 x1 x2 x3) (View.ld x1 r0_8) (View.ld x2 r0_8) (View.ld x3 r0_8) u a b).trans ?_
  rw [total_apply]

theorem delta_pay (g : FVec Ideal S256x312 .f32) (w m v : Vec Ideal S1x256x312 .f32) (u : Fin 1) (a : Fin 256) (b : Fin 312) :
    (k0_pay7 g w m v : Vec Ideal S1x256x312 .f32) (ix3 u a b) = change (w (ix3 0 a b)) (g (ix2 a b)) (m (ix3 0 a b)) (v (ix3 0 a b)) := by
  unfold change first second
  pointwise [k0_pay1, k0_pay2, k0_pay3, k0_pay4, k0_pay5, k0_pay6, k0_pay7]

theorem delta_apply (x0 : Vec Ideal S8x256x312 .bf16) (x1 x2 x3 : Vec Ideal S1x256x312 .f32) (u : Fin 1) (a : Fin 256) (b : Fin 312) :
    (k0_pay7 (k0_pay8 x0 x1 x2 x3) (View.ld x1 r0_8) (View.ld x2 r0_8) (View.ld x3 r0_8) : Vec Ideal S1x256x312 .f32) (ix3 u a b) = change (x1 (ix3 0 a b)) (total fun j : Fin 8 => x0 (ix3 j a b)) (x2 (ix3 0 a b)) (x3 (ix3 0 a b)) := by
  refine (delta_pay (k0_pay8 x0 x1 x2 x3) (View.ld x1 r0_8) (View.ld x2 r0_8) (View.ld x3 r0_8) u a b).trans ?_
  rw [total_apply, ld8 x1, ld8 x2, ld8 x3]

theorem mom1_pay (g : FVec Ideal S256x312 .f32) (w m v : Vec Ideal S1x256x312 .f32) (u : Fin 1) (a : Fin 256) (b : Fin 312) :
    (k0_pay1 (k0_pay5 g m) : Vec Ideal S1x256x312 .f32) (ix3 u a b) = first (g (ix2 a b)) (m (ix3 0 a b)) := by
  unfold first
  pointwise [k0_pay1, k0_pay2, k0_pay3, k0_pay4, k0_pay5, k0_pay6, k0_pay7]

theorem mom1_apply (x0 : Vec Ideal S8x256x312 .bf16) (x1 x2 x3 : Vec Ideal S1x256x312 .f32) (u : Fin 1) (a : Fin 256) (b : Fin 312) :
    (k0_pay1 (k0_pay5 (k0_pay8 x0 x1 x2 x3) (View.ld x2 r0_8)) : Vec Ideal S1x256x312 .f32) (ix3 u a b) = first (total fun j : Fin 8 => x0 (ix3 j a b)) (x2 (ix3 0 a b)) := by
  refine (mom1_pay (k0_pay8 x0 x1 x2 x3) (View.ld x1 r0_8) (View.ld x2 r0_8) (View.ld x3 r0_8) u a b).trans ?_
  rw [total_apply, ld8 x2]

theorem mom2_pay (g : FVec Ideal S256x312 .f32) (w m v : Vec Ideal S1x256x312 .f32) (u : Fin 1) (a : Fin 256) (b : Fin 312) :
    (k0_pay2 (k0_pay6 g v) : Vec Ideal S1x256x312 .f32) (ix3 u a b) = second (g (ix2 a b)) (v (ix3 0 a b)) := by
  unfold second
  pointwise [k0_pay1, k0_pay2, k0_pay3, k0_pay4, k0_pay5, k0_pay6, k0_pay7]

theorem mom2_apply (x0 : Vec Ideal S8x256x312 .bf16) (x1 x2 x3 : Vec Ideal S1x256x312 .f32) (u : Fin 1) (a : Fin 256) (b : Fin 312) :
    (k0_pay2 (k0_pay6 (k0_pay8 x0 x1 x2 x3) (View.ld x3 r0_8)) : Vec Ideal S1x256x312 .f32) (ix3 u a b) = second (total fun j : Fin 8 => x0 (ix3 j a b)) (x3 (ix3 0 a b)) := by
  refine (mom2_pay (k0_pay8 x0 x1 x2 x3) (View.ld x1 r0_8) (View.ld x2 r0_8) (View.ld x3 r0_8) u a b).trans ?_
  rw [total_apply, ld8 x3]

variable (m : (ℓ : Loc nD τ sig) → Buf (Elt Ideal) ℓ) (c : Dev nD)

/-- The gradient, as the array of it that the call leaves. -/
def array0 : Buf (Elt Ideal) ((c : Thread nD τ).loc main_v0_0) := fun y : S1x1024x312.Idx =>
  (total fun j : Fin 8 => (m ((c : Thread nD τ).loc main_arg0)) (ix3 j (y 1) (y 2)))

/-- The weight's change, as the array of it that the call leaves. -/
def array1 : Buf (Elt Ideal) ((c : Thread nD τ).loc main_v0_1) := fun y : S1x1024x312.Idx =>
  change ((m ((c : Thread nD τ).loc main_arg1)) (ix3 (0 : Fin 1) (y 1) (y 2))) (total fun j : Fin 8 => (m ((c : Thread nD τ).loc main_arg0)) (ix3 j (y 1) (y 2))) ((m ((c : Thread nD τ).loc main_arg2)) (ix3 (0 : Fin 1) (y 1) (y 2))) ((m ((c : Thread nD τ).loc main_arg3)) (ix3 (0 : Fin 1) (y 1) (y 2)))

/-- The first moment, as the array of it that the call leaves. -/
def array2 : Buf (Elt Ideal) ((c : Thread nD τ).loc main_v0_2) := fun y : S1x1024x312.Idx =>
  first (total fun j : Fin 8 => (m ((c : Thread nD τ).loc main_arg0)) (ix3 j (y 1) (y 2))) ((m ((c : Thread nD τ).loc main_arg2)) (ix3 (0 : Fin 1) (y 1) (y 2)))

/-- The second moment, as the array of it that the call leaves. -/
def array3 : Buf (Elt Ideal) ((c : Thread nD τ).loc main_v0_3) := fun y : S1x1024x312.Idx =>
  second (total fun j : Fin 8 => (m ((c : Thread nD τ).loc main_arg0)) (ix3 j (y 1) (y 2))) ((m ((c : Thread nD τ).loc main_arg3)) (ix3 (0 : Fin 1) (y 1) (y 2)))

theorem index_eq : ∀ t : Fin cfg0.N, (cfg0.win 0).index t = ![0, t.val, 0] ∧ (cfg0.win 1).index t = ![0, t.val, 0] ∧ (cfg0.win 2).index t = ![0, t.val, 0]
    ∧ (cfg0.win 3).index t = ![0, t.val, 0] ∧ (cfg0.win 4).index t = ![0, t.val, 0] ∧ (cfg0.win 5).index t = ![0, t.val, 0]
    ∧ (cfg0.win 6).index t = ![0, t.val, 0] ∧ (cfg0.win 7).index t = ![0, t.val, 0] := by decide +kernel

/-- Row `a` of block `t`. -/
def row (t : Fin cfg0.N) (a : Fin 256) : Fin 1024 := ⟨t.val * 256 + a.val, by have := lt_of_lt_of_eq t.isLt N_0; omega⟩

theorem iblk0 (t : Fin cfg0.N) (j : Fin 8) (a : Fin 256) (b : Fin 312) :
    iblk m c 0 t (ix3 j a b) = m ((c : Thread nD τ).loc main_arg0) (ix3 j (row t a) b) := by
  blk_ext [iblk, row, (index_eq t).1]

theorem iblk1 (t : Fin cfg0.N) (u : Fin 1) (a : Fin 256) (b : Fin 312) :
    iblk m c 1 t (ix3 u a b) = m ((c : Thread nD τ).loc main_arg1) (ix3 u (row t a) b) := by
  blk_ext [iblk, row, (index_eq t).2.1]

theorem iblk2 (t : Fin cfg0.N) (u : Fin 1) (a : Fin 256) (b : Fin 312) :
    iblk m c 2 t (ix3 u a b) = m ((c : Thread nD τ).loc main_arg2) (ix3 u (row t a) b) := by
  blk_ext [iblk, row, (index_eq t).2.2.1]

theorem iblk3 (t : Fin cfg0.N) (u : Fin 1) (a : Fin 256) (b : Fin 312) :
    iblk m c 3 t (ix3 u a b) = m ((c : Thread nD τ).loc main_arg3) (ix3 u (row t a) b) := by
  blk_ext [iblk, row, (index_eq t).2.2.2.1]

theorem offset_zero : (![0, 0, 0] : Fin 3 → Nat) = fun _ => 0 := funext fun a => by fin_cases a <;> rfl

theorem grad_out (x0 : Vec Ideal S8x256x312 .bf16) (x1 x2 x3 : Vec Ideal S1x256x312 .f32) : out0_4 x0 x1 x2 x3 = k0_pay4 (k0_pay8 x0 x1 x2 x3) := by
  unfold out0_4
  rw [View.canon_unit_zero offset_zero]

theorem delta_out (x0 : Vec Ideal S8x256x312 .bf16) (x1 x2 x3 : Vec Ideal S1x256x312 .f32) : out0_5 x0 x1 x2 x3 = k0_pay7 (k0_pay8 x0 x1 x2 x3) (View.ld x1 r0_8) (View.ld x2 r0_8) (View.ld x3 r0_8) := by
  unfold out0_5
  rw [View.canon_unit_zero offset_zero]

theorem mom1_out (x0 : Vec Ideal S8x256x312 .bf16) (x1 x2 x3 : Vec Ideal S1x256x312 .f32) : out0_6 x0 x1 x2 x3 = k0_pay1 (k0_pay5 (k0_pay8 x0 x1 x2 x3) (View.ld x2 r0_8)) := by
  unfold out0_6
  rw [View.canon_unit_zero offset_zero]

theorem mom2_out (x0 : Vec Ideal S8x256x312 .bf16) (x1 x2 x3 : Vec Ideal S1x256x312 .f32) : out0_7 x0 x1 x2 x3 = k0_pay2 (k0_pay6 (k0_pay8 x0 x1 x2 x3) (View.ld x3 r0_8)) := by
  unfold out0_7
  rw [View.canon_unit_zero offset_zero]

theorem final0 : (dats m 0 c).arrAt 4 cfg0.N = array0 m c := by
  refine (dats m 0 c).arrAt_eq_of_covers 4 _ (by decide +kernel) fun t hf y => ?_
  blk_simp
  rw [after0_4, grad_out]
  idx_vars y
  refine (grad_apply (iblk m c 0 t) (iblk m c 1 t) (iblk m c 2 t) (iblk m c 3 t) y0 y1 y2).trans ?_
  refine (show _ = array0 m c (ix3 (0 : Fin 1) (row t y1) y2) from ?_).trans (congrArg (array0 m c) (funext fun d => Fin.ext ?_))
  · unfold array0
    simp only [iblk0]
    rfl
  · match d with
    | ⟨0, _⟩ => blk_simp [(index_eq t).2.2.2.2.1]; omega
    | ⟨1, _⟩ => blk_simp [row, (index_eq t).2.2.2.2.1]
    | ⟨2, _⟩ => blk_simp [(index_eq t).2.2.2.2.1]

theorem final1 : (dats m 0 c).arrAt 5 cfg0.N = array1 m c := by
  refine (dats m 0 c).arrAt_eq_of_covers 5 _ (by decide +kernel) fun t hf y => ?_
  blk_simp
  rw [after0_5, delta_out]
  idx_vars y
  refine (delta_apply (iblk m c 0 t) (iblk m c 1 t) (iblk m c 2 t) (iblk m c 3 t) y0 y1 y2).trans ?_
  refine (show _ = array1 m c (ix3 (0 : Fin 1) (row t y1) y2) from ?_).trans (congrArg (array1 m c) (funext fun d => Fin.ext ?_))
  · unfold array1
    simp only [iblk0, iblk1, iblk2, iblk3]
    rfl
  · match d with
    | ⟨0, _⟩ => blk_simp [(index_eq t).2.2.2.2.2.1]; omega
    | ⟨1, _⟩ => blk_simp [row, (index_eq t).2.2.2.2.2.1]
    | ⟨2, _⟩ => blk_simp [(index_eq t).2.2.2.2.2.1]

theorem final2 : (dats m 0 c).arrAt 6 cfg0.N = array2 m c := by
  refine (dats m 0 c).arrAt_eq_of_covers 6 _ (by decide +kernel) fun t hf y => ?_
  blk_simp
  rw [after0_6, mom1_out]
  idx_vars y
  refine (mom1_apply (iblk m c 0 t) (iblk m c 1 t) (iblk m c 2 t) (iblk m c 3 t) y0 y1 y2).trans ?_
  refine (show _ = array2 m c (ix3 (0 : Fin 1) (row t y1) y2) from ?_).trans (congrArg (array2 m c) (funext fun d => Fin.ext ?_))
  · unfold array2
    simp only [iblk0, iblk2]
    rfl
  · match d with
    | ⟨0, _⟩ => blk_simp [(index_eq t).2.2.2.2.2.2.1]; omega
    | ⟨1, _⟩ => blk_simp [row, (index_eq t).2.2.2.2.2.2.1]
    | ⟨2, _⟩ => blk_simp [(index_eq t).2.2.2.2.2.2.1]

theorem final3 : (dats m 0 c).arrAt 7 cfg0.N = array3 m c := by
  refine (dats m 0 c).arrAt_eq_of_covers 7 _ (by decide +kernel) fun t hf y => ?_
  blk_simp
  rw [after0_7, mom2_out]
  idx_vars y
  refine (mom2_apply (iblk m c 0 t) (iblk m c 1 t) (iblk m c 2 t) (iblk m c 3 t) y0 y1 y2).trans ?_
  refine (show _ = array3 m c (ix3 (0 : Fin 1) (row t y1) y2) from ?_).trans (congrArg (array3 m c) (funext fun d => Fin.ext ?_))
  · unfold array3
    simp only [iblk0, iblk3]
    rfl
  · match d with
    | ⟨0, _⟩ => blk_simp [(index_eq t).2.2.2.2.2.2.2]; omega
    | ⟨1, _⟩ => blk_simp [row, (index_eq t).2.2.2.2.2.2.2]
    | ⟨2, _⟩ => blk_simp [(index_eq t).2.2.2.2.2.2.2]

theorem ref_grad (x0 : Vec Ideal S8x1024x312 .bf16) (u : Fin 1) (a : Fin 1024) (b : Fin 312) : Cert.Reference13Ideal.Read.val_main_v2 (F := Ideal) x0 (ix3 u a b) = (total fun j : Fin 8 => x0 (ix3 j a b)) := by
  unfold total
  pointwise [Cert.Reference13Ideal.Read.val_main_v2, Cert.Reference13Ideal.Read.val_main_v1, Cert.Reference13Ideal.Read.val_main_v0, Cert.Reference13Ideal.Read.val_main_cst]
  all_goals first | exact (congrArg (· + _) (Ideal.ofBits_zero _ _)).trans (zero_add _) | skip

theorem ref_delta (x0 : Vec Ideal S8x1024x312 .bf16) (x1 x2 x3 : Vec Ideal S1x1024x312 .f32) (u : Fin 1) (a : Fin 1024) (b : Fin 312) :
    Cert.Reference13Ideal.Read.val_main_v26 (F := Ideal) x0 x1 x2 x3 (ix3 u a b) = change (x1 (ix3 u a b)) (total fun j : Fin 8 => x0 (ix3 j a b)) (x2 (ix3 u a b)) (x3 (ix3 u a b)) := by
  rw [← ref_grad x0 u a b]
  unfold change first second
  pointwise [Cert.Reference13Ideal.Read.val_main_v26, Cert.Reference13Ideal.Read.val_main_v25, Cert.Reference13Ideal.Read.val_main_v24, Cert.Reference13Ideal.Read.val_main_v23, Cert.Reference13Ideal.Read.val_main_v22, Cert.Reference13Ideal.Read.val_main_v21, Cert.Reference13Ideal.Read.val_main_v20, Cert.Reference13Ideal.Read.val_main_v19, Cert.Reference13Ideal.Read.val_main_v18, Cert.Reference13Ideal.Read.val_main_v17, Cert.Reference13Ideal.Read.val_main_v16, Cert.Reference13Ideal.Read.val_main_v15, Cert.Reference13Ideal.Read.val_main_v14, Cert.Reference13Ideal.Read.val_main_v13, Cert.Reference13Ideal.Read.val_main_v12, Cert.Reference13Ideal.Read.val_main_v11, Cert.Reference13Ideal.Read.val_main_v10, Cert.Reference13Ideal.Read.val_main_v9, Cert.Reference13Ideal.Read.val_main_v8, Cert.Reference13Ideal.Read.val_main_v7, Cert.Reference13Ideal.Read.val_main_v6, Cert.Reference13Ideal.Read.val_main_v5, Cert.Reference13Ideal.Read.val_main_v4, Cert.Reference13Ideal.Read.val_main_v3, Cert.Reference13Ideal.Read.val_main_cst_0, Cert.Reference13Ideal.Read.val_main_cst_1, Cert.Reference13Ideal.Read.val_main_cst_2, Cert.Reference13Ideal.Read.val_main_cst_3, Cert.Reference13Ideal.Read.val_main_cst_4, Cert.Reference13Ideal.Read.val_main_cst_5, Cert.Reference13Ideal.Read.val_main_cst_6, Cert.Reference13Ideal.Read.val_main_cst_7, Cert.Reference13Ideal.Read.val_main_cst_8]

theorem ref_mom1 (x0 : Vec Ideal S8x1024x312 .bf16) (x2 : Vec Ideal S1x1024x312 .f32) (u : Fin 1) (a : Fin 1024) (b : Fin 312) :
    Cert.Reference13Ideal.Read.val_main_v7 (F := Ideal) x0 x2 (ix3 u a b) = first (total fun j : Fin 8 => x0 (ix3 j a b)) (x2 (ix3 u a b)) := by
  rw [← ref_grad x0 u a b]
  unfold first
  pointwise [Cert.Reference13Ideal.Read.val_main_v7, Cert.Reference13Ideal.Read.val_main_v6, Cert.Reference13Ideal.Read.val_main_v5, Cert.Reference13Ideal.Read.val_main_v4, Cert.Reference13Ideal.Read.val_main_v3, Cert.Reference13Ideal.Read.val_main_cst_0, Cert.Reference13Ideal.Read.val_main_cst_1, Cert.Reference13Ideal.Read.val_main_cst_2, Cert.Reference13Ideal.Read.val_main_cst_3, Cert.Reference13Ideal.Read.val_main_cst_4, Cert.Reference13Ideal.Read.val_main_cst_5, Cert.Reference13Ideal.Read.val_main_cst_6, Cert.Reference13Ideal.Read.val_main_cst_7, Cert.Reference13Ideal.Read.val_main_cst_8]

theorem ref_mom2 (x0 : Vec Ideal S8x1024x312 .bf16) (x3 : Vec Ideal S1x1024x312 .f32) (u : Fin 1) (a : Fin 1024) (b : Fin 312) :
    Cert.Reference13Ideal.Read.val_main_v13 (F := Ideal) x0 x3 (ix3 u a b) = second (total fun j : Fin 8 => x0 (ix3 j a b)) (x3 (ix3 u a b)) := by
  rw [← ref_grad x0 u a b]
  unfold second
  pointwise [Cert.Reference13Ideal.Read.val_main_v13, Cert.Reference13Ideal.Read.val_main_v12, Cert.Reference13Ideal.Read.val_main_v11, Cert.Reference13Ideal.Read.val_main_v10, Cert.Reference13Ideal.Read.val_main_v9, Cert.Reference13Ideal.Read.val_main_v8, Cert.Reference13Ideal.Read.val_main_v7, Cert.Reference13Ideal.Read.val_main_v6, Cert.Reference13Ideal.Read.val_main_v5, Cert.Reference13Ideal.Read.val_main_v4, Cert.Reference13Ideal.Read.val_main_v3, Cert.Reference13Ideal.Read.val_main_cst_0, Cert.Reference13Ideal.Read.val_main_cst_1, Cert.Reference13Ideal.Read.val_main_cst_2, Cert.Reference13Ideal.Read.val_main_cst_3, Cert.Reference13Ideal.Read.val_main_cst_4, Cert.Reference13Ideal.Read.val_main_cst_5, Cert.Reference13Ideal.Read.val_main_cst_6, Cert.Reference13Ideal.Read.val_main_cst_7, Cert.Reference13Ideal.Read.val_main_cst_8]

/-- From equal arguments the idealized call and the reference end with equal arrays, their arguments unchanged. -/
theorem algebraic : Cert.algebraic_Kernel13Ideal_Reference13Ideal := by
  intro m g m' g' _ ha
  refine ⟨array0 m, array1 m, array2 m, array3 m, (θ_run Cert.Kernel13Ideal.defs _ _).mono (fun r hr c => ?_) (Cert.Kernel13Ideal.Value.run_blocks m g),
    (θ_run Cert.Reference13Ideal.defs _ _).mono (fun r hr c => ?_) (Cert.Reference13Ideal.Value.run m' g')⟩
  · obtain ⟨h0, h1, h2, h3, hr⟩ := hr c
    exact ⟨h0.trans (final0 m c), h1.trans (final1 m c), h2.trans (final2 m c), h3.trans (final3 m c), hr⟩
  · obtain ⟨a0, a1, a2, a3⟩ := ha c
    obtain ⟨h0, h1, h2, h3, hr⟩ := hr c
    refine ⟨h0.trans ((Cert.Reference13Ideal.Read.val_main_v2_eq _).trans ?_), h1.trans ((Cert.Reference13Ideal.Read.val_main_v26_eq _ _ _ _).trans ?_),
      h2.trans ((Cert.Reference13Ideal.Read.val_main_v7_eq _ _).trans ?_), h3.trans ((Cert.Reference13Ideal.Read.val_main_v13_eq _ _).trans ?_), hr⟩
    · rw [a0]
      funext y
      idx_vars y
      obtain rfl : y0 = 0 := Subsingleton.elim _ _
      exact ref_grad _ 0 _ _
    · rw [a0, a1, a2, a3]
      funext y
      idx_vars y
      obtain rfl : y0 = 0 := Subsingleton.elim _ _
      exact ref_delta _ _ _ _ 0 _ _
    · rw [a0, a2]
      funext y
      idx_vars y
      obtain rfl : y0 = 0 := Subsingleton.elim _ _
      exact ref_mom1 _ _ 0 _ _
    · rw [a0, a3]
      funext y
      idx_vars y
      obtain rfl : y0 = 0 := Subsingleton.elim _ _
      exact ref_mom2 _ _ 0 _ _

end Cert.Proof.Kernel13Ideal

end
-- ==== Proof.Kernel14Ideal.Update.lean ====
/-
  The optimiser's step for the output projections: the gradient is the sum of the devices' derivatives, and the change of the weight and
  the two moments are each element's step of it, as in the reference.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Step
public import Idealize.ShloMosaic.Lib.Pipeline.ValueKit
public import Idealize.ShloMosaic.Lib.Pointwise

@[expose] public section

set_option maxRecDepth 16384

noncomputable section

namespace Cert.Proof.Kernel14Ideal

open Cert.Kernel14Ideal Cert.Kernel14Ideal.Gen
open Cert.Proof.Step
open Idealize.ShloMosaic Idealize.ShloMosaic.TcCoe Idealize.ShloMosaic.Tactic Idealize.SL.Sem

/-- The gradient at an element: the sum of the devices' derivatives there. -/
def total {n : Nat} (p : Fin n → EReal) : EReal := ∑ j, p j

theorem ld0 (x : Vec Ideal S8x256x1024 .bf16) (u : Fin 1) (a : Fin 256) (b : Fin 1024) : View.ld x r0_0 (ix3 u a b) = x (ix3 (0 : Fin 8) a b) :=
  View.ld_unit_apply_of x _ _ _ _ _ fun d => match d with
    | ⟨0, _⟩ => by show 0 = 0 + u.val; omega
    | ⟨1, _⟩ => (Nat.zero_add _).symm
    | ⟨2, _⟩ => (Nat.zero_add _).symm

theorem ld1 (x : Vec Ideal S8x256x1024 .bf16) (u : Fin 1) (a : Fin 256) (b : Fin 1024) : View.ld x r0_1 (ix3 u a b) = x (ix3 (1 : Fin 8) a b) :=
  View.ld_unit_apply_of x _ _ _ _ _ fun d => match d with
    | ⟨0, _⟩ => by show 1 = 1 + u.val; omega
    | ⟨1, _⟩ => (Nat.zero_add _).symm
    | ⟨2, _⟩ => (Nat.zero_add _).symm

theorem ld2 (x : Vec Ideal S8x256x1024 .bf16) (u : Fin 1) (a : Fin 256) (b : Fin 1024) : View.ld x r0_2 (ix3 u a b) = x (ix3 (2 : Fin 8) a b) :=
  View.ld_unit_apply_of x _ _ _ _ _ fun d => match d with
    | ⟨0, _⟩ => by show 2 = 2 + u.val; omega
    | ⟨1, _⟩ => (Nat.zero_add _).symm
    | ⟨2, _⟩ => (Nat.zero_add _).symm

theorem ld3 (x : Vec Ideal S8x256x1024 .bf16) (u : Fin 1) (a : Fin 256) (b : Fin 1024) : View.ld x r0_3 (ix3 u a b) = x (ix3 (3 : Fin 8) a b) :=
  View.ld_unit_apply_of x _ _ _ _ _ fun d => match d with
    | ⟨0, _⟩ => by show 3 = 3 + u.val; omega
    | ⟨1, _⟩ => (Nat.zero_add _).symm
    | ⟨2, _⟩ => (Nat.zero_add _).symm

theorem ld4 (x : Vec Ideal S8x256x1024 .bf16) (u : Fin 1) (a : Fin 256) (b : Fin 1024) : View.ld x r0_4 (ix3 u a b) = x (ix3 (4 : Fin 8) a b) :=
  View.ld_unit_apply_of x _ _ _ _ _ fun d => match d with
    | ⟨0, _⟩ => by show 4 = 4 + u.val; omega
    | ⟨1, _⟩ => (Nat.zero_add _).symm
    | ⟨2, _⟩ => (Nat.zero_add _).symm

theorem ld5 (x : Vec Ideal S8x256x1024 .bf16) (u : Fin 1) (a : Fin 256) (b : Fin 1024) : View.ld x r0_5 (ix3 u a b) = x (ix3 (5 : Fin 8) a b) :=
  View.ld_unit_apply_of x _ _ _ _ _ fun d => match d with
    | ⟨0, _⟩ => by show 5 = 5 + u.val; omega
    | ⟨1, _⟩ => (Nat.zero_add _).symm
    | ⟨2, _⟩ => (Nat.zero_add _).symm

theorem ld6 (x : Vec Ideal S8x256x1024 .bf16) (u : Fin 1) (a : Fin 256) (b : Fin 1024) : View.ld x r0_6 (ix3 u a b) = x (ix3 (6 : Fin 8) a b) :=
  View.ld_unit_apply_of x _ _ _ _ _ fun d => match d with
    | ⟨0, _⟩ => by show 6 = 6 + u.val; omega
    | ⟨1, _⟩ => (Nat.zero_add _).symm
    | ⟨2, _⟩ => (Nat.zero_add _).symm

theorem ld7 (x : Vec Ideal S8x256x1024 .bf16) (u : Fin 1) (a : Fin 256) (b : Fin 1024) : View.ld x r0_7 (ix3 u a b) = x (ix3 (7 : Fin 8) a b) :=
  View.ld_unit_apply_of x _ _ _ _ _ fun d => match d with
    | ⟨0, _⟩ => by show 7 = 7 + u.val; omega
    | ⟨1, _⟩ => (Nat.zero_add _).symm
    | ⟨2, _⟩ => (Nat.zero_add _).symm

theorem ld8 (x : Vec Ideal S1x256x1024 .f32) (u : Fin 1) (a : Fin 256) (b : Fin 1024) : View.ld x r0_8 (ix3 u a b) = x (ix3 u a b) :=
  View.ld_unit_apply_of x _ _ _ _ _ fun d => match d with
    | ⟨0, _⟩ => (Nat.zero_add _).symm
    | ⟨1, _⟩ => (Nat.zero_add _).symm
    | ⟨2, _⟩ => (Nat.zero_add _).symm

theorem sum_apply (y0 y1 y2 y3 y4 y5 y6 y7 : Vec Ideal S1x256x1024 .bf16) (a : Fin 256) (b : Fin 1024) :
    k0_pay3 y0 y1 y2 y3 y4 y5 y6 y7 (ix2 a b) = y0 (ix3 0 a b) + y1 (ix3 0 a b) + y2 (ix3 0 a b) + y3 (ix3 0 a b) + y4 (ix3 0 a b) + y5 (ix3 0 a b) + y6 (ix3 0 a b) + y7 (ix3 0 a b) := by
  pointwise [k0_pay3]

theorem total_apply (x0 : Vec Ideal S8x256x1024 .bf16) (x1 x2 x3 : Vec Ideal S1x256x1024 .f32) (a : Fin 256) (b : Fin 1024) :
    k0_pay8 x0 x1 x2 x3 (ix2 a b) = total fun j : Fin 8 => x0 (ix3 j a b) := by
  unfold k0_pay8 total
  rw [sum_apply, ld0, ld1, ld2, ld3, ld4, ld5, ld6, ld7, Fin.sum_univ_eight]
  all_goals rfl

theorem grad_pay (g : FVec Ideal S256x1024 .f32) (w m v : Vec Ideal S1x256x1024 .f32) (u : Fin 1) (a : Fin 256) (b : Fin 1024) :
    (k0_pay4 g : Vec Ideal S1x256x1024 .f32) (ix3 u a b) = g (ix2 a b) := by
  pointwise [k0_pay1, k0_pay2, k0_pay3, k0_pay4, k0_pay5, k0_pay6, k0_pay7]

theorem grad_apply (x0 : Vec Ideal S8x256x1024 .bf16) (x1 x2 x3 : Vec Ideal S1x256x1024 .f32) (u : Fin 1) (a : Fin 256) (b : Fin 1024) :
    (k0_pay4 (k0_pay8 x0 x1 x2 x3) : Vec Ideal S1x256x1024 .f32) (ix3 u a b) = (total fun j : Fin 8 => x0 (ix3 j a b)) := by
  refine (grad_pay (k0_pay8 x0 x1 x2 x3) (View.ld x1 r0_8) (View.ld x2 r0_8) (View.ld x3 r0_8) u a b).trans ?_
  rw [total_apply]

theorem delta_pay (g : FVec Ideal S256x1024 .f32) (w m v : Vec Ideal S1x256x1024 .f32) (u : Fin 1) (a : Fin 256) (b : Fin 1024) :
    (k0_pay7 g w m v : Vec Ideal S1x256x1024 .f32) (ix3 u a b) = change (w (ix3 0 a b)) (g (ix2 a b)) (m (ix3 0 a b)) (v (ix3 0 a b)) := by
  unfold change first second
  pointwise [k0_pay1, k0_pay2, k0_pay3, k0_pay4, k0_pay5, k0_pay6, k0_pay7]

theorem delta_apply (x0 : Vec Ideal S8x256x1024 .bf16) (x1 x2 x3 : Vec Ideal S1x256x1024 .f32) (u : Fin 1) (a : Fin 256) (b : Fin 1024) :
    (k0_pay7 (k0_pay8 x0 x1 x2 x3) (View.ld x1 r0_8) (View.ld x2 r0_8) (View.ld x3 r0_8) : Vec Ideal S1x256x1024 .f32) (ix3 u a b) = change (x1 (ix3 0 a b)) (total fun j : Fin 8 => x0 (ix3 j a b)) (x2 (ix3 0 a b)) (x3 (ix3 0 a b)) := by
  refine (delta_pay (k0_pay8 x0 x1 x2 x3) (View.ld x1 r0_8) (View.ld x2 r0_8) (View.ld x3 r0_8) u a b).trans ?_
  rw [total_apply, ld8 x1, ld8 x2, ld8 x3]

theorem mom1_pay (g : FVec Ideal S256x1024 .f32) (w m v : Vec Ideal S1x256x1024 .f32) (u : Fin 1) (a : Fin 256) (b : Fin 1024) :
    (k0_pay1 (k0_pay5 g m) : Vec Ideal S1x256x1024 .f32) (ix3 u a b) = first (g (ix2 a b)) (m (ix3 0 a b)) := by
  unfold first
  pointwise [k0_pay1, k0_pay2, k0_pay3, k0_pay4, k0_pay5, k0_pay6, k0_pay7]

theorem mom1_apply (x0 : Vec Ideal S8x256x1024 .bf16) (x1 x2 x3 : Vec Ideal S1x256x1024 .f32) (u : Fin 1) (a : Fin 256) (b : Fin 1024) :
    (k0_pay1 (k0_pay5 (k0_pay8 x0 x1 x2 x3) (View.ld x2 r0_8)) : Vec Ideal S1x256x1024 .f32) (ix3 u a b) = first (total fun j : Fin 8 => x0 (ix3 j a b)) (x2 (ix3 0 a b)) := by
  refine (mom1_pay (k0_pay8 x0 x1 x2 x3) (View.ld x1 r0_8) (View.ld x2 r0_8) (View.ld x3 r0_8) u a b).trans ?_
  rw [total_apply, ld8 x2]

theorem mom2_pay (g : FVec Ideal S256x1024 .f32) (w m v : Vec Ideal S1x256x1024 .f32) (u : Fin 1) (a : Fin 256) (b : Fin 1024) :
    (k0_pay2 (k0_pay6 g v) : Vec Ideal S1x256x1024 .f32) (ix3 u a b) = second (g (ix2 a b)) (v (ix3 0 a b)) := by
  unfold second
  pointwise [k0_pay1, k0_pay2, k0_pay3, k0_pay4, k0_pay5, k0_pay6, k0_pay7]

theorem mom2_apply (x0 : Vec Ideal S8x256x1024 .bf16) (x1 x2 x3 : Vec Ideal S1x256x1024 .f32) (u : Fin 1) (a : Fin 256) (b : Fin 1024) :
    (k0_pay2 (k0_pay6 (k0_pay8 x0 x1 x2 x3) (View.ld x3 r0_8)) : Vec Ideal S1x256x1024 .f32) (ix3 u a b) = second (total fun j : Fin 8 => x0 (ix3 j a b)) (x3 (ix3 0 a b)) := by
  refine (mom2_pay (k0_pay8 x0 x1 x2 x3) (View.ld x1 r0_8) (View.ld x2 r0_8) (View.ld x3 r0_8) u a b).trans ?_
  rw [total_apply, ld8 x3]

variable (m : (ℓ : Loc nD τ sig) → Buf (Elt Ideal) ℓ) (c : Dev nD)

/-- The gradient, as the array of it that the call leaves. -/
def array0 : Buf (Elt Ideal) ((c : Thread nD τ).loc main_v0_0) := fun y : S1x256x1024.Idx =>
  (total fun j : Fin 8 => (m ((c : Thread nD τ).loc main_arg0)) (ix3 j (y 1) (y 2)))

/-- The weight's change, as the array of it that the call leaves. -/
def array1 : Buf (Elt Ideal) ((c : Thread nD τ).loc main_v0_1) := fun y : S1x256x1024.Idx =>
  change ((m ((c : Thread nD τ).loc main_arg1)) (ix3 (0 : Fin 1) (y 1) (y 2))) (total fun j : Fin 8 => (m ((c : Thread nD τ).loc main_arg0)) (ix3 j (y 1) (y 2))) ((m ((c : Thread nD τ).loc main_arg2)) (ix3 (0 : Fin 1) (y 1) (y 2))) ((m ((c : Thread nD τ).loc main_arg3)) (ix3 (0 : Fin 1) (y 1) (y 2)))

/-- The first moment, as the array of it that the call leaves. -/
def array2 : Buf (Elt Ideal) ((c : Thread nD τ).loc main_v0_2) := fun y : S1x256x1024.Idx =>
  first (total fun j : Fin 8 => (m ((c : Thread nD τ).loc main_arg0)) (ix3 j (y 1) (y 2))) ((m ((c : Thread nD τ).loc main_arg2)) (ix3 (0 : Fin 1) (y 1) (y 2)))

/-- The second moment, as the array of it that the call leaves. -/
def array3 : Buf (Elt Ideal) ((c : Thread nD τ).loc main_v0_3) := fun y : S1x256x1024.Idx =>
  second (total fun j : Fin 8 => (m ((c : Thread nD τ).loc main_arg0)) (ix3 j (y 1) (y 2))) ((m ((c : Thread nD τ).loc main_arg3)) (ix3 (0 : Fin 1) (y 1) (y 2)))

theorem index_eq : ∀ t : Fin cfg0.N, (cfg0.win 0).index t = ![0, t.val, 0] ∧ (cfg0.win 1).index t = ![0, t.val, 0] ∧ (cfg0.win 2).index t = ![0, t.val, 0]
    ∧ (cfg0.win 3).index t = ![0, t.val, 0] ∧ (cfg0.win 4).index t = ![0, t.val, 0] ∧ (cfg0.win 5).index t = ![0, t.val, 0]
    ∧ (cfg0.win 6).index t = ![0, t.val, 0] ∧ (cfg0.win 7).index t = ![0, t.val, 0] := by decide +kernel

/-- Row `a` of block `t`. -/
def row (t : Fin cfg0.N) (a : Fin 256) : Fin 256 := ⟨t.val * 256 + a.val, by have := lt_of_lt_of_eq t.isLt N_0; omega⟩

theorem iblk0 (t : Fin cfg0.N) (j : Fin 8) (a : Fin 256) (b : Fin 1024) :
    iblk m c 0 t (ix3 j a b) = m ((c : Thread nD τ).loc main_arg0) (ix3 j (row t a) b) := by
  blk_ext [iblk, row, (index_eq t).1]

theorem iblk1 (t : Fin cfg0.N) (u : Fin 1) (a : Fin 256) (b : Fin 1024) :
    iblk m c 1 t (ix3 u a b) = m ((c : Thread nD τ).loc main_arg1) (ix3 u (row t a) b) := by
  blk_ext [iblk, row, (index_eq t).2.1]

theorem iblk2 (t : Fin cfg0.N) (u : Fin 1) (a : Fin 256) (b : Fin 1024) :
    iblk m c 2 t (ix3 u a b) = m ((c : Thread nD τ).loc main_arg2) (ix3 u (row t a) b) := by
  blk_ext [iblk, row, (index_eq t).2.2.1]

theorem iblk3 (t : Fin cfg0.N) (u : Fin 1) (a : Fin 256) (b : Fin 1024) :
    iblk m c 3 t (ix3 u a b) = m ((c : Thread nD τ).loc main_arg3) (ix3 u (row t a) b) := by
  blk_ext [iblk, row, (index_eq t).2.2.2.1]

theorem offset_zero : (![0, 0, 0] : Fin 3 → Nat) = fun _ => 0 := funext fun a => by fin_cases a <;> rfl

theorem grad_out (x0 : Vec Ideal S8x256x1024 .bf16) (x1 x2 x3 : Vec Ideal S1x256x1024 .f32) : out0_4 x0 x1 x2 x3 = k0_pay4 (k0_pay8 x0 x1 x2 x3) := by
  unfold out0_4
  rw [View.canon_unit_zero offset_zero]

theorem delta_out (x0 : Vec Ideal S8x256x1024 .bf16) (x1 x2 x3 : Vec Ideal S1x256x1024 .f32) : out0_5 x0 x1 x2 x3 = k0_pay7 (k0_pay8 x0 x1 x2 x3) (View.ld x1 r0_8) (View.ld x2 r0_8) (View.ld x3 r0_8) := by
  unfold out0_5
  rw [View.canon_unit_zero offset_zero]

theorem mom1_out (x0 : Vec Ideal S8x256x1024 .bf16) (x1 x2 x3 : Vec Ideal S1x256x1024 .f32) : out0_6 x0 x1 x2 x3 = k0_pay1 (k0_pay5 (k0_pay8 x0 x1 x2 x3) (View.ld x2 r0_8)) := by
  unfold out0_6
  rw [View.canon_unit_zero offset_zero]

theorem mom2_out (x0 : Vec Ideal S8x256x1024 .bf16) (x1 x2 x3 : Vec Ideal S1x256x1024 .f32) : out0_7 x0 x1 x2 x3 = k0_pay2 (k0_pay6 (k0_pay8 x0 x1 x2 x3) (View.ld x3 r0_8)) := by
  unfold out0_7
  rw [View.canon_unit_zero offset_zero]

theorem final0 : (dats m 0 c).arrAt 4 cfg0.N = array0 m c := by
  refine (dats m 0 c).arrAt_eq_of_covers 4 _ (by decide +kernel) fun t hf y => ?_
  blk_simp
  rw [after0_4, grad_out]
  idx_vars y
  refine (grad_apply (iblk m c 0 t) (iblk m c 1 t) (iblk m c 2 t) (iblk m c 3 t) y0 y1 y2).trans ?_
  refine (show _ = array0 m c (ix3 (0 : Fin 1) (row t y1) y2) from ?_).trans (congrArg (array0 m c) (funext fun d => Fin.ext ?_))
  · unfold array0
    simp only [iblk0]
    rfl
  · match d with
    | ⟨0, _⟩ => blk_simp [(index_eq t).2.2.2.2.1]; omega
    | ⟨1, _⟩ => blk_simp [row, (index_eq t).2.2.2.2.1]
    | ⟨2, _⟩ => blk_simp [(index_eq t).2.2.2.2.1]

theorem final1 : (dats m 0 c).arrAt 5 cfg0.N = array1 m c := by
  refine (dats m 0 c).arrAt_eq_of_covers 5 _ (by decide +kernel) fun t hf y => ?_
  blk_simp
  rw [after0_5, delta_out]
  idx_vars y
  refine (delta_apply (iblk m c 0 t) (iblk m c 1 t) (iblk m c 2 t) (iblk m c 3 t) y0 y1 y2).trans ?_
  refine (show _ = array1 m c (ix3 (0 : Fin 1) (row t y1) y2) from ?_).trans (congrArg (array1 m c) (funext fun d => Fin.ext ?_))
  · unfold array1
    simp only [iblk0, iblk1, iblk2, iblk3]
    rfl
  · match d with
    | ⟨0, _⟩ => blk_simp [(index_eq t).2.2.2.2.2.1]; omega
    | ⟨1, _⟩ => blk_simp [row, (index_eq t).2.2.2.2.2.1]
    | ⟨2, _⟩ => blk_simp [(index_eq t).2.2.2.2.2.1]

theorem final2 : (dats m 0 c).arrAt 6 cfg0.N = array2 m c := by
  refine (dats m 0 c).arrAt_eq_of_covers 6 _ (by decide +kernel) fun t hf y => ?_
  blk_simp
  rw [after0_6, mom1_out]
  idx_vars y
  refine (mom1_apply (iblk m c 0 t) (iblk m c 1 t) (iblk m c 2 t) (iblk m c 3 t) y0 y1 y2).trans ?_
  refine (show _ = array2 m c (ix3 (0 : Fin 1) (row t y1) y2) from ?_).trans (congrArg (array2 m c) (funext fun d => Fin.ext ?_))
  · unfold array2
    simp only [iblk0, iblk2]
    rfl
  · match d with
    | ⟨0, _⟩ => blk_simp [(index_eq t).2.2.2.2.2.2.1]; omega
    | ⟨1, _⟩ => blk_simp [row, (index_eq t).2.2.2.2.2.2.1]
    | ⟨2, _⟩ => blk_simp [(index_eq t).2.2.2.2.2.2.1]

theorem final3 : (dats m 0 c).arrAt 7 cfg0.N = array3 m c := by
  refine (dats m 0 c).arrAt_eq_of_covers 7 _ (by decide +kernel) fun t hf y => ?_
  blk_simp
  rw [after0_7, mom2_out]
  idx_vars y
  refine (mom2_apply (iblk m c 0 t) (iblk m c 1 t) (iblk m c 2 t) (iblk m c 3 t) y0 y1 y2).trans ?_
  refine (show _ = array3 m c (ix3 (0 : Fin 1) (row t y1) y2) from ?_).trans (congrArg (array3 m c) (funext fun d => Fin.ext ?_))
  · unfold array3
    simp only [iblk0, iblk3]
    rfl
  · match d with
    | ⟨0, _⟩ => blk_simp [(index_eq t).2.2.2.2.2.2.2]; omega
    | ⟨1, _⟩ => blk_simp [row, (index_eq t).2.2.2.2.2.2.2]
    | ⟨2, _⟩ => blk_simp [(index_eq t).2.2.2.2.2.2.2]

theorem ref_grad (x0 : Vec Ideal S8x256x1024 .bf16) (u : Fin 1) (a : Fin 256) (b : Fin 1024) : Cert.Reference14Ideal.Read.val_main_v2 (F := Ideal) x0 (ix3 u a b) = (total fun j : Fin 8 => x0 (ix3 j a b)) := by
  unfold total
  pointwise [Cert.Reference14Ideal.Read.val_main_v2, Cert.Reference14Ideal.Read.val_main_v1, Cert.Reference14Ideal.Read.val_main_v0, Cert.Reference14Ideal.Read.val_main_cst]
  all_goals first | exact (congrArg (· + _) (Ideal.ofBits_zero _ _)).trans (zero_add _) | skip

theorem ref_delta (x0 : Vec Ideal S8x256x1024 .bf16) (x1 x2 x3 : Vec Ideal S1x256x1024 .f32) (u : Fin 1) (a : Fin 256) (b : Fin 1024) :
    Cert.Reference14Ideal.Read.val_main_v26 (F := Ideal) x0 x1 x2 x3 (ix3 u a b) = change (x1 (ix3 u a b)) (total fun j : Fin 8 => x0 (ix3 j a b)) (x2 (ix3 u a b)) (x3 (ix3 u a b)) := by
  rw [← ref_grad x0 u a b]
  unfold change first second
  pointwise [Cert.Reference14Ideal.Read.val_main_v26, Cert.Reference14Ideal.Read.val_main_v25, Cert.Reference14Ideal.Read.val_main_v24, Cert.Reference14Ideal.Read.val_main_v23, Cert.Reference14Ideal.Read.val_main_v22, Cert.Reference14Ideal.Read.val_main_v21, Cert.Reference14Ideal.Read.val_main_v20, Cert.Reference14Ideal.Read.val_main_v19, Cert.Reference14Ideal.Read.val_main_v18, Cert.Reference14Ideal.Read.val_main_v17, Cert.Reference14Ideal.Read.val_main_v16, Cert.Reference14Ideal.Read.val_main_v15, Cert.Reference14Ideal.Read.val_main_v14, Cert.Reference14Ideal.Read.val_main_v13, Cert.Reference14Ideal.Read.val_main_v12, Cert.Reference14Ideal.Read.val_main_v11, Cert.Reference14Ideal.Read.val_main_v10, Cert.Reference14Ideal.Read.val_main_v9, Cert.Reference14Ideal.Read.val_main_v8, Cert.Reference14Ideal.Read.val_main_v7, Cert.Reference14Ideal.Read.val_main_v6, Cert.Reference14Ideal.Read.val_main_v5, Cert.Reference14Ideal.Read.val_main_v4, Cert.Reference14Ideal.Read.val_main_v3, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7, Cert.Reference14Ideal.Read.val_main_cst_8]

theorem ref_mom1 (x0 : Vec Ideal S8x256x1024 .bf16) (x2 : Vec Ideal S1x256x1024 .f32) (u : Fin 1) (a : Fin 256) (b : Fin 1024) :
    Cert.Reference14Ideal.Read.val_main_v7 (F := Ideal) x0 x2 (ix3 u a b) = first (total fun j : Fin 8 => x0 (ix3 j a b)) (x2 (ix3 u a b)) := by
  rw [← ref_grad x0 u a b]
  unfold first
  pointwise [Cert.Reference14Ideal.Read.val_main_v7, Cert.Reference14Ideal.Read.val_main_v6, Cert.Reference14Ideal.Read.val_main_v5, Cert.Reference14Ideal.Read.val_main_v4, Cert.Reference14Ideal.Read.val_main_v3, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7, Cert.Reference14Ideal.Read.val_main_cst_8]

theorem ref_mom2 (x0 : Vec Ideal S8x256x1024 .bf16) (x3 : Vec Ideal S1x256x1024 .f32) (u : Fin 1) (a : Fin 256) (b : Fin 1024) :
    Cert.Reference14Ideal.Read.val_main_v13 (F := Ideal) x0 x3 (ix3 u a b) = second (total fun j : Fin 8 => x0 (ix3 j a b)) (x3 (ix3 u a b)) := by
  rw [← ref_grad x0 u a b]
  unfold second
  pointwise [Cert.Reference14Ideal.Read.val_main_v13, Cert.Reference14Ideal.Read.val_main_v12, Cert.Reference14Ideal.Read.val_main_v11, Cert.Reference14Ideal.Read.val_main_v10, Cert.Reference14Ideal.Read.val_main_v9, Cert.Reference14Ideal.Read.val_main_v8, Cert.Reference14Ideal.Read.val_main_v7, Cert.Reference14Ideal.Read.val_main_v6, Cert.Reference14Ideal.Read.val_main_v5, Cert.Reference14Ideal.Read.val_main_v4, Cert.Reference14Ideal.Read.val_main_v3, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7, Cert.Reference14Ideal.Read.val_main_cst_8]

/-- From equal arguments the idealized call and the reference end with equal arrays, their arguments unchanged. -/
theorem algebraic : Cert.algebraic_Kernel14Ideal_Reference14Ideal := by
  intro m g m' g' _ ha
  refine ⟨array0 m, array1 m, array2 m, array3 m, (θ_run Cert.Kernel14Ideal.defs _ _).mono (fun r hr c => ?_) (Cert.Kernel14Ideal.Value.run_blocks m g),
    (θ_run Cert.Reference14Ideal.defs _ _).mono (fun r hr c => ?_) (Cert.Reference14Ideal.Value.run m' g')⟩
  · obtain ⟨h0, h1, h2, h3, hr⟩ := hr c
    exact ⟨h0.trans (final0 m c), h1.trans (final1 m c), h2.trans (final2 m c), h3.trans (final3 m c), hr⟩
  · obtain ⟨a0, a1, a2, a3⟩ := ha c
    obtain ⟨h0, h1, h2, h3, hr⟩ := hr c
    refine ⟨h0.trans ((Cert.Reference14Ideal.Read.val_main_v2_eq _).trans ?_), h1.trans ((Cert.Reference14Ideal.Read.val_main_v26_eq _ _ _ _).trans ?_),
      h2.trans ((Cert.Reference14Ideal.Read.val_main_v7_eq _ _).trans ?_), h3.trans ((Cert.Reference14Ideal.Read.val_main_v13_eq _ _).trans ?_), hr⟩
    · rw [a0]
      funext y
      idx_vars y
      obtain rfl : y0 = 0 := Subsingleton.elim _ _
      exact ref_grad _ 0 _ _
    · rw [a0, a1, a2, a3]
      funext y
      idx_vars y
      obtain rfl : y0 = 0 := Subsingleton.elim _ _
      exact ref_delta _ _ _ _ 0 _ _
    · rw [a0, a2]
      funext y
      idx_vars y
      obtain rfl : y0 = 0 := Subsingleton.elim _ _
      exact ref_mom1 _ _ 0 _ _
    · rw [a0, a3]
      funext y
      idx_vars y
      obtain rfl : y0 = 0 := Subsingleton.elim _ _
      exact ref_mom2 _ _ 0 _ _

end Cert.Proof.Kernel14Ideal

end
-- ==== Proof.Kernel15Ideal.Update.lean ====
/-
  The optimiser's step for the query up-projection: the gradient is the sum of the devices' derivatives, and the change of the weight and
  the two moments are each element's step of it, as in the reference.
-/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Step
public import Idealize.ShloMosaic.Lib.Pipeline.ValueKit
public import Idealize.ShloMosaic.Lib.Pointwise

@[expose] public section

set_option maxRecDepth 16384

noncomputable section

namespace Cert.Proof.Kernel15Ideal

open Cert.Kernel15Ideal Cert.Kernel15Ideal.Gen
open Cert.Proof.Step
open Idealize.ShloMosaic Idealize.ShloMosaic.TcCoe Idealize.ShloMosaic.Tactic Idealize.SL.Sem

/-- The gradient at an element: the sum of the devices' derivatives there. -/
def total {n : Nat} (p : Fin n → EReal) : EReal := ∑ j, p j

theorem ld0 (x : Vec Ideal S8x32x16x192 .bf16) (u : Fin 1) (a : Fin 32) (b : Fin 16) (c : Fin 192) : View.ld x r0_0 (ix4 u a b c) = x (ix4 (0 : Fin 8) a b c) :=
  View.ld_unit_apply_of x _ _ _ _ _ fun d => match d with
    | ⟨0, _⟩ => by show 0 = 0 + u.val; omega
    | ⟨1, _⟩ => (Nat.zero_add _).symm
    | ⟨2, _⟩ => (Nat.zero_add _).symm
    | ⟨3, _⟩ => (Nat.zero_add _).symm

theorem ld1 (x : Vec Ideal S8x32x16x192 .bf16) (u : Fin 1) (a : Fin 32) (b : Fin 16) (c : Fin 192) : View.ld x r0_1 (ix4 u a b c) = x (ix4 (1 : Fin 8) a b c) :=
  View.ld_unit_apply_of x _ _ _ _ _ fun d => match d with
    | ⟨0, _⟩ => by show 1 = 1 + u.val; omega
    | ⟨1, _⟩ => (Nat.zero_add _).symm
    | ⟨2, _⟩ => (Nat.zero_add _).symm
    | ⟨3, _⟩ => (Nat.zero_add _).symm

theorem ld2 (x : Vec Ideal S8x32x16x192 .bf16) (u : Fin 1) (a : Fin 32) (b : Fin 16) (c : Fin 192) : View.ld x r0_2 (ix4 u a b c) = x (ix4 (2 : Fin 8) a b c) :=
  View.ld_unit_apply_of x _ _ _ _ _ fun d => match d with
    | ⟨0, _⟩ => by show 2 = 2 + u.val; omega
    | ⟨1, _⟩ => (Nat.zero_add _).symm
    | ⟨2, _⟩ => (Nat.zero_add _).symm
    | ⟨3, _⟩ => (Nat.zero_add _).symm

theorem ld3 (x : Vec Ideal S8x32x16x192 .bf16) (u : Fin 1) (a : Fin 32) (b : Fin 16) (c : Fin 192) : View.ld x r0_3 (ix4 u a b c) = x (ix4 (3 : Fin 8) a b c) :=
  View.ld_unit_apply_of x _ _ _ _ _ fun d => match d with
    | ⟨0, _⟩ => by show 3 = 3 + u.val; omega
    | ⟨1, _⟩ => (Nat.zero_add _).symm
    | ⟨2, _⟩ => (Nat.zero_add _).symm
    | ⟨3, _⟩ => (Nat.zero_add _).symm

theorem ld4 (x : Vec Ideal S8x32x16x192 .bf16) (u : Fin 1) (a : Fin 32) (b : Fin 16) (c : Fin 192) : View.ld x r0_4 (ix4 u a b c) = x (ix4 (4 : Fin 8) a b c) :=
  View.ld_unit_apply_of x _ _ _ _ _ fun d => match d with
    | ⟨0, _⟩ => by show 4 = 4 + u.val; omega
    | ⟨1, _⟩ => (Nat.zero_add _).symm
    | ⟨2, _⟩ => (Nat.zero_add _).symm
    | ⟨3, _⟩ => (Nat.zero_add _).symm

theorem ld5 (x : Vec Ideal S8x32x16x192 .bf16) (u : Fin 1) (a : Fin 32) (b : Fin 16) (c : Fin 192) : View.ld x r0_5 (ix4 u a b c) = x (ix4 (5 : Fin 8) a b c) :=
  View.ld_unit_apply_of x _ _ _ _ _ fun d => match d with
    | ⟨0, _⟩ => by show 5 = 5 + u.val; omega
    | ⟨1, _⟩ => (Nat.zero_add _).symm
    | ⟨2, _⟩ => (Nat.zero_add _).symm
    | ⟨3, _⟩ => (Nat.zero_add _).symm

theorem ld6 (x : Vec Ideal S8x32x16x192 .bf16) (u : Fin 1) (a : Fin 32) (b : Fin 16) (c : Fin 192) : View.ld x r0_6 (ix4 u a b c) = x (ix4 (6 : Fin 8) a b c) :=
  View.ld_unit_apply_of x _ _ _ _ _ fun d => match d with
    | ⟨0, _⟩ => by show 6 = 6 + u.val; omega
    | ⟨1, _⟩ => (Nat.zero_add _).symm
    | ⟨2, _⟩ => (Nat.zero_add _).symm
    | ⟨3, _⟩ => (Nat.zero_add _).symm

theorem ld7 (x : Vec Ideal S8x32x16x192 .bf16) (u : Fin 1) (a : Fin 32) (b : Fin 16) (c : Fin 192) : View.ld x r0_7 (ix4 u a b c) = x (ix4 (7 : Fin 8) a b c) :=
  View.ld_unit_apply_of x _ _ _ _ _ fun d => match d with
    | ⟨0, _⟩ => by show 7 = 7 + u.val; omega
    | ⟨1, _⟩ => (Nat.zero_add _).symm
    | ⟨2, _⟩ => (Nat.zero_add _).symm
    | ⟨3, _⟩ => (Nat.zero_add _).symm

theorem sum_apply (y0 y1 y2 y3 y4 y5 y6 y7 : Vec Ideal S1x32x16x192 .bf16) (u : Fin 1) (a : Fin 32) (b : Fin 16) (c : Fin 192) :
    k0_pay1 y0 y1 y2 y3 y4 y5 y6 y7 (ix4 u a b c) = y0 (ix4 u a b c) + y1 (ix4 u a b c) + y2 (ix4 u a b c) + y3 (ix4 u a b c) + y4 (ix4 u a b c) + y5 (ix4 u a b c) + y6 (ix4 u a b c) + y7 (ix4 u a b c) := by
  pointwise [k0_pay1]

theorem total_apply (x0 : Vec Ideal S8x32x16x192 .bf16) (x1 x2 x3 : Vec Ideal S1x32x16x192 .f32) (u : Fin 1) (a : Fin 32) (b : Fin 16) (c : Fin 192) :
    k0_pay5 x0 x1 x2 x3 (ix4 u a b c) = total fun j : Fin 8 => x0 (ix4 j a b c) := by
  unfold k0_pay5 total
  rw [sum_apply, ld0, ld1, ld2, ld3, ld4, ld5, ld6, ld7, Fin.sum_univ_eight]
  all_goals rfl

theorem delta_pay (g : FVec Ideal S1x32x16x192 .f32) (w m v : Vec Ideal S1x32x16x192 .f32) (u : Fin 1) (a : Fin 32) (b : Fin 16) (c : Fin 192) :
    (k0_pay4 g w m v : Vec Ideal S1x32x16x192 .f32) (ix4 u a b c) = change (w (ix4 u a b c)) (g (ix4 u a b c)) (m (ix4 u a b c)) (v (ix4 u a b c)) := by
  unfold change first second
  pointwise [k0_pay1, k0_pay2, k0_pay3, k0_pay4]

theorem delta_apply (x0 : Vec Ideal S8x32x16x192 .bf16) (x1 x2 x3 : Vec Ideal S1x32x16x192 .f32) (u : Fin 1) (a : Fin 32) (b : Fin 16) (c : Fin 192) :
    (k0_pay4 (k0_pay5 x0 x1 x2 x3) x1 x2 x3 : Vec Ideal S1x32x16x192 .f32) (ix4 u a b c) = change (x1 (ix4 u a b c)) (total fun j : Fin 8 => x0 (ix4 j a b c)) (x2 (ix4 u a b c)) (x3 (ix4 u a b c)) := by
  rw [delta_pay (w := x1) (m := x2) (v := x3), total_apply]

theorem mom1_pay (g : FVec Ideal S1x32x16x192 .f32) (w m v : Vec Ideal S1x32x16x192 .f32) (u : Fin 1) (a : Fin 32) (b : Fin 16) (c : Fin 192) :
    (k0_pay2 g m : Vec Ideal S1x32x16x192 .f32) (ix4 u a b c) = first (g (ix4 u a b c)) (m (ix4 u a b c)) := by
  unfold first
  pointwise [k0_pay1, k0_pay2, k0_pay3, k0_pay4]

theorem mom1_apply (x0 : Vec Ideal S8x32x16x192 .bf16) (x1 x2 x3 : Vec Ideal S1x32x16x192 .f32) (u : Fin 1) (a : Fin 32) (b : Fin 16) (c : Fin 192) :
    (k0_pay2 (k0_pay5 x0 x1 x2 x3) x2 : Vec Ideal S1x32x16x192 .f32) (ix4 u a b c) = first (total fun j : Fin 8 => x0 (ix4 j a b c)) (x2 (ix4 u a b c)) := by
  rw [mom1_pay (w := x1) (m := x2) (v := x3), total_apply]

theorem mom2_pay (g : FVec Ideal S1x32x16x192 .f32) (w m v : Vec Ideal S1x32x16x192 .f32) (u : Fin 1) (a : Fin 32) (b : Fin 16) (c : Fin 192) :
    (k0_pay3 g v : Vec Ideal S1x32x16x192 .f32) (ix4 u a b c) = second (g (ix4 u a b c)) (v (ix4 u a b c)) := by
  unfold second
  pointwise [k0_pay1, k0_pay2, k0_pay3, k0_pay4]

theorem mom2_apply (x0 : Vec Ideal S8x32x16x192 .bf16) (x1 x2 x3 : Vec Ideal S1x32x16x192 .f32) (u : Fin 1) (a : Fin 32) (b : Fin 16) (c : Fin 192) :
    (k0_pay3 (k0_pay5 x0 x1 x2 x3) x3 : Vec Ideal S1x32x16x192 .f32) (ix4 u a b c) = second (total fun j : Fin 8 => x0 (ix4 j a b c)) (x3 (ix4 u a b c)) := by
  rw [mom2_pay (w := x1) (m := x2) (v := x3), total_apply]

variable (m : (ℓ : Loc nD τ sig) → Buf (Elt Ideal) ℓ) (c : Dev nD)

/-- The gradient, as the array of it that the call leaves. -/
def array0 : Buf (Elt Ideal) ((c : Thread nD τ).loc main_v0_0) := fun y : S1x32x16x192.Idx =>
  (total fun j : Fin 8 => (m ((c : Thread nD τ).loc main_arg0)) (ix4 j (y 1) (y 2) (y 3)))

/-- The weight's change, as the array of it that the call leaves. -/
def array1 : Buf (Elt Ideal) ((c : Thread nD τ).loc main_v0_1) := fun y : S1x32x16x192.Idx =>
  change ((m ((c : Thread nD τ).loc main_arg1)) (ix4 (0 : Fin 1) (y 1) (y 2) (y 3))) (total fun j : Fin 8 => (m ((c : Thread nD τ).loc main_arg0)) (ix4 j (y 1) (y 2) (y 3))) ((m ((c : Thread nD τ).loc main_arg2)) (ix4 (0 : Fin 1) (y 1) (y 2) (y 3))) ((m ((c : Thread nD τ).loc main_arg3)) (ix4 (0 : Fin 1) (y 1) (y 2) (y 3)))

/-- The first moment, as the array of it that the call leaves. -/
def array2 : Buf (Elt Ideal) ((c : Thread nD τ).loc main_v0_2) := fun y : S1x32x16x192.Idx =>
  first (total fun j : Fin 8 => (m ((c : Thread nD τ).loc main_arg0)) (ix4 j (y 1) (y 2) (y 3))) ((m ((c : Thread nD τ).loc main_arg2)) (ix4 (0 : Fin 1) (y 1) (y 2) (y 3)))

/-- The second moment, as the array of it that the call leaves. -/
def array3 : Buf (Elt Ideal) ((c : Thread nD τ).loc main_v0_3) := fun y : S1x32x16x192.Idx =>
  second (total fun j : Fin 8 => (m ((c : Thread nD τ).loc main_arg0)) (ix4 j (y 1) (y 2) (y 3))) ((m ((c : Thread nD τ).loc main_arg3)) (ix4 (0 : Fin 1) (y 1) (y 2) (y 3)))

theorem ref_grad (x0 : Vec Ideal S8x32x16x192 .bf16) (u : Fin 1) (a : Fin 32) (b : Fin 16) (c : Fin 192) : Cert.Reference15Ideal.Read.val_main_v2 (F := Ideal) x0 (ix4 u a b c) = (total fun j : Fin 8 => x0 (ix4 j a b c)) := by
  unfold total
  pointwise [Cert.Reference15Ideal.Read.val_main_v2, Cert.Reference15Ideal.Read.val_main_v1, Cert.Reference15Ideal.Read.val_main_v0, Cert.Reference15Ideal.Read.val_main_cst]
  all_goals first | exact (congrArg (· + _) (Ideal.ofBits_zero _ _)).trans (zero_add _) | skip

theorem ref_delta (x0 : Vec Ideal S8x32x16x192 .bf16) (x1 x2 x3 : Vec Ideal S1x32x16x192 .f32) (u : Fin 1) (a : Fin 32) (b : Fin 16) (c : Fin 192) :
    Cert.Reference15Ideal.Read.val_main_v26 (F := Ideal) x0 x1 x2 x3 (ix4 u a b c) = change (x1 (ix4 u a b c)) (total fun j : Fin 8 => x0 (ix4 j a b c)) (x2 (ix4 u a b c)) (x3 (ix4 u a b c)) := by
  rw [← ref_grad x0 u a b c]
  unfold change first second
  pointwise [Cert.Reference15Ideal.Read.val_main_v26, Cert.Reference15Ideal.Read.val_main_v25, Cert.Reference15Ideal.Read.val_main_v24, Cert.Reference15Ideal.Read.val_main_v23, Cert.Reference15Ideal.Read.val_main_v22, Cert.Reference15Ideal.Read.val_main_v21, Cert.Reference15Ideal.Read.val_main_v20, Cert.Reference15Ideal.Read.val_main_v19, Cert.Reference15Ideal.Read.val_main_v18, Cert.Reference15Ideal.Read.val_main_v17, Cert.Reference15Ideal.Read.val_main_v16, Cert.Reference15Ideal.Read.val_main_v15, Cert.Reference15Ideal.Read.val_main_v14, Cert.Reference15Ideal.Read.val_main_v13, Cert.Reference15Ideal.Read.val_main_v12, Cert.Reference15Ideal.Read.val_main_v11, Cert.Reference15Ideal.Read.val_main_v10, Cert.Reference15Ideal.Read.val_main_v9, Cert.Reference15Ideal.Read.val_main_v8, Cert.Reference15Ideal.Read.val_main_v7, Cert.Reference15Ideal.Read.val_main_v6, Cert.Reference15Ideal.Read.val_main_v5, Cert.Reference15Ideal.Read.val_main_v4, Cert.Reference15Ideal.Read.val_main_v3, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7, Cert.Reference15Ideal.Read.val_main_cst_8]

theorem ref_mom1 (x0 : Vec Ideal S8x32x16x192 .bf16) (x2 : Vec Ideal S1x32x16x192 .f32) (u : Fin 1) (a : Fin 32) (b : Fin 16) (c : Fin 192) :
    Cert.Reference15Ideal.Read.val_main_v7 (F := Ideal) x0 x2 (ix4 u a b c) = first (total fun j : Fin 8 => x0 (ix4 j a b c)) (x2 (ix4 u a b c)) := by
  rw [← ref_grad x0 u a b c]
  unfold first
  pointwise [Cert.Reference15Ideal.Read.val_main_v7, Cert.Reference15Ideal.Read.val_main_v6, Cert.Reference15Ideal.Read.val_main_v5, Cert.Reference15Ideal.Read.val_main_v4, Cert.Reference15Ideal.Read.val_main_v3, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7, Cert.Reference15Ideal.Read.val_main_cst_8]

theorem ref_mom2 (x0 : Vec Ideal S8x32x16x192 .bf16) (x3 : Vec Ideal S1x32x16x192 .f32) (u : Fin 1) (a : Fin 32) (b : Fin 16) (c : Fin 192) :
    Cert.Reference15Ideal.Read.val_main_v13 (F := Ideal) x0 x3 (ix4 u a b c) = second (total fun j : Fin 8 => x0 (ix4 j a b c)) (x3 (ix4 u a b c)) := by
  rw [← ref_grad x0 u a b c]
  unfold second
  pointwise [Cert.Reference15Ideal.Read.val_main_v13, Cert.Reference15Ideal.Read.val_main_v12, Cert.Reference15Ideal.Read.val_main_v11, Cert.Reference15Ideal.Read.val_main_v10, Cert.Reference15Ideal.Read.val_main_v9, Cert.Reference15Ideal.Read.val_main_v8, Cert.Reference15Ideal.Read.val_main_v7, Cert.Reference15Ideal.Read.val_main_v6, Cert.Reference15Ideal.Read.val_main_v5, Cert.Reference15Ideal.Read.val_main_v4, Cert.Reference15Ideal.Read.val_main_v3, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7, Cert.Reference15Ideal.Read.val_main_cst_8]

theorem final0 : Cert.Kernel15Ideal.Value.G4 (m ((c : Thread nD τ).loc main_arg0)) (m ((c : Thread nD τ).loc main_arg1)) (m ((c : Thread nD τ).loc main_arg2)) (m ((c : Thread nD τ).loc main_arg3)) = array0 m c := by
  funext y
  idx_vars y
  obtain rfl : y0 = 0 := Subsingleton.elim _ _
  exact total_apply _ _ _ _ 0 y1 y2 y3

theorem final1 : Cert.Kernel15Ideal.Value.G5 (m ((c : Thread nD τ).loc main_arg0)) (m ((c : Thread nD τ).loc main_arg1)) (m ((c : Thread nD τ).loc main_arg2)) (m ((c : Thread nD τ).loc main_arg3)) = array1 m c := by
  funext y
  idx_vars y
  obtain rfl : y0 = 0 := Subsingleton.elim _ _
  exact delta_apply _ _ _ _ 0 y1 y2 y3

theorem final2 : Cert.Kernel15Ideal.Value.G6 (m ((c : Thread nD τ).loc main_arg0)) (m ((c : Thread nD τ).loc main_arg1)) (m ((c : Thread nD τ).loc main_arg2)) (m ((c : Thread nD τ).loc main_arg3)) = array2 m c := by
  funext y
  idx_vars y
  obtain rfl : y0 = 0 := Subsingleton.elim _ _
  exact mom1_apply _ _ _ _ 0 y1 y2 y3

theorem final3 : Cert.Kernel15Ideal.Value.G7 (m ((c : Thread nD τ).loc main_arg0)) (m ((c : Thread nD τ).loc main_arg1)) (m ((c : Thread nD τ).loc main_arg2)) (m ((c : Thread nD τ).loc main_arg3)) = array3 m c := by
  funext y
  idx_vars y
  obtain rfl : y0 = 0 := Subsingleton.elim _ _
  exact mom2_apply _ _ _ _ 0 y1 y2 y3

/-- From equal arguments the idealized call and the reference end with equal arrays, their arguments unchanged. -/
theorem algebraic : Cert.algebraic_Kernel15Ideal_Reference15Ideal := by
  intro m g m' g' _ ha
  refine ⟨array0 m, array1 m, array2 m, array3 m, (θ_run Cert.Kernel15Ideal.defs _ _).mono (fun r hr c => ?_) (Cert.Kernel15Ideal.Value.run m g),
    (θ_run Cert.Reference15Ideal.defs _ _).mono (fun r hr c => ?_) (Cert.Reference15Ideal.Value.run m' g')⟩
  · obtain ⟨h0, h1, h2, h3, hr⟩ := hr c
    exact ⟨h0.trans (final0 m c), h1.trans (final1 m c), h2.trans (final2 m c), h3.trans (final3 m c), hr⟩
  · obtain ⟨a0, a1, a2, a3⟩ := ha c
    obtain ⟨h0, h1, h2, h3, hr⟩ := hr c
    refine ⟨h0.trans ((Cert.Reference15Ideal.Read.val_main_v2_eq _).trans ?_), h1.trans ((Cert.Reference15Ideal.Read.val_main_v26_eq _ _ _ _).trans ?_),
      h2.trans ((Cert.Reference15Ideal.Read.val_main_v7_eq _ _).trans ?_), h3.trans ((Cert.Reference15Ideal.Read.val_main_v13_eq _ _).trans ?_), hr⟩
    · rw [a0]
      funext y
      idx_vars y
      obtain rfl : y0 = 0 := Subsingleton.elim _ _
      exact ref_grad _ 0 _ _ _
    · rw [a0, a1, a2, a3]
      funext y
      idx_vars y
      obtain rfl : y0 = 0 := Subsingleton.elim _ _
      exact ref_delta _ _ _ _ 0 _ _ _
    · rw [a0, a2]
      funext y
      idx_vars y
      obtain rfl : y0 = 0 := Subsingleton.elim _ _
      exact ref_mom1 _ _ 0 _ _ _
    · rw [a0, a3]
      funext y
      idx_vars y
      obtain rfl : y0 = 0 := Subsingleton.elim _ _
      exact ref_mom2 _ _ 0 _ _ _

end Cert.Proof.Kernel15Ideal

end
-- ==== Proof.Kernel16Ideal.Update.lean ====
/-
  The optimiser's step for the pooling weights: the gradient is the sum of the devices' derivatives, and the change of the weight and
  the two moments are each element's step of it, as in the reference.
-/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Step
public import Idealize.ShloMosaic.Lib.Pipeline.ValueKit
public import Idealize.ShloMosaic.Lib.Pointwise

@[expose] public section

set_option maxRecDepth 16384

noncomputable section

namespace Cert.Proof.Kernel16Ideal

open Cert.Kernel16Ideal Cert.Kernel16Ideal.Gen
open Cert.Proof.Step
open Idealize.ShloMosaic Idealize.ShloMosaic.TcCoe Idealize.ShloMosaic.Tactic Idealize.SL.Sem

/-- The gradient at an element: the sum of the devices' derivatives there. -/
def total {n : Nat} (p : Fin n → EReal) : EReal := ∑ j, p j

theorem ld0 (x : Vec Ideal S8x4x32x256 .f32) (u : Fin 1) (a : Fin 4) (b : Fin 32) (c : Fin 256) : View.ld x r0_0 (ix4 u a b c) = x (ix4 (0 : Fin 8) a b c) :=
  View.ld_unit_apply_of x _ _ _ _ _ fun d => match d with
    | ⟨0, _⟩ => by show 0 = 0 + u.val; omega
    | ⟨1, _⟩ => (Nat.zero_add _).symm
    | ⟨2, _⟩ => (Nat.zero_add _).symm
    | ⟨3, _⟩ => (Nat.zero_add _).symm

theorem ld1 (x : Vec Ideal S8x4x32x256 .f32) (u : Fin 1) (a : Fin 4) (b : Fin 32) (c : Fin 256) : View.ld x r0_1 (ix4 u a b c) = x (ix4 (1 : Fin 8) a b c) :=
  View.ld_unit_apply_of x _ _ _ _ _ fun d => match d with
    | ⟨0, _⟩ => by show 1 = 1 + u.val; omega
    | ⟨1, _⟩ => (Nat.zero_add _).symm
    | ⟨2, _⟩ => (Nat.zero_add _).symm
    | ⟨3, _⟩ => (Nat.zero_add _).symm

theorem ld2 (x : Vec Ideal S8x4x32x256 .f32) (u : Fin 1) (a : Fin 4) (b : Fin 32) (c : Fin 256) : View.ld x r0_2 (ix4 u a b c) = x (ix4 (2 : Fin 8) a b c) :=
  View.ld_unit_apply_of x _ _ _ _ _ fun d => match d with
    | ⟨0, _⟩ => by show 2 = 2 + u.val; omega
    | ⟨1, _⟩ => (Nat.zero_add _).symm
    | ⟨2, _⟩ => (Nat.zero_add _).symm
    | ⟨3, _⟩ => (Nat.zero_add _).symm

theorem ld3 (x : Vec Ideal S8x4x32x256 .f32) (u : Fin 1) (a : Fin 4) (b : Fin 32) (c : Fin 256) : View.ld x r0_3 (ix4 u a b c) = x (ix4 (3 : Fin 8) a b c) :=
  View.ld_unit_apply_of x _ _ _ _ _ fun d => match d with
    | ⟨0, _⟩ => by show 3 = 3 + u.val; omega
    | ⟨1, _⟩ => (Nat.zero_add _).symm
    | ⟨2, _⟩ => (Nat.zero_add _).symm
    | ⟨3, _⟩ => (Nat.zero_add _).symm

theorem ld4 (x : Vec Ideal S8x4x32x256 .f32) (u : Fin 1) (a : Fin 4) (b : Fin 32) (c : Fin 256) : View.ld x r0_4 (ix4 u a b c) = x (ix4 (4 : Fin 8) a b c) :=
  View.ld_unit_apply_of x _ _ _ _ _ fun d => match d with
    | ⟨0, _⟩ => by show 4 = 4 + u.val; omega
    | ⟨1, _⟩ => (Nat.zero_add _).symm
    | ⟨2, _⟩ => (Nat.zero_add _).symm
    | ⟨3, _⟩ => (Nat.zero_add _).symm

theorem ld5 (x : Vec Ideal S8x4x32x256 .f32) (u : Fin 1) (a : Fin 4) (b : Fin 32) (c : Fin 256) : View.ld x r0_5 (ix4 u a b c) = x (ix4 (5 : Fin 8) a b c) :=
  View.ld_unit_apply_of x _ _ _ _ _ fun d => match d with
    | ⟨0, _⟩ => by show 5 = 5 + u.val; omega
    | ⟨1, _⟩ => (Nat.zero_add _).symm
    | ⟨2, _⟩ => (Nat.zero_add _).symm
    | ⟨3, _⟩ => (Nat.zero_add _).symm

theorem ld6 (x : Vec Ideal S8x4x32x256 .f32) (u : Fin 1) (a : Fin 4) (b : Fin 32) (c : Fin 256) : View.ld x r0_6 (ix4 u a b c) = x (ix4 (6 : Fin 8) a b c) :=
  View.ld_unit_apply_of x _ _ _ _ _ fun d => match d with
    | ⟨0, _⟩ => by show 6 = 6 + u.val; omega
    | ⟨1, _⟩ => (Nat.zero_add _).symm
    | ⟨2, _⟩ => (Nat.zero_add _).symm
    | ⟨3, _⟩ => (Nat.zero_add _).symm

theorem ld7 (x : Vec Ideal S8x4x32x256 .f32) (u : Fin 1) (a : Fin 4) (b : Fin 32) (c : Fin 256) : View.ld x r0_7 (ix4 u a b c) = x (ix4 (7 : Fin 8) a b c) :=
  View.ld_unit_apply_of x _ _ _ _ _ fun d => match d with
    | ⟨0, _⟩ => by show 7 = 7 + u.val; omega
    | ⟨1, _⟩ => (Nat.zero_add _).symm
    | ⟨2, _⟩ => (Nat.zero_add _).symm
    | ⟨3, _⟩ => (Nat.zero_add _).symm

theorem sum_apply (y0 y1 y2 y3 y4 y5 y6 y7 : Vec Ideal S1x4x32x256 .f32) (u : Fin 1) (a : Fin 4) (b : Fin 32) (c : Fin 256) :
    k0_pay1 y0 y1 y2 y3 y4 y5 y6 y7 (ix4 u a b c) = y0 (ix4 u a b c) + y1 (ix4 u a b c) + y2 (ix4 u a b c) + y3 (ix4 u a b c) + y4 (ix4 u a b c) + y5 (ix4 u a b c) + y6 (ix4 u a b c) + y7 (ix4 u a b c) := by
  pointwise [k0_pay1]

theorem total_apply (x0 : Vec Ideal S8x4x32x256 .f32) (x1 x2 x3 : Vec Ideal S1x4x32x256 .f32) (u : Fin 1) (a : Fin 4) (b : Fin 32) (c : Fin 256) :
    k0_pay5 x0 x1 x2 x3 (ix4 u a b c) = total fun j : Fin 8 => x0 (ix4 j a b c) := by
  unfold k0_pay5 total
  rw [sum_apply, ld0, ld1, ld2, ld3, ld4, ld5, ld6, ld7, Fin.sum_univ_eight]
  all_goals rfl

theorem delta_pay (g : FVec Ideal S1x4x32x256 .f32) (w m v : Vec Ideal S1x4x32x256 .f32) (u : Fin 1) (a : Fin 4) (b : Fin 32) (c : Fin 256) :
    (k0_pay4 g w m v : Vec Ideal S1x4x32x256 .f32) (ix4 u a b c) = change (w (ix4 u a b c)) (g (ix4 u a b c)) (m (ix4 u a b c)) (v (ix4 u a b c)) := by
  unfold change first second
  pointwise [k0_pay1, k0_pay2, k0_pay3, k0_pay4]

theorem delta_apply (x0 : Vec Ideal S8x4x32x256 .f32) (x1 x2 x3 : Vec Ideal S1x4x32x256 .f32) (u : Fin 1) (a : Fin 4) (b : Fin 32) (c : Fin 256) :
    (k0_pay4 (k0_pay5 x0 x1 x2 x3) x1 x2 x3 : Vec Ideal S1x4x32x256 .f32) (ix4 u a b c) = change (x1 (ix4 u a b c)) (total fun j : Fin 8 => x0 (ix4 j a b c)) (x2 (ix4 u a b c)) (x3 (ix4 u a b c)) := by
  rw [delta_pay (w := x1) (m := x2) (v := x3), total_apply]

theorem mom1_pay (g : FVec Ideal S1x4x32x256 .f32) (w m v : Vec Ideal S1x4x32x256 .f32) (u : Fin 1) (a : Fin 4) (b : Fin 32) (c : Fin 256) :
    (k0_pay2 g m : Vec Ideal S1x4x32x256 .f32) (ix4 u a b c) = first (g (ix4 u a b c)) (m (ix4 u a b c)) := by
  unfold first
  pointwise [k0_pay1, k0_pay2, k0_pay3, k0_pay4]

theorem mom1_apply (x0 : Vec Ideal S8x4x32x256 .f32) (x1 x2 x3 : Vec Ideal S1x4x32x256 .f32) (u : Fin 1) (a : Fin 4) (b : Fin 32) (c : Fin 256) :
    (k0_pay2 (k0_pay5 x0 x1 x2 x3) x2 : Vec Ideal S1x4x32x256 .f32) (ix4 u a b c) = first (total fun j : Fin 8 => x0 (ix4 j a b c)) (x2 (ix4 u a b c)) := by
  rw [mom1_pay (w := x1) (m := x2) (v := x3), total_apply]

theorem mom2_pay (g : FVec Ideal S1x4x32x256 .f32) (w m v : Vec Ideal S1x4x32x256 .f32) (u : Fin 1) (a : Fin 4) (b : Fin 32) (c : Fin 256) :
    (k0_pay3 g v : Vec Ideal S1x4x32x256 .f32) (ix4 u a b c) = second (g (ix4 u a b c)) (v (ix4 u a b c)) := by
  unfold second
  pointwise [k0_pay1, k0_pay2, k0_pay3, k0_pay4]

theorem mom2_apply (x0 : Vec Ideal S8x4x32x256 .f32) (x1 x2 x3 : Vec Ideal S1x4x32x256 .f32) (u : Fin 1) (a : Fin 4) (b : Fin 32) (c : Fin 256) :
    (k0_pay3 (k0_pay5 x0 x1 x2 x3) x3 : Vec Ideal S1x4x32x256 .f32) (ix4 u a b c) = second (total fun j : Fin 8 => x0 (ix4 j a b c)) (x3 (ix4 u a b c)) := by
  rw [mom2_pay (w := x1) (m := x2) (v := x3), total_apply]

variable (m : (ℓ : Loc nD τ sig) → Buf (Elt Ideal) ℓ) (c : Dev nD)

/-- The gradient, as the array of it that the call leaves. -/
def array0 : Buf (Elt Ideal) ((c : Thread nD τ).loc main_v0_0) := fun y : S1x4x32x256.Idx =>
  (total fun j : Fin 8 => (m ((c : Thread nD τ).loc main_arg0)) (ix4 j (y 1) (y 2) (y 3)))

/-- The weight's change, as the array of it that the call leaves. -/
def array1 : Buf (Elt Ideal) ((c : Thread nD τ).loc main_v0_1) := fun y : S1x4x32x256.Idx =>
  change ((m ((c : Thread nD τ).loc main_arg1)) (ix4 (0 : Fin 1) (y 1) (y 2) (y 3))) (total fun j : Fin 8 => (m ((c : Thread nD τ).loc main_arg0)) (ix4 j (y 1) (y 2) (y 3))) ((m ((c : Thread nD τ).loc main_arg2)) (ix4 (0 : Fin 1) (y 1) (y 2) (y 3))) ((m ((c : Thread nD τ).loc main_arg3)) (ix4 (0 : Fin 1) (y 1) (y 2) (y 3)))

/-- The first moment, as the array of it that the call leaves. -/
def array2 : Buf (Elt Ideal) ((c : Thread nD τ).loc main_v0_2) := fun y : S1x4x32x256.Idx =>
  first (total fun j : Fin 8 => (m ((c : Thread nD τ).loc main_arg0)) (ix4 j (y 1) (y 2) (y 3))) ((m ((c : Thread nD τ).loc main_arg2)) (ix4 (0 : Fin 1) (y 1) (y 2) (y 3)))

/-- The second moment, as the array of it that the call leaves. -/
def array3 : Buf (Elt Ideal) ((c : Thread nD τ).loc main_v0_3) := fun y : S1x4x32x256.Idx =>
  second (total fun j : Fin 8 => (m ((c : Thread nD τ).loc main_arg0)) (ix4 j (y 1) (y 2) (y 3))) ((m ((c : Thread nD τ).loc main_arg3)) (ix4 (0 : Fin 1) (y 1) (y 2) (y 3)))

theorem ref_grad (x0 : Vec Ideal S8x4x32x256 .f32) (u : Fin 1) (a : Fin 4) (b : Fin 32) (c : Fin 256) : Cert.Reference16Ideal.Read.val_main_v1 (F := Ideal) x0 (ix4 u a b c) = (total fun j : Fin 8 => x0 (ix4 j a b c)) := by
  unfold total
  pointwise [Cert.Reference16Ideal.Read.val_main_v1, Cert.Reference16Ideal.Read.val_main_v0, Cert.Reference16Ideal.Read.val_main_cst]
  all_goals first | exact (congrArg (· + _) (Ideal.ofBits_zero _ _)).trans (zero_add _) | skip

theorem ref_delta (x0 : Vec Ideal S8x4x32x256 .f32) (x1 x2 x3 : Vec Ideal S1x4x32x256 .f32) (u : Fin 1) (a : Fin 4) (b : Fin 32) (c : Fin 256) :
    Cert.Reference16Ideal.Read.val_main_v25 (F := Ideal) x0 x1 x2 x3 (ix4 u a b c) = change (x1 (ix4 u a b c)) (total fun j : Fin 8 => x0 (ix4 j a b c)) (x2 (ix4 u a b c)) (x3 (ix4 u a b c)) := by
  rw [← ref_grad x0 u a b c]
  unfold change first second
  pointwise [Cert.Reference16Ideal.Read.val_main_v25, Cert.Reference16Ideal.Read.val_main_v24, Cert.Reference16Ideal.Read.val_main_v23, Cert.Reference16Ideal.Read.val_main_v22, Cert.Reference16Ideal.Read.val_main_v21, Cert.Reference16Ideal.Read.val_main_v20, Cert.Reference16Ideal.Read.val_main_v19, Cert.Reference16Ideal.Read.val_main_v18, Cert.Reference16Ideal.Read.val_main_v17, Cert.Reference16Ideal.Read.val_main_v16, Cert.Reference16Ideal.Read.val_main_v15, Cert.Reference16Ideal.Read.val_main_v14, Cert.Reference16Ideal.Read.val_main_v13, Cert.Reference16Ideal.Read.val_main_v12, Cert.Reference16Ideal.Read.val_main_v11, Cert.Reference16Ideal.Read.val_main_v10, Cert.Reference16Ideal.Read.val_main_v9, Cert.Reference16Ideal.Read.val_main_v8, Cert.Reference16Ideal.Read.val_main_v7, Cert.Reference16Ideal.Read.val_main_v6, Cert.Reference16Ideal.Read.val_main_v5, Cert.Reference16Ideal.Read.val_main_v4, Cert.Reference16Ideal.Read.val_main_v3, Cert.Reference16Ideal.Read.val_main_v2, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7, Cert.Reference16Ideal.Read.val_main_cst_8]

theorem ref_mom1 (x0 : Vec Ideal S8x4x32x256 .f32) (x2 : Vec Ideal S1x4x32x256 .f32) (u : Fin 1) (a : Fin 4) (b : Fin 32) (c : Fin 256) :
    Cert.Reference16Ideal.Read.val_main_v6 (F := Ideal) x0 x2 (ix4 u a b c) = first (total fun j : Fin 8 => x0 (ix4 j a b c)) (x2 (ix4 u a b c)) := by
  rw [← ref_grad x0 u a b c]
  unfold first
  pointwise [Cert.Reference16Ideal.Read.val_main_v6, Cert.Reference16Ideal.Read.val_main_v5, Cert.Reference16Ideal.Read.val_main_v4, Cert.Reference16Ideal.Read.val_main_v3, Cert.Reference16Ideal.Read.val_main_v2, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7, Cert.Reference16Ideal.Read.val_main_cst_8]

theorem ref_mom2 (x0 : Vec Ideal S8x4x32x256 .f32) (x3 : Vec Ideal S1x4x32x256 .f32) (u : Fin 1) (a : Fin 4) (b : Fin 32) (c : Fin 256) :
    Cert.Reference16Ideal.Read.val_main_v12 (F := Ideal) x0 x3 (ix4 u a b c) = second (total fun j : Fin 8 => x0 (ix4 j a b c)) (x3 (ix4 u a b c)) := by
  rw [← ref_grad x0 u a b c]
  unfold second
  pointwise [Cert.Reference16Ideal.Read.val_main_v12, Cert.Reference16Ideal.Read.val_main_v11, Cert.Reference16Ideal.Read.val_main_v10, Cert.Reference16Ideal.Read.val_main_v9, Cert.Reference16Ideal.Read.val_main_v8, Cert.Reference16Ideal.Read.val_main_v7, Cert.Reference16Ideal.Read.val_main_v6, Cert.Reference16Ideal.Read.val_main_v5, Cert.Reference16Ideal.Read.val_main_v4, Cert.Reference16Ideal.Read.val_main_v3, Cert.Reference16Ideal.Read.val_main_v2, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7, Cert.Reference16Ideal.Read.val_main_cst_8]

theorem final0 : Cert.Kernel16Ideal.Value.G4 (m ((c : Thread nD τ).loc main_arg0)) (m ((c : Thread nD τ).loc main_arg1)) (m ((c : Thread nD τ).loc main_arg2)) (m ((c : Thread nD τ).loc main_arg3)) = array0 m c := by
  funext y
  idx_vars y
  obtain rfl : y0 = 0 := Subsingleton.elim _ _
  exact total_apply (m ((c : Thread nD τ).loc main_arg0)) (m ((c : Thread nD τ).loc main_arg1)) (m ((c : Thread nD τ).loc main_arg2)) (m ((c : Thread nD τ).loc main_arg3)) 0 y1 y2 y3

theorem final1 : Cert.Kernel16Ideal.Value.G5 (m ((c : Thread nD τ).loc main_arg0)) (m ((c : Thread nD τ).loc main_arg1)) (m ((c : Thread nD τ).loc main_arg2)) (m ((c : Thread nD τ).loc main_arg3)) = array1 m c := by
  funext y
  idx_vars y
  obtain rfl : y0 = 0 := Subsingleton.elim _ _
  exact delta_apply (m ((c : Thread nD τ).loc main_arg0)) (m ((c : Thread nD τ).loc main_arg1)) (m ((c : Thread nD τ).loc main_arg2)) (m ((c : Thread nD τ).loc main_arg3)) 0 y1 y2 y3

theorem final2 : Cert.Kernel16Ideal.Value.G6 (m ((c : Thread nD τ).loc main_arg0)) (m ((c : Thread nD τ).loc main_arg1)) (m ((c : Thread nD τ).loc main_arg2)) (m ((c : Thread nD τ).loc main_arg3)) = array2 m c := by
  funext y
  idx_vars y
  obtain rfl : y0 = 0 := Subsingleton.elim _ _
  exact mom1_apply (m ((c : Thread nD τ).loc main_arg0)) (m ((c : Thread nD τ).loc main_arg1)) (m ((c : Thread nD τ).loc main_arg2)) (m ((c : Thread nD τ).loc main_arg3)) 0 y1 y2 y3

theorem final3 : Cert.Kernel16Ideal.Value.G7 (m ((c : Thread nD τ).loc main_arg0)) (m ((c : Thread nD τ).loc main_arg1)) (m ((c : Thread nD τ).loc main_arg2)) (m ((c : Thread nD τ).loc main_arg3)) = array3 m c := by
  funext y
  idx_vars y
  obtain rfl : y0 = 0 := Subsingleton.elim _ _
  exact mom2_apply (m ((c : Thread nD τ).loc main_arg0)) (m ((c : Thread nD τ).loc main_arg1)) (m ((c : Thread nD τ).loc main_arg2)) (m ((c : Thread nD τ).loc main_arg3)) 0 y1 y2 y3

/-- From equal arguments the idealized call and the reference end with equal arrays, their arguments unchanged. -/
theorem algebraic : Cert.algebraic_Kernel16Ideal_Reference16Ideal := by
  intro m g m' g' _ ha
  refine ⟨array0 m, array1 m, array2 m, array3 m, (θ_run Cert.Kernel16Ideal.defs _ _).mono (fun r hr c => ?_) (Cert.Kernel16Ideal.Value.run m g),
    (θ_run Cert.Reference16Ideal.defs _ _).mono (fun r hr c => ?_) (Cert.Reference16Ideal.Value.run m' g')⟩
  · obtain ⟨h0, h1, h2, h3, hr⟩ := hr c
    exact ⟨h0.trans (final0 m c), h1.trans (final1 m c), h2.trans (final2 m c), h3.trans (final3 m c), hr⟩
  · obtain ⟨a0, a1, a2, a3⟩ := ha c
    obtain ⟨h0, h1, h2, h3, hr⟩ := hr c
    refine ⟨h0.trans ((Cert.Reference16Ideal.Read.val_main_v1_eq _).trans ?_), h1.trans ((Cert.Reference16Ideal.Read.val_main_v25_eq _ _ _ _).trans ?_),
      h2.trans ((Cert.Reference16Ideal.Read.val_main_v6_eq _ _).trans ?_), h3.trans ((Cert.Reference16Ideal.Read.val_main_v12_eq _ _).trans ?_), hr⟩
    · rw [a0]
      funext y
      idx_vars y
      obtain rfl : y0 = 0 := Subsingleton.elim _ _
      exact ref_grad _ 0 _ _ _
    · rw [a0, a1, a2, a3]
      funext y
      idx_vars y
      obtain rfl : y0 = 0 := Subsingleton.elim _ _
      exact ref_delta _ _ _ _ 0 _ _ _
    · rw [a0, a2]
      funext y
      idx_vars y
      obtain rfl : y0 = 0 := Subsingleton.elim _ _
      exact ref_mom1 _ _ 0 _ _ _
    · rw [a0, a3]
      funext y
      idx_vars y
      obtain rfl : y0 = 0 := Subsingleton.elim _ _
      exact ref_mom2 _ _ 0 _ _ _

end Cert.Proof.Kernel16Ideal

end
-- ==== Proof.lean ====
/-
  The claim: the attention's backward call, as the version prints it, ends with its arguments unchanged and every counter at zero; so
  does its idealization and the reference; the idealization is the program with its constants named; and from equal finite arguments
  the idealization and the reference end with equal gradients. The same of the attention's forward call, its outputs and log-sum-exps;
  and, from any equal arguments, of the even layer's two calls that take its input projection's derivative to the layer's input, to the
  shift and the scale, and to the projection's weights; and of the layers' input and output projections and their derivatives; and of the optimiser's steps of six
weights.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.KernelIdeal.Run
public import proofs.«01_k».proof.Proof.Kernel.Run
public import proofs.«01_k».proof.Proof.Algebraic
public import proofs.«01_k».proof.Proof.Forward
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Kernel3Ideal.Input
public import proofs.«01_k».proof.Proof.Kernel4Ideal.Product
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Kernel5Ideal.Product
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Kernel6Ideal.Product
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Kernel7Ideal.Product
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Kernel8Ideal.Product
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Kernel9Ideal.Product
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Kernel10Ideal.Product
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Kernel11Ideal.Product
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Kernel12Ideal.Update
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Kernel13Ideal.Update
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Kernel14Ideal.Update
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Kernel15Ideal.Update
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Kernel16Ideal.Update
public import Idealize.ShloMosaic.Lib.Quiescent

@[expose] public section

noncomputable section

namespace Cert.Proof

open Idealize.ShloMosaic Idealize.SL.Sem Cert.Kernel

/-- The program ends with its arguments unchanged. -/
theorem frame_kernel : Cert.quiescent_Kernel := fun m g _ => Kernel.frame m g

/-- So does its idealization. -/
theorem frame_kernelIdeal : Cert.quiescent_KernelIdeal := fun m g _ => KernelIdeal.frame m g

/-- So does the reference, whose operations write no argument and which has no counter. -/
theorem frame_reference : Cert.quiescent_ReferenceIdeal := fun m g _ =>
  (θ_run Cert.ReferenceIdeal.defs _ _).mono
    (fun r h => ⟨fun c => (h c).2.2.2, sem_eq_zero_of_no_sems (by decide) r.2⟩) (Cert.ReferenceIdeal.Value.run m g)

/-- Both constants are named at values the literals round. -/
theorem preserves : Cert.preserves_Kernel_KernelIdeal :=
  ⟨IdealRules.named_const.statement Cert.KernelIdeal.κ "scale_log2" .f32 0x3DD53B95#32 _ rfl,
    IdealRules.named_const.statement Cert.KernelIdeal.κ "scale" .f32 0x3D93CD3A#32 _ rfl⟩

/-! ### The forward call -/

/-- The forward call ends with its arguments unchanged. -/
theorem frame_kernel2 : Cert.quiescent_Kernel2 := fun m g _ => Cert.Kernel2.Gen.frame m g

/-- So does its idealization. -/
theorem frame_kernel2Ideal : Cert.quiescent_Kernel2Ideal := fun m g _ => Cert.Kernel2Ideal.Gen.frame m g

/-- So does its reference. -/
theorem frame_reference2 : Cert.quiescent_Reference2Ideal := fun m g _ =>
  (θ_run Cert.Reference2Ideal.defs _ _).mono
    (fun r h => ⟨fun c => (h c).2.2, sem_eq_zero_of_no_sems (by decide) r.2⟩) (Cert.Reference2Ideal.Value.run m g)

/-- Both constants are named at values the literals round. -/
theorem preserves2 : Cert.preserves_Kernel2_Kernel2Ideal :=
  ⟨IdealRules.named_const.statement Cert.Kernel2Ideal.κ "scale_log2" .f32 0x3DD53B95#32 _ rfl,
    IdealRules.named_const.statement Cert.Kernel2Ideal.κ "inv_log2" .f32 0x3FB8AA3B#32 _ rfl⟩

/-! ### The derivative with respect to the even layer's input -/

/-- The call of the input's derivative ends with its arguments unchanged. -/
theorem frame_kernel3 : Cert.quiescent_Kernel3 := fun m g _ => Cert.Kernel3.Gen.frame m g

/-- So does its idealization. -/
theorem frame_kernel3Ideal : Cert.quiescent_Kernel3Ideal := fun m g _ => Cert.Kernel3Ideal.Gen.frame m g

/-- So does its reference. -/
theorem frame_reference3 : Cert.quiescent_Reference3Ideal := fun m g _ =>
  (θ_run Cert.Reference3Ideal.defs _ _).mono
    (fun r h => ⟨fun c => (h c).2.2, sem_eq_zero_of_no_sems (by decide) r.2⟩) (Cert.Reference3Ideal.Value.run m g)

/-- No constant of it is named. -/
theorem preserves3 : Cert.preserves_Kernel3_Kernel3Ideal := trivial

/-! ### The derivative with respect to the even layer's input weights -/

/-- The call of the weights' derivative ends with its arguments unchanged. -/
theorem frame_kernel4 : Cert.quiescent_Kernel4 := fun m g _ => Cert.Kernel4.Gen.frame m g

/-- So does its idealization. -/
theorem frame_kernel4Ideal : Cert.quiescent_Kernel4Ideal := fun m g _ => Cert.Kernel4Ideal.Gen.frame m g

/-- So does its reference. -/
theorem frame_reference4 : Cert.quiescent_Reference4Ideal := fun m g _ =>
  (θ_run Cert.Reference4Ideal.defs _ _).mono
    (fun r h => ⟨fun c => (h c).2, sem_eq_zero_of_no_sems (by decide) r.2⟩) (Cert.Reference4Ideal.Value.run m g)

/-- No constant of it is named. -/
theorem preserves4 : Cert.preserves_Kernel4_Kernel4Ideal := trivial

/-! ### The even layer's input projection -/

/-- The call of the even layer's input projection ends with its arguments unchanged. -/
theorem frame_kernel5 : Cert.quiescent_Kernel5 := fun m g _ => Cert.Kernel5.Gen.frame m g

/-- So does its idealization. -/
theorem frame_kernel5Ideal : Cert.quiescent_Kernel5Ideal := fun m g _ => Cert.Kernel5Ideal.Gen.frame m g

/-- So does its reference. -/
theorem frame_reference5 : Cert.quiescent_Reference5Ideal := fun m g _ =>
  (θ_run Cert.Reference5Ideal.defs _ _).mono
    (fun r h => ⟨fun c => (h c).2, sem_eq_zero_of_no_sems (by decide) r.2⟩) (Cert.Reference5Ideal.Value.run m g)

/-- No constant of it is named. -/
theorem preserves5 : Cert.preserves_Kernel5_Kernel5Ideal := trivial

/-! ### The output projection -/

/-- The call of the output projection ends with its arguments unchanged. -/
theorem frame_kernel6 : Cert.quiescent_Kernel6 := fun m g _ => Cert.Kernel6.Gen.frame m g

/-- So does its idealization. -/
theorem frame_kernel6Ideal : Cert.quiescent_Kernel6Ideal := fun m g _ => Cert.Kernel6Ideal.Gen.frame m g

/-- So does its reference. -/
theorem frame_reference6 : Cert.quiescent_Reference6Ideal := fun m g _ =>
  (θ_run Cert.Reference6Ideal.defs _ _).mono
    (fun r h => ⟨fun c => (h c).2, sem_eq_zero_of_no_sems (by decide) r.2⟩) (Cert.Reference6Ideal.Value.run m g)

/-- No constant of it is named. -/
theorem preserves6 : Cert.preserves_Kernel6_Kernel6Ideal := trivial

/-! ### The derivative with respect to what the output projection projects -/

/-- The call of the derivative of what the output projection projects ends with its arguments unchanged. -/
theorem frame_kernel7 : Cert.quiescent_Kernel7 := fun m g _ => Cert.Kernel7.Gen.frame m g

/-- So does its idealization. -/
theorem frame_kernel7Ideal : Cert.quiescent_Kernel7Ideal := fun m g _ => Cert.Kernel7Ideal.Gen.frame m g

/-- So does its reference. -/
theorem frame_reference7 : Cert.quiescent_Reference7Ideal := fun m g _ =>
  (θ_run Cert.Reference7Ideal.defs _ _).mono
    (fun r h => ⟨fun c => (h c).2, sem_eq_zero_of_no_sems (by decide) r.2⟩) (Cert.Reference7Ideal.Value.run m g)

/-- No constant of it is named. -/
theorem preserves7 : Cert.preserves_Kernel7_Kernel7Ideal := trivial

/-! ### The derivative with respect to the output projection's weights -/

/-- The call of the output weights' derivative ends with its arguments unchanged. -/
theorem frame_kernel8 : Cert.quiescent_Kernel8 := fun m g _ => Cert.Kernel8.Gen.frame m g

/-- So does its idealization. -/
theorem frame_kernel8Ideal : Cert.quiescent_Kernel8Ideal := fun m g _ => Cert.Kernel8Ideal.Gen.frame m g

/-- So does its reference. -/
theorem frame_reference8 : Cert.quiescent_Reference8Ideal := fun m g _ =>
  (θ_run Cert.Reference8Ideal.defs _ _).mono
    (fun r h => ⟨fun c => (h c).2, sem_eq_zero_of_no_sems (by decide) r.2⟩) (Cert.Reference8Ideal.Value.run m g)

/-- No constant of it is named. -/
theorem preserves8 : Cert.preserves_Kernel8_Kernel8Ideal := trivial

/-! ### The odd layer's input projection -/

/-- The call of the odd layer's input projection ends with its arguments unchanged. -/
theorem frame_kernel9 : Cert.quiescent_Kernel9 := fun m g _ => Cert.Kernel9.Gen.frame m g

/-- So does its idealization. -/
theorem frame_kernel9Ideal : Cert.quiescent_Kernel9Ideal := fun m g _ => Cert.Kernel9Ideal.Gen.frame m g

/-- So does its reference. -/
theorem frame_reference9 : Cert.quiescent_Reference9Ideal := fun m g _ =>
  (θ_run Cert.Reference9Ideal.defs _ _).mono
    (fun r h => ⟨fun c => (h c).2, sem_eq_zero_of_no_sems (by decide) r.2⟩) (Cert.Reference9Ideal.Value.run m g)

/-- No constant of it is named. -/
theorem preserves9 : Cert.preserves_Kernel9_Kernel9Ideal := trivial

/-! ### The derivative with respect to what the odd layer's input projection projects -/

/-- The call of the derivative of what the odd layer's input projection projects ends with its arguments unchanged. -/
theorem frame_kernel10 : Cert.quiescent_Kernel10 := fun m g _ => Cert.Kernel10.Gen.frame m g

/-- So does its idealization. -/
theorem frame_kernel10Ideal : Cert.quiescent_Kernel10Ideal := fun m g _ => Cert.Kernel10Ideal.Gen.frame m g

/-- So does its reference. -/
theorem frame_reference10 : Cert.quiescent_Reference10Ideal := fun m g _ =>
  (θ_run Cert.Reference10Ideal.defs _ _).mono
    (fun r h => ⟨fun c => (h c).2, sem_eq_zero_of_no_sems (by decide) r.2⟩) (Cert.Reference10Ideal.Value.run m g)

/-- No constant of it is named. -/
theorem preserves10 : Cert.preserves_Kernel10_Kernel10Ideal := trivial

/-! ### The derivative with respect to the odd layer's input weights -/

/-- The call of the odd layer's input weights' derivative ends with its arguments unchanged. -/
theorem frame_kernel11 : Cert.quiescent_Kernel11 := fun m g _ => Cert.Kernel11.Gen.frame m g

/-- So does its idealization. -/
theorem frame_kernel11Ideal : Cert.quiescent_Kernel11Ideal := fun m g _ => Cert.Kernel11Ideal.Gen.frame m g

/-- So does its reference. -/
theorem frame_reference11 : Cert.quiescent_Reference11Ideal := fun m g _ =>
  (θ_run Cert.Reference11Ideal.defs _ _).mono
    (fun r h => ⟨fun c => (h c).2, sem_eq_zero_of_no_sems (by decide) r.2⟩) (Cert.Reference11Ideal.Value.run m g)

/-- No constant of it is named. -/
theorem preserves11 : Cert.preserves_Kernel11_Kernel11Ideal := trivial

/-! ### The update of the even layer's input weights -/

/-- The call of the update of the even layer's input weights ends with its arguments unchanged. -/
theorem frame_kernel12 : Cert.quiescent_Kernel12 := fun m g _ => Cert.Kernel12.Gen.frame m g

/-- So does its idealization. -/
theorem frame_kernel12Ideal : Cert.quiescent_Kernel12Ideal := fun m g _ => Cert.Kernel12Ideal.Gen.frame m g

/-- So does its reference. -/
theorem frame_reference12 : Cert.quiescent_Reference12Ideal := fun m g _ =>
  (θ_run Cert.Reference12Ideal.defs _ _).mono
    (fun r h => ⟨fun c => (h c).2.2.2.2, sem_eq_zero_of_no_sems (by decide) r.2⟩) (Cert.Reference12Ideal.Value.run m g)

/-- No constant of it is named. -/
theorem preserves12 : Cert.preserves_Kernel12_Kernel12Ideal := trivial

/-! ### The update of the odd layer's input weights -/

/-- The call of the update of the odd layer's input weights ends with its arguments unchanged. -/
theorem frame_kernel13 : Cert.quiescent_Kernel13 := fun m g _ => Cert.Kernel13.Gen.frame m g

/-- So does its idealization. -/
theorem frame_kernel13Ideal : Cert.quiescent_Kernel13Ideal := fun m g _ => Cert.Kernel13Ideal.Gen.frame m g

/-- So does its reference. -/
theorem frame_reference13 : Cert.quiescent_Reference13Ideal := fun m g _ =>
  (θ_run Cert.Reference13Ideal.defs _ _).mono
    (fun r h => ⟨fun c => (h c).2.2.2.2, sem_eq_zero_of_no_sems (by decide) r.2⟩) (Cert.Reference13Ideal.Value.run m g)

/-- No constant of it is named. -/
theorem preserves13 : Cert.preserves_Kernel13_Kernel13Ideal := trivial

/-! ### The update of the output weights -/

/-- The call of the update of the output weights ends with its arguments unchanged. -/
theorem frame_kernel14 : Cert.quiescent_Kernel14 := fun m g _ => Cert.Kernel14.Gen.frame m g

/-- So does its idealization. -/
theorem frame_kernel14Ideal : Cert.quiescent_Kernel14Ideal := fun m g _ => Cert.Kernel14Ideal.Gen.frame m g

/-- So does its reference. -/
theorem frame_reference14 : Cert.quiescent_Reference14Ideal := fun m g _ =>
  (θ_run Cert.Reference14Ideal.defs _ _).mono
    (fun r h => ⟨fun c => (h c).2.2.2.2, sem_eq_zero_of_no_sems (by decide) r.2⟩) (Cert.Reference14Ideal.Value.run m g)

/-- No constant of it is named. -/
theorem preserves14 : Cert.preserves_Kernel14_Kernel14Ideal := trivial

/-! ### The update of the queries' weights -/

/-- The call of the update of the queries' weights ends with its arguments unchanged. -/
theorem frame_kernel15 : Cert.quiescent_Kernel15 := fun m g _ => Cert.Kernel15.Gen.frame m g

/-- So does its idealization. -/
theorem frame_kernel15Ideal : Cert.quiescent_Kernel15Ideal := fun m g _ => Cert.Kernel15Ideal.Gen.frame m g

/-- So does its reference. -/
theorem frame_reference15 : Cert.quiescent_Reference15Ideal := fun m g _ =>
  (θ_run Cert.Reference15Ideal.defs _ _).mono
    (fun r h => ⟨fun c => (h c).2.2.2.2, sem_eq_zero_of_no_sems (by decide) r.2⟩) (Cert.Reference15Ideal.Value.run m g)

/-- No constant of it is named. -/
theorem preserves15 : Cert.preserves_Kernel15_Kernel15Ideal := trivial

/-! ### The update of the pooling's weights -/

/-- The call of the update of the pooling's weights ends with its arguments unchanged. -/
theorem frame_kernel16 : Cert.quiescent_Kernel16 := fun m g _ => Cert.Kernel16.Gen.frame m g

/-- So does its idealization. -/
theorem frame_kernel16Ideal : Cert.quiescent_Kernel16Ideal := fun m g _ => Cert.Kernel16Ideal.Gen.frame m g

/-- So does its reference. -/
theorem frame_reference16 : Cert.quiescent_Reference16Ideal := fun m g _ =>
  (θ_run Cert.Reference16Ideal.defs _ _).mono
    (fun r h => ⟨fun c => (h c).2.2.2.2, sem_eq_zero_of_no_sems (by decide) r.2⟩) (Cert.Reference16Ideal.Value.run m g)

/-- No constant of it is named. -/
theorem preserves16 : Cert.preserves_Kernel16_Kernel16Ideal := trivial

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Finite.facts, Forward.facts,
  frame_kernel, frame_kernelIdeal, fun m g _ => KernelIdeal.frame m g, frame_reference, fun m g _ => frame_reference m g trivial,
  frame_kernel2, frame_kernel2Ideal, fun m g _ => Cert.Kernel2Ideal.Gen.frame m g, frame_reference2,
  fun m g _ => frame_reference2 m g trivial, frame_kernel3, frame_kernel3Ideal, frame_reference3,
  frame_kernel4, frame_kernel4Ideal, frame_reference4,
  frame_kernel5, frame_kernel5Ideal, frame_reference5,
  frame_kernel6, frame_kernel6Ideal, frame_reference6,
  frame_kernel7, frame_kernel7Ideal, frame_reference7,
  frame_kernel8, frame_kernel8Ideal, frame_reference8,
  frame_kernel9, frame_kernel9Ideal, frame_reference9,
  frame_kernel10, frame_kernel10Ideal, frame_reference10,
  frame_kernel11, frame_kernel11Ideal, frame_reference11,
  frame_kernel12, frame_kernel12Ideal, frame_reference12,
  frame_kernel13, frame_kernel13Ideal, frame_reference13,
  frame_kernel14, frame_kernel14Ideal, frame_reference14,
  frame_kernel15, frame_kernel15Ideal, frame_reference15,
  frame_kernel16, frame_kernel16Ideal, frame_reference16,
  preserves, algebraic, preserves2, Forward.algebraic,
  preserves3, Kernel3Ideal.algebraic, preserves4, Kernel4Ideal.algebraic,
  preserves5, Kernel5Ideal.algebraic,
  preserves6, Kernel6Ideal.algebraic,
  preserves7, Kernel7Ideal.algebraic,
  preserves8, Kernel8Ideal.algebraic,
  preserves9, Kernel9Ideal.algebraic,
  preserves10, Kernel10Ideal.algebraic,
  preserves11, Kernel11Ideal.algebraic,
  preserves12, Kernel12Ideal.algebraic,
  preserves13, Kernel13Ideal.algebraic,
  preserves14, Kernel14Ideal.algebraic,
  preserves15, Kernel15Ideal.algebraic,
  preserves16, Kernel16Ideal.algebraic⟩

end Cert.Proof

end
